-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 24576]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![24576, 1536]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S2x48x1536 : Shape := ⟨3, ![2, 48, 1536]⟩
abbrev S7x48x1536 : Shape := ⟨3, ![7, 48, 1536]⟩
abbrev S2x24x1536 : Shape := ⟨3, ![2, 24, 1536]⟩
abbrev S3x24x1536 : Shape := ⟨3, ![3, 24, 1536]⟩
abbrev S2 : Shape := ⟨1, ![2]⟩
abbrev S7 : Shape := ⟨1, ![7]⟩
abbrev S3 : Shape := ⟨1, ![3]⟩
abbrev S_ : Shape := ⟨0, ![]⟩
abbrev S192x768 : Shape := ⟨2, ![192, 768]⟩
abbrev S192x1536 : Shape := ⟨2, ![192, 1536]⟩
abbrev S48x1536 : Shape := ⟨2, ![48, 1536]⟩
abbrev S1x48x1536 : Shape := ⟨3, ![1, 48, 1536]⟩
abbrev S1 : Shape := ⟨1, ![1]⟩
abbrev S96x768 : Shape := ⟨2, ![96, 768]⟩
abbrev S96x1536 : Shape := ⟨2, ![96, 1536]⟩
abbrev S24x1536 : Shape := ⟨2, ![24, 1536]⟩
abbrev S1x24x1536 : Shape := ⟨3, ![1, 24, 1536]⟩

abbrev nBuf : Space → Nat
  | .hbm => 3
  | .vmem => 16
  | .smem => 0
  | _ => 0

abbrev bufTy : (tb : Table) → Fin (tcTables nBuf tb) → BufTy
  | .hbm, ⟨0, _⟩ => ⟨S1536x768, .f32⟩
  | .hbm, ⟨1, _⟩ => ⟨S768x1536, .f32⟩
  | .hbm, ⟨2, _⟩ => ⟨S1536x1536, .f32⟩
  | .local _ .vmem, ⟨0, _⟩ => ⟨S1536x768, .f32⟩
  | .local _ .vmem, ⟨1, _⟩ => ⟨S768x1536, .f32⟩
  | .local _ .vmem, ⟨2, _⟩ => ⟨S1536x1536, .f32⟩
  | .local _ .vmem, ⟨3, _⟩ => ⟨S1536x1536, .f32⟩
  | .local _ .vmem, ⟨4, _⟩ => ⟨S2x48x1536, .f32⟩
  | .local _ .vmem, ⟨5, _⟩ => ⟨S2x48x1536, .f32⟩
  | .local _ .vmem, ⟨6, _⟩ => ⟨S2x48x1536, .f32⟩
  | .local _ .vmem, ⟨7, _⟩ => ⟨S2x48x1536, .f32⟩
  | .local _ .vmem, ⟨8, _⟩ => ⟨S7x48x1536, .f32⟩
  | .local _ .vmem, ⟨9, _⟩ => ⟨S7x48x1536, .f32⟩
  | .local _ .vmem, ⟨10, _⟩ => ⟨S7x48x1536, .f32⟩
  | .local _ .vmem, ⟨11, _⟩ => ⟨S7x48x1536, .f32⟩
  | .local _ .vmem, ⟨12, _⟩ => ⟨S2x24x1536, .f32⟩
  | .local _ .vmem, ⟨13, _⟩ => ⟨S2x24x1536, .f32⟩
  | .local _ .vmem, ⟨14, _⟩ => ⟨S3x24x1536, .f32⟩
  | .local _ .vmem, ⟨15, _⟩ => ⟨S3x24x1536, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 83 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | _ => false

abbrev sig : RefSig :=
  (ofTc nBuf bufTy 1 83 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v80 : BitVec 32 := Scalar.muli v19 c8_i32_56
  let c0_i32_60 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_57 : BitVec 32 := 0#32
  let v81 : BitVec 1 := Scalar.cmpi .eq v29 c0_i32_57
  let c3_i32_58 : BitVec 32 := 3#32
  let c0_i32_59 : BitVec 32 := 0#32
  let v82 : BitVec 32 := Scalar.select v81 c3_i32_58 c0_i32_59
  let v83 : BitVec 32 := Scalar.addi c0_i32_60 v82
  let c1_i32_61 : BitVec 32 := 1#32
  let v84 : BitVec 1 := Scalar.cmpi .eq v29 c1_i32_61
  let c0_i32_62 : BitVec 32 := 0#32
  let c0_i32_63 : BitVec 32 := 0#32
  let v85 : BitVec 32 := Scalar.select v84 c0_i32_62 c0_i32_63
  let v86 : BitVec 32 := Scalar.addi v83 v85
  let c2_i32_64 : BitVec 32 := 2#32
  let v87 : BitVec 1 := Scalar.cmpi .eq v29 c2_i32_64
  let c1_i32_65 : BitVec 32 := 1#32
  let c0_i32_66 : BitVec 32 := 0#32
  let v88 : BitVec 32 := Scalar.select v87 c1_i32_65 c0_i32_66
  let v89 : BitVec 32 := Scalar.addi v86 v88
  let c3_i32_67 : BitVec 32 := 3#32
  let v90 : BitVec 1 := Scalar.cmpi .eq v29 c3_i32_67
  let c4_i32_68 : BitVec 32 := 4#32
  let c0_i32_69 : BitVec 32 := 0#32
  let v91 : BitVec 32 := Scalar.select v90 c4_i32_68 c0_i32_69
  let v92 : BitVec 32 := Scalar.addi v89 v91
  let c4_i32_70 : BitVec 32 := 4#32
  let v93 : BitVec 1 := Scalar.cmpi .eq v29 c4_i32_70
  let c7_i32_71 : BitVec 32 := 7#32
  let c0_i32_72 : BitVec 32 := 0#32
  let v94 : BitVec 32 := Scalar.select v93 c7_i32_71 c0_i32_72
  let v95 : BitVec 32 := Scalar.addi v92 v94
  let c5_i32_73 : BitVec 32 := 5#32
  let v96 : BitVec 1 := Scalar.cmpi .eq v29 c5_i32_73
  let c2_i32_74 : BitVec 32 := 2#32
  let c0_i32_75 : BitVec 32 := 0#32
  let v97 : BitVec 32 := Scalar.select v96 c2_i32_74 c0_i32_75
  let v98 : BitVec 32 := Scalar.addi v95 v97
  let c6_i32_76 : BitVec 32 := 6#32
  let v99 : BitVec 1 := Scalar.cmpi .eq v29 c6_i32_76
  let c5_i32_77 : BitVec 32 := 5#32
  let c0_i32_78 : BitVec 32 := 0#32
  let v100 : BitVec 32 := Scalar.select v99 c5_i32_77 c0_i32_78
  let v101 : BitVec 32 := Scalar.addi v98 v100
  let c7_i32_79 : BitVec 32 := 7#32
  let v102 : BitVec 1 := Scalar.cmpi .eq v29 c7_i32_79
  let c6_i32_80 : BitVec 32 := 6#32
  let c0_i32_81 : BitVec 32 := 0#32
  let v103 : BitVec 32 := Scalar.select v102 c6_i32_80 c0_i32_81
  let v104 : BitVec 32 := Scalar.addi v101 v103
  let v105 : BitVec 32 := Scalar.addi v80 v104
  let c1_i32_99 : BitVec 32 := 1#32
  let v133 : BitVec 32 := Scalar.muli v105 c1_i32_99
  let v134 : BitVec 32 := Scalar.addi c0_i32_100 v133
  v134.toNat
def k0_dev2 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v54 : BitVec 32 := Scalar.muli v19 c8_i32_30
  let c0_i32_34 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_31 : BitVec 32 := 0#32
  let v55 : BitVec 1 := Scalar.cmpi .eq v29 c0_i32_31
  let c1_i32_32 : BitVec 32 := 1#32
  let c0_i32_33 : BitVec 32 := 0#32
  let v56 : BitVec 32 := Scalar.select v55 c1_i32_32 c0_i32_33
  let v57 : BitVec 32 := Scalar.addi c0_i32_34 v56
  let c1_i32_35 : BitVec 32 := 1#32
  let v58 : BitVec 1 := Scalar.cmpi .eq v29 c1_i32_35
  let c2_i32_36 : BitVec 32 := 2#32
  let c0_i32_37 : BitVec 32 := 0#32
  let v59 : BitVec 32 := Scalar.select v58 c2_i32_36 c0_i32_37
  let v60 : BitVec 32 := Scalar.addi v57 v59
  let c2_i32_38 : BitVec 32 := 2#32
  let v61 : BitVec 1 := Scalar.cmpi .eq v29 c2_i32_38
  let c5_i32_39 : BitVec 32 := 5#32
  let c0_i32_40 : BitVec 32 := 0#32
  let v62 : BitVec 32 := Scalar.select v61 c5_i32_39 c0_i32_40
  let v63 : BitVec 32 := Scalar.addi v60 v62
  let c3_i32_41 : BitVec 32 := 3#32
  let v64 : BitVec 1 := Scalar.cmpi .eq v29 c3_i32_41
  let c0_i32_42 : BitVec 32 := 0#32
  let c0_i32_43 : BitVec 32 := 0#32
  let v65 : BitVec 32 := Scalar.select v64 c0_i32_42 c0_i32_43
  let v66 : BitVec 32 := Scalar.addi v63 v65
  let c4_i32_44 : BitVec 32 := 4#32
  let v67 : BitVec 1 := Scalar.cmpi .eq v29 c4_i32_44
  let c3_i32_45 : BitVec 32 := 3#32
  let c0_i32_46 : BitVec 32 := 0#32
  let v68 : BitVec 32 := Scalar.select v67 c3_i32_45 c0_i32_46
  let v69 : BitVec 32 := Scalar.addi v66 v68
  let c5_i32_47 : BitVec 32 := 5#32
  let v70 : BitVec 1 := Scalar.cmpi .eq v29 c5_i32_47
  let c6_i32_48 : BitVec 32 := 6#32
  let c0_i32_49 : BitVec 32 := 0#32
  let v71 : BitVec 32 := Scalar.select v70 c6_i32_48 c0_i32_49
  let v72 : BitVec 32 := Scalar.addi v69 v71
  let c6_i32_50 : BitVec 32 := 6#32
  let v73 : BitVec 1 := Scalar.cmpi .eq v29 c6_i32_50
  let c7_i32_51 : BitVec 32 := 7#32
  let c0_i32_52 : BitVec 32 := 0#32
  let v74 : BitVec 32 := Scalar.select v73 c7_i32_51 c0_i32_52
  let v75 : BitVec 32 := Scalar.addi v72 v74
  let c7_i32_53 : BitVec 32 := 7#32
  let v76 : BitVec 1 := Scalar.cmpi .eq v29 c7_i32_53
  let c4_i32_54 : BitVec 32 := 4#32
  let c0_i32_55 : BitVec 32 := 0#32
  let v77 : BitVec 32 := Scalar.select v76 c4_i32_54 c0_i32_55
  let v78 : BitVec 32 := Scalar.addi v75 v77
  let v79 : BitVec 32 := Scalar.addi v54 v78
  let c1_i32_102 : BitVec 32 := 1#32
  let v135 : BitVec 32 := Scalar.muli v79 c1_i32_102
  let v136 : BitVec 32 := Scalar.addi c0_i32_103 v135
  v136.toNat
def k0_dev3 (d0 : Dev nD) : Nat :=
  let c0_i32_106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_82 : BitVec 32 := 1#32
  let v106 : BitVec 32 := Scalar.addi v19 c1_i32_82
  let c4_i32_83 : BitVec 32 := 4#32
  let c0_i32_84 : BitVec 32 := 0#32
  let v107 : BitVec 1 := Scalar.cmpi .eq c4_i32_83 c0_i32_84
  let c1_i32_85 : BitVec 32 := 1#32
  let v108 : BitVec 32 := Scalar.select v107 c1_i32_85 c4_i32_83
  let v109 : BitVec 32 := Scalar.remsi v106 v108
  let c0_i32_87 : BitVec 32 := 0#32
  let v111 : BitVec 1 := Scalar.cmpi .slt v109 c0_i32_87
  let c0_i32_88 : BitVec 32 := 0#32
  let v112 : BitVec 1 := Scalar.cmpi .slt v108 c0_i32_88
  let v113 : BitVec 1 := Scalar.xori v111 v112
  let c0_i32_86 : BitVec 32 := 0#32
  let v110 : BitVec 1 := Scalar.cmpi .ne v109 c0_i32_86
  let v114 : BitVec 1 := Scalar.andi v113 v110
  let v115 : BitVec 32 := Scalar.addi v109 v108
  let v116 : BitVec 32 := Scalar.select v114 v115 v109
  let c8_i32_89 : BitVec 32 := 8#32
  let v117 : BitVec 32 := Scalar.muli v116 c8_i32_89
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v118 : BitVec 32 := Scalar.addi v117 v29
  let c1_i32_105 : BitVec 32 := 1#32
  let v137 : BitVec 32 := Scalar.muli v118 c1_i32_105
  let v138 : BitVec 32 := Scalar.addi c0_i32_106 v137
  v138.toNat
def k0_dev4 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_90 : BitVec 32 := 1#32
  let v119 : BitVec 32 := Scalar.subi v19 c1_i32_90
  let c4_i32_91 : BitVec 32 := 4#32
  let c0_i32_92 : BitVec 32 := 0#32
  let v120 : BitVec 1 := Scalar.cmpi .eq c4_i32_91 c0_i32_92
  let c1_i32_93 : BitVec 32 := 1#32
  let v121 : BitVec 32 := Scalar.select v120 c1_i32_93 c4_i32_91
  let v122 : BitVec 32 := Scalar.remsi v119 v121
  let c0_i32_95 : BitVec 32 := 0#32
  let v124 : BitVec 1 := Scalar.cmpi .slt v122 c0_i32_95
  let c0_i32_96 : BitVec 32 := 0#32
  let v125 : BitVec 1 := Scalar.cmpi .slt v121 c0_i32_96
  let v126 : BitVec 1 := Scalar.xori v124 v125
  let c0_i32_94 : BitVec 32 := 0#32
  let v123 : BitVec 1 := Scalar.cmpi .ne v122 c0_i32_94
  let v127 : BitVec 1 := Scalar.andi v126 v123
  let v128 : BitVec 32 := Scalar.addi v122 v121
  let v129 : BitVec 32 := Scalar.select v127 v128 v122
  let c8_i32_97 : BitVec 32 := 8#32
  let v130 : BitVec 32 := Scalar.muli v129 c8_i32_97
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v131 : BitVec 32 := Scalar.addi v130 v29
  let c1_i32_108 : BitVec 32 := 1#32
  let v139 : BitVec 32 := Scalar.muli v131 c1_i32_108
  let v140 : BitVec 32 := Scalar.addi c0_i32_109 v139
  v140.toNat
def k0_off1 (d0 : Dev nD) : Fin 2 → Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32_12 : BitVec 32 := 0#32
  let c0_i32_13 : BitVec 32 := 0#32
  let v31 : BitVec 32 := Scalar.select v30 c0_i32_12 c0_i32_13
  let v32 : BitVec 32 := Scalar.addi c0_i32_14 v31
  let c1_i32_15 : BitVec 32 := 1#32
  let v33 : BitVec 1 := Scalar.cmpi .eq v29 c1_i32_15
  let c1_i32_16 : BitVec 32 := 1#32
  let c0_i32_17 : BitVec 32 := 0#32
  let v34 : BitVec 32 := Scalar.select v33 c1_i32_16 c0_i32_17
  let v35 : BitVec 32 := Scalar.addi v32 v34
  let c2_i32 : BitVec 32 := 2#32
  let v36 : BitVec 1 := Scalar.cmpi .eq v29 c2_i32
  let c2_i32_18 : BitVec 32 := 2#32
  let c0_i32_19 : BitVec 32 := 0#32
  let v37 : BitVec 32 := Scalar.select v36 c2_i32_18 c0_i32_19
  let v38 : BitVec 32 := Scalar.addi v35 v37
  let c3_i32 : BitVec 32 := 3#32
  let v39 : BitVec 1 := Scalar.cmpi .eq v29 c3_i32
  let c7_i32 : BitVec 32 := 7#32
  let c0_i32_20 : BitVec 32 := 0#32
  let v40 : BitVec 32 := Scalar.select v39 c7_i32 c0_i32_20
  let v41 : BitVec 32 := Scalar.addi v38 v40
  let c4_i32 : BitVec 32 := 4#32
  let v42 : BitVec 1 := Scalar.cmpi .eq v29 c4_i32
  let c6_i32 : BitVec 32 := 6#32
  let c0_i32_21 : BitVec 32 := 0#32
  let v43 : BitVec 32 := Scalar.select v42 c6_i32 c0_i32_21
  let v44 : BitVec 32 := Scalar.addi v41 v43
  let c5_i32 : BitVec 32 := 5#32
  let v45 : BitVec 1 := Scalar.cmpi .eq v29 c5_i32
  let c3_i32_22 : BitVec 32 := 3#32
  let c0_i32_23 : BitVec 32 := 0#32
  let v46 : BitVec 32 := Scalar.select v45 c3_i32_22 c0_i32_23
  let v47 : BitVec 32 := Scalar.addi v44 v46
  let c6_i32_24 : BitVec 32 := 6#32
  let v48 : BitVec 1 := Scalar.cmpi .eq v29 c6_i32_24
  let c4_i32_25 : BitVec 32 := 4#32
  let c0_i32_26 : BitVec 32 := 0#32
  let v49 : BitVec 32 := Scalar.select v48 c4_i32_25 c0_i32_26
  let v50 : BitVec 32 := Scalar.addi v47 v49
  let c7_i32_27 : BitVec 32 := 7#32
  let v51 : BitVec 1 := Scalar.cmpi .eq v29 c7_i32_27
  let c5_i32_28 : BitVec 32 := 5#32
  let c0_i32_29 : BitVec 32 := 0#32
  let v52 : BitVec 32 := Scalar.select v51 c5_i32_28 c0_i32_29
  let v53 : BitVec 32 := Scalar.addi v50 v52
  let c192_i32 : BitVec 32 := 192#32
  let v141 : BitVec 32 := Scalar.muli v53 c192_i32
  let v142 : Index := Scalar.indexCast v141
  let c0 : Index := 0#32
  ![v142.toNat, 0]
def k0_off2 (d0 : Dev nD) : Fin 2 → Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32_12 : BitVec 32 := 0#32
  let c0_i32_13 : BitVec 32 := 0#32
  let v31 : BitVec 32 := Scalar.select v30 c0_i32_12 c0_i32_13
  let v32 : BitVec 32 := Scalar.addi c0_i32_14 v31
  let c1_i32_15 : BitVec 32 := 1#32
  let v33 : BitVec 1 := Scalar.cmpi .eq v29 c1_i32_15
  let c1_i32_16 : BitVec 32 := 1#32
  let c0_i32_17 : BitVec 32 := 0#32
  let v34 : BitVec 32 := Scalar.select v33 c1_i32_16 c0_i32_17
  let v35 : BitVec 32 := Scalar.addi v32 v34
  let c2_i32 : BitVec 32 := 2#32
  let v36 : BitVec 1 := Scalar.cmpi .eq v29 c2_i32
  let c2_i32_18 : BitVec 32 := 2#32
  let c0_i32_19 : BitVec 32 := 0#32
  let v37 : BitVec 32 := Scalar.select v36 c2_i32_18 c0_i32_19
  let v38 : BitVec 32 := Scalar.addi v35 v37
  let c3_i32 : BitVec 32 := 3#32
  let v39 : BitVec 1 := Scalar.cmpi .eq v29 c3_i32
  let c7_i32 : BitVec 32 := 7#32
  let c0_i32_20 : BitVec 32 := 0#32
  let v40 : BitVec 32 := Scalar.select v39 c7_i32 c0_i32_20
  let v41 : BitVec 32 := Scalar.addi v38 v40
  let c4_i32 : BitVec 32 := 4#32
  let v42 : BitVec 1 := Scalar.cmpi .eq v29 c4_i32
  let c6_i32 : BitVec 32 := 6#32
  let c0_i32_21 : BitVec 32 := 0#32
  let v43 : BitVec 32 := Scalar.select v42 c6_i32 c0_i32_21
  let v44 : BitVec 32 := Scalar.addi v41 v43
  let c5_i32 : BitVec 32 := 5#32
  let v45 : BitVec 1 := Scalar.cmpi .eq v29 c5_i32
  let c3_i32_22 : BitVec 32 := 3#32
  let c0_i32_23 : BitVec 32 := 0#32
  let v46 : BitVec 32 := Scalar.select v45 c3_i32_22 c0_i32_23
  let v47 : BitVec 32 := Scalar.addi v44 v46
  let c6_i32_24 : BitVec 32 := 6#32
  let v48 : BitVec 1 := Scalar.cmpi .eq v29 c6_i32_24
  let c4_i32_25 : BitVec 32 := 4#32
  let c0_i32_26 : BitVec 32 := 0#32
  let v49 : BitVec 32 := Scalar.select v48 c4_i32_25 c0_i32_26
  let v50 : BitVec 32 := Scalar.addi v47 v49
  let c7_i32_27 : BitVec 32 := 7#32
  let v51 : BitVec 1 := Scalar.cmpi .eq v29 c7_i32_27
  let c5_i32_28 : BitVec 32 := 5#32
  let c0_i32_29 : BitVec 32 := 0#32
  let v52 : BitVec 32 := Scalar.select v51 c5_i32_28 c0_i32_29
  let v53 : BitVec 32 := Scalar.addi v50 v52
  let c192_i32 : BitVec 32 := 192#32
  let v141 : BitVec 32 := Scalar.muli v53 c192_i32
  let v148 : Index := Scalar.indexCast v141
  let c0_113 : Index := 0#32
  ![v148.toNat, 0]
def k0_off3 (d0 : Dev nD) (c0_i32_114 : BitVec 32) (c0_i32_122 : BitVec 32) : Fin 2 → Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32_12 : BitVec 32 := 0#32
  let c0_i32_13 : BitVec 32 := 0#32
  let v31 : BitVec 32 := Scalar.select v30 c0_i32_12 c0_i32_13
  let v32 : BitVec 32 := Scalar.addi c0_i32_14 v31
  let c1_i32_15 : BitVec 32 := 1#32
  let v33 : BitVec 1 := Scalar.cmpi .eq v29 c1_i32_15
  let c1_i32_16 : BitVec 32 := 1#32
  let c0_i32_17 : BitVec 32 := 0#32
  let v34 : BitVec 32 := Scalar.select v33 c1_i32_16 c0_i32_17
  let v35 : BitVec 32 := Scalar.addi v32 v34
  let c2_i32 : BitVec 32 := 2#32
  let v36 : BitVec 1 := Scalar.cmpi .eq v29 c2_i32
  let c2_i32_18 : BitVec 32 := 2#32
  let c0_i32_19 : BitVec 32 := 0#32
  let v37 : BitVec 32 := Scalar.select v36 c2_i32_18 c0_i32_19
  let v38 : BitVec 32 := Scalar.addi v35 v37
  let c3_i32 : BitVec 32 := 3#32
  let v39 : BitVec 1 := Scalar.cmpi .eq v29 c3_i32
  let c7_i32 : BitVec 32 := 7#32
  let c0_i32_20 : BitVec 32 := 0#32
  let v40 : BitVec 32 := Scalar.select v39 c7_i32 c0_i32_20
  let v41 : BitVec 32 := Scalar.addi v38 v40
  let c4_i32 : BitVec 32 := 4#32
  let v42 : BitVec 1 := Scalar.cmpi .eq v29 c4_i32
  let c6_i32 : BitVec 32 := 6#32
  let c0_i32_21 : BitVec 32 := 0#32
  let v43 : BitVec 32 := Scalar.select v42 c6_i32 c0_i32_21
  let v44 : BitVec 32 := Scalar.addi v41 v43
  let c5_i32 : BitVec 32 := 5#32
  let v45 : BitVec 1 := Scalar.cmpi .eq v29 c5_i32
  let c3_i32_22 : BitVec 32 := 3#32
  let c0_i32_23 : BitVec 32 := 0#32
  let v46 : BitVec 32 := Scalar.select v45 c3_i32_22 c0_i32_23
  let v47 : BitVec 32 := Scalar.addi v44 v46
  let c6_i32_24 : BitVec 32 := 6#32
  let v48 : BitVec 1 := Scalar.cmpi .eq v29 c6_i32_24
  let c4_i32_25 : BitVec 32 := 4#32
  let c0_i32_26 : BitVec 32 := 0#32
  let v49 : BitVec 32 := Scalar.select v48 c4_i32_25 c0_i32_26
  let v50 : BitVec 32 := Scalar.addi v47 v49
  let c7_i32_27 : BitVec 32 := 7#32
  let v51 : BitVec 1 := Scalar.cmpi .eq v29 c7_i32_27
  let c5_i32_28 : BitVec 32 := 5#32
  let c0_i32_29 : BitVec 32 := 0#32
  let v52 : BitVec 32 := Scalar.select v51 c5_i32_28 c0_i32_29
  let v53 : BitVec 32 := Scalar.addi v50 v52
  let v152 : BitVec 32 := Scalar.subi v53 c0_i32_114
  let c8_i32_115 : BitVec 32 := 8#32
  let c0_i32_116 : BitVec 32 := 0#32
  let v153 : BitVec 1 := Scalar.cmpi .eq c8_i32_115 c0_i32_116
  let c1_i32_117 : BitVec 32 := 1#32
  let v154 : BitVec 32 := Scalar.select v153 c1_i32_117 c8_i32_115
  let v155 : BitVec 32 := Scalar.remsi v152 v154
  let c0_i32_119 : BitVec 32 := 0#32
  let v157 : BitVec 1 := Scalar.cmpi .slt v155 c0_i32_119
  let c0_i32_120 : BitVec 32 := 0#32
  let v158 : BitVec 1 := Scalar.cmpi .slt v154 c0_i32_120
  let v159 : BitVec 1 := Scalar.xori v157 v158
  let c0_i32_118 : BitVec 32 := 0#32
  let v156 : BitVec 1 := Scalar.cmpi .ne v155 c0_i32_118
  let v160 : BitVec 1 := Scalar.andi v159 v156
  let v161 : BitVec 32 := Scalar.addi v155 v154
  let v162 : BitVec 32 := Scalar.select v160 v161 v155
  let c192_i32_121 : BitVec 32 := 192#32
  let v163 : BitVec 32 := Scalar.muli v162 c192_i32_121
  let v164 : BitVec 32 := Scalar.addi v163 c0_i32_122
  let v165 : Index := Scalar.indexCast v164
  let c0_123 : Index := 0#32
  ![v165.toNat, 0]
def k0_off3_at (r : Fin 28) : BitVec 32 × BitVec 32 :=
  if r.val < 14 then
    if r.val < 7 then
      if r.val < 3 then
        if r.val < 1 then
          (0#32, 0#32)
        else
          if r.val < 2 then
            (0#32, 48#32)
          else
            (0#32, 96#32)
      else
        if r.val < 5 then
          if r.val < 4 then
            (0#32, 144#32)
          else
            (1#32, 0#32)
        else
          if r.val < 6 then
            (1#32, 48#32)
          else
            (4294967295#32, 96#32)
    else
      if r.val < 10 then
        if r.val < 8 then
          (4294967295#32, 144#32)
        else
          if r.val < 9 then
            (2#32, 0#32)
          else
            (2#32, 48#32)
      else
        if r.val < 12 then
          if r.val < 11 then
            (4294967294#32, 96#32)
          else
            (4294967294#32, 144#32)
        else
          if r.val < 13 then
            (3#32, 0#32)
          else
            (3#32, 48#32)
  else
    if r.val < 21 then
      if r.val < 17 then
        if r.val < 15 then
          (4294967293#32, 96#32)
        else
          if r.val < 16 then
            (4294967293#32, 144#32)
          else
            (4#32, 0#32)
      else
        if r.val < 19 then
          if r.val < 18 then
            (4#32, 48#32)
          else
            (4294967292#32, 96#32)
        else
          if r.val < 20 then
            (4294967292#32, 144#32)
          else
            (5#32, 0#32)
    else
      if r.val < 24 then
        if r.val < 22 then
          (5#32, 48#32)
        else
          if r.val < 23 then
            (4294967291#32, 96#32)
          else
            (4294967291#32, 144#32)
      else
        if r.val < 26 then
          if r.val < 25 then
            (6#32, 0#32)
          else
            (6#32, 48#32)
        else
          if r.val < 27 then
            (4294967290#32, 96#32)
          else
            (4294967290#32, 144#32)
def k0_dev5 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v54 : BitVec 32 := Scalar.muli v19 c8_i32_30
  let c0_i32_34 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_31 : BitVec 32 := 0#32
  let v55 : BitVec 1 := Scalar.cmpi .eq v29 c0_i32_31
  let c1_i32_32 : BitVec 32 := 1#32
  let c0_i32_33 : BitVec 32 := 0#32
  let v56 : BitVec 32 := Scalar.select v55 c1_i32_32 c0_i32_33
  let v57 : BitVec 32 := Scalar.addi c0_i32_34 v56
  let c1_i32_35 : BitVec 32 := 1#32
  let v58 : BitVec 1 := Scalar.cmpi .eq v29 c1_i32_35
  let c2_i32_36 : BitVec 32 := 2#32
  let c0_i32_37 : BitVec 32 := 0#32
  let v59 : BitVec 32 := Scalar.select v58 c2_i32_36 c0_i32_37
  let v60 : BitVec 32 := Scalar.addi v57 v59
  let c2_i32_38 : BitVec 32 := 2#32
  let v61 : BitVec 1 := Scalar.cmpi .eq v29 c2_i32_38
  let c5_i32_39 : BitVec 32 := 5#32
  let c0_i32_40 : BitVec 32 := 0#32
  let v62 : BitVec 32 := Scalar.select v61 c5_i32_39 c0_i32_40
  let v63 : BitVec 32 := Scalar.addi v60 v62
  let c3_i32_41 : BitVec 32 := 3#32
  let v64 : BitVec 1 := Scalar.cmpi .eq v29 c3_i32_41
  let c0_i32_42 : BitVec 32 := 0#32
  let c0_i32_43 : BitVec 32 := 0#32
  let v65 : BitVec 32 := Scalar.select v64 c0_i32_42 c0_i32_43
  let v66 : BitVec 32 := Scalar.addi v63 v65
  let c4_i32_44 : BitVec 32 := 4#32
  let v67 : BitVec 1 := Scalar.cmpi .eq v29 c4_i32_44
  let c3_i32_45 : BitVec 32 := 3#32
  let c0_i32_46 : BitVec 32 := 0#32
  let v68 : BitVec 32 := Scalar.select v67 c3_i32_45 c0_i32_46
  let v69 : BitVec 32 := Scalar.addi v66 v68
  let c5_i32_47 : BitVec 32 := 5#32
  let v70 : BitVec 1 := Scalar.cmpi .eq v29 c5_i32_47
  let c6_i32_48 : BitVec 32 := 6#32
  let c0_i32_49 : BitVec 32 := 0#32
  let v71 : BitVec 32 := Scalar.select v70 c6_i32_48 c0_i32_49
  let v72 : BitVec 32 := Scalar.addi v69 v71
  let c6_i32_50 : BitVec 32 := 6#32
  let v73 : BitVec 1 := Scalar.cmpi .eq v29 c6_i32_50
  let c7_i32_51 : BitVec 32 := 7#32
  let c0_i32_52 : BitVec 32 := 0#32
  let v74 : BitVec 32 := Scalar.select v73 c7_i32_51 c0_i32_52
  let v75 : BitVec 32 := Scalar.addi v72 v74
  let c7_i32_53 : BitVec 32 := 7#32
  let v76 : BitVec 1 := Scalar.cmpi .eq v29 c7_i32_53
  let c4_i32_54 : BitVec 32 := 4#32
  let c0_i32_55 : BitVec 32 := 0#32
  let v77 : BitVec 32 := Scalar.select v76 c4_i32_54 c0_i32_55
  let v78 : BitVec 32 := Scalar.addi v75 v77
  let v79 : BitVec 32 := Scalar.addi v54 v78
  let c1_i32_131 : BitVec 32 := 1#32
  let v170 : BitVec 32 := Scalar.muli v79 c1_i32_131
  let v171 : BitVec 32 := Scalar.addi c0_i32_132 v170
  v171.toNat
def k0_dev6 (d0 : Dev nD) : Nat :=
  let c0_i32_154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v54 : BitVec 32 := Scalar.muli v19 c8_i32_30
  let c0_i32_34 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_31 : BitVec 32 := 0#32
  let v55 : BitVec 1 := Scalar.cmpi .eq v29 c0_i32_31
  let c1_i32_32 : BitVec 32 := 1#32
  let c0_i32_33 : BitVec 32 := 0#32
  let v56 : BitVec 32 := Scalar.select v55 c1_i32_32 c0_i32_33
  let v57 : BitVec 32 := Scalar.addi c0_i32_34 v56
  let c1_i32_35 : BitVec 32 := 1#32
  let v58 : BitVec 1 := Scalar.cmpi .eq v29 c1_i32_35
  let c2_i32_36 : BitVec 32 := 2#32
  let c0_i32_37 : BitVec 32 := 0#32
  let v59 : BitVec 32 := Scalar.select v58 c2_i32_36 c0_i32_37
  let v60 : BitVec 32 := Scalar.addi v57 v59
  let c2_i32_38 : BitVec 32 := 2#32
  let v61 : BitVec 1 := Scalar.cmpi .eq v29 c2_i32_38
  let c5_i32_39 : BitVec 32 := 5#32
  let c0_i32_40 : BitVec 32 := 0#32
  let v62 : BitVec 32 := Scalar.select v61 c5_i32_39 c0_i32_40
  let v63 : BitVec 32 := Scalar.addi v60 v62
  let c3_i32_41 : BitVec 32 := 3#32
  let v64 : BitVec 1 := Scalar.cmpi .eq v29 c3_i32_41
  let c0_i32_42 : BitVec 32 := 0#32
  let c0_i32_43 : BitVec 32 := 0#32
  let v65 : BitVec 32 := Scalar.select v64 c0_i32_42 c0_i32_43
  let v66 : BitVec 32 := Scalar.addi v63 v65
  let c4_i32_44 : BitVec 32 := 4#32
  let v67 : BitVec 1 := Scalar.cmpi .eq v29 c4_i32_44
  let c3_i32_45 : BitVec 32 := 3#32
  let c0_i32_46 : BitVec 32 := 0#32
  let v68 : BitVec 32 := Scalar.select v67 c3_i32_45 c0_i32_46
  let v69 : BitVec 32 := Scalar.addi v66 v68
  let c5_i32_47 : BitVec 32 := 5#32
  let v70 : BitVec 1 := Scalar.cmpi .eq v29 c5_i32_47
  let c6_i32_48 : BitVec 32 := 6#32
  let c0_i32_49 : BitVec 32 := 0#32
  let v71 : BitVec 32 := Scalar.select v70 c6_i32_48 c0_i32_49
  let v72 : BitVec 32 := Scalar.addi v69 v71
  let c6_i32_50 : BitVec 32 := 6#32
  let v73 : BitVec 1 := Scalar.cmpi .eq v29 c6_i32_50
  let c7_i32_51 : BitVec 32 := 7#32
  let c0_i32_52 : BitVec 32 := 0#32
  let v74 : BitVec 32 := Scalar.select v73 c7_i32_51 c0_i32_52
  let v75 : BitVec 32 := Scalar.addi v72 v74
  let c7_i32_53 : BitVec 32 := 7#32
  let v76 : BitVec 1 := Scalar.cmpi .eq v29 c7_i32_53
  let c4_i32_54 : BitVec 32 := 4#32
  let c0_i32_55 : BitVec 32 := 0#32
  let v77 : BitVec 32 := Scalar.select v76 c4_i32_54 c0_i32_55
  let v78 : BitVec 32 := Scalar.addi v75 v77
  let v79 : BitVec 32 := Scalar.addi v54 v78
  let c1_i32_153 : BitVec 32 := 1#32
  let v198 : BitVec 32 := Scalar.muli v79 c1_i32_153
  let v199 : BitVec 32 := Scalar.addi c0_i32_154 v198
  v199.toNat
def k0_dev7 (d0 : Dev nD) : Nat :=
  let c0_i32_176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v80 : BitVec 32 := Scalar.muli v19 c8_i32_56
  let c0_i32_60 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_57 : BitVec 32 := 0#32
  let v81 : BitVec 1 := Scalar.cmpi .eq v29 c0_i32_57
  let c3_i32_58 : BitVec 32 := 3#32
  let c0_i32_59 : BitVec 32 := 0#32
  let v82 : BitVec 32 := Scalar.select v81 c3_i32_58 c0_i32_59
  let v83 : BitVec 32 := Scalar.addi c0_i32_60 v82
  let c1_i32_61 : BitVec 32 := 1#32
  let v84 : BitVec 1 := Scalar.cmpi .eq v29 c1_i32_61
  let c0_i32_62 : BitVec 32 := 0#32
  let c0_i32_63 : BitVec 32 := 0#32
  let v85 : BitVec 32 := Scalar.select v84 c0_i32_62 c0_i32_63
  let v86 : BitVec 32 := Scalar.addi v83 v85
  let c2_i32_64 : BitVec 32 := 2#32
  let v87 : BitVec 1 := Scalar.cmpi .eq v29 c2_i32_64
  let c1_i32_65 : BitVec 32 := 1#32
  let c0_i32_66 : BitVec 32 := 0#32
  let v88 : BitVec 32 := Scalar.select v87 c1_i32_65 c0_i32_66
  let v89 : BitVec 32 := Scalar.addi v86 v88
  let c3_i32_67 : BitVec 32 := 3#32
  let v90 : BitVec 1 := Scalar.cmpi .eq v29 c3_i32_67
  let c4_i32_68 : BitVec 32 := 4#32
  let c0_i32_69 : BitVec 32 := 0#32
  let v91 : BitVec 32 := Scalar.select v90 c4_i32_68 c0_i32_69
  let v92 : BitVec 32 := Scalar.addi v89 v91
  let c4_i32_70 : BitVec 32 := 4#32
  let v93 : BitVec 1 := Scalar.cmpi .eq v29 c4_i32_70
  let c7_i32_71 : BitVec 32 := 7#32
  let c0_i32_72 : BitVec 32 := 0#32
  let v94 : BitVec 32 := Scalar.select v93 c7_i32_71 c0_i32_72
  let v95 : BitVec 32 := Scalar.addi v92 v94
  let c5_i32_73 : BitVec 32 := 5#32
  let v96 : BitVec 1 := Scalar.cmpi .eq v29 c5_i32_73
  let c2_i32_74 : BitVec 32 := 2#32
  let c0_i32_75 : BitVec 32 := 0#32
  let v97 : BitVec 32 := Scalar.select v96 c2_i32_74 c0_i32_75
  let v98 : BitVec 32 := Scalar.addi v95 v97
  let c6_i32_76 : BitVec 32 := 6#32
  let v99 : BitVec 1 := Scalar.cmpi .eq v29 c6_i32_76
  let c5_i32_77 : BitVec 32 := 5#32
  let c0_i32_78 : BitVec 32 := 0#32
  let v100 : BitVec 32 := Scalar.select v99 c5_i32_77 c0_i32_78
  let v101 : BitVec 32 := Scalar.addi v98 v100
  let c7_i32_79 : BitVec 32 := 7#32
  let v102 : BitVec 1 := Scalar.cmpi .eq v29 c7_i32_79
  let c6_i32_80 : BitVec 32 := 6#32
  let c0_i32_81 : BitVec 32 := 0#32
  let v103 : BitVec 32 := Scalar.select v102 c6_i32_80 c0_i32_81
  let v104 : BitVec 32 := Scalar.addi v101 v103
  let v105 : BitVec 32 := Scalar.addi v80 v104
  let c1_i32_175 : BitVec 32 := 1#32
  let v226 : BitVec 32 := Scalar.muli v105 c1_i32_175
  let v227 : BitVec 32 := Scalar.addi c0_i32_176 v226
  v227.toNat
def k0_dev8 (d0 : Dev nD) : Nat :=
  let c0_i32_198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v80 : BitVec 32 := Scalar.muli v19 c8_i32_56
  let c0_i32_60 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_57 : BitVec 32 := 0#32
  let v81 : BitVec 1 := Scalar.cmpi .eq v29 c0_i32_57
  let c3_i32_58 : BitVec 32 := 3#32
  let c0_i32_59 : BitVec 32 := 0#32
  let v82 : BitVec 32 := Scalar.select v81 c3_i32_58 c0_i32_59
  let v83 : BitVec 32 := Scalar.addi c0_i32_60 v82
  let c1_i32_61 : BitVec 32 := 1#32
  let v84 : BitVec 1 := Scalar.cmpi .eq v29 c1_i32_61
  let c0_i32_62 : BitVec 32 := 0#32
  let c0_i32_63 : BitVec 32 := 0#32
  let v85 : BitVec 32 := Scalar.select v84 c0_i32_62 c0_i32_63
  let v86 : BitVec 32 := Scalar.addi v83 v85
  let c2_i32_64 : BitVec 32 := 2#32
  let v87 : BitVec 1 := Scalar.cmpi .eq v29 c2_i32_64
  let c1_i32_65 : BitVec 32 := 1#32
  let c0_i32_66 : BitVec 32 := 0#32
  let v88 : BitVec 32 := Scalar.select v87 c1_i32_65 c0_i32_66
  let v89 : BitVec 32 := Scalar.addi v86 v88
  let c3_i32_67 : BitVec 32 := 3#32
  let v90 : BitVec 1 := Scalar.cmpi .eq v29 c3_i32_67
  let c4_i32_68 : BitVec 32 := 4#32
  let c0_i32_69 : BitVec 32 := 0#32
  let v91 : BitVec 32 := Scalar.select v90 c4_i32_68 c0_i32_69
  let v92 : BitVec 32 := Scalar.addi v89 v91
  let c4_i32_70 : BitVec 32 := 4#32
  let v93 : BitVec 1 := Scalar.cmpi .eq v29 c4_i32_70
  let c7_i32_71 : BitVec 32 := 7#32
  let c0_i32_72 : BitVec 32 := 0#32
  let v94 : BitVec 32 := Scalar.select v93 c7_i32_71 c0_i32_72
  let v95 : BitVec 32 := Scalar.addi v92 v94
  let c5_i32_73 : BitVec 32 := 5#32
  let v96 : BitVec 1 := Scalar.cmpi .eq v29 c5_i32_73
  let c2_i32_74 : BitVec 32 := 2#32
  let c0_i32_75 : BitVec 32 := 0#32
  let v97 : BitVec 32 := Scalar.select v96 c2_i32_74 c0_i32_75
  let v98 : BitVec 32 := Scalar.addi v95 v97
  let c6_i32_76 : BitVec 32 := 6#32
  let v99 : BitVec 1 := Scalar.cmpi .eq v29 c6_i32_76
  let c5_i32_77 : BitVec 32 := 5#32
  let c0_i32_78 : BitVec 32 := 0#32
  let v100 : BitVec 32 := Scalar.select v99 c5_i32_77 c0_i32_78
  let v101 : BitVec 32 := Scalar.addi v98 v100
  let c7_i32_79 : BitVec 32 := 7#32
  let v102 : BitVec 1 := Scalar.cmpi .eq v29 c7_i32_79
  let c6_i32_80 : BitVec 32 := 6#32
  let c0_i32_81 : BitVec 32 := 0#32
  let v103 : BitVec 32 := Scalar.select v102 c6_i32_80 c0_i32_81
  let v104 : BitVec 32 := Scalar.addi v101 v103
  let v105 : BitVec 32 := Scalar.addi v80 v104
  let c1_i32_197 : BitVec 32 := 1#32
  let v254 : BitVec 32 := Scalar.muli v105 c1_i32_197
  let v255 : BitVec 32 := Scalar.addi c0_i32_198 v254
  v255.toNat
def k0_off4 (d0 : Dev nD) : Fin 2 → Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32_12 : BitVec 32 := 0#32
  let c0_i32_13 : BitVec 32 := 0#32
  let v31 : BitVec 32 := Scalar.select v30 c0_i32_12 c0_i32_13
  let v32 : BitVec 32 := Scalar.addi c0_i32_14 v31
  let c1_i32_15 : BitVec 32 := 1#32
  let v33 : BitVec 1 := Scalar.cmpi .eq v29 c1_i32_15
  let c1_i32_16 : BitVec 32 := 1#32
  let c0_i32_17 : BitVec 32 := 0#32
  let v34 : BitVec 32 := Scalar.select v33 c1_i32_16 c0_i32_17
  let v35 : BitVec 32 := Scalar.addi v32 v34
  let c2_i32 : BitVec 32 := 2#32
  let v36 : BitVec 1 := Scalar.cmpi .eq v29 c2_i32
  let c2_i32_18 : BitVec 32 := 2#32
  let c0_i32_19 : BitVec 32 := 0#32
  let v37 : BitVec 32 := Scalar.select v36 c2_i32_18 c0_i32_19
  let v38 : BitVec 32 := Scalar.addi v35 v37
  let c3_i32 : BitVec 32 := 3#32
  let v39 : BitVec 1 := Scalar.cmpi .eq v29 c3_i32
  let c7_i32 : BitVec 32 := 7#32
  let c0_i32_20 : BitVec 32 := 0#32
  let v40 : BitVec 32 := Scalar.select v39 c7_i32 c0_i32_20
  let v41 : BitVec 32 := Scalar.addi v38 v40
  let c4_i32 : BitVec 32 := 4#32
  let v42 : BitVec 1 := Scalar.cmpi .eq v29 c4_i32
  let c6_i32 : BitVec 32 := 6#32
  let c0_i32_21 : BitVec 32 := 0#32
  let v43 : BitVec 32 := Scalar.select v42 c6_i32 c0_i32_21
  let v44 : BitVec 32 := Scalar.addi v41 v43
  let c5_i32 : BitVec 32 := 5#32
  let v45 : BitVec 1 := Scalar.cmpi .eq v29 c5_i32
  let c3_i32_22 : BitVec 32 := 3#32
  let c0_i32_23 : BitVec 32 := 0#32
  let v46 : BitVec 32 := Scalar.select v45 c3_i32_22 c0_i32_23
  let v47 : BitVec 32 := Scalar.addi v44 v46
  let c6_i32_24 : BitVec 32 := 6#32
  let v48 : BitVec 1 := Scalar.cmpi .eq v29 c6_i32_24
  let c4_i32_25 : BitVec 32 := 4#32
  let c0_i32_26 : BitVec 32 := 0#32
  let v49 : BitVec 32 := Scalar.select v48 c4_i32_25 c0_i32_26
  let v50 : BitVec 32 := Scalar.addi v47 v49
  let c7_i32_27 : BitVec 32 := 7#32
  let v51 : BitVec 1 := Scalar.cmpi .eq v29 c7_i32_27
  let c5_i32_28 : BitVec 32 := 5#32
  let c0_i32_29 : BitVec 32 := 0#32
  let v52 : BitVec 32 := Scalar.select v51 c5_i32_28 c0_i32_29
  let v53 : BitVec 32 := Scalar.addi v50 v52
  let c1_i32_203 : BitVec 32 := 1#32
  let v264 : BitVec 32 := Scalar.subi v53 c1_i32_203
  let c8_i32_204 : BitVec 32 := 8#32
  let c0_i32_205 : BitVec 32 := 0#32
  let v265 : BitVec 1 := Scalar.cmpi .eq c8_i32_204 c0_i32_205
  let c1_i32_206 : BitVec 32 := 1#32
  let v266 : BitVec 32 := Scalar.select v265 c1_i32_206 c8_i32_204
  let v267 : BitVec 32 := Scalar.remsi v264 v266
  let c0_i32_208 : BitVec 32 := 0#32
  let v269 : BitVec 1 := Scalar.cmpi .slt v267 c0_i32_208
  let c0_i32_209 : BitVec 32 := 0#32
  let v270 : BitVec 1 := Scalar.cmpi .slt v266 c0_i32_209
  let v271 : BitVec 1 := Scalar.xori v269 v270
  let c0_i32_207 : BitVec 32 := 0#32
  let v268 : BitVec 1 := Scalar.cmpi .ne v267 c0_i32_207
  let v272 : BitVec 1 := Scalar.andi v271 v268
  let v273 : BitVec 32 := Scalar.addi v267 v266
  let v274 : BitVec 32 := Scalar.select v272 v273 v267
  let c192_i32_210 : BitVec 32 := 192#32
  let v275 : BitVec 32 := Scalar.muli v274 c192_i32_210
  let v276 : Index := Scalar.indexCast v275
  let c0_211 : Index := 0#32
  ![v276.toNat, 0]
def k0_off5 (d0 : Dev nD) : Fin 2 → Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32_12 : BitVec 32 := 0#32
  let c0_i32_13 : BitVec 32 := 0#32
  let v31 : BitVec 32 := Scalar.select v30 c0_i32_12 c0_i32_13
  let v32 : BitVec 32 := Scalar.addi c0_i32_14 v31
  let c1_i32_15 : BitVec 32 := 1#32
  let v33 : BitVec 1 := Scalar.cmpi .eq v29 c1_i32_15
  let c1_i32_16 : BitVec 32 := 1#32
  let c0_i32_17 : BitVec 32 := 0#32
  let v34 : BitVec 32 := Scalar.select v33 c1_i32_16 c0_i32_17
  let v35 : BitVec 32 := Scalar.addi v32 v34
  let c2_i32 : BitVec 32 := 2#32
  let v36 : BitVec 1 := Scalar.cmpi .eq v29 c2_i32
  let c2_i32_18 : BitVec 32 := 2#32
  let c0_i32_19 : BitVec 32 := 0#32
  let v37 : BitVec 32 := Scalar.select v36 c2_i32_18 c0_i32_19
  let v38 : BitVec 32 := Scalar.addi v35 v37
  let c3_i32 : BitVec 32 := 3#32
  let v39 : BitVec 1 := Scalar.cmpi .eq v29 c3_i32
  let c7_i32 : BitVec 32 := 7#32
  let c0_i32_20 : BitVec 32 := 0#32
  let v40 : BitVec 32 := Scalar.select v39 c7_i32 c0_i32_20
  let v41 : BitVec 32 := Scalar.addi v38 v40
  let c4_i32 : BitVec 32 := 4#32
  let v42 : BitVec 1 := Scalar.cmpi .eq v29 c4_i32
  let c6_i32 : BitVec 32 := 6#32
  let c0_i32_21 : BitVec 32 := 0#32
  let v43 : BitVec 32 := Scalar.select v42 c6_i32 c0_i32_21
  let v44 : BitVec 32 := Scalar.addi v41 v43
  let c5_i32 : BitVec 32 := 5#32
  let v45 : BitVec 1 := Scalar.cmpi .eq v29 c5_i32
  let c3_i32_22 : BitVec 32 := 3#32
  let c0_i32_23 : BitVec 32 := 0#32
  let v46 : BitVec 32 := Scalar.select v45 c3_i32_22 c0_i32_23
  let v47 : BitVec 32 := Scalar.addi v44 v46
  let c6_i32_24 : BitVec 32 := 6#32
  let v48 : BitVec 1 := Scalar.cmpi .eq v29 c6_i32_24
  let c4_i32_25 : BitVec 32 := 4#32
  let c0_i32_26 : BitVec 32 := 0#32
  let v49 : BitVec 32 := Scalar.select v48 c4_i32_25 c0_i32_26
  let v50 : BitVec 32 := Scalar.addi v47 v49
  let c7_i32_27 : BitVec 32 := 7#32
  let v51 : BitVec 1 := Scalar.cmpi .eq v29 c7_i32_27
  let c5_i32_28 : BitVec 32 := 5#32
  let c0_i32_29 : BitVec 32 := 0#32
  let v52 : BitVec 32 := Scalar.select v51 c5_i32_28 c0_i32_29
  let v53 : BitVec 32 := Scalar.addi v50 v52
  let c1_i32_203 : BitVec 32 := 1#32
  let v264 : BitVec 32 := Scalar.subi v53 c1_i32_203
  let c8_i32_204 : BitVec 32 := 8#32
  let c0_i32_205 : BitVec 32 := 0#32
  let v265 : BitVec 1 := Scalar.cmpi .eq c8_i32_204 c0_i32_205
  let c1_i32_206 : BitVec 32 := 1#32
  let v266 : BitVec 32 := Scalar.select v265 c1_i32_206 c8_i32_204
  let v267 : BitVec 32 := Scalar.remsi v264 v266
  let c0_i32_208 : BitVec 32 := 0#32
  let v269 : BitVec 1 := Scalar.cmpi .slt v267 c0_i32_208
  let c0_i32_209 : BitVec 32 := 0#32
  let v270 : BitVec 1 := Scalar.cmpi .slt v266 c0_i32_209
  let v271 : BitVec 1 := Scalar.xori v269 v270
  let c0_i32_207 : BitVec 32 := 0#32
  let v268 : BitVec 1 := Scalar.cmpi .ne v267 c0_i32_207
  let v272 : BitVec 1 := Scalar.andi v271 v268
  let v273 : BitVec 32 := Scalar.addi v267 v266
  let v274 : BitVec 32 := Scalar.select v272 v273 v267
  let c192_i32_210 : BitVec 32 := 192#32
  let v275 : BitVec 32 := Scalar.muli v274 c192_i32_210
  let v282 : Index := Scalar.indexCast v275
  let c0_215 : Index := 0#32
  ![v282.toNat, 0]
def k0_off6 (d0 : Dev nD) : Fin 2 → Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32_12 : BitVec 32 := 0#32
  let c0_i32_13 : BitVec 32 := 0#32
  let v31 : BitVec 32 := Scalar.select v30 c0_i32_12 c0_i32_13
  let v32 : BitVec 32 := Scalar.addi c0_i32_14 v31
  let c1_i32_15 : BitVec 32 := 1#32
  let v33 : BitVec 1 := Scalar.cmpi .eq v29 c1_i32_15
  let c1_i32_16 : BitVec 32 := 1#32
  let c0_i32_17 : BitVec 32 := 0#32
  let v34 : BitVec 32 := Scalar.select v33 c1_i32_16 c0_i32_17
  let v35 : BitVec 32 := Scalar.addi v32 v34
  let c2_i32 : BitVec 32 := 2#32
  let v36 : BitVec 1 := Scalar.cmpi .eq v29 c2_i32
  let c2_i32_18 : BitVec 32 := 2#32
  let c0_i32_19 : BitVec 32 := 0#32
  let v37 : BitVec 32 := Scalar.select v36 c2_i32_18 c0_i32_19
  let v38 : BitVec 32 := Scalar.addi v35 v37
  let c3_i32 : BitVec 32 := 3#32
  let v39 : BitVec 1 := Scalar.cmpi .eq v29 c3_i32
  let c7_i32 : BitVec 32 := 7#32
  let c0_i32_20 : BitVec 32 := 0#32
  let v40 : BitVec 32 := Scalar.select v39 c7_i32 c0_i32_20
  let v41 : BitVec 32 := Scalar.addi v38 v40
  let c4_i32 : BitVec 32 := 4#32
  let v42 : BitVec 1 := Scalar.cmpi .eq v29 c4_i32
  let c6_i32 : BitVec 32 := 6#32
  let c0_i32_21 : BitVec 32 := 0#32
  let v43 : BitVec 32 := Scalar.select v42 c6_i32 c0_i32_21
  let v44 : BitVec 32 := Scalar.addi v41 v43
  let c5_i32 : BitVec 32 := 5#32
  let v45 : BitVec 1 := Scalar.cmpi .eq v29 c5_i32
  let c3_i32_22 : BitVec 32 := 3#32
  let c0_i32_23 : BitVec 32 := 0#32
  let v46 : BitVec 32 := Scalar.select v45 c3_i32_22 c0_i32_23
  let v47 : BitVec 32 := Scalar.addi v44 v46
  let c6_i32_24 : BitVec 32 := 6#32
  let v48 : BitVec 1 := Scalar.cmpi .eq v29 c6_i32_24
  let c4_i32_25 : BitVec 32 := 4#32
  let c0_i32_26 : BitVec 32 := 0#32
  let v49 : BitVec 32 := Scalar.select v48 c4_i32_25 c0_i32_26
  let v50 : BitVec 32 := Scalar.addi v47 v49
  let c7_i32_27 : BitVec 32 := 7#32
  let v51 : BitVec 1 := Scalar.cmpi .eq v29 c7_i32_27
  let c5_i32_28 : BitVec 32 := 5#32
  let c0_i32_29 : BitVec 32 := 0#32
  let v52 : BitVec 32 := Scalar.select v51 c5_i32_28 c0_i32_29
  let v53 : BitVec 32 := Scalar.addi v50 v52
  let c1_i32_216 : BitVec 32 := 1#32
  let v286 : BitVec 32 := Scalar.addi v53 c1_i32_216
  let c8_i32_217 : BitVec 32 := 8#32
  let c0_i32_218 : BitVec 32 := 0#32
  let v287 : BitVec 1 := Scalar.cmpi .eq c8_i32_217 c0_i32_218
  let c1_i32_219 : BitVec 32 := 1#32
  let v288 : BitVec 32 := Scalar.select v287 c1_i32_219 c8_i32_217
  let v289 : BitVec 32 := Scalar.remsi v286 v288
  let c0_i32_221 : BitVec 32 := 0#32
  let v291 : BitVec 1 := Scalar.cmpi .slt v289 c0_i32_221
  let c0_i32_222 : BitVec 32 := 0#32
  let v292 : BitVec 1 := Scalar.cmpi .slt v288 c0_i32_222
  let v293 : BitVec 1 := Scalar.xori v291 v292
  let c0_i32_220 : BitVec 32 := 0#32
  let v290 : BitVec 1 := Scalar.cmpi .ne v289 c0_i32_220
  let v294 : BitVec 1 := Scalar.andi v293 v290
  let v295 : BitVec 32 := Scalar.addi v289 v288
  let v296 : BitVec 32 := Scalar.select v294 v295 v289
  let c192_i32_223 : BitVec 32 := 192#32
  let v297 : BitVec 32 := Scalar.muli v296 c192_i32_223
  let c96_i32_224 : BitVec 32 := 96#32
  let v298 : BitVec 32 := Scalar.addi v297 c96_i32_224
  let v299 : Index := Scalar.indexCast v298
  let c0_225 : Index := 0#32
  ![v299.toNat, 0]
def k0_off7 (d0 : Dev nD) : Fin 2 → Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32_12 : BitVec 32 := 0#32
  let c0_i32_13 : BitVec 32 := 0#32
  let v31 : BitVec 32 := Scalar.select v30 c0_i32_12 c0_i32_13
  let v32 : BitVec 32 := Scalar.addi c0_i32_14 v31
  let c1_i32_15 : BitVec 32 := 1#32
  let v33 : BitVec 1 := Scalar.cmpi .eq v29 c1_i32_15
  let c1_i32_16 : BitVec 32 := 1#32
  let c0_i32_17 : BitVec 32 := 0#32
  let v34 : BitVec 32 := Scalar.select v33 c1_i32_16 c0_i32_17
  let v35 : BitVec 32 := Scalar.addi v32 v34
  let c2_i32 : BitVec 32 := 2#32
  let v36 : BitVec 1 := Scalar.cmpi .eq v29 c2_i32
  let c2_i32_18 : BitVec 32 := 2#32
  let c0_i32_19 : BitVec 32 := 0#32
  let v37 : BitVec 32 := Scalar.select v36 c2_i32_18 c0_i32_19
  let v38 : BitVec 32 := Scalar.addi v35 v37
  let c3_i32 : BitVec 32 := 3#32
  let v39 : BitVec 1 := Scalar.cmpi .eq v29 c3_i32
  let c7_i32 : BitVec 32 := 7#32
  let c0_i32_20 : BitVec 32 := 0#32
  let v40 : BitVec 32 := Scalar.select v39 c7_i32 c0_i32_20
  let v41 : BitVec 32 := Scalar.addi v38 v40
  let c4_i32 : BitVec 32 := 4#32
  let v42 : BitVec 1 := Scalar.cmpi .eq v29 c4_i32
  let c6_i32 : BitVec 32 := 6#32
  let c0_i32_21 : BitVec 32 := 0#32
  let v43 : BitVec 32 := Scalar.select v42 c6_i32 c0_i32_21
  let v44 : BitVec 32 := Scalar.addi v41 v43
  let c5_i32 : BitVec 32 := 5#32
  let v45 : BitVec 1 := Scalar.cmpi .eq v29 c5_i32
  let c3_i32_22 : BitVec 32 := 3#32
  let c0_i32_23 : BitVec 32 := 0#32
  let v46 : BitVec 32 := Scalar.select v45 c3_i32_22 c0_i32_23
  let v47 : BitVec 32 := Scalar.addi v44 v46
  let c6_i32_24 : BitVec 32 := 6#32
  let v48 : BitVec 1 := Scalar.cmpi .eq v29 c6_i32_24
  let c4_i32_25 : BitVec 32 := 4#32
  let c0_i32_26 : BitVec 32 := 0#32
  let v49 : BitVec 32 := Scalar.select v48 c4_i32_25 c0_i32_26
  let v50 : BitVec 32 := Scalar.addi v47 v49
  let c7_i32_27 : BitVec 32 := 7#32
  let v51 : BitVec 1 := Scalar.cmpi .eq v29 c7_i32_27
  let c5_i32_28 : BitVec 32 := 5#32
  let c0_i32_29 : BitVec 32 := 0#32
  let v52 : BitVec 32 := Scalar.select v51 c5_i32_28 c0_i32_29
  let v53 : BitVec 32 := Scalar.addi v50 v52
  let c1_i32_216 : BitVec 32 := 1#32
  let v286 : BitVec 32 := Scalar.addi v53 c1_i32_216
  let c8_i32_217 : BitVec 32 := 8#32
  let c0_i32_218 : BitVec 32 := 0#32
  let v287 : BitVec 1 := Scalar.cmpi .eq c8_i32_217 c0_i32_218
  let c1_i32_219 : BitVec 32 := 1#32
  let v288 : BitVec 32 := Scalar.select v287 c1_i32_219 c8_i32_217
  let v289 : BitVec 32 := Scalar.remsi v286 v288
  let c0_i32_221 : BitVec 32 := 0#32
  let v291 : BitVec 1 := Scalar.cmpi .slt v289 c0_i32_221
  let c0_i32_222 : BitVec 32 := 0#32
  let v292 : BitVec 1 := Scalar.cmpi .slt v288 c0_i32_222
  let v293 : BitVec 1 := Scalar.xori v291 v292
  let c0_i32_220 : BitVec 32 := 0#32
  let v290 : BitVec 1 := Scalar.cmpi .ne v289 c0_i32_220
  let v294 : BitVec 1 := Scalar.andi v293 v290
  let v295 : BitVec 32 := Scalar.addi v289 v288
  let v296 : BitVec 32 := Scalar.select v294 v295 v289
  let c192_i32_223 : BitVec 32 := 192#32
  let v297 : BitVec 32 := Scalar.muli v296 c192_i32_223
  let c96_i32_224 : BitVec 32 := 96#32
  let v298 : BitVec 32 := Scalar.addi v297 c96_i32_224
  let v305 : Index := Scalar.indexCast v298
  let c0_229 : Index := 0#32
  ![v305.toNat, 0]
def k0_dev9 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v54 : BitVec 32 := Scalar.muli v19 c8_i32_30
  let c0_i32_34 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_31 : BitVec 32 := 0#32
  let v55 : BitVec 1 := Scalar.cmpi .eq v29 c0_i32_31
  let c1_i32_32 : BitVec 32 := 1#32
  let c0_i32_33 : BitVec 32 := 0#32
  let v56 : BitVec 32 := Scalar.select v55 c1_i32_32 c0_i32_33
  let v57 : BitVec 32 := Scalar.addi c0_i32_34 v56
  let c1_i32_35 : BitVec 32 := 1#32
  let v58 : BitVec 1 := Scalar.cmpi .eq v29 c1_i32_35
  let c2_i32_36 : BitVec 32 := 2#32
  let c0_i32_37 : BitVec 32 := 0#32
  let v59 : BitVec 32 := Scalar.select v58 c2_i32_36 c0_i32_37
  let v60 : BitVec 32 := Scalar.addi v57 v59
  let c2_i32_38 : BitVec 32 := 2#32
  let v61 : BitVec 1 := Scalar.cmpi .eq v29 c2_i32_38
  let c5_i32_39 : BitVec 32 := 5#32
  let c0_i32_40 : BitVec 32 := 0#32
  let v62 : BitVec 32 := Scalar.select v61 c5_i32_39 c0_i32_40
  let v63 : BitVec 32 := Scalar.addi v60 v62
  let c3_i32_41 : BitVec 32 := 3#32
  let v64 : BitVec 1 := Scalar.cmpi .eq v29 c3_i32_41
  let c0_i32_42 : BitVec 32 := 0#32
  let c0_i32_43 : BitVec 32 := 0#32
  let v65 : BitVec 32 := Scalar.select v64 c0_i32_42 c0_i32_43
  let v66 : BitVec 32 := Scalar.addi v63 v65
  let c4_i32_44 : BitVec 32 := 4#32
  let v67 : BitVec 1 := Scalar.cmpi .eq v29 c4_i32_44
  let c3_i32_45 : BitVec 32 := 3#32
  let c0_i32_46 : BitVec 32 := 0#32
  let v68 : BitVec 32 := Scalar.select v67 c3_i32_45 c0_i32_46
  let v69 : BitVec 32 := Scalar.addi v66 v68
  let c5_i32_47 : BitVec 32 := 5#32
  let v70 : BitVec 1 := Scalar.cmpi .eq v29 c5_i32_47
  let c6_i32_48 : BitVec 32 := 6#32
  let c0_i32_49 : BitVec 32 := 0#32
  let v71 : BitVec 32 := Scalar.select v70 c6_i32_48 c0_i32_49
  let v72 : BitVec 32 := Scalar.addi v69 v71
  let c6_i32_50 : BitVec 32 := 6#32
  let v73 : BitVec 1 := Scalar.cmpi .eq v29 c6_i32_50
  let c7_i32_51 : BitVec 32 := 7#32
  let c0_i32_52 : BitVec 32 := 0#32
  let v74 : BitVec 32 := Scalar.select v73 c7_i32_51 c0_i32_52
  let v75 : BitVec 32 := Scalar.addi v72 v74
  let c7_i32_53 : BitVec 32 := 7#32
  let v76 : BitVec 1 := Scalar.cmpi .eq v29 c7_i32_53
  let c4_i32_54 : BitVec 32 := 4#32
  let c0_i32_55 : BitVec 32 := 0#32
  let v77 : BitVec 32 := Scalar.select v76 c4_i32_54 c0_i32_55
  let v78 : BitVec 32 := Scalar.addi v75 v77
  let v79 : BitVec 32 := Scalar.addi v54 v78
  let c1_i32_259 : BitVec 32 := 1#32
  let v338 : BitVec 32 := Scalar.muli v79 c1_i32_259
  let v339 : BitVec 32 := Scalar.addi c0_i32_260 v338
  v339.toNat
def k0_dev10 (d0 : Dev nD) : Nat :=
  let c0_i32_296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v54 : BitVec 32 := Scalar.muli v19 c8_i32_30
  let c0_i32_34 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_31 : BitVec 32 := 0#32
  let v55 : BitVec 1 := Scalar.cmpi .eq v29 c0_i32_31
  let c1_i32_32 : BitVec 32 := 1#32
  let c0_i32_33 : BitVec 32 := 0#32
  let v56 : BitVec 32 := Scalar.select v55 c1_i32_32 c0_i32_33
  let v57 : BitVec 32 := Scalar.addi c0_i32_34 v56
  let c1_i32_35 : BitVec 32 := 1#32
  let v58 : BitVec 1 := Scalar.cmpi .eq v29 c1_i32_35
  let c2_i32_36 : BitVec 32 := 2#32
  let c0_i32_37 : BitVec 32 := 0#32
  let v59 : BitVec 32 := Scalar.select v58 c2_i32_36 c0_i32_37
  let v60 : BitVec 32 := Scalar.addi v57 v59
  let c2_i32_38 : BitVec 32 := 2#32
  let v61 : BitVec 1 := Scalar.cmpi .eq v29 c2_i32_38
  let c5_i32_39 : BitVec 32 := 5#32
  let c0_i32_40 : BitVec 32 := 0#32
  let v62 : BitVec 32 := Scalar.select v61 c5_i32_39 c0_i32_40
  let v63 : BitVec 32 := Scalar.addi v60 v62
  let c3_i32_41 : BitVec 32 := 3#32
  let v64 : BitVec 1 := Scalar.cmpi .eq v29 c3_i32_41
  let c0_i32_42 : BitVec 32 := 0#32
  let c0_i32_43 : BitVec 32 := 0#32
  let v65 : BitVec 32 := Scalar.select v64 c0_i32_42 c0_i32_43
  let v66 : BitVec 32 := Scalar.addi v63 v65
  let c4_i32_44 : BitVec 32 := 4#32
  let v67 : BitVec 1 := Scalar.cmpi .eq v29 c4_i32_44
  let c3_i32_45 : BitVec 32 := 3#32
  let c0_i32_46 : BitVec 32 := 0#32
  let v68 : BitVec 32 := Scalar.select v67 c3_i32_45 c0_i32_46
  let v69 : BitVec 32 := Scalar.addi v66 v68
  let c5_i32_47 : BitVec 32 := 5#32
  let v70 : BitVec 1 := Scalar.cmpi .eq v29 c5_i32_47
  let c6_i32_48 : BitVec 32 := 6#32
  let c0_i32_49 : BitVec 32 := 0#32
  let v71 : BitVec 32 := Scalar.select v70 c6_i32_48 c0_i32_49
  let v72 : BitVec 32 := Scalar.addi v69 v71
  let c6_i32_50 : BitVec 32 := 6#32
  let v73 : BitVec 1 := Scalar.cmpi .eq v29 c6_i32_50
  let c7_i32_51 : BitVec 32 := 7#32
  let c0_i32_52 : BitVec 32 := 0#32
  let v74 : BitVec 32 := Scalar.select v73 c7_i32_51 c0_i32_52
  let v75 : BitVec 32 := Scalar.addi v72 v74
  let c7_i32_53 : BitVec 32 := 7#32
  let v76 : BitVec 1 := Scalar.cmpi .eq v29 c7_i32_53
  let c4_i32_54 : BitVec 32 := 4#32
  let c0_i32_55 : BitVec 32 := 0#32
  let v77 : BitVec 32 := Scalar.select v76 c4_i32_54 c0_i32_55
  let v78 : BitVec 32 := Scalar.addi v75 v77
  let v79 : BitVec 32 := Scalar.addi v54 v78
  let c1_i32_295 : BitVec 32 := 1#32
  let v377 : BitVec 32 := Scalar.muli v79 c1_i32_295
  let v378 : BitVec 32 := Scalar.addi c0_i32_296 v377
  v378.toNat
def k0_dev11 (d0 : Dev nD) : Nat :=
  let c0_i32_331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v80 : BitVec 32 := Scalar.muli v19 c8_i32_56
  let c0_i32_60 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_57 : BitVec 32 := 0#32
  let v81 : BitVec 1 := Scalar.cmpi .eq v29 c0_i32_57
  let c3_i32_58 : BitVec 32 := 3#32
  let c0_i32_59 : BitVec 32 := 0#32
  let v82 : BitVec 32 := Scalar.select v81 c3_i32_58 c0_i32_59
  let v83 : BitVec 32 := Scalar.addi c0_i32_60 v82
  let c1_i32_61 : BitVec 32 := 1#32
  let v84 : BitVec 1 := Scalar.cmpi .eq v29 c1_i32_61
  let c0_i32_62 : BitVec 32 := 0#32
  let c0_i32_63 : BitVec 32 := 0#32
  let v85 : BitVec 32 := Scalar.select v84 c0_i32_62 c0_i32_63
  let v86 : BitVec 32 := Scalar.addi v83 v85
  let c2_i32_64 : BitVec 32 := 2#32
  let v87 : BitVec 1 := Scalar.cmpi .eq v29 c2_i32_64
  let c1_i32_65 : BitVec 32 := 1#32
  let c0_i32_66 : BitVec 32 := 0#32
  let v88 : BitVec 32 := Scalar.select v87 c1_i32_65 c0_i32_66
  let v89 : BitVec 32 := Scalar.addi v86 v88
  let c3_i32_67 : BitVec 32 := 3#32
  let v90 : BitVec 1 := Scalar.cmpi .eq v29 c3_i32_67
  let c4_i32_68 : BitVec 32 := 4#32
  let c0_i32_69 : BitVec 32 := 0#32
  let v91 : BitVec 32 := Scalar.select v90 c4_i32_68 c0_i32_69
  let v92 : BitVec 32 := Scalar.addi v89 v91
  let c4_i32_70 : BitVec 32 := 4#32
  let v93 : BitVec 1 := Scalar.cmpi .eq v29 c4_i32_70
  let c7_i32_71 : BitVec 32 := 7#32
  let c0_i32_72 : BitVec 32 := 0#32
  let v94 : BitVec 32 := Scalar.select v93 c7_i32_71 c0_i32_72
  let v95 : BitVec 32 := Scalar.addi v92 v94
  let c5_i32_73 : BitVec 32 := 5#32
  let v96 : BitVec 1 := Scalar.cmpi .eq v29 c5_i32_73
  let c2_i32_74 : BitVec 32 := 2#32
  let c0_i32_75 : BitVec 32 := 0#32
  let v97 : BitVec 32 := Scalar.select v96 c2_i32_74 c0_i32_75
  let v98 : BitVec 32 := Scalar.addi v95 v97
  let c6_i32_76 : BitVec 32 := 6#32
  let v99 : BitVec 1 := Scalar.cmpi .eq v29 c6_i32_76
  let c5_i32_77 : BitVec 32 := 5#32
  let c0_i32_78 : BitVec 32 := 0#32
  let v100 : BitVec 32 := Scalar.select v99 c5_i32_77 c0_i32_78
  let v101 : BitVec 32 := Scalar.addi v98 v100
  let c7_i32_79 : BitVec 32 := 7#32
  let v102 : BitVec 1 := Scalar.cmpi .eq v29 c7_i32_79
  let c6_i32_80 : BitVec 32 := 6#32
  let c0_i32_81 : BitVec 32 := 0#32
  let v103 : BitVec 32 := Scalar.select v102 c6_i32_80 c0_i32_81
  let v104 : BitVec 32 := Scalar.addi v101 v103
  let v105 : BitVec 32 := Scalar.addi v80 v104
  let c1_i32_330 : BitVec 32 := 1#32
  let v416 : BitVec 32 := Scalar.muli v105 c1_i32_330
  let v417 : BitVec 32 := Scalar.addi c0_i32_331 v416
  v417.toNat
def k0_dev12 (d0 : Dev nD) : Nat :=
  let c0_i32_367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v80 : BitVec 32 := Scalar.muli v19 c8_i32_56
  let c0_i32_60 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_57 : BitVec 32 := 0#32
  let v81 : BitVec 1 := Scalar.cmpi .eq v29 c0_i32_57
  let c3_i32_58 : BitVec 32 := 3#32
  let c0_i32_59 : BitVec 32 := 0#32
  let v82 : BitVec 32 := Scalar.select v81 c3_i32_58 c0_i32_59
  let v83 : BitVec 32 := Scalar.addi c0_i32_60 v82
  let c1_i32_61 : BitVec 32 := 1#32
  let v84 : BitVec 1 := Scalar.cmpi .eq v29 c1_i32_61
  let c0_i32_62 : BitVec 32 := 0#32
  let c0_i32_63 : BitVec 32 := 0#32
  let v85 : BitVec 32 := Scalar.select v84 c0_i32_62 c0_i32_63
  let v86 : BitVec 32 := Scalar.addi v83 v85
  let c2_i32_64 : BitVec 32 := 2#32
  let v87 : BitVec 1 := Scalar.cmpi .eq v29 c2_i32_64
  let c1_i32_65 : BitVec 32 := 1#32
  let c0_i32_66 : BitVec 32 := 0#32
  let v88 : BitVec 32 := Scalar.select v87 c1_i32_65 c0_i32_66
  let v89 : BitVec 32 := Scalar.addi v86 v88
  let c3_i32_67 : BitVec 32 := 3#32
  let v90 : BitVec 1 := Scalar.cmpi .eq v29 c3_i32_67
  let c4_i32_68 : BitVec 32 := 4#32
  let c0_i32_69 : BitVec 32 := 0#32
  let v91 : BitVec 32 := Scalar.select v90 c4_i32_68 c0_i32_69
  let v92 : BitVec 32 := Scalar.addi v89 v91
  let c4_i32_70 : BitVec 32 := 4#32
  let v93 : BitVec 1 := Scalar.cmpi .eq v29 c4_i32_70
  let c7_i32_71 : BitVec 32 := 7#32
  let c0_i32_72 : BitVec 32 := 0#32
  let v94 : BitVec 32 := Scalar.select v93 c7_i32_71 c0_i32_72
  let v95 : BitVec 32 := Scalar.addi v92 v94
  let c5_i32_73 : BitVec 32 := 5#32
  let v96 : BitVec 1 := Scalar.cmpi .eq v29 c5_i32_73
  let c2_i32_74 : BitVec 32 := 2#32
  let c0_i32_75 : BitVec 32 := 0#32
  let v97 : BitVec 32 := Scalar.select v96 c2_i32_74 c0_i32_75
  let v98 : BitVec 32 := Scalar.addi v95 v97
  let c6_i32_76 : BitVec 32 := 6#32
  let v99 : BitVec 1 := Scalar.cmpi .eq v29 c6_i32_76
  let c5_i32_77 : BitVec 32 := 5#32
  let c0_i32_78 : BitVec 32 := 0#32
  let v100 : BitVec 32 := Scalar.select v99 c5_i32_77 c0_i32_78
  let v101 : BitVec 32 := Scalar.addi v98 v100
  let c7_i32_79 : BitVec 32 := 7#32
  let v102 : BitVec 1 := Scalar.cmpi .eq v29 c7_i32_79
  let c6_i32_80 : BitVec 32 := 6#32
  let c0_i32_81 : BitVec 32 := 0#32
  let v103 : BitVec 32 := Scalar.select v102 c6_i32_80 c0_i32_81
  let v104 : BitVec 32 := Scalar.addi v101 v103
  let v105 : BitVec 32 := Scalar.addi v80 v104
  let c1_i32_366 : BitVec 32 := 1#32
  let v455 : BitVec 32 := Scalar.muli v105 c1_i32_366
  let v456 : BitVec 32 := Scalar.addi c0_i32_367 v455
  v456.toNat
def k0_off8 (d0 : Dev nD) (c0_i32_372 : BitVec 32) : Fin 2 → Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32_12 : BitVec 32 := 0#32
  let c0_i32_13 : BitVec 32 := 0#32
  let v31 : BitVec 32 := Scalar.select v30 c0_i32_12 c0_i32_13
  let v32 : BitVec 32 := Scalar.addi c0_i32_14 v31
  let c1_i32_15 : BitVec 32 := 1#32
  let v33 : BitVec 1 := Scalar.cmpi .eq v29 c1_i32_15
  let c1_i32_16 : BitVec 32 := 1#32
  let c0_i32_17 : BitVec 32 := 0#32
  let v34 : BitVec 32 := Scalar.select v33 c1_i32_16 c0_i32_17
  let v35 : BitVec 32 := Scalar.addi v32 v34
  let c2_i32 : BitVec 32 := 2#32
  let v36 : BitVec 1 := Scalar.cmpi .eq v29 c2_i32
  let c2_i32_18 : BitVec 32 := 2#32
  let c0_i32_19 : BitVec 32 := 0#32
  let v37 : BitVec 32 := Scalar.select v36 c2_i32_18 c0_i32_19
  let v38 : BitVec 32 := Scalar.addi v35 v37
  let c3_i32 : BitVec 32 := 3#32
  let v39 : BitVec 1 := Scalar.cmpi .eq v29 c3_i32
  let c7_i32 : BitVec 32 := 7#32
  let c0_i32_20 : BitVec 32 := 0#32
  let v40 : BitVec 32 := Scalar.select v39 c7_i32 c0_i32_20
  let v41 : BitVec 32 := Scalar.addi v38 v40
  let c4_i32 : BitVec 32 := 4#32
  let v42 : BitVec 1 := Scalar.cmpi .eq v29 c4_i32
  let c6_i32 : BitVec 32 := 6#32
  let c0_i32_21 : BitVec 32 := 0#32
  let v43 : BitVec 32 := Scalar.select v42 c6_i32 c0_i32_21
  let v44 : BitVec 32 := Scalar.addi v41 v43
  let c5_i32 : BitVec 32 := 5#32
  let v45 : BitVec 1 := Scalar.cmpi .eq v29 c5_i32
  let c3_i32_22 : BitVec 32 := 3#32
  let c0_i32_23 : BitVec 32 := 0#32
  let v46 : BitVec 32 := Scalar.select v45 c3_i32_22 c0_i32_23
  let v47 : BitVec 32 := Scalar.addi v44 v46
  let c6_i32_24 : BitVec 32 := 6#32
  let v48 : BitVec 1 := Scalar.cmpi .eq v29 c6_i32_24
  let c4_i32_25 : BitVec 32 := 4#32
  let c0_i32_26 : BitVec 32 := 0#32
  let v49 : BitVec 32 := Scalar.select v48 c4_i32_25 c0_i32_26
  let v50 : BitVec 32 := Scalar.addi v47 v49
  let c7_i32_27 : BitVec 32 := 7#32
  let v51 : BitVec 1 := Scalar.cmpi .eq v29 c7_i32_27
  let c5_i32_28 : BitVec 32 := 5#32
  let c0_i32_29 : BitVec 32 := 0#32
  let v52 : BitVec 32 := Scalar.select v51 c5_i32_28 c0_i32_29
  let v53 : BitVec 32 := Scalar.addi v50 v52
  let v465 : BitVec 32 := Scalar.subi v53 c0_i32_372
  let c2_i32_373 : BitVec 32 := 2#32
  let v466 : BitVec 32 := Scalar.subi v465 c2_i32_373
  let c8_i32_374 : BitVec 32 := 8#32
  let c0_i32_375 : BitVec 32 := 0#32
  let v467 : BitVec 1 := Scalar.cmpi .eq c8_i32_374 c0_i32_375
  let c1_i32_376 : BitVec 32 := 1#32
  let v468 : BitVec 32 := Scalar.select v467 c1_i32_376 c8_i32_374
  let v469 : BitVec 32 := Scalar.remsi v466 v468
  let c0_i32_378 : BitVec 32 := 0#32
  let v471 : BitVec 1 := Scalar.cmpi .slt v469 c0_i32_378
  let c0_i32_379 : BitVec 32 := 0#32
  let v472 : BitVec 1 := Scalar.cmpi .slt v468 c0_i32_379
  let v473 : BitVec 1 := Scalar.xori v471 v472
  let c0_i32_377 : BitVec 32 := 0#32
  let v470 : BitVec 1 := Scalar.cmpi .ne v469 c0_i32_377
  let v474 : BitVec 1 := Scalar.andi v473 v470
  let v475 : BitVec 32 := Scalar.addi v469 v468
  let v476 : BitVec 32 := Scalar.select v474 v475 v469
  let c192_i32_380 : BitVec 32 := 192#32
  let v477 : BitVec 32 := Scalar.muli v476 c192_i32_380
  let v478 : Index := Scalar.indexCast v477
  let c0_381 : Index := 0#32
  ![v478.toNat, 0]
def k0_off9 (d0 : Dev nD) (c0_i32_372 : BitVec 32) : Fin 2 → Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32_12 : BitVec 32 := 0#32
  let c0_i32_13 : BitVec 32 := 0#32
  let v31 : BitVec 32 := Scalar.select v30 c0_i32_12 c0_i32_13
  let v32 : BitVec 32 := Scalar.addi c0_i32_14 v31
  let c1_i32_15 : BitVec 32 := 1#32
  let v33 : BitVec 1 := Scalar.cmpi .eq v29 c1_i32_15
  let c1_i32_16 : BitVec 32 := 1#32
  let c0_i32_17 : BitVec 32 := 0#32
  let v34 : BitVec 32 := Scalar.select v33 c1_i32_16 c0_i32_17
  let v35 : BitVec 32 := Scalar.addi v32 v34
  let c2_i32 : BitVec 32 := 2#32
  let v36 : BitVec 1 := Scalar.cmpi .eq v29 c2_i32
  let c2_i32_18 : BitVec 32 := 2#32
  let c0_i32_19 : BitVec 32 := 0#32
  let v37 : BitVec 32 := Scalar.select v36 c2_i32_18 c0_i32_19
  let v38 : BitVec 32 := Scalar.addi v35 v37
  let c3_i32 : BitVec 32 := 3#32
  let v39 : BitVec 1 := Scalar.cmpi .eq v29 c3_i32
  let c7_i32 : BitVec 32 := 7#32
  let c0_i32_20 : BitVec 32 := 0#32
  let v40 : BitVec 32 := Scalar.select v39 c7_i32 c0_i32_20
  let v41 : BitVec 32 := Scalar.addi v38 v40
  let c4_i32 : BitVec 32 := 4#32
  let v42 : BitVec 1 := Scalar.cmpi .eq v29 c4_i32
  let c6_i32 : BitVec 32 := 6#32
  let c0_i32_21 : BitVec 32 := 0#32
  let v43 : BitVec 32 := Scalar.select v42 c6_i32 c0_i32_21
  let v44 : BitVec 32 := Scalar.addi v41 v43
  let c5_i32 : BitVec 32 := 5#32
  let v45 : BitVec 1 := Scalar.cmpi .eq v29 c5_i32
  let c3_i32_22 : BitVec 32 := 3#32
  let c0_i32_23 : BitVec 32 := 0#32
  let v46 : BitVec 32 := Scalar.select v45 c3_i32_22 c0_i32_23
  let v47 : BitVec 32 := Scalar.addi v44 v46
  let c6_i32_24 : BitVec 32 := 6#32
  let v48 : BitVec 1 := Scalar.cmpi .eq v29 c6_i32_24
  let c4_i32_25 : BitVec 32 := 4#32
  let c0_i32_26 : BitVec 32 := 0#32
  let v49 : BitVec 32 := Scalar.select v48 c4_i32_25 c0_i32_26
  let v50 : BitVec 32 := Scalar.addi v47 v49
  let c7_i32_27 : BitVec 32 := 7#32
  let v51 : BitVec 1 := Scalar.cmpi .eq v29 c7_i32_27
  let c5_i32_28 : BitVec 32 := 5#32
  let c0_i32_29 : BitVec 32 := 0#32
  let v52 : BitVec 32 := Scalar.select v51 c5_i32_28 c0_i32_29
  let v53 : BitVec 32 := Scalar.addi v50 v52
  let v465 : BitVec 32 := Scalar.subi v53 c0_i32_372
  let c2_i32_373 : BitVec 32 := 2#32
  let v466 : BitVec 32 := Scalar.subi v465 c2_i32_373
  let c8_i32_374 : BitVec 32 := 8#32
  let c0_i32_375 : BitVec 32 := 0#32
  let v467 : BitVec 1 := Scalar.cmpi .eq c8_i32_374 c0_i32_375
  let c1_i32_376 : BitVec 32 := 1#32
  let v468 : BitVec 32 := Scalar.select v467 c1_i32_376 c8_i32_374
  let v469 : BitVec 32 := Scalar.remsi v466 v468
  let c0_i32_378 : BitVec 32 := 0#32
  let v471 : BitVec 1 := Scalar.cmpi .slt v469 c0_i32_378
  let c0_i32_379 : BitVec 32 := 0#32
  let v472 : BitVec 1 := Scalar.cmpi .slt v468 c0_i32_379
  let v473 : BitVec 1 := Scalar.xori v471 v472
  let c0_i32_377 : BitVec 32 := 0#32
  let v470 : BitVec 1 := Scalar.cmpi .ne v469 c0_i32_377
  let v474 : BitVec 1 := Scalar.andi v473 v470
  let v475 : BitVec 32 := Scalar.addi v469 v468
  let v476 : BitVec 32 := Scalar.select v474 v475 v469
  let c192_i32_380 : BitVec 32 := 192#32
  let v477 : BitVec 32 := Scalar.muli v476 c192_i32_380
  let v484 : Index := Scalar.indexCast v477
  let c0_385 : Index := 0#32
  ![v484.toNat, 0]
def k0_off10 (d0 : Dev nD) (c0_i32_386 : BitVec 32) : Fin 2 → Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32_12 : BitVec 32 := 0#32
  let c0_i32_13 : BitVec 32 := 0#32
  let v31 : BitVec 32 := Scalar.select v30 c0_i32_12 c0_i32_13
  let v32 : BitVec 32 := Scalar.addi c0_i32_14 v31
  let c1_i32_15 : BitVec 32 := 1#32
  let v33 : BitVec 1 := Scalar.cmpi .eq v29 c1_i32_15
  let c1_i32_16 : BitVec 32 := 1#32
  let c0_i32_17 : BitVec 32 := 0#32
  let v34 : BitVec 32 := Scalar.select v33 c1_i32_16 c0_i32_17
  let v35 : BitVec 32 := Scalar.addi v32 v34
  let c2_i32 : BitVec 32 := 2#32
  let v36 : BitVec 1 := Scalar.cmpi .eq v29 c2_i32
  let c2_i32_18 : BitVec 32 := 2#32
  let c0_i32_19 : BitVec 32 := 0#32
  let v37 : BitVec 32 := Scalar.select v36 c2_i32_18 c0_i32_19
  let v38 : BitVec 32 := Scalar.addi v35 v37
  let c3_i32 : BitVec 32 := 3#32
  let v39 : BitVec 1 := Scalar.cmpi .eq v29 c3_i32
  let c7_i32 : BitVec 32 := 7#32
  let c0_i32_20 : BitVec 32 := 0#32
  let v40 : BitVec 32 := Scalar.select v39 c7_i32 c0_i32_20
  let v41 : BitVec 32 := Scalar.addi v38 v40
  let c4_i32 : BitVec 32 := 4#32
  let v42 : BitVec 1 := Scalar.cmpi .eq v29 c4_i32
  let c6_i32 : BitVec 32 := 6#32
  let c0_i32_21 : BitVec 32 := 0#32
  let v43 : BitVec 32 := Scalar.select v42 c6_i32 c0_i32_21
  let v44 : BitVec 32 := Scalar.addi v41 v43
  let c5_i32 : BitVec 32 := 5#32
  let v45 : BitVec 1 := Scalar.cmpi .eq v29 c5_i32
  let c3_i32_22 : BitVec 32 := 3#32
  let c0_i32_23 : BitVec 32 := 0#32
  let v46 : BitVec 32 := Scalar.select v45 c3_i32_22 c0_i32_23
  let v47 : BitVec 32 := Scalar.addi v44 v46
  let c6_i32_24 : BitVec 32 := 6#32
  let v48 : BitVec 1 := Scalar.cmpi .eq v29 c6_i32_24
  let c4_i32_25 : BitVec 32 := 4#32
  let c0_i32_26 : BitVec 32 := 0#32
  let v49 : BitVec 32 := Scalar.select v48 c4_i32_25 c0_i32_26
  let v50 : BitVec 32 := Scalar.addi v47 v49
  let c7_i32_27 : BitVec 32 := 7#32
  let v51 : BitVec 1 := Scalar.cmpi .eq v29 c7_i32_27
  let c5_i32_28 : BitVec 32 := 5#32
  let c0_i32_29 : BitVec 32 := 0#32
  let v52 : BitVec 32 := Scalar.select v51 c5_i32_28 c0_i32_29
  let v53 : BitVec 32 := Scalar.addi v50 v52
  let v488 : BitVec 32 := Scalar.addi v53 c0_i32_386
  let c2_i32_387 : BitVec 32 := 2#32
  let v489 : BitVec 32 := Scalar.addi v488 c2_i32_387
  let c8_i32_388 : BitVec 32 := 8#32
  let c0_i32_389 : BitVec 32 := 0#32
  let v490 : BitVec 1 := Scalar.cmpi .eq c8_i32_388 c0_i32_389
  let c1_i32_390 : BitVec 32 := 1#32
  let v491 : BitVec 32 := Scalar.select v490 c1_i32_390 c8_i32_388
  let v492 : BitVec 32 := Scalar.remsi v489 v491
  let c0_i32_392 : BitVec 32 := 0#32
  let v494 : BitVec 1 := Scalar.cmpi .slt v492 c0_i32_392
  let c0_i32_393 : BitVec 32 := 0#32
  let v495 : BitVec 1 := Scalar.cmpi .slt v491 c0_i32_393
  let v496 : BitVec 1 := Scalar.xori v494 v495
  let c0_i32_391 : BitVec 32 := 0#32
  let v493 : BitVec 1 := Scalar.cmpi .ne v492 c0_i32_391
  let v497 : BitVec 1 := Scalar.andi v496 v493
  let v498 : BitVec 32 := Scalar.addi v492 v491
  let v499 : BitVec 32 := Scalar.select v497 v498 v492
  let c192_i32_394 : BitVec 32 := 192#32
  let v500 : BitVec 32 := Scalar.muli v499 c192_i32_394
  let c96_i32_395 : BitVec 32 := 96#32
  let v501 : BitVec 32 := Scalar.addi v500 c96_i32_395
  let v502 : Index := Scalar.indexCast v501
  let c0_396 : Index := 0#32
  ![v502.toNat, 0]
def k0_off11 (d0 : Dev nD) (c0_i32_386 : BitVec 32) : Fin 2 → Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32_12 : BitVec 32 := 0#32
  let c0_i32_13 : BitVec 32 := 0#32
  let v31 : BitVec 32 := Scalar.select v30 c0_i32_12 c0_i32_13
  let v32 : BitVec 32 := Scalar.addi c0_i32_14 v31
  let c1_i32_15 : BitVec 32 := 1#32
  let v33 : BitVec 1 := Scalar.cmpi .eq v29 c1_i32_15
  let c1_i32_16 : BitVec 32 := 1#32
  let c0_i32_17 : BitVec 32 := 0#32
  let v34 : BitVec 32 := Scalar.select v33 c1_i32_16 c0_i32_17
  let v35 : BitVec 32 := Scalar.addi v32 v34
  let c2_i32 : BitVec 32 := 2#32
  let v36 : BitVec 1 := Scalar.cmpi .eq v29 c2_i32
  let c2_i32_18 : BitVec 32 := 2#32
  let c0_i32_19 : BitVec 32 := 0#32
  let v37 : BitVec 32 := Scalar.select v36 c2_i32_18 c0_i32_19
  let v38 : BitVec 32 := Scalar.addi v35 v37
  let c3_i32 : BitVec 32 := 3#32
  let v39 : BitVec 1 := Scalar.cmpi .eq v29 c3_i32
  let c7_i32 : BitVec 32 := 7#32
  let c0_i32_20 : BitVec 32 := 0#32
  let v40 : BitVec 32 := Scalar.select v39 c7_i32 c0_i32_20
  let v41 : BitVec 32 := Scalar.addi v38 v40
  let c4_i32 : BitVec 32 := 4#32
  let v42 : BitVec 1 := Scalar.cmpi .eq v29 c4_i32
  let c6_i32 : BitVec 32 := 6#32
  let c0_i32_21 : BitVec 32 := 0#32
  let v43 : BitVec 32 := Scalar.select v42 c6_i32 c0_i32_21
  let v44 : BitVec 32 := Scalar.addi v41 v43
  let c5_i32 : BitVec 32 := 5#32
  let v45 : BitVec 1 := Scalar.cmpi .eq v29 c5_i32
  let c3_i32_22 : BitVec 32 := 3#32
  let c0_i32_23 : BitVec 32 := 0#32
  let v46 : BitVec 32 := Scalar.select v45 c3_i32_22 c0_i32_23
  let v47 : BitVec 32 := Scalar.addi v44 v46
  let c6_i32_24 : BitVec 32 := 6#32
  let v48 : BitVec 1 := Scalar.cmpi .eq v29 c6_i32_24
  let c4_i32_25 : BitVec 32 := 4#32
  let c0_i32_26 : BitVec 32 := 0#32
  let v49 : BitVec 32 := Scalar.select v48 c4_i32_25 c0_i32_26
  let v50 : BitVec 32 := Scalar.addi v47 v49
  let c7_i32_27 : BitVec 32 := 7#32
  let v51 : BitVec 1 := Scalar.cmpi .eq v29 c7_i32_27
  let c5_i32_28 : BitVec 32 := 5#32
  let c0_i32_29 : BitVec 32 := 0#32
  let v52 : BitVec 32 := Scalar.select v51 c5_i32_28 c0_i32_29
  let v53 : BitVec 32 := Scalar.addi v50 v52
  let v488 : BitVec 32 := Scalar.addi v53 c0_i32_386
  let c2_i32_387 : BitVec 32 := 2#32
  let v489 : BitVec 32 := Scalar.addi v488 c2_i32_387
  let c8_i32_388 : BitVec 32 := 8#32
  let c0_i32_389 : BitVec 32 := 0#32
  let v490 : BitVec 1 := Scalar.cmpi .eq c8_i32_388 c0_i32_389
  let c1_i32_390 : BitVec 32 := 1#32
  let v491 : BitVec 32 := Scalar.select v490 c1_i32_390 c8_i32_388
  let v492 : BitVec 32 := Scalar.remsi v489 v491
  let c0_i32_392 : BitVec 32 := 0#32
  let v494 : BitVec 1 := Scalar.cmpi .slt v492 c0_i32_392
  let c0_i32_393 : BitVec 32 := 0#32
  let v495 : BitVec 1 := Scalar.cmpi .slt v491 c0_i32_393
  let v496 : BitVec 1 := Scalar.xori v494 v495
  let c0_i32_391 : BitVec 32 := 0#32
  let v493 : BitVec 1 := Scalar.cmpi .ne v492 c0_i32_391
  let v497 : BitVec 1 := Scalar.andi v496 v493
  let v498 : BitVec 32 := Scalar.addi v492 v491
  let v499 : BitVec 32 := Scalar.select v497 v498 v492
  let c192_i32_394 : BitVec 32 := 192#32
  let v500 : BitVec 32 := Scalar.muli v499 c192_i32_394
  let c96_i32_395 : BitVec 32 := 96#32
  let v501 : BitVec 32 := Scalar.addi v500 c96_i32_395
  let v508 : Index := Scalar.indexCast v501
  let c0_400 : Index := 0#32
  ![v508.toNat, 0]
def k0_dev13 (d0 : Dev nD) : Nat :=
  let c0_i32_441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v54 : BitVec 32 := Scalar.muli v19 c8_i32_30
  let c0_i32_34 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_31 : BitVec 32 := 0#32
  let v55 : BitVec 1 := Scalar.cmpi .eq v29 c0_i32_31
  let c1_i32_32 : BitVec 32 := 1#32
  let c0_i32_33 : BitVec 32 := 0#32
  let v56 : BitVec 32 := Scalar.select v55 c1_i32_32 c0_i32_33
  let v57 : BitVec 32 := Scalar.addi c0_i32_34 v56
  let c1_i32_35 : BitVec 32 := 1#32
  let v58 : BitVec 1 := Scalar.cmpi .eq v29 c1_i32_35
  let c2_i32_36 : BitVec 32 := 2#32
  let c0_i32_37 : BitVec 32 := 0#32
  let v59 : BitVec 32 := Scalar.select v58 c2_i32_36 c0_i32_37
  let v60 : BitVec 32 := Scalar.addi v57 v59
  let c2_i32_38 : BitVec 32 := 2#32
  let v61 : BitVec 1 := Scalar.cmpi .eq v29 c2_i32_38
  let c5_i32_39 : BitVec 32 := 5#32
  let c0_i32_40 : BitVec 32 := 0#32
  let v62 : BitVec 32 := Scalar.select v61 c5_i32_39 c0_i32_40
  let v63 : BitVec 32 := Scalar.addi v60 v62
  let c3_i32_41 : BitVec 32 := 3#32
  let v64 : BitVec 1 := Scalar.cmpi .eq v29 c3_i32_41
  let c0_i32_42 : BitVec 32 := 0#32
  let c0_i32_43 : BitVec 32 := 0#32
  let v65 : BitVec 32 := Scalar.select v64 c0_i32_42 c0_i32_43
  let v66 : BitVec 32 := Scalar.addi v63 v65
  let c4_i32_44 : BitVec 32 := 4#32
  let v67 : BitVec 1 := Scalar.cmpi .eq v29 c4_i32_44
  let c3_i32_45 : BitVec 32 := 3#32
  let c0_i32_46 : BitVec 32 := 0#32
  let v68 : BitVec 32 := Scalar.select v67 c3_i32_45 c0_i32_46
  let v69 : BitVec 32 := Scalar.addi v66 v68
  let c5_i32_47 : BitVec 32 := 5#32
  let v70 : BitVec 1 := Scalar.cmpi .eq v29 c5_i32_47
  let c6_i32_48 : BitVec 32 := 6#32
  let c0_i32_49 : BitVec 32 := 0#32
  let v71 : BitVec 32 := Scalar.select v70 c6_i32_48 c0_i32_49
  let v72 : BitVec 32 := Scalar.addi v69 v71
  let c6_i32_50 : BitVec 32 := 6#32
  let v73 : BitVec 1 := Scalar.cmpi .eq v29 c6_i32_50
  let c7_i32_51 : BitVec 32 := 7#32
  let c0_i32_52 : BitVec 32 := 0#32
  let v74 : BitVec 32 := Scalar.select v73 c7_i32_51 c0_i32_52
  let v75 : BitVec 32 := Scalar.addi v72 v74
  let c7_i32_53 : BitVec 32 := 7#32
  let v76 : BitVec 1 := Scalar.cmpi .eq v29 c7_i32_53
  let c4_i32_54 : BitVec 32 := 4#32
  let c0_i32_55 : BitVec 32 := 0#32
  let v77 : BitVec 32 := Scalar.select v76 c4_i32_54 c0_i32_55
  let v78 : BitVec 32 := Scalar.addi v75 v77
  let v79 : BitVec 32 := Scalar.addi v54 v78
  let c1_i32_440 : BitVec 32 := 1#32
  let v547 : BitVec 32 := Scalar.muli v79 c1_i32_440
  let v548 : BitVec 32 := Scalar.addi c0_i32_441 v547
  v548.toNat
def k0_dev14 (d0 : Dev nD) : Nat :=
  let c0_i32_486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v54 : BitVec 32 := Scalar.muli v19 c8_i32_30
  let c0_i32_34 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_31 : BitVec 32 := 0#32
  let v55 : BitVec 1 := Scalar.cmpi .eq v29 c0_i32_31
  let c1_i32_32 : BitVec 32 := 1#32
  let c0_i32_33 : BitVec 32 := 0#32
  let v56 : BitVec 32 := Scalar.select v55 c1_i32_32 c0_i32_33
  let v57 : BitVec 32 := Scalar.addi c0_i32_34 v56
  let c1_i32_35 : BitVec 32 := 1#32
  let v58 : BitVec 1 := Scalar.cmpi .eq v29 c1_i32_35
  let c2_i32_36 : BitVec 32 := 2#32
  let c0_i32_37 : BitVec 32 := 0#32
  let v59 : BitVec 32 := Scalar.select v58 c2_i32_36 c0_i32_37
  let v60 : BitVec 32 := Scalar.addi v57 v59
  let c2_i32_38 : BitVec 32 := 2#32
  let v61 : BitVec 1 := Scalar.cmpi .eq v29 c2_i32_38
  let c5_i32_39 : BitVec 32 := 5#32
  let c0_i32_40 : BitVec 32 := 0#32
  let v62 : BitVec 32 := Scalar.select v61 c5_i32_39 c0_i32_40
  let v63 : BitVec 32 := Scalar.addi v60 v62
  let c3_i32_41 : BitVec 32 := 3#32
  let v64 : BitVec 1 := Scalar.cmpi .eq v29 c3_i32_41
  let c0_i32_42 : BitVec 32 := 0#32
  let c0_i32_43 : BitVec 32 := 0#32
  let v65 : BitVec 32 := Scalar.select v64 c0_i32_42 c0_i32_43
  let v66 : BitVec 32 := Scalar.addi v63 v65
  let c4_i32_44 : BitVec 32 := 4#32
  let v67 : BitVec 1 := Scalar.cmpi .eq v29 c4_i32_44
  let c3_i32_45 : BitVec 32 := 3#32
  let c0_i32_46 : BitVec 32 := 0#32
  let v68 : BitVec 32 := Scalar.select v67 c3_i32_45 c0_i32_46
  let v69 : BitVec 32 := Scalar.addi v66 v68
  let c5_i32_47 : BitVec 32 := 5#32
  let v70 : BitVec 1 := Scalar.cmpi .eq v29 c5_i32_47
  let c6_i32_48 : BitVec 32 := 6#32
  let c0_i32_49 : BitVec 32 := 0#32
  let v71 : BitVec 32 := Scalar.select v70 c6_i32_48 c0_i32_49
  let v72 : BitVec 32 := Scalar.addi v69 v71
  let c6_i32_50 : BitVec 32 := 6#32
  let v73 : BitVec 1 := Scalar.cmpi .eq v29 c6_i32_50
  let c7_i32_51 : BitVec 32 := 7#32
  let c0_i32_52 : BitVec 32 := 0#32
  let v74 : BitVec 32 := Scalar.select v73 c7_i32_51 c0_i32_52
  let v75 : BitVec 32 := Scalar.addi v72 v74
  let c7_i32_53 : BitVec 32 := 7#32
  let v76 : BitVec 1 := Scalar.cmpi .eq v29 c7_i32_53
  let c4_i32_54 : BitVec 32 := 4#32
  let c0_i32_55 : BitVec 32 := 0#32
  let v77 : BitVec 32 := Scalar.select v76 c4_i32_54 c0_i32_55
  let v78 : BitVec 32 := Scalar.addi v75 v77
  let v79 : BitVec 32 := Scalar.addi v54 v78
  let c1_i32_485 : BitVec 32 := 1#32
  let v592 : BitVec 32 := Scalar.muli v79 c1_i32_485
  let v593 : BitVec 32 := Scalar.addi c0_i32_486 v592
  v593.toNat
def k0_dev15 (d0 : Dev nD) : Nat :=
  let c0_i32_530 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v80 : BitVec 32 := Scalar.muli v19 c8_i32_56
  let c0_i32_60 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_57 : BitVec 32 := 0#32
  let v81 : BitVec 1 := Scalar.cmpi .eq v29 c0_i32_57
  let c3_i32_58 : BitVec 32 := 3#32
  let c0_i32_59 : BitVec 32 := 0#32
  let v82 : BitVec 32 := Scalar.select v81 c3_i32_58 c0_i32_59
  let v83 : BitVec 32 := Scalar.addi c0_i32_60 v82
  let c1_i32_61 : BitVec 32 := 1#32
  let v84 : BitVec 1 := Scalar.cmpi .eq v29 c1_i32_61
  let c0_i32_62 : BitVec 32 := 0#32
  let c0_i32_63 : BitVec 32 := 0#32
  let v85 : BitVec 32 := Scalar.select v84 c0_i32_62 c0_i32_63
  let v86 : BitVec 32 := Scalar.addi v83 v85
  let c2_i32_64 : BitVec 32 := 2#32
  let v87 : BitVec 1 := Scalar.cmpi .eq v29 c2_i32_64
  let c1_i32_65 : BitVec 32 := 1#32
  let c0_i32_66 : BitVec 32 := 0#32
  let v88 : BitVec 32 := Scalar.select v87 c1_i32_65 c0_i32_66
  let v89 : BitVec 32 := Scalar.addi v86 v88
  let c3_i32_67 : BitVec 32 := 3#32
  let v90 : BitVec 1 := Scalar.cmpi .eq v29 c3_i32_67
  let c4_i32_68 : BitVec 32 := 4#32
  let c0_i32_69 : BitVec 32 := 0#32
  let v91 : BitVec 32 := Scalar.select v90 c4_i32_68 c0_i32_69
  let v92 : BitVec 32 := Scalar.addi v89 v91
  let c4_i32_70 : BitVec 32 := 4#32
  let v93 : BitVec 1 := Scalar.cmpi .eq v29 c4_i32_70
  let c7_i32_71 : BitVec 32 := 7#32
  let c0_i32_72 : BitVec 32 := 0#32
  let v94 : BitVec 32 := Scalar.select v93 c7_i32_71 c0_i32_72
  let v95 : BitVec 32 := Scalar.addi v92 v94
  let c5_i32_73 : BitVec 32 := 5#32
  let v96 : BitVec 1 := Scalar.cmpi .eq v29 c5_i32_73
  let c2_i32_74 : BitVec 32 := 2#32
  let c0_i32_75 : BitVec 32 := 0#32
  let v97 : BitVec 32 := Scalar.select v96 c2_i32_74 c0_i32_75
  let v98 : BitVec 32 := Scalar.addi v95 v97
  let c6_i32_76 : BitVec 32 := 6#32
  let v99 : BitVec 1 := Scalar.cmpi .eq v29 c6_i32_76
  let c5_i32_77 : BitVec 32 := 5#32
  let c0_i32_78 : BitVec 32 := 0#32
  let v100 : BitVec 32 := Scalar.select v99 c5_i32_77 c0_i32_78
  let v101 : BitVec 32 := Scalar.addi v98 v100
  let c7_i32_79 : BitVec 32 := 7#32
  let v102 : BitVec 1 := Scalar.cmpi .eq v29 c7_i32_79
  let c6_i32_80 : BitVec 32 := 6#32
  let c0_i32_81 : BitVec 32 := 0#32
  let v103 : BitVec 32 := Scalar.select v102 c6_i32_80 c0_i32_81
  let v104 : BitVec 32 := Scalar.addi v101 v103
  let v105 : BitVec 32 := Scalar.addi v80 v104
  let c1_i32_529 : BitVec 32 := 1#32
  let v637 : BitVec 32 := Scalar.muli v105 c1_i32_529
  let v638 : BitVec 32 := Scalar.addi c0_i32_530 v637
  v638.toNat
def k0_dev16 (d0 : Dev nD) : Nat :=
  let c0_i32_575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v80 : BitVec 32 := Scalar.muli v19 c8_i32_56
  let c0_i32_60 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_57 : BitVec 32 := 0#32
  let v81 : BitVec 1 := Scalar.cmpi .eq v29 c0_i32_57
  let c3_i32_58 : BitVec 32 := 3#32
  let c0_i32_59 : BitVec 32 := 0#32
  let v82 : BitVec 32 := Scalar.select v81 c3_i32_58 c0_i32_59
  let v83 : BitVec 32 := Scalar.addi c0_i32_60 v82
  let c1_i32_61 : BitVec 32 := 1#32
  let v84 : BitVec 1 := Scalar.cmpi .eq v29 c1_i32_61
  let c0_i32_62 : BitVec 32 := 0#32
  let c0_i32_63 : BitVec 32 := 0#32
  let v85 : BitVec 32 := Scalar.select v84 c0_i32_62 c0_i32_63
  let v86 : BitVec 32 := Scalar.addi v83 v85
  let c2_i32_64 : BitVec 32 := 2#32
  let v87 : BitVec 1 := Scalar.cmpi .eq v29 c2_i32_64
  let c1_i32_65 : BitVec 32 := 1#32
  let c0_i32_66 : BitVec 32 := 0#32
  let v88 : BitVec 32 := Scalar.select v87 c1_i32_65 c0_i32_66
  let v89 : BitVec 32 := Scalar.addi v86 v88
  let c3_i32_67 : BitVec 32 := 3#32
  let v90 : BitVec 1 := Scalar.cmpi .eq v29 c3_i32_67
  let c4_i32_68 : BitVec 32 := 4#32
  let c0_i32_69 : BitVec 32 := 0#32
  let v91 : BitVec 32 := Scalar.select v90 c4_i32_68 c0_i32_69
  let v92 : BitVec 32 := Scalar.addi v89 v91
  let c4_i32_70 : BitVec 32 := 4#32
  let v93 : BitVec 1 := Scalar.cmpi .eq v29 c4_i32_70
  let c7_i32_71 : BitVec 32 := 7#32
  let c0_i32_72 : BitVec 32 := 0#32
  let v94 : BitVec 32 := Scalar.select v93 c7_i32_71 c0_i32_72
  let v95 : BitVec 32 := Scalar.addi v92 v94
  let c5_i32_73 : BitVec 32 := 5#32
  let v96 : BitVec 1 := Scalar.cmpi .eq v29 c5_i32_73
  let c2_i32_74 : BitVec 32 := 2#32
  let c0_i32_75 : BitVec 32 := 0#32
  let v97 : BitVec 32 := Scalar.select v96 c2_i32_74 c0_i32_75
  let v98 : BitVec 32 := Scalar.addi v95 v97
  let c6_i32_76 : BitVec 32 := 6#32
  let v99 : BitVec 1 := Scalar.cmpi .eq v29 c6_i32_76
  let c5_i32_77 : BitVec 32 := 5#32
  let c0_i32_78 : BitVec 32 := 0#32
  let v100 : BitVec 32 := Scalar.select v99 c5_i32_77 c0_i32_78
  let v101 : BitVec 32 := Scalar.addi v98 v100
  let c7_i32_79 : BitVec 32 := 7#32
  let v102 : BitVec 1 := Scalar.cmpi .eq v29 c7_i32_79
  let c6_i32_80 : BitVec 32 := 6#32
  let c0_i32_81 : BitVec 32 := 0#32
  let v103 : BitVec 32 := Scalar.select v102 c6_i32_80 c0_i32_81
  let v104 : BitVec 32 := Scalar.addi v101 v103
  let v105 : BitVec 32 := Scalar.addi v80 v104
  let c1_i32_574 : BitVec 32 := 1#32
  let v682 : BitVec 32 := Scalar.muli v105 c1_i32_574
  let v683 : BitVec 32 := Scalar.addi c0_i32_575 v682
  v683.toNat
def k0_dev17 (d0 : Dev nD) : Nat :=
  let c0_i32_648 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v54 : BitVec 32 := Scalar.muli v19 c8_i32_30
  let c0_i32_34 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_31 : BitVec 32 := 0#32
  let v55 : BitVec 1 := Scalar.cmpi .eq v29 c0_i32_31
  let c1_i32_32 : BitVec 32 := 1#32
  let c0_i32_33 : BitVec 32 := 0#32
  let v56 : BitVec 32 := Scalar.select v55 c1_i32_32 c0_i32_33
  let v57 : BitVec 32 := Scalar.addi c0_i32_34 v56
  let c1_i32_35 : BitVec 32 := 1#32
  let v58 : BitVec 1 := Scalar.cmpi .eq v29 c1_i32_35
  let c2_i32_36 : BitVec 32 := 2#32
  let c0_i32_37 : BitVec 32 := 0#32
  let v59 : BitVec 32 := Scalar.select v58 c2_i32_36 c0_i32_37
  let v60 : BitVec 32 := Scalar.addi v57 v59
  let c2_i32_38 : BitVec 32 := 2#32
  let v61 : BitVec 1 := Scalar.cmpi .eq v29 c2_i32_38
  let c5_i32_39 : BitVec 32 := 5#32
  let c0_i32_40 : BitVec 32 := 0#32
  let v62 : BitVec 32 := Scalar.select v61 c5_i32_39 c0_i32_40
  let v63 : BitVec 32 := Scalar.addi v60 v62
  let c3_i32_41 : BitVec 32 := 3#32
  let v64 : BitVec 1 := Scalar.cmpi .eq v29 c3_i32_41
  let c0_i32_42 : BitVec 32 := 0#32
  let c0_i32_43 : BitVec 32 := 0#32
  let v65 : BitVec 32 := Scalar.select v64 c0_i32_42 c0_i32_43
  let v66 : BitVec 32 := Scalar.addi v63 v65
  let c4_i32_44 : BitVec 32 := 4#32
  let v67 : BitVec 1 := Scalar.cmpi .eq v29 c4_i32_44
  let c3_i32_45 : BitVec 32 := 3#32
  let c0_i32_46 : BitVec 32 := 0#32
  let v68 : BitVec 32 := Scalar.select v67 c3_i32_45 c0_i32_46
  let v69 : BitVec 32 := Scalar.addi v66 v68
  let c5_i32_47 : BitVec 32 := 5#32
  let v70 : BitVec 1 := Scalar.cmpi .eq v29 c5_i32_47
  let c6_i32_48 : BitVec 32 := 6#32
  let c0_i32_49 : BitVec 32 := 0#32
  let v71 : BitVec 32 := Scalar.select v70 c6_i32_48 c0_i32_49
  let v72 : BitVec 32 := Scalar.addi v69 v71
  let c6_i32_50 : BitVec 32 := 6#32
  let v73 : BitVec 1 := Scalar.cmpi .eq v29 c6_i32_50
  let c7_i32_51 : BitVec 32 := 7#32
  let c0_i32_52 : BitVec 32 := 0#32
  let v74 : BitVec 32 := Scalar.select v73 c7_i32_51 c0_i32_52
  let v75 : BitVec 32 := Scalar.addi v72 v74
  let c7_i32_53 : BitVec 32 := 7#32
  let v76 : BitVec 1 := Scalar.cmpi .eq v29 c7_i32_53
  let c4_i32_54 : BitVec 32 := 4#32
  let c0_i32_55 : BitVec 32 := 0#32
  let v77 : BitVec 32 := Scalar.select v76 c4_i32_54 c0_i32_55
  let v78 : BitVec 32 := Scalar.addi v75 v77
  let v79 : BitVec 32 := Scalar.addi v54 v78
  let c1_i32_647 : BitVec 32 := 1#32
  let v774 : BitVec 32 := Scalar.muli v79 c1_i32_647
  let v775 : BitVec 32 := Scalar.addi c0_i32_648 v774
  v775.toNat
def k0_dev18 (d0 : Dev nD) : Nat :=
  let c0_i32_693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v54 : BitVec 32 := Scalar.muli v19 c8_i32_30
  let c0_i32_34 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_31 : BitVec 32 := 0#32
  let v55 : BitVec 1 := Scalar.cmpi .eq v29 c0_i32_31
  let c1_i32_32 : BitVec 32 := 1#32
  let c0_i32_33 : BitVec 32 := 0#32
  let v56 : BitVec 32 := Scalar.select v55 c1_i32_32 c0_i32_33
  let v57 : BitVec 32 := Scalar.addi c0_i32_34 v56
  let c1_i32_35 : BitVec 32 := 1#32
  let v58 : BitVec 1 := Scalar.cmpi .eq v29 c1_i32_35
  let c2_i32_36 : BitVec 32 := 2#32
  let c0_i32_37 : BitVec 32 := 0#32
  let v59 : BitVec 32 := Scalar.select v58 c2_i32_36 c0_i32_37
  let v60 : BitVec 32 := Scalar.addi v57 v59
  let c2_i32_38 : BitVec 32 := 2#32
  let v61 : BitVec 1 := Scalar.cmpi .eq v29 c2_i32_38
  let c5_i32_39 : BitVec 32 := 5#32
  let c0_i32_40 : BitVec 32 := 0#32
  let v62 : BitVec 32 := Scalar.select v61 c5_i32_39 c0_i32_40
  let v63 : BitVec 32 := Scalar.addi v60 v62
  let c3_i32_41 : BitVec 32 := 3#32
  let v64 : BitVec 1 := Scalar.cmpi .eq v29 c3_i32_41
  let c0_i32_42 : BitVec 32 := 0#32
  let c0_i32_43 : BitVec 32 := 0#32
  let v65 : BitVec 32 := Scalar.select v64 c0_i32_42 c0_i32_43
  let v66 : BitVec 32 := Scalar.addi v63 v65
  let c4_i32_44 : BitVec 32 := 4#32
  let v67 : BitVec 1 := Scalar.cmpi .eq v29 c4_i32_44
  let c3_i32_45 : BitVec 32 := 3#32
  let c0_i32_46 : BitVec 32 := 0#32
  let v68 : BitVec 32 := Scalar.select v67 c3_i32_45 c0_i32_46
  let v69 : BitVec 32 := Scalar.addi v66 v68
  let c5_i32_47 : BitVec 32 := 5#32
  let v70 : BitVec 1 := Scalar.cmpi .eq v29 c5_i32_47
  let c6_i32_48 : BitVec 32 := 6#32
  let c0_i32_49 : BitVec 32 := 0#32
  let v71 : BitVec 32 := Scalar.select v70 c6_i32_48 c0_i32_49
  let v72 : BitVec 32 := Scalar.addi v69 v71
  let c6_i32_50 : BitVec 32 := 6#32
  let v73 : BitVec 1 := Scalar.cmpi .eq v29 c6_i32_50
  let c7_i32_51 : BitVec 32 := 7#32
  let c0_i32_52 : BitVec 32 := 0#32
  let v74 : BitVec 32 := Scalar.select v73 c7_i32_51 c0_i32_52
  let v75 : BitVec 32 := Scalar.addi v72 v74
  let c7_i32_53 : BitVec 32 := 7#32
  let v76 : BitVec 1 := Scalar.cmpi .eq v29 c7_i32_53
  let c4_i32_54 : BitVec 32 := 4#32
  let c0_i32_55 : BitVec 32 := 0#32
  let v77 : BitVec 32 := Scalar.select v76 c4_i32_54 c0_i32_55
  let v78 : BitVec 32 := Scalar.addi v75 v77
  let v79 : BitVec 32 := Scalar.addi v54 v78
  let c1_i32_692 : BitVec 32 := 1#32
  let v819 : BitVec 32 := Scalar.muli v79 c1_i32_692
  let v820 : BitVec 32 := Scalar.addi c0_i32_693 v819
  v820.toNat
def k0_dev19 (d0 : Dev nD) : Nat :=
  let c0_i32_737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v80 : BitVec 32 := Scalar.muli v19 c8_i32_56
  let c0_i32_60 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_57 : BitVec 32 := 0#32
  let v81 : BitVec 1 := Scalar.cmpi .eq v29 c0_i32_57
  let c3_i32_58 : BitVec 32 := 3#32
  let c0_i32_59 : BitVec 32 := 0#32
  let v82 : BitVec 32 := Scalar.select v81 c3_i32_58 c0_i32_59
  let v83 : BitVec 32 := Scalar.addi c0_i32_60 v82
  let c1_i32_61 : BitVec 32 := 1#32
  let v84 : BitVec 1 := Scalar.cmpi .eq v29 c1_i32_61
  let c0_i32_62 : BitVec 32 := 0#32
  let c0_i32_63 : BitVec 32 := 0#32
  let v85 : BitVec 32 := Scalar.select v84 c0_i32_62 c0_i32_63
  let v86 : BitVec 32 := Scalar.addi v83 v85
  let c2_i32_64 : BitVec 32 := 2#32
  let v87 : BitVec 1 := Scalar.cmpi .eq v29 c2_i32_64
  let c1_i32_65 : BitVec 32 := 1#32
  let c0_i32_66 : BitVec 32 := 0#32
  let v88 : BitVec 32 := Scalar.select v87 c1_i32_65 c0_i32_66
  let v89 : BitVec 32 := Scalar.addi v86 v88
  let c3_i32_67 : BitVec 32 := 3#32
  let v90 : BitVec 1 := Scalar.cmpi .eq v29 c3_i32_67
  let c4_i32_68 : BitVec 32 := 4#32
  let c0_i32_69 : BitVec 32 := 0#32
  let v91 : BitVec 32 := Scalar.select v90 c4_i32_68 c0_i32_69
  let v92 : BitVec 32 := Scalar.addi v89 v91
  let c4_i32_70 : BitVec 32 := 4#32
  let v93 : BitVec 1 := Scalar.cmpi .eq v29 c4_i32_70
  let c7_i32_71 : BitVec 32 := 7#32
  let c0_i32_72 : BitVec 32 := 0#32
  let v94 : BitVec 32 := Scalar.select v93 c7_i32_71 c0_i32_72
  let v95 : BitVec 32 := Scalar.addi v92 v94
  let c5_i32_73 : BitVec 32 := 5#32
  let v96 : BitVec 1 := Scalar.cmpi .eq v29 c5_i32_73
  let c2_i32_74 : BitVec 32 := 2#32
  let c0_i32_75 : BitVec 32 := 0#32
  let v97 : BitVec 32 := Scalar.select v96 c2_i32_74 c0_i32_75
  let v98 : BitVec 32 := Scalar.addi v95 v97
  let c6_i32_76 : BitVec 32 := 6#32
  let v99 : BitVec 1 := Scalar.cmpi .eq v29 c6_i32_76
  let c5_i32_77 : BitVec 32 := 5#32
  let c0_i32_78 : BitVec 32 := 0#32
  let v100 : BitVec 32 := Scalar.select v99 c5_i32_77 c0_i32_78
  let v101 : BitVec 32 := Scalar.addi v98 v100
  let c7_i32_79 : BitVec 32 := 7#32
  let v102 : BitVec 1 := Scalar.cmpi .eq v29 c7_i32_79
  let c6_i32_80 : BitVec 32 := 6#32
  let c0_i32_81 : BitVec 32 := 0#32
  let v103 : BitVec 32 := Scalar.select v102 c6_i32_80 c0_i32_81
  let v104 : BitVec 32 := Scalar.addi v101 v103
  let v105 : BitVec 32 := Scalar.addi v80 v104
  let c1_i32_736 : BitVec 32 := 1#32
  let v864 : BitVec 32 := Scalar.muli v105 c1_i32_736
  let v865 : BitVec 32 := Scalar.addi c0_i32_737 v864
  v865.toNat
def k0_dev20 (d0 : Dev nD) : Nat :=
  let c0_i32_782 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v80 : BitVec 32 := Scalar.muli v19 c8_i32_56
  let c0_i32_60 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_57 : BitVec 32 := 0#32
  let v81 : BitVec 1 := Scalar.cmpi .eq v29 c0_i32_57
  let c3_i32_58 : BitVec 32 := 3#32
  let c0_i32_59 : BitVec 32 := 0#32
  let v82 : BitVec 32 := Scalar.select v81 c3_i32_58 c0_i32_59
  let v83 : BitVec 32 := Scalar.addi c0_i32_60 v82
  let c1_i32_61 : BitVec 32 := 1#32
  let v84 : BitVec 1 := Scalar.cmpi .eq v29 c1_i32_61
  let c0_i32_62 : BitVec 32 := 0#32
  let c0_i32_63 : BitVec 32 := 0#32
  let v85 : BitVec 32 := Scalar.select v84 c0_i32_62 c0_i32_63
  let v86 : BitVec 32 := Scalar.addi v83 v85
  let c2_i32_64 : BitVec 32 := 2#32
  let v87 : BitVec 1 := Scalar.cmpi .eq v29 c2_i32_64
  let c1_i32_65 : BitVec 32 := 1#32
  let c0_i32_66 : BitVec 32 := 0#32
  let v88 : BitVec 32 := Scalar.select v87 c1_i32_65 c0_i32_66
  let v89 : BitVec 32 := Scalar.addi v86 v88
  let c3_i32_67 : BitVec 32 := 3#32
  let v90 : BitVec 1 := Scalar.cmpi .eq v29 c3_i32_67
  let c4_i32_68 : BitVec 32 := 4#32
  let c0_i32_69 : BitVec 32 := 0#32
  let v91 : BitVec 32 := Scalar.select v90 c4_i32_68 c0_i32_69
  let v92 : BitVec 32 := Scalar.addi v89 v91
  let c4_i32_70 : BitVec 32 := 4#32
  let v93 : BitVec 1 := Scalar.cmpi .eq v29 c4_i32_70
  let c7_i32_71 : BitVec 32 := 7#32
  let c0_i32_72 : BitVec 32 := 0#32
  let v94 : BitVec 32 := Scalar.select v93 c7_i32_71 c0_i32_72
  let v95 : BitVec 32 := Scalar.addi v92 v94
  let c5_i32_73 : BitVec 32 := 5#32
  let v96 : BitVec 1 := Scalar.cmpi .eq v29 c5_i32_73
  let c2_i32_74 : BitVec 32 := 2#32
  let c0_i32_75 : BitVec 32 := 0#32
  let v97 : BitVec 32 := Scalar.select v96 c2_i32_74 c0_i32_75
  let v98 : BitVec 32 := Scalar.addi v95 v97
  let c6_i32_76 : BitVec 32 := 6#32
  let v99 : BitVec 1 := Scalar.cmpi .eq v29 c6_i32_76
  let c5_i32_77 : BitVec 32 := 5#32
  let c0_i32_78 : BitVec 32 := 0#32
  let v100 : BitVec 32 := Scalar.select v99 c5_i32_77 c0_i32_78
  let v101 : BitVec 32 := Scalar.addi v98 v100
  let c7_i32_79 : BitVec 32 := 7#32
  let v102 : BitVec 1 := Scalar.cmpi .eq v29 c7_i32_79
  let c6_i32_80 : BitVec 32 := 6#32
  let c0_i32_81 : BitVec 32 := 0#32
  let v103 : BitVec 32 := Scalar.select v102 c6_i32_80 c0_i32_81
  let v104 : BitVec 32 := Scalar.addi v101 v103
  let v105 : BitVec 32 := Scalar.addi v80 v104
  let c1_i32_781 : BitVec 32 := 1#32
  let v909 : BitVec 32 := Scalar.muli v105 c1_i32_781
  let v910 : BitVec 32 := Scalar.addi c0_i32_782 v909
  v910.toNat
def k0_dev21 (d0 : Dev nD) : Nat :=
  let c0_i32_855 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v54 : BitVec 32 := Scalar.muli v19 c8_i32_30
  let c0_i32_34 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_31 : BitVec 32 := 0#32
  let v55 : BitVec 1 := Scalar.cmpi .eq v29 c0_i32_31
  let c1_i32_32 : BitVec 32 := 1#32
  let c0_i32_33 : BitVec 32 := 0#32
  let v56 : BitVec 32 := Scalar.select v55 c1_i32_32 c0_i32_33
  let v57 : BitVec 32 := Scalar.addi c0_i32_34 v56
  let c1_i32_35 : BitVec 32 := 1#32
  let v58 : BitVec 1 := Scalar.cmpi .eq v29 c1_i32_35
  let c2_i32_36 : BitVec 32 := 2#32
  let c0_i32_37 : BitVec 32 := 0#32
  let v59 : BitVec 32 := Scalar.select v58 c2_i32_36 c0_i32_37
  let v60 : BitVec 32 := Scalar.addi v57 v59
  let c2_i32_38 : BitVec 32 := 2#32
  let v61 : BitVec 1 := Scalar.cmpi .eq v29 c2_i32_38
  let c5_i32_39 : BitVec 32 := 5#32
  let c0_i32_40 : BitVec 32 := 0#32
  let v62 : BitVec 32 := Scalar.select v61 c5_i32_39 c0_i32_40
  let v63 : BitVec 32 := Scalar.addi v60 v62
  let c3_i32_41 : BitVec 32 := 3#32
  let v64 : BitVec 1 := Scalar.cmpi .eq v29 c3_i32_41
  let c0_i32_42 : BitVec 32 := 0#32
  let c0_i32_43 : BitVec 32 := 0#32
  let v65 : BitVec 32 := Scalar.select v64 c0_i32_42 c0_i32_43
  let v66 : BitVec 32 := Scalar.addi v63 v65
  let c4_i32_44 : BitVec 32 := 4#32
  let v67 : BitVec 1 := Scalar.cmpi .eq v29 c4_i32_44
  let c3_i32_45 : BitVec 32 := 3#32
  let c0_i32_46 : BitVec 32 := 0#32
  let v68 : BitVec 32 := Scalar.select v67 c3_i32_45 c0_i32_46
  let v69 : BitVec 32 := Scalar.addi v66 v68
  let c5_i32_47 : BitVec 32 := 5#32
  let v70 : BitVec 1 := Scalar.cmpi .eq v29 c5_i32_47
  let c6_i32_48 : BitVec 32 := 6#32
  let c0_i32_49 : BitVec 32 := 0#32
  let v71 : BitVec 32 := Scalar.select v70 c6_i32_48 c0_i32_49
  let v72 : BitVec 32 := Scalar.addi v69 v71
  let c6_i32_50 : BitVec 32 := 6#32
  let v73 : BitVec 1 := Scalar.cmpi .eq v29 c6_i32_50
  let c7_i32_51 : BitVec 32 := 7#32
  let c0_i32_52 : BitVec 32 := 0#32
  let v74 : BitVec 32 := Scalar.select v73 c7_i32_51 c0_i32_52
  let v75 : BitVec 32 := Scalar.addi v72 v74
  let c7_i32_53 : BitVec 32 := 7#32
  let v76 : BitVec 1 := Scalar.cmpi .eq v29 c7_i32_53
  let c4_i32_54 : BitVec 32 := 4#32
  let c0_i32_55 : BitVec 32 := 0#32
  let v77 : BitVec 32 := Scalar.select v76 c4_i32_54 c0_i32_55
  let v78 : BitVec 32 := Scalar.addi v75 v77
  let v79 : BitVec 32 := Scalar.addi v54 v78
  let c1_i32_854 : BitVec 32 := 1#32
  let v1001 : BitVec 32 := Scalar.muli v79 c1_i32_854
  let v1002 : BitVec 32 := Scalar.addi c0_i32_855 v1001
  v1002.toNat
def k0_dev22 (d0 : Dev nD) : Nat :=
  let c0_i32_900 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v54 : BitVec 32 := Scalar.muli v19 c8_i32_30
  let c0_i32_34 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_31 : BitVec 32 := 0#32
  let v55 : BitVec 1 := Scalar.cmpi .eq v29 c0_i32_31
  let c1_i32_32 : BitVec 32 := 1#32
  let c0_i32_33 : BitVec 32 := 0#32
  let v56 : BitVec 32 := Scalar.select v55 c1_i32_32 c0_i32_33
  let v57 : BitVec 32 := Scalar.addi c0_i32_34 v56
  let c1_i32_35 : BitVec 32 := 1#32
  let v58 : BitVec 1 := Scalar.cmpi .eq v29 c1_i32_35
  let c2_i32_36 : BitVec 32 := 2#32
  let c0_i32_37 : BitVec 32 := 0#32
  let v59 : BitVec 32 := Scalar.select v58 c2_i32_36 c0_i32_37
  let v60 : BitVec 32 := Scalar.addi v57 v59
  let c2_i32_38 : BitVec 32 := 2#32
  let v61 : BitVec 1 := Scalar.cmpi .eq v29 c2_i32_38
  let c5_i32_39 : BitVec 32 := 5#32
  let c0_i32_40 : BitVec 32 := 0#32
  let v62 : BitVec 32 := Scalar.select v61 c5_i32_39 c0_i32_40
  let v63 : BitVec 32 := Scalar.addi v60 v62
  let c3_i32_41 : BitVec 32 := 3#32
  let v64 : BitVec 1 := Scalar.cmpi .eq v29 c3_i32_41
  let c0_i32_42 : BitVec 32 := 0#32
  let c0_i32_43 : BitVec 32 := 0#32
  let v65 : BitVec 32 := Scalar.select v64 c0_i32_42 c0_i32_43
  let v66 : BitVec 32 := Scalar.addi v63 v65
  let c4_i32_44 : BitVec 32 := 4#32
  let v67 : BitVec 1 := Scalar.cmpi .eq v29 c4_i32_44
  let c3_i32_45 : BitVec 32 := 3#32
  let c0_i32_46 : BitVec 32 := 0#32
  let v68 : BitVec 32 := Scalar.select v67 c3_i32_45 c0_i32_46
  let v69 : BitVec 32 := Scalar.addi v66 v68
  let c5_i32_47 : BitVec 32 := 5#32
  let v70 : BitVec 1 := Scalar.cmpi .eq v29 c5_i32_47
  let c6_i32_48 : BitVec 32 := 6#32
  let c0_i32_49 : BitVec 32 := 0#32
  let v71 : BitVec 32 := Scalar.select v70 c6_i32_48 c0_i32_49
  let v72 : BitVec 32 := Scalar.addi v69 v71
  let c6_i32_50 : BitVec 32 := 6#32
  let v73 : BitVec 1 := Scalar.cmpi .eq v29 c6_i32_50
  let c7_i32_51 : BitVec 32 := 7#32
  let c0_i32_52 : BitVec 32 := 0#32
  let v74 : BitVec 32 := Scalar.select v73 c7_i32_51 c0_i32_52
  let v75 : BitVec 32 := Scalar.addi v72 v74
  let c7_i32_53 : BitVec 32 := 7#32
  let v76 : BitVec 1 := Scalar.cmpi .eq v29 c7_i32_53
  let c4_i32_54 : BitVec 32 := 4#32
  let c0_i32_55 : BitVec 32 := 0#32
  let v77 : BitVec 32 := Scalar.select v76 c4_i32_54 c0_i32_55
  let v78 : BitVec 32 := Scalar.addi v75 v77
  let v79 : BitVec 32 := Scalar.addi v54 v78
  let c1_i32_899 : BitVec 32 := 1#32
  let v1046 : BitVec 32 := Scalar.muli v79 c1_i32_899
  let v1047 : BitVec 32 := Scalar.addi c0_i32_900 v1046
  v1047.toNat
def k0_dev23 (d0 : Dev nD) : Nat :=
  let c0_i32_944 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v80 : BitVec 32 := Scalar.muli v19 c8_i32_56
  let c0_i32_60 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_57 : BitVec 32 := 0#32
  let v81 : BitVec 1 := Scalar.cmpi .eq v29 c0_i32_57
  let c3_i32_58 : BitVec 32 := 3#32
  let c0_i32_59 : BitVec 32 := 0#32
  let v82 : BitVec 32 := Scalar.select v81 c3_i32_58 c0_i32_59
  let v83 : BitVec 32 := Scalar.addi c0_i32_60 v82
  let c1_i32_61 : BitVec 32 := 1#32
  let v84 : BitVec 1 := Scalar.cmpi .eq v29 c1_i32_61
  let c0_i32_62 : BitVec 32 := 0#32
  let c0_i32_63 : BitVec 32 := 0#32
  let v85 : BitVec 32 := Scalar.select v84 c0_i32_62 c0_i32_63
  let v86 : BitVec 32 := Scalar.addi v83 v85
  let c2_i32_64 : BitVec 32 := 2#32
  let v87 : BitVec 1 := Scalar.cmpi .eq v29 c2_i32_64
  let c1_i32_65 : BitVec 32 := 1#32
  let c0_i32_66 : BitVec 32 := 0#32
  let v88 : BitVec 32 := Scalar.select v87 c1_i32_65 c0_i32_66
  let v89 : BitVec 32 := Scalar.addi v86 v88
  let c3_i32_67 : BitVec 32 := 3#32
  let v90 : BitVec 1 := Scalar.cmpi .eq v29 c3_i32_67
  let c4_i32_68 : BitVec 32 := 4#32
  let c0_i32_69 : BitVec 32 := 0#32
  let v91 : BitVec 32 := Scalar.select v90 c4_i32_68 c0_i32_69
  let v92 : BitVec 32 := Scalar.addi v89 v91
  let c4_i32_70 : BitVec 32 := 4#32
  let v93 : BitVec 1 := Scalar.cmpi .eq v29 c4_i32_70
  let c7_i32_71 : BitVec 32 := 7#32
  let c0_i32_72 : BitVec 32 := 0#32
  let v94 : BitVec 32 := Scalar.select v93 c7_i32_71 c0_i32_72
  let v95 : BitVec 32 := Scalar.addi v92 v94
  let c5_i32_73 : BitVec 32 := 5#32
  let v96 : BitVec 1 := Scalar.cmpi .eq v29 c5_i32_73
  let c2_i32_74 : BitVec 32 := 2#32
  let c0_i32_75 : BitVec 32 := 0#32
  let v97 : BitVec 32 := Scalar.select v96 c2_i32_74 c0_i32_75
  let v98 : BitVec 32 := Scalar.addi v95 v97
  let c6_i32_76 : BitVec 32 := 6#32
  let v99 : BitVec 1 := Scalar.cmpi .eq v29 c6_i32_76
  let c5_i32_77 : BitVec 32 := 5#32
  let c0_i32_78 : BitVec 32 := 0#32
  let v100 : BitVec 32 := Scalar.select v99 c5_i32_77 c0_i32_78
  let v101 : BitVec 32 := Scalar.addi v98 v100
  let c7_i32_79 : BitVec 32 := 7#32
  let v102 : BitVec 1 := Scalar.cmpi .eq v29 c7_i32_79
  let c6_i32_80 : BitVec 32 := 6#32
  let c0_i32_81 : BitVec 32 := 0#32
  let v103 : BitVec 32 := Scalar.select v102 c6_i32_80 c0_i32_81
  let v104 : BitVec 32 := Scalar.addi v101 v103
  let v105 : BitVec 32 := Scalar.addi v80 v104
  let c1_i32_943 : BitVec 32 := 1#32
  let v1091 : BitVec 32 := Scalar.muli v105 c1_i32_943
  let v1092 : BitVec 32 := Scalar.addi c0_i32_944 v1091
  v1092.toNat
def k0_dev24 (d0 : Dev nD) : Nat :=
  let c0_i32_989 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v80 : BitVec 32 := Scalar.muli v19 c8_i32_56
  let c0_i32_60 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_57 : BitVec 32 := 0#32
  let v81 : BitVec 1 := Scalar.cmpi .eq v29 c0_i32_57
  let c3_i32_58 : BitVec 32 := 3#32
  let c0_i32_59 : BitVec 32 := 0#32
  let v82 : BitVec 32 := Scalar.select v81 c3_i32_58 c0_i32_59
  let v83 : BitVec 32 := Scalar.addi c0_i32_60 v82
  let c1_i32_61 : BitVec 32 := 1#32
  let v84 : BitVec 1 := Scalar.cmpi .eq v29 c1_i32_61
  let c0_i32_62 : BitVec 32 := 0#32
  let c0_i32_63 : BitVec 32 := 0#32
  let v85 : BitVec 32 := Scalar.select v84 c0_i32_62 c0_i32_63
  let v86 : BitVec 32 := Scalar.addi v83 v85
  let c2_i32_64 : BitVec 32 := 2#32
  let v87 : BitVec 1 := Scalar.cmpi .eq v29 c2_i32_64
  let c1_i32_65 : BitVec 32 := 1#32
  let c0_i32_66 : BitVec 32 := 0#32
  let v88 : BitVec 32 := Scalar.select v87 c1_i32_65 c0_i32_66
  let v89 : BitVec 32 := Scalar.addi v86 v88
  let c3_i32_67 : BitVec 32 := 3#32
  let v90 : BitVec 1 := Scalar.cmpi .eq v29 c3_i32_67
  let c4_i32_68 : BitVec 32 := 4#32
  let c0_i32_69 : BitVec 32 := 0#32
  let v91 : BitVec 32 := Scalar.select v90 c4_i32_68 c0_i32_69
  let v92 : BitVec 32 := Scalar.addi v89 v91
  let c4_i32_70 : BitVec 32 := 4#32
  let v93 : BitVec 1 := Scalar.cmpi .eq v29 c4_i32_70
  let c7_i32_71 : BitVec 32 := 7#32
  let c0_i32_72 : BitVec 32 := 0#32
  let v94 : BitVec 32 := Scalar.select v93 c7_i32_71 c0_i32_72
  let v95 : BitVec 32 := Scalar.addi v92 v94
  let c5_i32_73 : BitVec 32 := 5#32
  let v96 : BitVec 1 := Scalar.cmpi .eq v29 c5_i32_73
  let c2_i32_74 : BitVec 32 := 2#32
  let c0_i32_75 : BitVec 32 := 0#32
  let v97 : BitVec 32 := Scalar.select v96 c2_i32_74 c0_i32_75
  let v98 : BitVec 32 := Scalar.addi v95 v97
  let c6_i32_76 : BitVec 32 := 6#32
  let v99 : BitVec 1 := Scalar.cmpi .eq v29 c6_i32_76
  let c5_i32_77 : BitVec 32 := 5#32
  let c0_i32_78 : BitVec 32 := 0#32
  let v100 : BitVec 32 := Scalar.select v99 c5_i32_77 c0_i32_78
  let v101 : BitVec 32 := Scalar.addi v98 v100
  let c7_i32_79 : BitVec 32 := 7#32
  let v102 : BitVec 1 := Scalar.cmpi .eq v29 c7_i32_79
  let c6_i32_80 : BitVec 32 := 6#32
  let c0_i32_81 : BitVec 32 := 0#32
  let v103 : BitVec 32 := Scalar.select v102 c6_i32_80 c0_i32_81
  let v104 : BitVec 32 := Scalar.addi v101 v103
  let v105 : BitVec 32 := Scalar.addi v80 v104
  let c1_i32_988 : BitVec 32 := 1#32
  let v1136 : BitVec 32 := Scalar.muli v105 c1_i32_988
  let v1137 : BitVec 32 := Scalar.addi c0_i32_989 v1136
  v1137.toNat
def k0_dev25 (d0 : Dev nD) : Nat :=
  let c0_i32_1062 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v54 : BitVec 32 := Scalar.muli v19 c8_i32_30
  let c0_i32_34 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_31 : BitVec 32 := 0#32
  let v55 : BitVec 1 := Scalar.cmpi .eq v29 c0_i32_31
  let c1_i32_32 : BitVec 32 := 1#32
  let c0_i32_33 : BitVec 32 := 0#32
  let v56 : BitVec 32 := Scalar.select v55 c1_i32_32 c0_i32_33
  let v57 : BitVec 32 := Scalar.addi c0_i32_34 v56
  let c1_i32_35 : BitVec 32 := 1#32
  let v58 : BitVec 1 := Scalar.cmpi .eq v29 c1_i32_35
  let c2_i32_36 : BitVec 32 := 2#32
  let c0_i32_37 : BitVec 32 := 0#32
  let v59 : BitVec 32 := Scalar.select v58 c2_i32_36 c0_i32_37
  let v60 : BitVec 32 := Scalar.addi v57 v59
  let c2_i32_38 : BitVec 32 := 2#32
  let v61 : BitVec 1 := Scalar.cmpi .eq v29 c2_i32_38
  let c5_i32_39 : BitVec 32 := 5#32
  let c0_i32_40 : BitVec 32 := 0#32
  let v62 : BitVec 32 := Scalar.select v61 c5_i32_39 c0_i32_40
  let v63 : BitVec 32 := Scalar.addi v60 v62
  let c3_i32_41 : BitVec 32 := 3#32
  let v64 : BitVec 1 := Scalar.cmpi .eq v29 c3_i32_41
  let c0_i32_42 : BitVec 32 := 0#32
  let c0_i32_43 : BitVec 32 := 0#32
  let v65 : BitVec 32 := Scalar.select v64 c0_i32_42 c0_i32_43
  let v66 : BitVec 32 := Scalar.addi v63 v65
  let c4_i32_44 : BitVec 32 := 4#32
  let v67 : BitVec 1 := Scalar.cmpi .eq v29 c4_i32_44
  let c3_i32_45 : BitVec 32 := 3#32
  let c0_i32_46 : BitVec 32 := 0#32
  let v68 : BitVec 32 := Scalar.select v67 c3_i32_45 c0_i32_46
  let v69 : BitVec 32 := Scalar.addi v66 v68
  let c5_i32_47 : BitVec 32 := 5#32
  let v70 : BitVec 1 := Scalar.cmpi .eq v29 c5_i32_47
  let c6_i32_48 : BitVec 32 := 6#32
  let c0_i32_49 : BitVec 32 := 0#32
  let v71 : BitVec 32 := Scalar.select v70 c6_i32_48 c0_i32_49
  let v72 : BitVec 32 := Scalar.addi v69 v71
  let c6_i32_50 : BitVec 32 := 6#32
  let v73 : BitVec 1 := Scalar.cmpi .eq v29 c6_i32_50
  let c7_i32_51 : BitVec 32 := 7#32
  let c0_i32_52 : BitVec 32 := 0#32
  let v74 : BitVec 32 := Scalar.select v73 c7_i32_51 c0_i32_52
  let v75 : BitVec 32 := Scalar.addi v72 v74
  let c7_i32_53 : BitVec 32 := 7#32
  let v76 : BitVec 1 := Scalar.cmpi .eq v29 c7_i32_53
  let c4_i32_54 : BitVec 32 := 4#32
  let c0_i32_55 : BitVec 32 := 0#32
  let v77 : BitVec 32 := Scalar.select v76 c4_i32_54 c0_i32_55
  let v78 : BitVec 32 := Scalar.addi v75 v77
  let v79 : BitVec 32 := Scalar.addi v54 v78
  let c1_i32_1061 : BitVec 32 := 1#32
  let v1228 : BitVec 32 := Scalar.muli v79 c1_i32_1061
  let v1229 : BitVec 32 := Scalar.addi c0_i32_1062 v1228
  v1229.toNat
def k0_dev26 (d0 : Dev nD) : Nat :=
  let c0_i32_1107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v54 : BitVec 32 := Scalar.muli v19 c8_i32_30
  let c0_i32_34 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_31 : BitVec 32 := 0#32
  let v55 : BitVec 1 := Scalar.cmpi .eq v29 c0_i32_31
  let c1_i32_32 : BitVec 32 := 1#32
  let c0_i32_33 : BitVec 32 := 0#32
  let v56 : BitVec 32 := Scalar.select v55 c1_i32_32 c0_i32_33
  let v57 : BitVec 32 := Scalar.addi c0_i32_34 v56
  let c1_i32_35 : BitVec 32 := 1#32
  let v58 : BitVec 1 := Scalar.cmpi .eq v29 c1_i32_35
  let c2_i32_36 : BitVec 32 := 2#32
  let c0_i32_37 : BitVec 32 := 0#32
  let v59 : BitVec 32 := Scalar.select v58 c2_i32_36 c0_i32_37
  let v60 : BitVec 32 := Scalar.addi v57 v59
  let c2_i32_38 : BitVec 32 := 2#32
  let v61 : BitVec 1 := Scalar.cmpi .eq v29 c2_i32_38
  let c5_i32_39 : BitVec 32 := 5#32
  let c0_i32_40 : BitVec 32 := 0#32
  let v62 : BitVec 32 := Scalar.select v61 c5_i32_39 c0_i32_40
  let v63 : BitVec 32 := Scalar.addi v60 v62
  let c3_i32_41 : BitVec 32 := 3#32
  let v64 : BitVec 1 := Scalar.cmpi .eq v29 c3_i32_41
  let c0_i32_42 : BitVec 32 := 0#32
  let c0_i32_43 : BitVec 32 := 0#32
  let v65 : BitVec 32 := Scalar.select v64 c0_i32_42 c0_i32_43
  let v66 : BitVec 32 := Scalar.addi v63 v65
  let c4_i32_44 : BitVec 32 := 4#32
  let v67 : BitVec 1 := Scalar.cmpi .eq v29 c4_i32_44
  let c3_i32_45 : BitVec 32 := 3#32
  let c0_i32_46 : BitVec 32 := 0#32
  let v68 : BitVec 32 := Scalar.select v67 c3_i32_45 c0_i32_46
  let v69 : BitVec 32 := Scalar.addi v66 v68
  let c5_i32_47 : BitVec 32 := 5#32
  let v70 : BitVec 1 := Scalar.cmpi .eq v29 c5_i32_47
  let c6_i32_48 : BitVec 32 := 6#32
  let c0_i32_49 : BitVec 32 := 0#32
  let v71 : BitVec 32 := Scalar.select v70 c6_i32_48 c0_i32_49
  let v72 : BitVec 32 := Scalar.addi v69 v71
  let c6_i32_50 : BitVec 32 := 6#32
  let v73 : BitVec 1 := Scalar.cmpi .eq v29 c6_i32_50
  let c7_i32_51 : BitVec 32 := 7#32
  let c0_i32_52 : BitVec 32 := 0#32
  let v74 : BitVec 32 := Scalar.select v73 c7_i32_51 c0_i32_52
  let v75 : BitVec 32 := Scalar.addi v72 v74
  let c7_i32_53 : BitVec 32 := 7#32
  let v76 : BitVec 1 := Scalar.cmpi .eq v29 c7_i32_53
  let c4_i32_54 : BitVec 32 := 4#32
  let c0_i32_55 : BitVec 32 := 0#32
  let v77 : BitVec 32 := Scalar.select v76 c4_i32_54 c0_i32_55
  let v78 : BitVec 32 := Scalar.addi v75 v77
  let v79 : BitVec 32 := Scalar.addi v54 v78
  let c1_i32_1106 : BitVec 32 := 1#32
  let v1273 : BitVec 32 := Scalar.muli v79 c1_i32_1106
  let v1274 : BitVec 32 := Scalar.addi c0_i32_1107 v1273
  v1274.toNat
def k0_dev27 (d0 : Dev nD) : Nat :=
  let c0_i32_1151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v80 : BitVec 32 := Scalar.muli v19 c8_i32_56
  let c0_i32_60 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_57 : BitVec 32 := 0#32
  let v81 : BitVec 1 := Scalar.cmpi .eq v29 c0_i32_57
  let c3_i32_58 : BitVec 32 := 3#32
  let c0_i32_59 : BitVec 32 := 0#32
  let v82 : BitVec 32 := Scalar.select v81 c3_i32_58 c0_i32_59
  let v83 : BitVec 32 := Scalar.addi c0_i32_60 v82
  let c1_i32_61 : BitVec 32 := 1#32
  let v84 : BitVec 1 := Scalar.cmpi .eq v29 c1_i32_61
  let c0_i32_62 : BitVec 32 := 0#32
  let c0_i32_63 : BitVec 32 := 0#32
  let v85 : BitVec 32 := Scalar.select v84 c0_i32_62 c0_i32_63
  let v86 : BitVec 32 := Scalar.addi v83 v85
  let c2_i32_64 : BitVec 32 := 2#32
  let v87 : BitVec 1 := Scalar.cmpi .eq v29 c2_i32_64
  let c1_i32_65 : BitVec 32 := 1#32
  let c0_i32_66 : BitVec 32 := 0#32
  let v88 : BitVec 32 := Scalar.select v87 c1_i32_65 c0_i32_66
  let v89 : BitVec 32 := Scalar.addi v86 v88
  let c3_i32_67 : BitVec 32 := 3#32
  let v90 : BitVec 1 := Scalar.cmpi .eq v29 c3_i32_67
  let c4_i32_68 : BitVec 32 := 4#32
  let c0_i32_69 : BitVec 32 := 0#32
  let v91 : BitVec 32 := Scalar.select v90 c4_i32_68 c0_i32_69
  let v92 : BitVec 32 := Scalar.addi v89 v91
  let c4_i32_70 : BitVec 32 := 4#32
  let v93 : BitVec 1 := Scalar.cmpi .eq v29 c4_i32_70
  let c7_i32_71 : BitVec 32 := 7#32
  let c0_i32_72 : BitVec 32 := 0#32
  let v94 : BitVec 32 := Scalar.select v93 c7_i32_71 c0_i32_72
  let v95 : BitVec 32 := Scalar.addi v92 v94
  let c5_i32_73 : BitVec 32 := 5#32
  let v96 : BitVec 1 := Scalar.cmpi .eq v29 c5_i32_73
  let c2_i32_74 : BitVec 32 := 2#32
  let c0_i32_75 : BitVec 32 := 0#32
  let v97 : BitVec 32 := Scalar.select v96 c2_i32_74 c0_i32_75
  let v98 : BitVec 32 := Scalar.addi v95 v97
  let c6_i32_76 : BitVec 32 := 6#32
  let v99 : BitVec 1 := Scalar.cmpi .eq v29 c6_i32_76
  let c5_i32_77 : BitVec 32 := 5#32
  let c0_i32_78 : BitVec 32 := 0#32
  let v100 : BitVec 32 := Scalar.select v99 c5_i32_77 c0_i32_78
  let v101 : BitVec 32 := Scalar.addi v98 v100
  let c7_i32_79 : BitVec 32 := 7#32
  let v102 : BitVec 1 := Scalar.cmpi .eq v29 c7_i32_79
  let c6_i32_80 : BitVec 32 := 6#32
  let c0_i32_81 : BitVec 32 := 0#32
  let v103 : BitVec 32 := Scalar.select v102 c6_i32_80 c0_i32_81
  let v104 : BitVec 32 := Scalar.addi v101 v103
  let v105 : BitVec 32 := Scalar.addi v80 v104
  let c1_i32_1150 : BitVec 32 := 1#32
  let v1318 : BitVec 32 := Scalar.muli v105 c1_i32_1150
  let v1319 : BitVec 32 := Scalar.addi c0_i32_1151 v1318
  v1319.toNat
def k0_dev28 (d0 : Dev nD) : Nat :=
  let c0_i32_1196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v80 : BitVec 32 := Scalar.muli v19 c8_i32_56
  let c0_i32_60 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_57 : BitVec 32 := 0#32
  let v81 : BitVec 1 := Scalar.cmpi .eq v29 c0_i32_57
  let c3_i32_58 : BitVec 32 := 3#32
  let c0_i32_59 : BitVec 32 := 0#32
  let v82 : BitVec 32 := Scalar.select v81 c3_i32_58 c0_i32_59
  let v83 : BitVec 32 := Scalar.addi c0_i32_60 v82
  let c1_i32_61 : BitVec 32 := 1#32
  let v84 : BitVec 1 := Scalar.cmpi .eq v29 c1_i32_61
  let c0_i32_62 : BitVec 32 := 0#32
  let c0_i32_63 : BitVec 32 := 0#32
  let v85 : BitVec 32 := Scalar.select v84 c0_i32_62 c0_i32_63
  let v86 : BitVec 32 := Scalar.addi v83 v85
  let c2_i32_64 : BitVec 32 := 2#32
  let v87 : BitVec 1 := Scalar.cmpi .eq v29 c2_i32_64
  let c1_i32_65 : BitVec 32 := 1#32
  let c0_i32_66 : BitVec 32 := 0#32
  let v88 : BitVec 32 := Scalar.select v87 c1_i32_65 c0_i32_66
  let v89 : BitVec 32 := Scalar.addi v86 v88
  let c3_i32_67 : BitVec 32 := 3#32
  let v90 : BitVec 1 := Scalar.cmpi .eq v29 c3_i32_67
  let c4_i32_68 : BitVec 32 := 4#32
  let c0_i32_69 : BitVec 32 := 0#32
  let v91 : BitVec 32 := Scalar.select v90 c4_i32_68 c0_i32_69
  let v92 : BitVec 32 := Scalar.addi v89 v91
  let c4_i32_70 : BitVec 32 := 4#32
  let v93 : BitVec 1 := Scalar.cmpi .eq v29 c4_i32_70
  let c7_i32_71 : BitVec 32 := 7#32
  let c0_i32_72 : BitVec 32 := 0#32
  let v94 : BitVec 32 := Scalar.select v93 c7_i32_71 c0_i32_72
  let v95 : BitVec 32 := Scalar.addi v92 v94
  let c5_i32_73 : BitVec 32 := 5#32
  let v96 : BitVec 1 := Scalar.cmpi .eq v29 c5_i32_73
  let c2_i32_74 : BitVec 32 := 2#32
  let c0_i32_75 : BitVec 32 := 0#32
  let v97 : BitVec 32 := Scalar.select v96 c2_i32_74 c0_i32_75
  let v98 : BitVec 32 := Scalar.addi v95 v97
  let c6_i32_76 : BitVec 32 := 6#32
  let v99 : BitVec 1 := Scalar.cmpi .eq v29 c6_i32_76
  let c5_i32_77 : BitVec 32 := 5#32
  let c0_i32_78 : BitVec 32 := 0#32
  let v100 : BitVec 32 := Scalar.select v99 c5_i32_77 c0_i32_78
  let v101 : BitVec 32 := Scalar.addi v98 v100
  let c7_i32_79 : BitVec 32 := 7#32
  let v102 : BitVec 1 := Scalar.cmpi .eq v29 c7_i32_79
  let c6_i32_80 : BitVec 32 := 6#32
  let c0_i32_81 : BitVec 32 := 0#32
  let v103 : BitVec 32 := Scalar.select v102 c6_i32_80 c0_i32_81
  let v104 : BitVec 32 := Scalar.addi v101 v103
  let v105 : BitVec 32 := Scalar.addi v80 v104
  let c1_i32_1195 : BitVec 32 := 1#32
  let v1363 : BitVec 32 := Scalar.muli v105 c1_i32_1195
  let v1364 : BitVec 32 := Scalar.addi c0_i32_1196 v1363
  v1364.toNat
def k0_dev29 (d0 : Dev nD) : Nat :=
  let c0_i32_1269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v54 : BitVec 32 := Scalar.muli v19 c8_i32_30
  let c0_i32_34 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_31 : BitVec 32 := 0#32
  let v55 : BitVec 1 := Scalar.cmpi .eq v29 c0_i32_31
  let c1_i32_32 : BitVec 32 := 1#32
  let c0_i32_33 : BitVec 32 := 0#32
  let v56 : BitVec 32 := Scalar.select v55 c1_i32_32 c0_i32_33
  let v57 : BitVec 32 := Scalar.addi c0_i32_34 v56
  let c1_i32_35 : BitVec 32 := 1#32
  let v58 : BitVec 1 := Scalar.cmpi .eq v29 c1_i32_35
  let c2_i32_36 : BitVec 32 := 2#32
  let c0_i32_37 : BitVec 32 := 0#32
  let v59 : BitVec 32 := Scalar.select v58 c2_i32_36 c0_i32_37
  let v60 : BitVec 32 := Scalar.addi v57 v59
  let c2_i32_38 : BitVec 32 := 2#32
  let v61 : BitVec 1 := Scalar.cmpi .eq v29 c2_i32_38
  let c5_i32_39 : BitVec 32 := 5#32
  let c0_i32_40 : BitVec 32 := 0#32
  let v62 : BitVec 32 := Scalar.select v61 c5_i32_39 c0_i32_40
  let v63 : BitVec 32 := Scalar.addi v60 v62
  let c3_i32_41 : BitVec 32 := 3#32
  let v64 : BitVec 1 := Scalar.cmpi .eq v29 c3_i32_41
  let c0_i32_42 : BitVec 32 := 0#32
  let c0_i32_43 : BitVec 32 := 0#32
  let v65 : BitVec 32 := Scalar.select v64 c0_i32_42 c0_i32_43
  let v66 : BitVec 32 := Scalar.addi v63 v65
  let c4_i32_44 : BitVec 32 := 4#32
  let v67 : BitVec 1 := Scalar.cmpi .eq v29 c4_i32_44
  let c3_i32_45 : BitVec 32 := 3#32
  let c0_i32_46 : BitVec 32 := 0#32
  let v68 : BitVec 32 := Scalar.select v67 c3_i32_45 c0_i32_46
  let v69 : BitVec 32 := Scalar.addi v66 v68
  let c5_i32_47 : BitVec 32 := 5#32
  let v70 : BitVec 1 := Scalar.cmpi .eq v29 c5_i32_47
  let c6_i32_48 : BitVec 32 := 6#32
  let c0_i32_49 : BitVec 32 := 0#32
  let v71 : BitVec 32 := Scalar.select v70 c6_i32_48 c0_i32_49
  let v72 : BitVec 32 := Scalar.addi v69 v71
  let c6_i32_50 : BitVec 32 := 6#32
  let v73 : BitVec 1 := Scalar.cmpi .eq v29 c6_i32_50
  let c7_i32_51 : BitVec 32 := 7#32
  let c0_i32_52 : BitVec 32 := 0#32
  let v74 : BitVec 32 := Scalar.select v73 c7_i32_51 c0_i32_52
  let v75 : BitVec 32 := Scalar.addi v72 v74
  let c7_i32_53 : BitVec 32 := 7#32
  let v76 : BitVec 1 := Scalar.cmpi .eq v29 c7_i32_53
  let c4_i32_54 : BitVec 32 := 4#32
  let c0_i32_55 : BitVec 32 := 0#32
  let v77 : BitVec 32 := Scalar.select v76 c4_i32_54 c0_i32_55
  let v78 : BitVec 32 := Scalar.addi v75 v77
  let v79 : BitVec 32 := Scalar.addi v54 v78
  let c1_i32_1268 : BitVec 32 := 1#32
  let v1455 : BitVec 32 := Scalar.muli v79 c1_i32_1268
  let v1456 : BitVec 32 := Scalar.addi c0_i32_1269 v1455
  v1456.toNat
def k0_dev30 (d0 : Dev nD) : Nat :=
  let c0_i32_1314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v54 : BitVec 32 := Scalar.muli v19 c8_i32_30
  let c0_i32_34 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_31 : BitVec 32 := 0#32
  let v55 : BitVec 1 := Scalar.cmpi .eq v29 c0_i32_31
  let c1_i32_32 : BitVec 32 := 1#32
  let c0_i32_33 : BitVec 32 := 0#32
  let v56 : BitVec 32 := Scalar.select v55 c1_i32_32 c0_i32_33
  let v57 : BitVec 32 := Scalar.addi c0_i32_34 v56
  let c1_i32_35 : BitVec 32 := 1#32
  let v58 : BitVec 1 := Scalar.cmpi .eq v29 c1_i32_35
  let c2_i32_36 : BitVec 32 := 2#32
  let c0_i32_37 : BitVec 32 := 0#32
  let v59 : BitVec 32 := Scalar.select v58 c2_i32_36 c0_i32_37
  let v60 : BitVec 32 := Scalar.addi v57 v59
  let c2_i32_38 : BitVec 32 := 2#32
  let v61 : BitVec 1 := Scalar.cmpi .eq v29 c2_i32_38
  let c5_i32_39 : BitVec 32 := 5#32
  let c0_i32_40 : BitVec 32 := 0#32
  let v62 : BitVec 32 := Scalar.select v61 c5_i32_39 c0_i32_40
  let v63 : BitVec 32 := Scalar.addi v60 v62
  let c3_i32_41 : BitVec 32 := 3#32
  let v64 : BitVec 1 := Scalar.cmpi .eq v29 c3_i32_41
  let c0_i32_42 : BitVec 32 := 0#32
  let c0_i32_43 : BitVec 32 := 0#32
  let v65 : BitVec 32 := Scalar.select v64 c0_i32_42 c0_i32_43
  let v66 : BitVec 32 := Scalar.addi v63 v65
  let c4_i32_44 : BitVec 32 := 4#32
  let v67 : BitVec 1 := Scalar.cmpi .eq v29 c4_i32_44
  let c3_i32_45 : BitVec 32 := 3#32
  let c0_i32_46 : BitVec 32 := 0#32
  let v68 : BitVec 32 := Scalar.select v67 c3_i32_45 c0_i32_46
  let v69 : BitVec 32 := Scalar.addi v66 v68
  let c5_i32_47 : BitVec 32 := 5#32
  let v70 : BitVec 1 := Scalar.cmpi .eq v29 c5_i32_47
  let c6_i32_48 : BitVec 32 := 6#32
  let c0_i32_49 : BitVec 32 := 0#32
  let v71 : BitVec 32 := Scalar.select v70 c6_i32_48 c0_i32_49
  let v72 : BitVec 32 := Scalar.addi v69 v71
  let c6_i32_50 : BitVec 32 := 6#32
  let v73 : BitVec 1 := Scalar.cmpi .eq v29 c6_i32_50
  let c7_i32_51 : BitVec 32 := 7#32
  let c0_i32_52 : BitVec 32 := 0#32
  let v74 : BitVec 32 := Scalar.select v73 c7_i32_51 c0_i32_52
  let v75 : BitVec 32 := Scalar.addi v72 v74
  let c7_i32_53 : BitVec 32 := 7#32
  let v76 : BitVec 1 := Scalar.cmpi .eq v29 c7_i32_53
  let c4_i32_54 : BitVec 32 := 4#32
  let c0_i32_55 : BitVec 32 := 0#32
  let v77 : BitVec 32 := Scalar.select v76 c4_i32_54 c0_i32_55
  let v78 : BitVec 32 := Scalar.addi v75 v77
  let v79 : BitVec 32 := Scalar.addi v54 v78
  let c1_i32_1313 : BitVec 32 := 1#32
  let v1500 : BitVec 32 := Scalar.muli v79 c1_i32_1313
  let v1501 : BitVec 32 := Scalar.addi c0_i32_1314 v1500
  v1501.toNat
def k0_dev31 (d0 : Dev nD) : Nat :=
  let c0_i32_1358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v80 : BitVec 32 := Scalar.muli v19 c8_i32_56
  let c0_i32_60 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_57 : BitVec 32 := 0#32
  let v81 : BitVec 1 := Scalar.cmpi .eq v29 c0_i32_57
  let c3_i32_58 : BitVec 32 := 3#32
  let c0_i32_59 : BitVec 32 := 0#32
  let v82 : BitVec 32 := Scalar.select v81 c3_i32_58 c0_i32_59
  let v83 : BitVec 32 := Scalar.addi c0_i32_60 v82
  let c1_i32_61 : BitVec 32 := 1#32
  let v84 : BitVec 1 := Scalar.cmpi .eq v29 c1_i32_61
  let c0_i32_62 : BitVec 32 := 0#32
  let c0_i32_63 : BitVec 32 := 0#32
  let v85 : BitVec 32 := Scalar.select v84 c0_i32_62 c0_i32_63
  let v86 : BitVec 32 := Scalar.addi v83 v85
  let c2_i32_64 : BitVec 32 := 2#32
  let v87 : BitVec 1 := Scalar.cmpi .eq v29 c2_i32_64
  let c1_i32_65 : BitVec 32 := 1#32
  let c0_i32_66 : BitVec 32 := 0#32
  let v88 : BitVec 32 := Scalar.select v87 c1_i32_65 c0_i32_66
  let v89 : BitVec 32 := Scalar.addi v86 v88
  let c3_i32_67 : BitVec 32 := 3#32
  let v90 : BitVec 1 := Scalar.cmpi .eq v29 c3_i32_67
  let c4_i32_68 : BitVec 32 := 4#32
  let c0_i32_69 : BitVec 32 := 0#32
  let v91 : BitVec 32 := Scalar.select v90 c4_i32_68 c0_i32_69
  let v92 : BitVec 32 := Scalar.addi v89 v91
  let c4_i32_70 : BitVec 32 := 4#32
  let v93 : BitVec 1 := Scalar.cmpi .eq v29 c4_i32_70
  let c7_i32_71 : BitVec 32 := 7#32
  let c0_i32_72 : BitVec 32 := 0#32
  let v94 : BitVec 32 := Scalar.select v93 c7_i32_71 c0_i32_72
  let v95 : BitVec 32 := Scalar.addi v92 v94
  let c5_i32_73 : BitVec 32 := 5#32
  let v96 : BitVec 1 := Scalar.cmpi .eq v29 c5_i32_73
  let c2_i32_74 : BitVec 32 := 2#32
  let c0_i32_75 : BitVec 32 := 0#32
  let v97 : BitVec 32 := Scalar.select v96 c2_i32_74 c0_i32_75
  let v98 : BitVec 32 := Scalar.addi v95 v97
  let c6_i32_76 : BitVec 32 := 6#32
  let v99 : BitVec 1 := Scalar.cmpi .eq v29 c6_i32_76
  let c5_i32_77 : BitVec 32 := 5#32
  let c0_i32_78 : BitVec 32 := 0#32
  let v100 : BitVec 32 := Scalar.select v99 c5_i32_77 c0_i32_78
  let v101 : BitVec 32 := Scalar.addi v98 v100
  let c7_i32_79 : BitVec 32 := 7#32
  let v102 : BitVec 1 := Scalar.cmpi .eq v29 c7_i32_79
  let c6_i32_80 : BitVec 32 := 6#32
  let c0_i32_81 : BitVec 32 := 0#32
  let v103 : BitVec 32 := Scalar.select v102 c6_i32_80 c0_i32_81
  let v104 : BitVec 32 := Scalar.addi v101 v103
  let v105 : BitVec 32 := Scalar.addi v80 v104
  let c1_i32_1357 : BitVec 32 := 1#32
  let v1545 : BitVec 32 := Scalar.muli v105 c1_i32_1357
  let v1546 : BitVec 32 := Scalar.addi c0_i32_1358 v1545
  v1546.toNat
def k0_dev32 (d0 : Dev nD) : Nat :=
  let c0_i32_1403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v80 : BitVec 32 := Scalar.muli v19 c8_i32_56
  let c0_i32_60 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_57 : BitVec 32 := 0#32
  let v81 : BitVec 1 := Scalar.cmpi .eq v29 c0_i32_57
  let c3_i32_58 : BitVec 32 := 3#32
  let c0_i32_59 : BitVec 32 := 0#32
  let v82 : BitVec 32 := Scalar.select v81 c3_i32_58 c0_i32_59
  let v83 : BitVec 32 := Scalar.addi c0_i32_60 v82
  let c1_i32_61 : BitVec 32 := 1#32
  let v84 : BitVec 1 := Scalar.cmpi .eq v29 c1_i32_61
  let c0_i32_62 : BitVec 32 := 0#32
  let c0_i32_63 : BitVec 32 := 0#32
  let v85 : BitVec 32 := Scalar.select v84 c0_i32_62 c0_i32_63
  let v86 : BitVec 32 := Scalar.addi v83 v85
  let c2_i32_64 : BitVec 32 := 2#32
  let v87 : BitVec 1 := Scalar.cmpi .eq v29 c2_i32_64
  let c1_i32_65 : BitVec 32 := 1#32
  let c0_i32_66 : BitVec 32 := 0#32
  let v88 : BitVec 32 := Scalar.select v87 c1_i32_65 c0_i32_66
  let v89 : BitVec 32 := Scalar.addi v86 v88
  let c3_i32_67 : BitVec 32 := 3#32
  let v90 : BitVec 1 := Scalar.cmpi .eq v29 c3_i32_67
  let c4_i32_68 : BitVec 32 := 4#32
  let c0_i32_69 : BitVec 32 := 0#32
  let v91 : BitVec 32 := Scalar.select v90 c4_i32_68 c0_i32_69
  let v92 : BitVec 32 := Scalar.addi v89 v91
  let c4_i32_70 : BitVec 32 := 4#32
  let v93 : BitVec 1 := Scalar.cmpi .eq v29 c4_i32_70
  let c7_i32_71 : BitVec 32 := 7#32
  let c0_i32_72 : BitVec 32 := 0#32
  let v94 : BitVec 32 := Scalar.select v93 c7_i32_71 c0_i32_72
  let v95 : BitVec 32 := Scalar.addi v92 v94
  let c5_i32_73 : BitVec 32 := 5#32
  let v96 : BitVec 1 := Scalar.cmpi .eq v29 c5_i32_73
  let c2_i32_74 : BitVec 32 := 2#32
  let c0_i32_75 : BitVec 32 := 0#32
  let v97 : BitVec 32 := Scalar.select v96 c2_i32_74 c0_i32_75
  let v98 : BitVec 32 := Scalar.addi v95 v97
  let c6_i32_76 : BitVec 32 := 6#32
  let v99 : BitVec 1 := Scalar.cmpi .eq v29 c6_i32_76
  let c5_i32_77 : BitVec 32 := 5#32
  let c0_i32_78 : BitVec 32 := 0#32
  let v100 : BitVec 32 := Scalar.select v99 c5_i32_77 c0_i32_78
  let v101 : BitVec 32 := Scalar.addi v98 v100
  let c7_i32_79 : BitVec 32 := 7#32
  let v102 : BitVec 1 := Scalar.cmpi .eq v29 c7_i32_79
  let c6_i32_80 : BitVec 32 := 6#32
  let c0_i32_81 : BitVec 32 := 0#32
  let v103 : BitVec 32 := Scalar.select v102 c6_i32_80 c0_i32_81
  let v104 : BitVec 32 := Scalar.addi v101 v103
  let v105 : BitVec 32 := Scalar.addi v80 v104
  let c1_i32_1402 : BitVec 32 := 1#32
  let v1590 : BitVec 32 := Scalar.muli v105 c1_i32_1402
  let v1591 : BitVec 32 := Scalar.addi c0_i32_1403 v1590
  v1591.toNat
def k0_off12 (d0 : Dev nD) (c1_i32_1566 : BitVec 32) (c0_i32_1574 : BitVec 32) : Fin 2 → Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32_12 : BitVec 32 := 0#32
  let c0_i32_13 : BitVec 32 := 0#32
  let v31 : BitVec 32 := Scalar.select v30 c0_i32_12 c0_i32_13
  let v32 : BitVec 32 := Scalar.addi c0_i32_14 v31
  let c1_i32_15 : BitVec 32 := 1#32
  let v33 : BitVec 1 := Scalar.cmpi .eq v29 c1_i32_15
  let c1_i32_16 : BitVec 32 := 1#32
  let c0_i32_17 : BitVec 32 := 0#32
  let v34 : BitVec 32 := Scalar.select v33 c1_i32_16 c0_i32_17
  let v35 : BitVec 32 := Scalar.addi v32 v34
  let c2_i32 : BitVec 32 := 2#32
  let v36 : BitVec 1 := Scalar.cmpi .eq v29 c2_i32
  let c2_i32_18 : BitVec 32 := 2#32
  let c0_i32_19 : BitVec 32 := 0#32
  let v37 : BitVec 32 := Scalar.select v36 c2_i32_18 c0_i32_19
  let v38 : BitVec 32 := Scalar.addi v35 v37
  let c3_i32 : BitVec 32 := 3#32
  let v39 : BitVec 1 := Scalar.cmpi .eq v29 c3_i32
  let c7_i32 : BitVec 32 := 7#32
  let c0_i32_20 : BitVec 32 := 0#32
  let v40 : BitVec 32 := Scalar.select v39 c7_i32 c0_i32_20
  let v41 : BitVec 32 := Scalar.addi v38 v40
  let c4_i32 : BitVec 32 := 4#32
  let v42 : BitVec 1 := Scalar.cmpi .eq v29 c4_i32
  let c6_i32 : BitVec 32 := 6#32
  let c0_i32_21 : BitVec 32 := 0#32
  let v43 : BitVec 32 := Scalar.select v42 c6_i32 c0_i32_21
  let v44 : BitVec 32 := Scalar.addi v41 v43
  let c5_i32 : BitVec 32 := 5#32
  let v45 : BitVec 1 := Scalar.cmpi .eq v29 c5_i32
  let c3_i32_22 : BitVec 32 := 3#32
  let c0_i32_23 : BitVec 32 := 0#32
  let v46 : BitVec 32 := Scalar.select v45 c3_i32_22 c0_i32_23
  let v47 : BitVec 32 := Scalar.addi v44 v46
  let c6_i32_24 : BitVec 32 := 6#32
  let v48 : BitVec 1 := Scalar.cmpi .eq v29 c6_i32_24
  let c4_i32_25 : BitVec 32 := 4#32
  let c0_i32_26 : BitVec 32 := 0#32
  let v49 : BitVec 32 := Scalar.select v48 c4_i32_25 c0_i32_26
  let v50 : BitVec 32 := Scalar.addi v47 v49
  let c7_i32_27 : BitVec 32 := 7#32
  let v51 : BitVec 1 := Scalar.cmpi .eq v29 c7_i32_27
  let c5_i32_28 : BitVec 32 := 5#32
  let c0_i32_29 : BitVec 32 := 0#32
  let v52 : BitVec 32 := Scalar.select v51 c5_i32_28 c0_i32_29
  let v53 : BitVec 32 := Scalar.addi v50 v52
  let v1752 : BitVec 32 := Scalar.addi v53 c1_i32_1566
  let c8_i32_1567 : BitVec 32 := 8#32
  let c0_i32_1568 : BitVec 32 := 0#32
  let v1753 : BitVec 1 := Scalar.cmpi .eq c8_i32_1567 c0_i32_1568
  let c1_i32_1569 : BitVec 32 := 1#32
  let v1754 : BitVec 32 := Scalar.select v1753 c1_i32_1569 c8_i32_1567
  let v1755 : BitVec 32 := Scalar.remsi v1752 v1754
  let c0_i32_1571 : BitVec 32 := 0#32
  let v1757 : BitVec 1 := Scalar.cmpi .slt v1755 c0_i32_1571
  let c0_i32_1572 : BitVec 32 := 0#32
  let v1758 : BitVec 1 := Scalar.cmpi .slt v1754 c0_i32_1572
  let v1759 : BitVec 1 := Scalar.xori v1757 v1758
  let c0_i32_1570 : BitVec 32 := 0#32
  let v1756 : BitVec 1 := Scalar.cmpi .ne v1755 c0_i32_1570
  let v1760 : BitVec 1 := Scalar.andi v1759 v1756
  let v1761 : BitVec 32 := Scalar.addi v1755 v1754
  let v1762 : BitVec 32 := Scalar.select v1760 v1761 v1755
  let c192_i32_1573 : BitVec 32 := 192#32
  let v1763 : BitVec 32 := Scalar.muli v1762 c192_i32_1573
  let v1764 : BitVec 32 := Scalar.addi v1763 c0_i32_1574
  let v1765 : Index := Scalar.indexCast v1764
  let c0_1575 : Index := 0#32
  ![v1765.toNat, 0]
def k0_off12_at (r : Fin 4) : BitVec 32 × BitVec 32 :=
  if r.val < 2 then
    if r.val < 1 then
      (1#32, 0#32)
    else
      (1#32, 48#32)
  else
    if r.val < 3 then
      (4294967295#32, 96#32)
    else
      (4294967295#32, 144#32)
def k0_off13 (d0 : Dev nD) (c0_i32_1621 : BitVec 32) : Fin 2 → Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32_12 : BitVec 32 := 0#32
  let c0_i32_13 : BitVec 32 := 0#32
  let v31 : BitVec 32 := Scalar.select v30 c0_i32_12 c0_i32_13
  let v32 : BitVec 32 := Scalar.addi c0_i32_14 v31
  let c1_i32_15 : BitVec 32 := 1#32
  let v33 : BitVec 1 := Scalar.cmpi .eq v29 c1_i32_15
  let c1_i32_16 : BitVec 32 := 1#32
  let c0_i32_17 : BitVec 32 := 0#32
  let v34 : BitVec 32 := Scalar.select v33 c1_i32_16 c0_i32_17
  let v35 : BitVec 32 := Scalar.addi v32 v34
  let c2_i32 : BitVec 32 := 2#32
  let v36 : BitVec 1 := Scalar.cmpi .eq v29 c2_i32
  let c2_i32_18 : BitVec 32 := 2#32
  let c0_i32_19 : BitVec 32 := 0#32
  let v37 : BitVec 32 := Scalar.select v36 c2_i32_18 c0_i32_19
  let v38 : BitVec 32 := Scalar.addi v35 v37
  let c3_i32 : BitVec 32 := 3#32
  let v39 : BitVec 1 := Scalar.cmpi .eq v29 c3_i32
  let c7_i32 : BitVec 32 := 7#32
  let c0_i32_20 : BitVec 32 := 0#32
  let v40 : BitVec 32 := Scalar.select v39 c7_i32 c0_i32_20
  let v41 : BitVec 32 := Scalar.addi v38 v40
  let c4_i32 : BitVec 32 := 4#32
  let v42 : BitVec 1 := Scalar.cmpi .eq v29 c4_i32
  let c6_i32 : BitVec 32 := 6#32
  let c0_i32_21 : BitVec 32 := 0#32
  let v43 : BitVec 32 := Scalar.select v42 c6_i32 c0_i32_21
  let v44 : BitVec 32 := Scalar.addi v41 v43
  let c5_i32 : BitVec 32 := 5#32
  let v45 : BitVec 1 := Scalar.cmpi .eq v29 c5_i32
  let c3_i32_22 : BitVec 32 := 3#32
  let c0_i32_23 : BitVec 32 := 0#32
  let v46 : BitVec 32 := Scalar.select v45 c3_i32_22 c0_i32_23
  let v47 : BitVec 32 := Scalar.addi v44 v46
  let c6_i32_24 : BitVec 32 := 6#32
  let v48 : BitVec 1 := Scalar.cmpi .eq v29 c6_i32_24
  let c4_i32_25 : BitVec 32 := 4#32
  let c0_i32_26 : BitVec 32 := 0#32
  let v49 : BitVec 32 := Scalar.select v48 c4_i32_25 c0_i32_26
  let v50 : BitVec 32 := Scalar.addi v47 v49
  let c7_i32_27 : BitVec 32 := 7#32
  let v51 : BitVec 1 := Scalar.cmpi .eq v29 c7_i32_27
  let c5_i32_28 : BitVec 32 := 5#32
  let c0_i32_29 : BitVec 32 := 0#32
  let v52 : BitVec 32 := Scalar.select v51 c5_i32_28 c0_i32_29
  let v53 : BitVec 32 := Scalar.addi v50 v52
  let c1_i32_1549 : BitVec 32 := 1#32
  let v1727 : BitVec 32 := Scalar.addi v53 c1_i32_1549
  let c8_i32_1550 : BitVec 32 := 8#32
  let c0_i32_1551 : BitVec 32 := 0#32
  let v1728 : BitVec 1 := Scalar.cmpi .eq c8_i32_1550 c0_i32_1551
  let c1_i32_1552 : BitVec 32 := 1#32
  let v1729 : BitVec 32 := Scalar.select v1728 c1_i32_1552 c8_i32_1550
  let v1730 : BitVec 32 := Scalar.remsi v1727 v1729
  let c0_i32_1554 : BitVec 32 := 0#32
  let v1732 : BitVec 1 := Scalar.cmpi .slt v1730 c0_i32_1554
  let c0_i32_1555 : BitVec 32 := 0#32
  let v1733 : BitVec 1 := Scalar.cmpi .slt v1729 c0_i32_1555
  let v1734 : BitVec 1 := Scalar.xori v1732 v1733
  let c0_i32_1553 : BitVec 32 := 0#32
  let v1731 : BitVec 1 := Scalar.cmpi .ne v1730 c0_i32_1553
  let v1735 : BitVec 1 := Scalar.andi v1734 v1731
  let v1736 : BitVec 32 := Scalar.addi v1730 v1729
  let v1737 : BitVec 32 := Scalar.select v1735 v1736 v1730
  let c192_i32_1556 : BitVec 32 := 192#32
  let v1738 : BitVec 32 := Scalar.muli v1737 c192_i32_1556
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1840 : BitVec 32 := Scalar.subi v19 c0_i32_1621
  let c4_i32_1622 : BitVec 32 := 4#32
  let c0_i32_1623 : BitVec 32 := 0#32
  let v1841 : BitVec 1 := Scalar.cmpi .eq c4_i32_1622 c0_i32_1623
  let c1_i32_1624 : BitVec 32 := 1#32
  let v1842 : BitVec 32 := Scalar.select v1841 c1_i32_1624 c4_i32_1622
  let v1843 : BitVec 32 := Scalar.remsi v1840 v1842
  let c0_i32_1626 : BitVec 32 := 0#32
  let v1845 : BitVec 1 := Scalar.cmpi .slt v1843 c0_i32_1626
  let c0_i32_1627 : BitVec 32 := 0#32
  let v1846 : BitVec 1 := Scalar.cmpi .slt v1842 c0_i32_1627
  let v1847 : BitVec 1 := Scalar.xori v1845 v1846
  let c0_i32_1625 : BitVec 32 := 0#32
  let v1844 : BitVec 1 := Scalar.cmpi .ne v1843 c0_i32_1625
  let v1848 : BitVec 1 := Scalar.andi v1847 v1844
  let v1849 : BitVec 32 := Scalar.addi v1843 v1842
  let v1850 : BitVec 32 := Scalar.select v1848 v1849 v1843
  let c24_i32 : BitVec 32 := 24#32
  let v1862 : BitVec 32 := Scalar.muli v1850 c24_i32
  let v1863 : BitVec 32 := Scalar.addi v1738 v1862
  let v1864 : Index := Scalar.indexCast v1863
  let c0_1635 : Index := 0#32
  ![v1864.toNat, 0]
def k0_off14 (d0 : Dev nD) (c0_i32_1628 : BitVec 32) : Fin 2 → Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32_12 : BitVec 32 := 0#32
  let c0_i32_13 : BitVec 32 := 0#32
  let v31 : BitVec 32 := Scalar.select v30 c0_i32_12 c0_i32_13
  let v32 : BitVec 32 := Scalar.addi c0_i32_14 v31
  let c1_i32_15 : BitVec 32 := 1#32
  let v33 : BitVec 1 := Scalar.cmpi .eq v29 c1_i32_15
  let c1_i32_16 : BitVec 32 := 1#32
  let c0_i32_17 : BitVec 32 := 0#32
  let v34 : BitVec 32 := Scalar.select v33 c1_i32_16 c0_i32_17
  let v35 : BitVec 32 := Scalar.addi v32 v34
  let c2_i32 : BitVec 32 := 2#32
  let v36 : BitVec 1 := Scalar.cmpi .eq v29 c2_i32
  let c2_i32_18 : BitVec 32 := 2#32
  let c0_i32_19 : BitVec 32 := 0#32
  let v37 : BitVec 32 := Scalar.select v36 c2_i32_18 c0_i32_19
  let v38 : BitVec 32 := Scalar.addi v35 v37
  let c3_i32 : BitVec 32 := 3#32
  let v39 : BitVec 1 := Scalar.cmpi .eq v29 c3_i32
  let c7_i32 : BitVec 32 := 7#32
  let c0_i32_20 : BitVec 32 := 0#32
  let v40 : BitVec 32 := Scalar.select v39 c7_i32 c0_i32_20
  let v41 : BitVec 32 := Scalar.addi v38 v40
  let c4_i32 : BitVec 32 := 4#32
  let v42 : BitVec 1 := Scalar.cmpi .eq v29 c4_i32
  let c6_i32 : BitVec 32 := 6#32
  let c0_i32_21 : BitVec 32 := 0#32
  let v43 : BitVec 32 := Scalar.select v42 c6_i32 c0_i32_21
  let v44 : BitVec 32 := Scalar.addi v41 v43
  let c5_i32 : BitVec 32 := 5#32
  let v45 : BitVec 1 := Scalar.cmpi .eq v29 c5_i32
  let c3_i32_22 : BitVec 32 := 3#32
  let c0_i32_23 : BitVec 32 := 0#32
  let v46 : BitVec 32 := Scalar.select v45 c3_i32_22 c0_i32_23
  let v47 : BitVec 32 := Scalar.addi v44 v46
  let c6_i32_24 : BitVec 32 := 6#32
  let v48 : BitVec 1 := Scalar.cmpi .eq v29 c6_i32_24
  let c4_i32_25 : BitVec 32 := 4#32
  let c0_i32_26 : BitVec 32 := 0#32
  let v49 : BitVec 32 := Scalar.select v48 c4_i32_25 c0_i32_26
  let v50 : BitVec 32 := Scalar.addi v47 v49
  let c7_i32_27 : BitVec 32 := 7#32
  let v51 : BitVec 1 := Scalar.cmpi .eq v29 c7_i32_27
  let c5_i32_28 : BitVec 32 := 5#32
  let c0_i32_29 : BitVec 32 := 0#32
  let v52 : BitVec 32 := Scalar.select v51 c5_i32_28 c0_i32_29
  let v53 : BitVec 32 := Scalar.addi v50 v52
  let c1_i32_1557 : BitVec 32 := 1#32
  let v1739 : BitVec 32 := Scalar.subi v53 c1_i32_1557
  let c8_i32_1558 : BitVec 32 := 8#32
  let c0_i32_1559 : BitVec 32 := 0#32
  let v1740 : BitVec 1 := Scalar.cmpi .eq c8_i32_1558 c0_i32_1559
  let c1_i32_1560 : BitVec 32 := 1#32
  let v1741 : BitVec 32 := Scalar.select v1740 c1_i32_1560 c8_i32_1558
  let v1742 : BitVec 32 := Scalar.remsi v1739 v1741
  let c0_i32_1562 : BitVec 32 := 0#32
  let v1744 : BitVec 1 := Scalar.cmpi .slt v1742 c0_i32_1562
  let c0_i32_1563 : BitVec 32 := 0#32
  let v1745 : BitVec 1 := Scalar.cmpi .slt v1741 c0_i32_1563
  let v1746 : BitVec 1 := Scalar.xori v1744 v1745
  let c0_i32_1561 : BitVec 32 := 0#32
  let v1743 : BitVec 1 := Scalar.cmpi .ne v1742 c0_i32_1561
  let v1747 : BitVec 1 := Scalar.andi v1746 v1743
  let v1748 : BitVec 32 := Scalar.addi v1742 v1741
  let v1749 : BitVec 32 := Scalar.select v1747 v1748 v1742
  let c192_i32_1564 : BitVec 32 := 192#32
  let v1750 : BitVec 32 := Scalar.muli v1749 c192_i32_1564
  let c96_i32_1565 : BitVec 32 := 96#32
  let v1751 : BitVec 32 := Scalar.addi v1750 c96_i32_1565
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1851 : BitVec 32 := Scalar.addi v19 c0_i32_1628
  let c4_i32_1629 : BitVec 32 := 4#32
  let c0_i32_1630 : BitVec 32 := 0#32
  let v1852 : BitVec 1 := Scalar.cmpi .eq c4_i32_1629 c0_i32_1630
  let c1_i32_1631 : BitVec 32 := 1#32
  let v1853 : BitVec 32 := Scalar.select v1852 c1_i32_1631 c4_i32_1629
  let v1854 : BitVec 32 := Scalar.remsi v1851 v1853
  let c0_i32_1633 : BitVec 32 := 0#32
  let v1856 : BitVec 1 := Scalar.cmpi .slt v1854 c0_i32_1633
  let c0_i32_1634 : BitVec 32 := 0#32
  let v1857 : BitVec 1 := Scalar.cmpi .slt v1853 c0_i32_1634
  let v1858 : BitVec 1 := Scalar.xori v1856 v1857
  let c0_i32_1632 : BitVec 32 := 0#32
  let v1855 : BitVec 1 := Scalar.cmpi .ne v1854 c0_i32_1632
  let v1859 : BitVec 1 := Scalar.andi v1858 v1855
  let v1860 : BitVec 32 := Scalar.addi v1854 v1853
  let v1861 : BitVec 32 := Scalar.select v1859 v1860 v1854
  let c24_i32_1636 : BitVec 32 := 24#32
  let v1866 : BitVec 32 := Scalar.muli v1861 c24_i32_1636
  let v1867 : BitVec 32 := Scalar.addi v1751 v1866
  let v1868 : Index := Scalar.indexCast v1867
  let c0_1637 : Index := 0#32
  ![v1868.toNat, 0]
def k0_dev33 (d0 : Dev nD) : Nat :=
  let c0_i32_1649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_82 : BitVec 32 := 1#32
  let v106 : BitVec 32 := Scalar.addi v19 c1_i32_82
  let c4_i32_83 : BitVec 32 := 4#32
  let c0_i32_84 : BitVec 32 := 0#32
  let v107 : BitVec 1 := Scalar.cmpi .eq c4_i32_83 c0_i32_84
  let c1_i32_85 : BitVec 32 := 1#32
  let v108 : BitVec 32 := Scalar.select v107 c1_i32_85 c4_i32_83
  let v109 : BitVec 32 := Scalar.remsi v106 v108
  let c0_i32_87 : BitVec 32 := 0#32
  let v111 : BitVec 1 := Scalar.cmpi .slt v109 c0_i32_87
  let c0_i32_88 : BitVec 32 := 0#32
  let v112 : BitVec 1 := Scalar.cmpi .slt v108 c0_i32_88
  let v113 : BitVec 1 := Scalar.xori v111 v112
  let c0_i32_86 : BitVec 32 := 0#32
  let v110 : BitVec 1 := Scalar.cmpi .ne v109 c0_i32_86
  let v114 : BitVec 1 := Scalar.andi v113 v110
  let v115 : BitVec 32 := Scalar.addi v109 v108
  let v116 : BitVec 32 := Scalar.select v114 v115 v109
  let c8_i32_89 : BitVec 32 := 8#32
  let v117 : BitVec 32 := Scalar.muli v116 c8_i32_89
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v118 : BitVec 32 := Scalar.addi v117 v29
  let c1_i32_1648 : BitVec 32 := 1#32
  let v1876 : BitVec 32 := Scalar.muli v118 c1_i32_1648
  let v1877 : BitVec 32 := Scalar.addi c0_i32_1649 v1876
  v1877.toNat
def k0_dev34 (d0 : Dev nD) : Nat :=
  let c0_i32_1659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_90 : BitVec 32 := 1#32
  let v119 : BitVec 32 := Scalar.subi v19 c1_i32_90
  let c4_i32_91 : BitVec 32 := 4#32
  let c0_i32_92 : BitVec 32 := 0#32
  let v120 : BitVec 1 := Scalar.cmpi .eq c4_i32_91 c0_i32_92
  let c1_i32_93 : BitVec 32 := 1#32
  let v121 : BitVec 32 := Scalar.select v120 c1_i32_93 c4_i32_91
  let v122 : BitVec 32 := Scalar.remsi v119 v121
  let c0_i32_95 : BitVec 32 := 0#32
  let v124 : BitVec 1 := Scalar.cmpi .slt v122 c0_i32_95
  let c0_i32_96 : BitVec 32 := 0#32
  let v125 : BitVec 1 := Scalar.cmpi .slt v121 c0_i32_96
  let v126 : BitVec 1 := Scalar.xori v124 v125
  let c0_i32_94 : BitVec 32 := 0#32
  let v123 : BitVec 1 := Scalar.cmpi .ne v122 c0_i32_94
  let v127 : BitVec 1 := Scalar.andi v126 v123
  let v128 : BitVec 32 := Scalar.addi v122 v121
  let v129 : BitVec 32 := Scalar.select v127 v128 v122
  let c8_i32_97 : BitVec 32 := 8#32
  let v130 : BitVec 32 := Scalar.muli v129 c8_i32_97
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v131 : BitVec 32 := Scalar.addi v130 v29
  let c1_i32_1658 : BitVec 32 := 1#32
  let v1886 : BitVec 32 := Scalar.muli v131 c1_i32_1658
  let v1887 : BitVec 32 := Scalar.addi c0_i32_1659 v1886
  v1887.toNat
def k0_dev35 (d0 : Dev nD) : Nat :=
  let c0_i32_1737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_82 : BitVec 32 := 1#32
  let v106 : BitVec 32 := Scalar.addi v19 c1_i32_82
  let c4_i32_83 : BitVec 32 := 4#32
  let c0_i32_84 : BitVec 32 := 0#32
  let v107 : BitVec 1 := Scalar.cmpi .eq c4_i32_83 c0_i32_84
  let c1_i32_85 : BitVec 32 := 1#32
  let v108 : BitVec 32 := Scalar.select v107 c1_i32_85 c4_i32_83
  let v109 : BitVec 32 := Scalar.remsi v106 v108
  let c0_i32_87 : BitVec 32 := 0#32
  let v111 : BitVec 1 := Scalar.cmpi .slt v109 c0_i32_87
  let c0_i32_88 : BitVec 32 := 0#32
  let v112 : BitVec 1 := Scalar.cmpi .slt v108 c0_i32_88
  let v113 : BitVec 1 := Scalar.xori v111 v112
  let c0_i32_86 : BitVec 32 := 0#32
  let v110 : BitVec 1 := Scalar.cmpi .ne v109 c0_i32_86
  let v114 : BitVec 1 := Scalar.andi v113 v110
  let v115 : BitVec 32 := Scalar.addi v109 v108
  let v116 : BitVec 32 := Scalar.select v114 v115 v109
  let c8_i32_89 : BitVec 32 := 8#32
  let v117 : BitVec 32 := Scalar.muli v116 c8_i32_89
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v118 : BitVec 32 := Scalar.addi v117 v29
  let c1_i32_1736 : BitVec 32 := 1#32
  let v1966 : BitVec 32 := Scalar.muli v118 c1_i32_1736
  let v1967 : BitVec 32 := Scalar.addi c0_i32_1737 v1966
  v1967.toNat
def k0_dev36 (d0 : Dev nD) : Nat :=
  let c0_i32_1747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_90 : BitVec 32 := 1#32
  let v119 : BitVec 32 := Scalar.subi v19 c1_i32_90
  let c4_i32_91 : BitVec 32 := 4#32
  let c0_i32_92 : BitVec 32 := 0#32
  let v120 : BitVec 1 := Scalar.cmpi .eq c4_i32_91 c0_i32_92
  let c1_i32_93 : BitVec 32 := 1#32
  let v121 : BitVec 32 := Scalar.select v120 c1_i32_93 c4_i32_91
  let v122 : BitVec 32 := Scalar.remsi v119 v121
  let c0_i32_95 : BitVec 32 := 0#32
  let v124 : BitVec 1 := Scalar.cmpi .slt v122 c0_i32_95
  let c0_i32_96 : BitVec 32 := 0#32
  let v125 : BitVec 1 := Scalar.cmpi .slt v121 c0_i32_96
  let v126 : BitVec 1 := Scalar.xori v124 v125
  let c0_i32_94 : BitVec 32 := 0#32
  let v123 : BitVec 1 := Scalar.cmpi .ne v122 c0_i32_94
  let v127 : BitVec 1 := Scalar.andi v126 v123
  let v128 : BitVec 32 := Scalar.addi v122 v121
  let v129 : BitVec 32 := Scalar.select v127 v128 v122
  let c8_i32_97 : BitVec 32 := 8#32
  let v130 : BitVec 32 := Scalar.muli v129 c8_i32_97
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v131 : BitVec 32 := Scalar.addi v130 v29
  let c1_i32_1746 : BitVec 32 := 1#32
  let v1976 : BitVec 32 := Scalar.muli v131 c1_i32_1746
  let v1977 : BitVec 32 := Scalar.addi c0_i32_1747 v1976
  v1977.toNat
def k0_dev37 (d0 : Dev nD) : Nat :=
  let c0_i32_1825 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_82 : BitVec 32 := 1#32
  let v106 : BitVec 32 := Scalar.addi v19 c1_i32_82
  let c4_i32_83 : BitVec 32 := 4#32
  let c0_i32_84 : BitVec 32 := 0#32
  let v107 : BitVec 1 := Scalar.cmpi .eq c4_i32_83 c0_i32_84
  let c1_i32_85 : BitVec 32 := 1#32
  let v108 : BitVec 32 := Scalar.select v107 c1_i32_85 c4_i32_83
  let v109 : BitVec 32 := Scalar.remsi v106 v108
  let c0_i32_87 : BitVec 32 := 0#32
  let v111 : BitVec 1 := Scalar.cmpi .slt v109 c0_i32_87
  let c0_i32_88 : BitVec 32 := 0#32
  let v112 : BitVec 1 := Scalar.cmpi .slt v108 c0_i32_88
  let v113 : BitVec 1 := Scalar.xori v111 v112
  let c0_i32_86 : BitVec 32 := 0#32
  let v110 : BitVec 1 := Scalar.cmpi .ne v109 c0_i32_86
  let v114 : BitVec 1 := Scalar.andi v113 v110
  let v115 : BitVec 32 := Scalar.addi v109 v108
  let v116 : BitVec 32 := Scalar.select v114 v115 v109
  let c8_i32_89 : BitVec 32 := 8#32
  let v117 : BitVec 32 := Scalar.muli v116 c8_i32_89
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v118 : BitVec 32 := Scalar.addi v117 v29
  let c1_i32_1824 : BitVec 32 := 1#32
  let v2056 : BitVec 32 := Scalar.muli v118 c1_i32_1824
  let v2057 : BitVec 32 := Scalar.addi c0_i32_1825 v2056
  v2057.toNat
def k0_dev38 (d0 : Dev nD) : Nat :=
  let c0_i32_1835 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_90 : BitVec 32 := 1#32
  let v119 : BitVec 32 := Scalar.subi v19 c1_i32_90
  let c4_i32_91 : BitVec 32 := 4#32
  let c0_i32_92 : BitVec 32 := 0#32
  let v120 : BitVec 1 := Scalar.cmpi .eq c4_i32_91 c0_i32_92
  let c1_i32_93 : BitVec 32 := 1#32
  let v121 : BitVec 32 := Scalar.select v120 c1_i32_93 c4_i32_91
  let v122 : BitVec 32 := Scalar.remsi v119 v121
  let c0_i32_95 : BitVec 32 := 0#32
  let v124 : BitVec 1 := Scalar.cmpi .slt v122 c0_i32_95
  let c0_i32_96 : BitVec 32 := 0#32
  let v125 : BitVec 1 := Scalar.cmpi .slt v121 c0_i32_96
  let v126 : BitVec 1 := Scalar.xori v124 v125
  let c0_i32_94 : BitVec 32 := 0#32
  let v123 : BitVec 1 := Scalar.cmpi .ne v122 c0_i32_94
  let v127 : BitVec 1 := Scalar.andi v126 v123
  let v128 : BitVec 32 := Scalar.addi v122 v121
  let v129 : BitVec 32 := Scalar.select v127 v128 v122
  let c8_i32_97 : BitVec 32 := 8#32
  let v130 : BitVec 32 := Scalar.muli v129 c8_i32_97
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v131 : BitVec 32 := Scalar.addi v130 v29
  let c1_i32_1834 : BitVec 32 := 1#32
  let v2066 : BitVec 32 := Scalar.muli v131 c1_i32_1834
  let v2067 : BitVec 32 := Scalar.addi c0_i32_1835 v2066
  v2067.toNat
def k0_off15 (d0 : Dev nD) : Fin 2 → Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32_12 : BitVec 32 := 0#32
  let c0_i32_13 : BitVec 32 := 0#32
  let v31 : BitVec 32 := Scalar.select v30 c0_i32_12 c0_i32_13
  let v32 : BitVec 32 := Scalar.addi c0_i32_14 v31
  let c1_i32_15 : BitVec 32 := 1#32
  let v33 : BitVec 1 := Scalar.cmpi .eq v29 c1_i32_15
  let c1_i32_16 : BitVec 32 := 1#32
  let c0_i32_17 : BitVec 32 := 0#32
  let v34 : BitVec 32 := Scalar.select v33 c1_i32_16 c0_i32_17
  let v35 : BitVec 32 := Scalar.addi v32 v34
  let c2_i32 : BitVec 32 := 2#32
  let v36 : BitVec 1 := Scalar.cmpi .eq v29 c2_i32
  let c2_i32_18 : BitVec 32 := 2#32
  let c0_i32_19 : BitVec 32 := 0#32
  let v37 : BitVec 32 := Scalar.select v36 c2_i32_18 c0_i32_19
  let v38 : BitVec 32 := Scalar.addi v35 v37
  let c3_i32 : BitVec 32 := 3#32
  let v39 : BitVec 1 := Scalar.cmpi .eq v29 c3_i32
  let c7_i32 : BitVec 32 := 7#32
  let c0_i32_20 : BitVec 32 := 0#32
  let v40 : BitVec 32 := Scalar.select v39 c7_i32 c0_i32_20
  let v41 : BitVec 32 := Scalar.addi v38 v40
  let c4_i32 : BitVec 32 := 4#32
  let v42 : BitVec 1 := Scalar.cmpi .eq v29 c4_i32
  let c6_i32 : BitVec 32 := 6#32
  let c0_i32_21 : BitVec 32 := 0#32
  let v43 : BitVec 32 := Scalar.select v42 c6_i32 c0_i32_21
  let v44 : BitVec 32 := Scalar.addi v41 v43
  let c5_i32 : BitVec 32 := 5#32
  let v45 : BitVec 1 := Scalar.cmpi .eq v29 c5_i32
  let c3_i32_22 : BitVec 32 := 3#32
  let c0_i32_23 : BitVec 32 := 0#32
  let v46 : BitVec 32 := Scalar.select v45 c3_i32_22 c0_i32_23
  let v47 : BitVec 32 := Scalar.addi v44 v46
  let c6_i32_24 : BitVec 32 := 6#32
  let v48 : BitVec 1 := Scalar.cmpi .eq v29 c6_i32_24
  let c4_i32_25 : BitVec 32 := 4#32
  let c0_i32_26 : BitVec 32 := 0#32
  let v49 : BitVec 32 := Scalar.select v48 c4_i32_25 c0_i32_26
  let v50 : BitVec 32 := Scalar.addi v47 v49
  let c7_i32_27 : BitVec 32 := 7#32
  let v51 : BitVec 1 := Scalar.cmpi .eq v29 c7_i32_27
  let c5_i32_28 : BitVec 32 := 5#32
  let c0_i32_29 : BitVec 32 := 0#32
  let v52 : BitVec 32 := Scalar.select v51 c5_i32_28 c0_i32_29
  let v53 : BitVec 32 := Scalar.addi v50 v52
  let c1_i32_1549 : BitVec 32 := 1#32
  let v1727 : BitVec 32 := Scalar.addi v53 c1_i32_1549
  let c8_i32_1550 : BitVec 32 := 8#32
  let c0_i32_1551 : BitVec 32 := 0#32
  let v1728 : BitVec 1 := Scalar.cmpi .eq c8_i32_1550 c0_i32_1551
  let c1_i32_1552 : BitVec 32 := 1#32
  let v1729 : BitVec 32 := Scalar.select v1728 c1_i32_1552 c8_i32_1550
  let v1730 : BitVec 32 := Scalar.remsi v1727 v1729
  let c0_i32_1554 : BitVec 32 := 0#32
  let v1732 : BitVec 1 := Scalar.cmpi .slt v1730 c0_i32_1554
  let c0_i32_1555 : BitVec 32 := 0#32
  let v1733 : BitVec 1 := Scalar.cmpi .slt v1729 c0_i32_1555
  let v1734 : BitVec 1 := Scalar.xori v1732 v1733
  let c0_i32_1553 : BitVec 32 := 0#32
  let v1731 : BitVec 1 := Scalar.cmpi .ne v1730 c0_i32_1553
  let v1735 : BitVec 1 := Scalar.andi v1734 v1731
  let v1736 : BitVec 32 := Scalar.addi v1730 v1729
  let v1737 : BitVec 32 := Scalar.select v1735 v1736 v1730
  let c192_i32_1556 : BitVec 32 := 192#32
  let v1738 : BitVec 32 := Scalar.muli v1737 c192_i32_1556
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1878 : BitVec 32 := 1#32
  let v2104 : BitVec 32 := Scalar.addi v19 c1_i32_1878
  let c4_i32_1879 : BitVec 32 := 4#32
  let c0_i32_1880 : BitVec 32 := 0#32
  let v2105 : BitVec 1 := Scalar.cmpi .eq c4_i32_1879 c0_i32_1880
  let c1_i32_1881 : BitVec 32 := 1#32
  let v2106 : BitVec 32 := Scalar.select v2105 c1_i32_1881 c4_i32_1879
  let v2107 : BitVec 32 := Scalar.remsi v2104 v2106
  let c0_i32_1883 : BitVec 32 := 0#32
  let v2109 : BitVec 1 := Scalar.cmpi .slt v2107 c0_i32_1883
  let c0_i32_1884 : BitVec 32 := 0#32
  let v2110 : BitVec 1 := Scalar.cmpi .slt v2106 c0_i32_1884
  let v2111 : BitVec 1 := Scalar.xori v2109 v2110
  let c0_i32_1882 : BitVec 32 := 0#32
  let v2108 : BitVec 1 := Scalar.cmpi .ne v2107 c0_i32_1882
  let v2112 : BitVec 1 := Scalar.andi v2111 v2108
  let v2113 : BitVec 32 := Scalar.addi v2107 v2106
  let v2114 : BitVec 32 := Scalar.select v2112 v2113 v2107
  let c24_i32_1885 : BitVec 32 := 24#32
  let v2115 : BitVec 32 := Scalar.muli v2114 c24_i32_1885
  let v2116 : BitVec 32 := Scalar.addi v1738 v2115
  let v2130 : Index := Scalar.indexCast v2116
  let c0_1894 : Index := 0#32
  ![v2130.toNat, 0]
def k0_off16 (d0 : Dev nD) : Fin 2 → Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32_12 : BitVec 32 := 0#32
  let c0_i32_13 : BitVec 32 := 0#32
  let v31 : BitVec 32 := Scalar.select v30 c0_i32_12 c0_i32_13
  let v32 : BitVec 32 := Scalar.addi c0_i32_14 v31
  let c1_i32_15 : BitVec 32 := 1#32
  let v33 : BitVec 1 := Scalar.cmpi .eq v29 c1_i32_15
  let c1_i32_16 : BitVec 32 := 1#32
  let c0_i32_17 : BitVec 32 := 0#32
  let v34 : BitVec 32 := Scalar.select v33 c1_i32_16 c0_i32_17
  let v35 : BitVec 32 := Scalar.addi v32 v34
  let c2_i32 : BitVec 32 := 2#32
  let v36 : BitVec 1 := Scalar.cmpi .eq v29 c2_i32
  let c2_i32_18 : BitVec 32 := 2#32
  let c0_i32_19 : BitVec 32 := 0#32
  let v37 : BitVec 32 := Scalar.select v36 c2_i32_18 c0_i32_19
  let v38 : BitVec 32 := Scalar.addi v35 v37
  let c3_i32 : BitVec 32 := 3#32
  let v39 : BitVec 1 := Scalar.cmpi .eq v29 c3_i32
  let c7_i32 : BitVec 32 := 7#32
  let c0_i32_20 : BitVec 32 := 0#32
  let v40 : BitVec 32 := Scalar.select v39 c7_i32 c0_i32_20
  let v41 : BitVec 32 := Scalar.addi v38 v40
  let c4_i32 : BitVec 32 := 4#32
  let v42 : BitVec 1 := Scalar.cmpi .eq v29 c4_i32
  let c6_i32 : BitVec 32 := 6#32
  let c0_i32_21 : BitVec 32 := 0#32
  let v43 : BitVec 32 := Scalar.select v42 c6_i32 c0_i32_21
  let v44 : BitVec 32 := Scalar.addi v41 v43
  let c5_i32 : BitVec 32 := 5#32
  let v45 : BitVec 1 := Scalar.cmpi .eq v29 c5_i32
  let c3_i32_22 : BitVec 32 := 3#32
  let c0_i32_23 : BitVec 32 := 0#32
  let v46 : BitVec 32 := Scalar.select v45 c3_i32_22 c0_i32_23
  let v47 : BitVec 32 := Scalar.addi v44 v46
  let c6_i32_24 : BitVec 32 := 6#32
  let v48 : BitVec 1 := Scalar.cmpi .eq v29 c6_i32_24
  let c4_i32_25 : BitVec 32 := 4#32
  let c0_i32_26 : BitVec 32 := 0#32
  let v49 : BitVec 32 := Scalar.select v48 c4_i32_25 c0_i32_26
  let v50 : BitVec 32 := Scalar.addi v47 v49
  let c7_i32_27 : BitVec 32 := 7#32
  let v51 : BitVec 1 := Scalar.cmpi .eq v29 c7_i32_27
  let c5_i32_28 : BitVec 32 := 5#32
  let c0_i32_29 : BitVec 32 := 0#32
  let v52 : BitVec 32 := Scalar.select v51 c5_i32_28 c0_i32_29
  let v53 : BitVec 32 := Scalar.addi v50 v52
  let c1_i32_1557 : BitVec 32 := 1#32
  let v1739 : BitVec 32 := Scalar.subi v53 c1_i32_1557
  let c8_i32_1558 : BitVec 32 := 8#32
  let c0_i32_1559 : BitVec 32 := 0#32
  let v1740 : BitVec 1 := Scalar.cmpi .eq c8_i32_1558 c0_i32_1559
  let c1_i32_1560 : BitVec 32 := 1#32
  let v1741 : BitVec 32 := Scalar.select v1740 c1_i32_1560 c8_i32_1558
  let v1742 : BitVec 32 := Scalar.remsi v1739 v1741
  let c0_i32_1562 : BitVec 32 := 0#32
  let v1744 : BitVec 1 := Scalar.cmpi .slt v1742 c0_i32_1562
  let c0_i32_1563 : BitVec 32 := 0#32
  let v1745 : BitVec 1 := Scalar.cmpi .slt v1741 c0_i32_1563
  let v1746 : BitVec 1 := Scalar.xori v1744 v1745
  let c0_i32_1561 : BitVec 32 := 0#32
  let v1743 : BitVec 1 := Scalar.cmpi .ne v1742 c0_i32_1561
  let v1747 : BitVec 1 := Scalar.andi v1746 v1743
  let v1748 : BitVec 32 := Scalar.addi v1742 v1741
  let v1749 : BitVec 32 := Scalar.select v1747 v1748 v1742
  let c192_i32_1564 : BitVec 32 := 192#32
  let v1750 : BitVec 32 := Scalar.muli v1749 c192_i32_1564
  let c96_i32_1565 : BitVec 32 := 96#32
  let v1751 : BitVec 32 := Scalar.addi v1750 c96_i32_1565
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1886 : BitVec 32 := 1#32
  let v2117 : BitVec 32 := Scalar.subi v19 c1_i32_1886
  let c4_i32_1887 : BitVec 32 := 4#32
  let c0_i32_1888 : BitVec 32 := 0#32
  let v2118 : BitVec 1 := Scalar.cmpi .eq c4_i32_1887 c0_i32_1888
  let c1_i32_1889 : BitVec 32 := 1#32
  let v2119 : BitVec 32 := Scalar.select v2118 c1_i32_1889 c4_i32_1887
  let v2120 : BitVec 32 := Scalar.remsi v2117 v2119
  let c0_i32_1891 : BitVec 32 := 0#32
  let v2122 : BitVec 1 := Scalar.cmpi .slt v2120 c0_i32_1891
  let c0_i32_1892 : BitVec 32 := 0#32
  let v2123 : BitVec 1 := Scalar.cmpi .slt v2119 c0_i32_1892
  let v2124 : BitVec 1 := Scalar.xori v2122 v2123
  let c0_i32_1890 : BitVec 32 := 0#32
  let v2121 : BitVec 1 := Scalar.cmpi .ne v2120 c0_i32_1890
  let v2125 : BitVec 1 := Scalar.andi v2124 v2121
  let v2126 : BitVec 32 := Scalar.addi v2120 v2119
  let v2127 : BitVec 32 := Scalar.select v2125 v2126 v2120
  let c24_i32_1893 : BitVec 32 := 24#32
  let v2128 : BitVec 32 := Scalar.muli v2127 c24_i32_1893
  let v2129 : BitVec 32 := Scalar.addi v1751 v2128
  let v2139 : Index := Scalar.indexCast v2129
  let c0_1900 : Index := 0#32
  ![v2139.toNat, 0]
def k0_off17 (d0 : Dev nD) (c0_i32_1907 : BitVec 32) : Fin 2 → Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32_12 : BitVec 32 := 0#32
  let c0_i32_13 : BitVec 32 := 0#32
  let v31 : BitVec 32 := Scalar.select v30 c0_i32_12 c0_i32_13
  let v32 : BitVec 32 := Scalar.addi c0_i32_14 v31
  let c1_i32_15 : BitVec 32 := 1#32
  let v33 : BitVec 1 := Scalar.cmpi .eq v29 c1_i32_15
  let c1_i32_16 : BitVec 32 := 1#32
  let c0_i32_17 : BitVec 32 := 0#32
  let v34 : BitVec 32 := Scalar.select v33 c1_i32_16 c0_i32_17
  let v35 : BitVec 32 := Scalar.addi v32 v34
  let c2_i32 : BitVec 32 := 2#32
  let v36 : BitVec 1 := Scalar.cmpi .eq v29 c2_i32
  let c2_i32_18 : BitVec 32 := 2#32
  let c0_i32_19 : BitVec 32 := 0#32
  let v37 : BitVec 32 := Scalar.select v36 c2_i32_18 c0_i32_19
  let v38 : BitVec 32 := Scalar.addi v35 v37
  let c3_i32 : BitVec 32 := 3#32
  let v39 : BitVec 1 := Scalar.cmpi .eq v29 c3_i32
  let c7_i32 : BitVec 32 := 7#32
  let c0_i32_20 : BitVec 32 := 0#32
  let v40 : BitVec 32 := Scalar.select v39 c7_i32 c0_i32_20
  let v41 : BitVec 32 := Scalar.addi v38 v40
  let c4_i32 : BitVec 32 := 4#32
  let v42 : BitVec 1 := Scalar.cmpi .eq v29 c4_i32
  let c6_i32 : BitVec 32 := 6#32
  let c0_i32_21 : BitVec 32 := 0#32
  let v43 : BitVec 32 := Scalar.select v42 c6_i32 c0_i32_21
  let v44 : BitVec 32 := Scalar.addi v41 v43
  let c5_i32 : BitVec 32 := 5#32
  let v45 : BitVec 1 := Scalar.cmpi .eq v29 c5_i32
  let c3_i32_22 : BitVec 32 := 3#32
  let c0_i32_23 : BitVec 32 := 0#32
  let v46 : BitVec 32 := Scalar.select v45 c3_i32_22 c0_i32_23
  let v47 : BitVec 32 := Scalar.addi v44 v46
  let c6_i32_24 : BitVec 32 := 6#32
  let v48 : BitVec 1 := Scalar.cmpi .eq v29 c6_i32_24
  let c4_i32_25 : BitVec 32 := 4#32
  let c0_i32_26 : BitVec 32 := 0#32
  let v49 : BitVec 32 := Scalar.select v48 c4_i32_25 c0_i32_26
  let v50 : BitVec 32 := Scalar.addi v47 v49
  let c7_i32_27 : BitVec 32 := 7#32
  let v51 : BitVec 1 := Scalar.cmpi .eq v29 c7_i32_27
  let c5_i32_28 : BitVec 32 := 5#32
  let c0_i32_29 : BitVec 32 := 0#32
  let v52 : BitVec 32 := Scalar.select v51 c5_i32_28 c0_i32_29
  let v53 : BitVec 32 := Scalar.addi v50 v52
  let c1_i32_1549 : BitVec 32 := 1#32
  let v1727 : BitVec 32 := Scalar.addi v53 c1_i32_1549
  let c8_i32_1550 : BitVec 32 := 8#32
  let c0_i32_1551 : BitVec 32 := 0#32
  let v1728 : BitVec 1 := Scalar.cmpi .eq c8_i32_1550 c0_i32_1551
  let c1_i32_1552 : BitVec 32 := 1#32
  let v1729 : BitVec 32 := Scalar.select v1728 c1_i32_1552 c8_i32_1550
  let v1730 : BitVec 32 := Scalar.remsi v1727 v1729
  let c0_i32_1554 : BitVec 32 := 0#32
  let v1732 : BitVec 1 := Scalar.cmpi .slt v1730 c0_i32_1554
  let c0_i32_1555 : BitVec 32 := 0#32
  let v1733 : BitVec 1 := Scalar.cmpi .slt v1729 c0_i32_1555
  let v1734 : BitVec 1 := Scalar.xori v1732 v1733
  let c0_i32_1553 : BitVec 32 := 0#32
  let v1731 : BitVec 1 := Scalar.cmpi .ne v1730 c0_i32_1553
  let v1735 : BitVec 1 := Scalar.andi v1734 v1731
  let v1736 : BitVec 32 := Scalar.addi v1730 v1729
  let v1737 : BitVec 32 := Scalar.select v1735 v1736 v1730
  let c192_i32_1556 : BitVec 32 := 192#32
  let v1738 : BitVec 32 := Scalar.muli v1737 c192_i32_1556
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1906 : BitVec 32 := 1#32
  let v2148 : BitVec 32 := Scalar.addi v19 c1_i32_1906
  let v2149 : BitVec 32 := Scalar.subi v2148 c0_i32_1907
  let c4_i32_1908 : BitVec 32 := 4#32
  let c0_i32_1909 : BitVec 32 := 0#32
  let v2150 : BitVec 1 := Scalar.cmpi .eq c4_i32_1908 c0_i32_1909
  let c1_i32_1910 : BitVec 32 := 1#32
  let v2151 : BitVec 32 := Scalar.select v2150 c1_i32_1910 c4_i32_1908
  let v2152 : BitVec 32 := Scalar.remsi v2149 v2151
  let c0_i32_1912 : BitVec 32 := 0#32
  let v2154 : BitVec 1 := Scalar.cmpi .slt v2152 c0_i32_1912
  let c0_i32_1913 : BitVec 32 := 0#32
  let v2155 : BitVec 1 := Scalar.cmpi .slt v2151 c0_i32_1913
  let v2156 : BitVec 1 := Scalar.xori v2154 v2155
  let c0_i32_1911 : BitVec 32 := 0#32
  let v2153 : BitVec 1 := Scalar.cmpi .ne v2152 c0_i32_1911
  let v2157 : BitVec 1 := Scalar.andi v2156 v2153
  let v2158 : BitVec 32 := Scalar.addi v2152 v2151
  let v2159 : BitVec 32 := Scalar.select v2157 v2158 v2152
  let c24_i32_1922 : BitVec 32 := 24#32
  let v2172 : BitVec 32 := Scalar.muli v2159 c24_i32_1922
  let v2173 : BitVec 32 := Scalar.addi v1738 v2172
  let c0_i32_1928 : BitVec 32 := 0#32
  ![v2173.toNat, 0]
def k0_dev39 (d0 : Dev nD) : Nat :=
  let c0_i32_1927 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_82 : BitVec 32 := 1#32
  let v106 : BitVec 32 := Scalar.addi v19 c1_i32_82
  let c4_i32_83 : BitVec 32 := 4#32
  let c0_i32_84 : BitVec 32 := 0#32
  let v107 : BitVec 1 := Scalar.cmpi .eq c4_i32_83 c0_i32_84
  let c1_i32_85 : BitVec 32 := 1#32
  let v108 : BitVec 32 := Scalar.select v107 c1_i32_85 c4_i32_83
  let v109 : BitVec 32 := Scalar.remsi v106 v108
  let c0_i32_87 : BitVec 32 := 0#32
  let v111 : BitVec 1 := Scalar.cmpi .slt v109 c0_i32_87
  let c0_i32_88 : BitVec 32 := 0#32
  let v112 : BitVec 1 := Scalar.cmpi .slt v108 c0_i32_88
  let v113 : BitVec 1 := Scalar.xori v111 v112
  let c0_i32_86 : BitVec 32 := 0#32
  let v110 : BitVec 1 := Scalar.cmpi .ne v109 c0_i32_86
  let v114 : BitVec 1 := Scalar.andi v113 v110
  let v115 : BitVec 32 := Scalar.addi v109 v108
  let v116 : BitVec 32 := Scalar.select v114 v115 v109
  let c8_i32_89 : BitVec 32 := 8#32
  let v117 : BitVec 32 := Scalar.muli v116 c8_i32_89
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v118 : BitVec 32 := Scalar.addi v117 v29
  let c1_i32_1926 : BitVec 32 := 1#32
  let v2176 : BitVec 32 := Scalar.muli v118 c1_i32_1926
  let v2177 : BitVec 32 := Scalar.addi c0_i32_1927 v2176
  v2177.toNat
def k0_off18 (d0 : Dev nD) (c0_i32_1915 : BitVec 32) : Fin 2 → Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32_12 : BitVec 32 := 0#32
  let c0_i32_13 : BitVec 32 := 0#32
  let v31 : BitVec 32 := Scalar.select v30 c0_i32_12 c0_i32_13
  let v32 : BitVec 32 := Scalar.addi c0_i32_14 v31
  let c1_i32_15 : BitVec 32 := 1#32
  let v33 : BitVec 1 := Scalar.cmpi .eq v29 c1_i32_15
  let c1_i32_16 : BitVec 32 := 1#32
  let c0_i32_17 : BitVec 32 := 0#32
  let v34 : BitVec 32 := Scalar.select v33 c1_i32_16 c0_i32_17
  let v35 : BitVec 32 := Scalar.addi v32 v34
  let c2_i32 : BitVec 32 := 2#32
  let v36 : BitVec 1 := Scalar.cmpi .eq v29 c2_i32
  let c2_i32_18 : BitVec 32 := 2#32
  let c0_i32_19 : BitVec 32 := 0#32
  let v37 : BitVec 32 := Scalar.select v36 c2_i32_18 c0_i32_19
  let v38 : BitVec 32 := Scalar.addi v35 v37
  let c3_i32 : BitVec 32 := 3#32
  let v39 : BitVec 1 := Scalar.cmpi .eq v29 c3_i32
  let c7_i32 : BitVec 32 := 7#32
  let c0_i32_20 : BitVec 32 := 0#32
  let v40 : BitVec 32 := Scalar.select v39 c7_i32 c0_i32_20
  let v41 : BitVec 32 := Scalar.addi v38 v40
  let c4_i32 : BitVec 32 := 4#32
  let v42 : BitVec 1 := Scalar.cmpi .eq v29 c4_i32
  let c6_i32 : BitVec 32 := 6#32
  let c0_i32_21 : BitVec 32 := 0#32
  let v43 : BitVec 32 := Scalar.select v42 c6_i32 c0_i32_21
  let v44 : BitVec 32 := Scalar.addi v41 v43
  let c5_i32 : BitVec 32 := 5#32
  let v45 : BitVec 1 := Scalar.cmpi .eq v29 c5_i32
  let c3_i32_22 : BitVec 32 := 3#32
  let c0_i32_23 : BitVec 32 := 0#32
  let v46 : BitVec 32 := Scalar.select v45 c3_i32_22 c0_i32_23
  let v47 : BitVec 32 := Scalar.addi v44 v46
  let c6_i32_24 : BitVec 32 := 6#32
  let v48 : BitVec 1 := Scalar.cmpi .eq v29 c6_i32_24
  let c4_i32_25 : BitVec 32 := 4#32
  let c0_i32_26 : BitVec 32 := 0#32
  let v49 : BitVec 32 := Scalar.select v48 c4_i32_25 c0_i32_26
  let v50 : BitVec 32 := Scalar.addi v47 v49
  let c7_i32_27 : BitVec 32 := 7#32
  let v51 : BitVec 1 := Scalar.cmpi .eq v29 c7_i32_27
  let c5_i32_28 : BitVec 32 := 5#32
  let c0_i32_29 : BitVec 32 := 0#32
  let v52 : BitVec 32 := Scalar.select v51 c5_i32_28 c0_i32_29
  let v53 : BitVec 32 := Scalar.addi v50 v52
  let c1_i32_1557 : BitVec 32 := 1#32
  let v1739 : BitVec 32 := Scalar.subi v53 c1_i32_1557
  let c8_i32_1558 : BitVec 32 := 8#32
  let c0_i32_1559 : BitVec 32 := 0#32
  let v1740 : BitVec 1 := Scalar.cmpi .eq c8_i32_1558 c0_i32_1559
  let c1_i32_1560 : BitVec 32 := 1#32
  let v1741 : BitVec 32 := Scalar.select v1740 c1_i32_1560 c8_i32_1558
  let v1742 : BitVec 32 := Scalar.remsi v1739 v1741
  let c0_i32_1562 : BitVec 32 := 0#32
  let v1744 : BitVec 1 := Scalar.cmpi .slt v1742 c0_i32_1562
  let c0_i32_1563 : BitVec 32 := 0#32
  let v1745 : BitVec 1 := Scalar.cmpi .slt v1741 c0_i32_1563
  let v1746 : BitVec 1 := Scalar.xori v1744 v1745
  let c0_i32_1561 : BitVec 32 := 0#32
  let v1743 : BitVec 1 := Scalar.cmpi .ne v1742 c0_i32_1561
  let v1747 : BitVec 1 := Scalar.andi v1746 v1743
  let v1748 : BitVec 32 := Scalar.addi v1742 v1741
  let v1749 : BitVec 32 := Scalar.select v1747 v1748 v1742
  let c192_i32_1564 : BitVec 32 := 192#32
  let v1750 : BitVec 32 := Scalar.muli v1749 c192_i32_1564
  let c96_i32_1565 : BitVec 32 := 96#32
  let v1751 : BitVec 32 := Scalar.addi v1750 c96_i32_1565
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1914 : BitVec 32 := 1#32
  let v2160 : BitVec 32 := Scalar.subi v19 c1_i32_1914
  let v2161 : BitVec 32 := Scalar.addi v2160 c0_i32_1915
  let c4_i32_1916 : BitVec 32 := 4#32
  let c0_i32_1917 : BitVec 32 := 0#32
  let v2162 : BitVec 1 := Scalar.cmpi .eq c4_i32_1916 c0_i32_1917
  let c1_i32_1918 : BitVec 32 := 1#32
  let v2163 : BitVec 32 := Scalar.select v2162 c1_i32_1918 c4_i32_1916
  let v2164 : BitVec 32 := Scalar.remsi v2161 v2163
  let c0_i32_1920 : BitVec 32 := 0#32
  let v2166 : BitVec 1 := Scalar.cmpi .slt v2164 c0_i32_1920
  let c0_i32_1921 : BitVec 32 := 0#32
  let v2167 : BitVec 1 := Scalar.cmpi .slt v2163 c0_i32_1921
  let v2168 : BitVec 1 := Scalar.xori v2166 v2167
  let c0_i32_1919 : BitVec 32 := 0#32
  let v2165 : BitVec 1 := Scalar.cmpi .ne v2164 c0_i32_1919
  let v2169 : BitVec 1 := Scalar.andi v2168 v2165
  let v2170 : BitVec 32 := Scalar.addi v2164 v2163
  let v2171 : BitVec 32 := Scalar.select v2169 v2170 v2164
  let c24_i32_1923 : BitVec 32 := 24#32
  let v2174 : BitVec 32 := Scalar.muli v2171 c24_i32_1923
  let v2175 : BitVec 32 := Scalar.addi v1751 v2174
  let c0_i32_1934 : BitVec 32 := 0#32
  ![v2175.toNat, 0]
def k0_dev40 (d0 : Dev nD) : Nat :=
  let c0_i32_1933 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_90 : BitVec 32 := 1#32
  let v119 : BitVec 32 := Scalar.subi v19 c1_i32_90
  let c4_i32_91 : BitVec 32 := 4#32
  let c0_i32_92 : BitVec 32 := 0#32
  let v120 : BitVec 1 := Scalar.cmpi .eq c4_i32_91 c0_i32_92
  let c1_i32_93 : BitVec 32 := 1#32
  let v121 : BitVec 32 := Scalar.select v120 c1_i32_93 c4_i32_91
  let v122 : BitVec 32 := Scalar.remsi v119 v121
  let c0_i32_95 : BitVec 32 := 0#32
  let v124 : BitVec 1 := Scalar.cmpi .slt v122 c0_i32_95
  let c0_i32_96 : BitVec 32 := 0#32
  let v125 : BitVec 1 := Scalar.cmpi .slt v121 c0_i32_96
  let v126 : BitVec 1 := Scalar.xori v124 v125
  let c0_i32_94 : BitVec 32 := 0#32
  let v123 : BitVec 1 := Scalar.cmpi .ne v122 c0_i32_94
  let v127 : BitVec 1 := Scalar.andi v126 v123
  let v128 : BitVec 32 := Scalar.addi v122 v121
  let v129 : BitVec 32 := Scalar.select v127 v128 v122
  let c8_i32_97 : BitVec 32 := 8#32
  let v130 : BitVec 32 := Scalar.muli v129 c8_i32_97
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v131 : BitVec 32 := Scalar.addi v130 v29
  let c1_i32_1932 : BitVec 32 := 1#32
  let v2184 : BitVec 32 := Scalar.muli v131 c1_i32_1932
  let v2185 : BitVec 32 := Scalar.addi c0_i32_1933 v2184
  v2185.toNat
def k0_dev41 (d0 : Dev nD) : Nat :=
  let c0_i32_1979 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_82 : BitVec 32 := 1#32
  let v106 : BitVec 32 := Scalar.addi v19 c1_i32_82
  let c4_i32_83 : BitVec 32 := 4#32
  let c0_i32_84 : BitVec 32 := 0#32
  let v107 : BitVec 1 := Scalar.cmpi .eq c4_i32_83 c0_i32_84
  let c1_i32_85 : BitVec 32 := 1#32
  let v108 : BitVec 32 := Scalar.select v107 c1_i32_85 c4_i32_83
  let v109 : BitVec 32 := Scalar.remsi v106 v108
  let c0_i32_87 : BitVec 32 := 0#32
  let v111 : BitVec 1 := Scalar.cmpi .slt v109 c0_i32_87
  let c0_i32_88 : BitVec 32 := 0#32
  let v112 : BitVec 1 := Scalar.cmpi .slt v108 c0_i32_88
  let v113 : BitVec 1 := Scalar.xori v111 v112
  let c0_i32_86 : BitVec 32 := 0#32
  let v110 : BitVec 1 := Scalar.cmpi .ne v109 c0_i32_86
  let v114 : BitVec 1 := Scalar.andi v113 v110
  let v115 : BitVec 32 := Scalar.addi v109 v108
  let v116 : BitVec 32 := Scalar.select v114 v115 v109
  let c8_i32_89 : BitVec 32 := 8#32
  let v117 : BitVec 32 := Scalar.muli v116 c8_i32_89
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v118 : BitVec 32 := Scalar.addi v117 v29
  let c1_i32_1978 : BitVec 32 := 1#32
  let v2240 : BitVec 32 := Scalar.muli v118 c1_i32_1978
  let v2241 : BitVec 32 := Scalar.addi c0_i32_1979 v2240
  v2241.toNat
def k0_dev42 (d0 : Dev nD) : Nat :=
  let c0_i32_1985 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_90 : BitVec 32 := 1#32
  let v119 : BitVec 32 := Scalar.subi v19 c1_i32_90
  let c4_i32_91 : BitVec 32 := 4#32
  let c0_i32_92 : BitVec 32 := 0#32
  let v120 : BitVec 1 := Scalar.cmpi .eq c4_i32_91 c0_i32_92
  let c1_i32_93 : BitVec 32 := 1#32
  let v121 : BitVec 32 := Scalar.select v120 c1_i32_93 c4_i32_91
  let v122 : BitVec 32 := Scalar.remsi v119 v121
  let c0_i32_95 : BitVec 32 := 0#32
  let v124 : BitVec 1 := Scalar.cmpi .slt v122 c0_i32_95
  let c0_i32_96 : BitVec 32 := 0#32
  let v125 : BitVec 1 := Scalar.cmpi .slt v121 c0_i32_96
  let v126 : BitVec 1 := Scalar.xori v124 v125
  let c0_i32_94 : BitVec 32 := 0#32
  let v123 : BitVec 1 := Scalar.cmpi .ne v122 c0_i32_94
  let v127 : BitVec 1 := Scalar.andi v126 v123
  let v128 : BitVec 32 := Scalar.addi v122 v121
  let v129 : BitVec 32 := Scalar.select v127 v128 v122
  let c8_i32_97 : BitVec 32 := 8#32
  let v130 : BitVec 32 := Scalar.muli v129 c8_i32_97
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v131 : BitVec 32 := Scalar.addi v130 v29
  let c1_i32_1984 : BitVec 32 := 1#32
  let v2248 : BitVec 32 := Scalar.muli v131 c1_i32_1984
  let v2249 : BitVec 32 := Scalar.addi c0_i32_1985 v2248
  v2249.toNat
def k0_dev43 (d0 : Dev nD) : Nat :=
  let c0_i32_2031 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_82 : BitVec 32 := 1#32
  let v106 : BitVec 32 := Scalar.addi v19 c1_i32_82
  let c4_i32_83 : BitVec 32 := 4#32
  let c0_i32_84 : BitVec 32 := 0#32
  let v107 : BitVec 1 := Scalar.cmpi .eq c4_i32_83 c0_i32_84
  let c1_i32_85 : BitVec 32 := 1#32
  let v108 : BitVec 32 := Scalar.select v107 c1_i32_85 c4_i32_83
  let v109 : BitVec 32 := Scalar.remsi v106 v108
  let c0_i32_87 : BitVec 32 := 0#32
  let v111 : BitVec 1 := Scalar.cmpi .slt v109 c0_i32_87
  let c0_i32_88 : BitVec 32 := 0#32
  let v112 : BitVec 1 := Scalar.cmpi .slt v108 c0_i32_88
  let v113 : BitVec 1 := Scalar.xori v111 v112
  let c0_i32_86 : BitVec 32 := 0#32
  let v110 : BitVec 1 := Scalar.cmpi .ne v109 c0_i32_86
  let v114 : BitVec 1 := Scalar.andi v113 v110
  let v115 : BitVec 32 := Scalar.addi v109 v108
  let v116 : BitVec 32 := Scalar.select v114 v115 v109
  let c8_i32_89 : BitVec 32 := 8#32
  let v117 : BitVec 32 := Scalar.muli v116 c8_i32_89
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v118 : BitVec 32 := Scalar.addi v117 v29
  let c1_i32_2030 : BitVec 32 := 1#32
  let v2304 : BitVec 32 := Scalar.muli v118 c1_i32_2030
  let v2305 : BitVec 32 := Scalar.addi c0_i32_2031 v2304
  v2305.toNat
def k0_dev44 (d0 : Dev nD) : Nat :=
  let c0_i32_2037 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_90 : BitVec 32 := 1#32
  let v119 : BitVec 32 := Scalar.subi v19 c1_i32_90
  let c4_i32_91 : BitVec 32 := 4#32
  let c0_i32_92 : BitVec 32 := 0#32
  let v120 : BitVec 1 := Scalar.cmpi .eq c4_i32_91 c0_i32_92
  let c1_i32_93 : BitVec 32 := 1#32
  let v121 : BitVec 32 := Scalar.select v120 c1_i32_93 c4_i32_91
  let v122 : BitVec 32 := Scalar.remsi v119 v121
  let c0_i32_95 : BitVec 32 := 0#32
  let v124 : BitVec 1 := Scalar.cmpi .slt v122 c0_i32_95
  let c0_i32_96 : BitVec 32 := 0#32
  let v125 : BitVec 1 := Scalar.cmpi .slt v121 c0_i32_96
  let v126 : BitVec 1 := Scalar.xori v124 v125
  let c0_i32_94 : BitVec 32 := 0#32
  let v123 : BitVec 1 := Scalar.cmpi .ne v122 c0_i32_94
  let v127 : BitVec 1 := Scalar.andi v126 v123
  let v128 : BitVec 32 := Scalar.addi v122 v121
  let v129 : BitVec 32 := Scalar.select v127 v128 v122
  let c8_i32_97 : BitVec 32 := 8#32
  let v130 : BitVec 32 := Scalar.muli v129 c8_i32_97
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v131 : BitVec 32 := Scalar.addi v130 v29
  let c1_i32_2036 : BitVec 32 := 1#32
  let v2312 : BitVec 32 := Scalar.muli v131 c1_i32_2036
  let v2313 : BitVec 32 := Scalar.addi c0_i32_2037 v2312
  v2313.toNat
def k0_off19 (d0 : Dev nD) (c1_i32_2062 : BitVec 32) (c0_i32_2063 : BitVec 32) (c0_i32_2071 : BitVec 32) : Fin 2 → Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32_12 : BitVec 32 := 0#32
  let c0_i32_13 : BitVec 32 := 0#32
  let v31 : BitVec 32 := Scalar.select v30 c0_i32_12 c0_i32_13
  let v32 : BitVec 32 := Scalar.addi c0_i32_14 v31
  let c1_i32_15 : BitVec 32 := 1#32
  let v33 : BitVec 1 := Scalar.cmpi .eq v29 c1_i32_15
  let c1_i32_16 : BitVec 32 := 1#32
  let c0_i32_17 : BitVec 32 := 0#32
  let v34 : BitVec 32 := Scalar.select v33 c1_i32_16 c0_i32_17
  let v35 : BitVec 32 := Scalar.addi v32 v34
  let c2_i32 : BitVec 32 := 2#32
  let v36 : BitVec 1 := Scalar.cmpi .eq v29 c2_i32
  let c2_i32_18 : BitVec 32 := 2#32
  let c0_i32_19 : BitVec 32 := 0#32
  let v37 : BitVec 32 := Scalar.select v36 c2_i32_18 c0_i32_19
  let v38 : BitVec 32 := Scalar.addi v35 v37
  let c3_i32 : BitVec 32 := 3#32
  let v39 : BitVec 1 := Scalar.cmpi .eq v29 c3_i32
  let c7_i32 : BitVec 32 := 7#32
  let c0_i32_20 : BitVec 32 := 0#32
  let v40 : BitVec 32 := Scalar.select v39 c7_i32 c0_i32_20
  let v41 : BitVec 32 := Scalar.addi v38 v40
  let c4_i32 : BitVec 32 := 4#32
  let v42 : BitVec 1 := Scalar.cmpi .eq v29 c4_i32
  let c6_i32 : BitVec 32 := 6#32
  let c0_i32_21 : BitVec 32 := 0#32
  let v43 : BitVec 32 := Scalar.select v42 c6_i32 c0_i32_21
  let v44 : BitVec 32 := Scalar.addi v41 v43
  let c5_i32 : BitVec 32 := 5#32
  let v45 : BitVec 1 := Scalar.cmpi .eq v29 c5_i32
  let c3_i32_22 : BitVec 32 := 3#32
  let c0_i32_23 : BitVec 32 := 0#32
  let v46 : BitVec 32 := Scalar.select v45 c3_i32_22 c0_i32_23
  let v47 : BitVec 32 := Scalar.addi v44 v46
  let c6_i32_24 : BitVec 32 := 6#32
  let v48 : BitVec 1 := Scalar.cmpi .eq v29 c6_i32_24
  let c4_i32_25 : BitVec 32 := 4#32
  let c0_i32_26 : BitVec 32 := 0#32
  let v49 : BitVec 32 := Scalar.select v48 c4_i32_25 c0_i32_26
  let v50 : BitVec 32 := Scalar.addi v47 v49
  let c7_i32_27 : BitVec 32 := 7#32
  let v51 : BitVec 1 := Scalar.cmpi .eq v29 c7_i32_27
  let c5_i32_28 : BitVec 32 := 5#32
  let c0_i32_29 : BitVec 32 := 0#32
  let v52 : BitVec 32 := Scalar.select v51 c5_i32_28 c0_i32_29
  let v53 : BitVec 32 := Scalar.addi v50 v52
  let v2340 : BitVec 32 := Scalar.addi v53 c1_i32_2062
  let v2341 : BitVec 32 := Scalar.subi v2340 c0_i32_2063
  let c8_i32_2064 : BitVec 32 := 8#32
  let c0_i32_2065 : BitVec 32 := 0#32
  let v2342 : BitVec 1 := Scalar.cmpi .eq c8_i32_2064 c0_i32_2065
  let c1_i32_2066 : BitVec 32 := 1#32
  let v2343 : BitVec 32 := Scalar.select v2342 c1_i32_2066 c8_i32_2064
  let v2344 : BitVec 32 := Scalar.remsi v2341 v2343
  let c0_i32_2068 : BitVec 32 := 0#32
  let v2346 : BitVec 1 := Scalar.cmpi .slt v2344 c0_i32_2068
  let c0_i32_2069 : BitVec 32 := 0#32
  let v2347 : BitVec 1 := Scalar.cmpi .slt v2343 c0_i32_2069
  let v2348 : BitVec 1 := Scalar.xori v2346 v2347
  let c0_i32_2067 : BitVec 32 := 0#32
  let v2345 : BitVec 1 := Scalar.cmpi .ne v2344 c0_i32_2067
  let v2349 : BitVec 1 := Scalar.andi v2348 v2345
  let v2350 : BitVec 32 := Scalar.addi v2344 v2343
  let v2351 : BitVec 32 := Scalar.select v2349 v2350 v2344
  let c192_i32_2070 : BitVec 32 := 192#32
  let v2352 : BitVec 32 := Scalar.muli v2351 c192_i32_2070
  let v2353 : BitVec 32 := Scalar.addi v2352 c0_i32_2071
  let c0_i32_2076 : BitVec 32 := 0#32
  ![v2353.toNat, 0]
def k0_off19_at (r : Fin 28) : BitVec 32 × BitVec 32 × BitVec 32 :=
  if r.val < 14 then
    if r.val < 7 then
      if r.val < 3 then
        if r.val < 1 then
          (1#32, 0#32, 0#32)
        else
          if r.val < 2 then
            (1#32, 0#32, 48#32)
          else
            (4294967295#32, 0#32, 96#32)
      else
        if r.val < 5 then
          if r.val < 4 then
            (4294967295#32, 0#32, 144#32)
          else
            (1#32, 1#32, 0#32)
        else
          if r.val < 6 then
            (1#32, 1#32, 48#32)
          else
            (4294967295#32, 4294967295#32, 96#32)
    else
      if r.val < 10 then
        if r.val < 8 then
          (4294967295#32, 4294967295#32, 144#32)
        else
          if r.val < 9 then
            (1#32, 2#32, 0#32)
          else
            (1#32, 2#32, 48#32)
      else
        if r.val < 12 then
          if r.val < 11 then
            (4294967295#32, 4294967294#32, 96#32)
          else
            (4294967295#32, 4294967294#32, 144#32)
        else
          if r.val < 13 then
            (1#32, 3#32, 0#32)
          else
            (1#32, 3#32, 48#32)
  else
    if r.val < 21 then
      if r.val < 17 then
        if r.val < 15 then
          (4294967295#32, 4294967293#32, 96#32)
        else
          if r.val < 16 then
            (4294967295#32, 4294967293#32, 144#32)
          else
            (1#32, 4#32, 0#32)
      else
        if r.val < 19 then
          if r.val < 18 then
            (1#32, 4#32, 48#32)
          else
            (4294967295#32, 4294967292#32, 96#32)
        else
          if r.val < 20 then
            (4294967295#32, 4294967292#32, 144#32)
          else
            (1#32, 5#32, 0#32)
    else
      if r.val < 24 then
        if r.val < 22 then
          (1#32, 5#32, 48#32)
        else
          if r.val < 23 then
            (4294967295#32, 4294967291#32, 96#32)
          else
            (4294967295#32, 4294967291#32, 144#32)
      else
        if r.val < 26 then
          if r.val < 25 then
            (1#32, 6#32, 0#32)
          else
            (1#32, 6#32, 48#32)
        else
          if r.val < 27 then
            (4294967295#32, 4294967290#32, 96#32)
          else
            (4294967295#32, 4294967290#32, 144#32)
def k0_dev45 (d0 : Dev nD) : Nat :=
  let c0_i32_2075 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v54 : BitVec 32 := Scalar.muli v19 c8_i32_30
  let c0_i32_34 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_31 : BitVec 32 := 0#32
  let v55 : BitVec 1 := Scalar.cmpi .eq v29 c0_i32_31
  let c1_i32_32 : BitVec 32 := 1#32
  let c0_i32_33 : BitVec 32 := 0#32
  let v56 : BitVec 32 := Scalar.select v55 c1_i32_32 c0_i32_33
  let v57 : BitVec 32 := Scalar.addi c0_i32_34 v56
  let c1_i32_35 : BitVec 32 := 1#32
  let v58 : BitVec 1 := Scalar.cmpi .eq v29 c1_i32_35
  let c2_i32_36 : BitVec 32 := 2#32
  let c0_i32_37 : BitVec 32 := 0#32
  let v59 : BitVec 32 := Scalar.select v58 c2_i32_36 c0_i32_37
  let v60 : BitVec 32 := Scalar.addi v57 v59
  let c2_i32_38 : BitVec 32 := 2#32
  let v61 : BitVec 1 := Scalar.cmpi .eq v29 c2_i32_38
  let c5_i32_39 : BitVec 32 := 5#32
  let c0_i32_40 : BitVec 32 := 0#32
  let v62 : BitVec 32 := Scalar.select v61 c5_i32_39 c0_i32_40
  let v63 : BitVec 32 := Scalar.addi v60 v62
  let c3_i32_41 : BitVec 32 := 3#32
  let v64 : BitVec 1 := Scalar.cmpi .eq v29 c3_i32_41
  let c0_i32_42 : BitVec 32 := 0#32
  let c0_i32_43 : BitVec 32 := 0#32
  let v65 : BitVec 32 := Scalar.select v64 c0_i32_42 c0_i32_43
  let v66 : BitVec 32 := Scalar.addi v63 v65
  let c4_i32_44 : BitVec 32 := 4#32
  let v67 : BitVec 1 := Scalar.cmpi .eq v29 c4_i32_44
  let c3_i32_45 : BitVec 32 := 3#32
  let c0_i32_46 : BitVec 32 := 0#32
  let v68 : BitVec 32 := Scalar.select v67 c3_i32_45 c0_i32_46
  let v69 : BitVec 32 := Scalar.addi v66 v68
  let c5_i32_47 : BitVec 32 := 5#32
  let v70 : BitVec 1 := Scalar.cmpi .eq v29 c5_i32_47
  let c6_i32_48 : BitVec 32 := 6#32
  let c0_i32_49 : BitVec 32 := 0#32
  let v71 : BitVec 32 := Scalar.select v70 c6_i32_48 c0_i32_49
  let v72 : BitVec 32 := Scalar.addi v69 v71
  let c6_i32_50 : BitVec 32 := 6#32
  let v73 : BitVec 1 := Scalar.cmpi .eq v29 c6_i32_50
  let c7_i32_51 : BitVec 32 := 7#32
  let c0_i32_52 : BitVec 32 := 0#32
  let v74 : BitVec 32 := Scalar.select v73 c7_i32_51 c0_i32_52
  let v75 : BitVec 32 := Scalar.addi v72 v74
  let c7_i32_53 : BitVec 32 := 7#32
  let v76 : BitVec 1 := Scalar.cmpi .eq v29 c7_i32_53
  let c4_i32_54 : BitVec 32 := 4#32
  let c0_i32_55 : BitVec 32 := 0#32
  let v77 : BitVec 32 := Scalar.select v76 c4_i32_54 c0_i32_55
  let v78 : BitVec 32 := Scalar.addi v75 v77
  let v79 : BitVec 32 := Scalar.addi v54 v78
  let c1_i32_2074 : BitVec 32 := 1#32
  let v2354 : BitVec 32 := Scalar.muli v79 c1_i32_2074
  let v2355 : BitVec 32 := Scalar.addi c0_i32_2075 v2354
  v2355.toNat
def k0_dev46 (d0 : Dev nD) : Nat :=
  let c0_i32_2091 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v54 : BitVec 32 := Scalar.muli v19 c8_i32_30
  let c0_i32_34 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_31 : BitVec 32 := 0#32
  let v55 : BitVec 1 := Scalar.cmpi .eq v29 c0_i32_31
  let c1_i32_32 : BitVec 32 := 1#32
  let c0_i32_33 : BitVec 32 := 0#32
  let v56 : BitVec 32 := Scalar.select v55 c1_i32_32 c0_i32_33
  let v57 : BitVec 32 := Scalar.addi c0_i32_34 v56
  let c1_i32_35 : BitVec 32 := 1#32
  let v58 : BitVec 1 := Scalar.cmpi .eq v29 c1_i32_35
  let c2_i32_36 : BitVec 32 := 2#32
  let c0_i32_37 : BitVec 32 := 0#32
  let v59 : BitVec 32 := Scalar.select v58 c2_i32_36 c0_i32_37
  let v60 : BitVec 32 := Scalar.addi v57 v59
  let c2_i32_38 : BitVec 32 := 2#32
  let v61 : BitVec 1 := Scalar.cmpi .eq v29 c2_i32_38
  let c5_i32_39 : BitVec 32 := 5#32
  let c0_i32_40 : BitVec 32 := 0#32
  let v62 : BitVec 32 := Scalar.select v61 c5_i32_39 c0_i32_40
  let v63 : BitVec 32 := Scalar.addi v60 v62
  let c3_i32_41 : BitVec 32 := 3#32
  let v64 : BitVec 1 := Scalar.cmpi .eq v29 c3_i32_41
  let c0_i32_42 : BitVec 32 := 0#32
  let c0_i32_43 : BitVec 32 := 0#32
  let v65 : BitVec 32 := Scalar.select v64 c0_i32_42 c0_i32_43
  let v66 : BitVec 32 := Scalar.addi v63 v65
  let c4_i32_44 : BitVec 32 := 4#32
  let v67 : BitVec 1 := Scalar.cmpi .eq v29 c4_i32_44
  let c3_i32_45 : BitVec 32 := 3#32
  let c0_i32_46 : BitVec 32 := 0#32
  let v68 : BitVec 32 := Scalar.select v67 c3_i32_45 c0_i32_46
  let v69 : BitVec 32 := Scalar.addi v66 v68
  let c5_i32_47 : BitVec 32 := 5#32
  let v70 : BitVec 1 := Scalar.cmpi .eq v29 c5_i32_47
  let c6_i32_48 : BitVec 32 := 6#32
  let c0_i32_49 : BitVec 32 := 0#32
  let v71 : BitVec 32 := Scalar.select v70 c6_i32_48 c0_i32_49
  let v72 : BitVec 32 := Scalar.addi v69 v71
  let c6_i32_50 : BitVec 32 := 6#32
  let v73 : BitVec 1 := Scalar.cmpi .eq v29 c6_i32_50
  let c7_i32_51 : BitVec 32 := 7#32
  let c0_i32_52 : BitVec 32 := 0#32
  let v74 : BitVec 32 := Scalar.select v73 c7_i32_51 c0_i32_52
  let v75 : BitVec 32 := Scalar.addi v72 v74
  let c7_i32_53 : BitVec 32 := 7#32
  let v76 : BitVec 1 := Scalar.cmpi .eq v29 c7_i32_53
  let c4_i32_54 : BitVec 32 := 4#32
  let c0_i32_55 : BitVec 32 := 0#32
  let v77 : BitVec 32 := Scalar.select v76 c4_i32_54 c0_i32_55
  let v78 : BitVec 32 := Scalar.addi v75 v77
  let v79 : BitVec 32 := Scalar.addi v54 v78
  let c1_i32_2090 : BitVec 32 := 1#32
  let v2376 : BitVec 32 := Scalar.muli v79 c1_i32_2090
  let v2377 : BitVec 32 := Scalar.addi c0_i32_2091 v2376
  v2377.toNat
def k0_dev47 (d0 : Dev nD) : Nat :=
  let c0_i32_2107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v80 : BitVec 32 := Scalar.muli v19 c8_i32_56
  let c0_i32_60 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_57 : BitVec 32 := 0#32
  let v81 : BitVec 1 := Scalar.cmpi .eq v29 c0_i32_57
  let c3_i32_58 : BitVec 32 := 3#32
  let c0_i32_59 : BitVec 32 := 0#32
  let v82 : BitVec 32 := Scalar.select v81 c3_i32_58 c0_i32_59
  let v83 : BitVec 32 := Scalar.addi c0_i32_60 v82
  let c1_i32_61 : BitVec 32 := 1#32
  let v84 : BitVec 1 := Scalar.cmpi .eq v29 c1_i32_61
  let c0_i32_62 : BitVec 32 := 0#32
  let c0_i32_63 : BitVec 32 := 0#32
  let v85 : BitVec 32 := Scalar.select v84 c0_i32_62 c0_i32_63
  let v86 : BitVec 32 := Scalar.addi v83 v85
  let c2_i32_64 : BitVec 32 := 2#32
  let v87 : BitVec 1 := Scalar.cmpi .eq v29 c2_i32_64
  let c1_i32_65 : BitVec 32 := 1#32
  let c0_i32_66 : BitVec 32 := 0#32
  let v88 : BitVec 32 := Scalar.select v87 c1_i32_65 c0_i32_66
  let v89 : BitVec 32 := Scalar.addi v86 v88
  let c3_i32_67 : BitVec 32 := 3#32
  let v90 : BitVec 1 := Scalar.cmpi .eq v29 c3_i32_67
  let c4_i32_68 : BitVec 32 := 4#32
  let c0_i32_69 : BitVec 32 := 0#32
  let v91 : BitVec 32 := Scalar.select v90 c4_i32_68 c0_i32_69
  let v92 : BitVec 32 := Scalar.addi v89 v91
  let c4_i32_70 : BitVec 32 := 4#32
  let v93 : BitVec 1 := Scalar.cmpi .eq v29 c4_i32_70
  let c7_i32_71 : BitVec 32 := 7#32
  let c0_i32_72 : BitVec 32 := 0#32
  let v94 : BitVec 32 := Scalar.select v93 c7_i32_71 c0_i32_72
  let v95 : BitVec 32 := Scalar.addi v92 v94
  let c5_i32_73 : BitVec 32 := 5#32
  let v96 : BitVec 1 := Scalar.cmpi .eq v29 c5_i32_73
  let c2_i32_74 : BitVec 32 := 2#32
  let c0_i32_75 : BitVec 32 := 0#32
  let v97 : BitVec 32 := Scalar.select v96 c2_i32_74 c0_i32_75
  let v98 : BitVec 32 := Scalar.addi v95 v97
  let c6_i32_76 : BitVec 32 := 6#32
  let v99 : BitVec 1 := Scalar.cmpi .eq v29 c6_i32_76
  let c5_i32_77 : BitVec 32 := 5#32
  let c0_i32_78 : BitVec 32 := 0#32
  let v100 : BitVec 32 := Scalar.select v99 c5_i32_77 c0_i32_78
  let v101 : BitVec 32 := Scalar.addi v98 v100
  let c7_i32_79 : BitVec 32 := 7#32
  let v102 : BitVec 1 := Scalar.cmpi .eq v29 c7_i32_79
  let c6_i32_80 : BitVec 32 := 6#32
  let c0_i32_81 : BitVec 32 := 0#32
  let v103 : BitVec 32 := Scalar.select v102 c6_i32_80 c0_i32_81
  let v104 : BitVec 32 := Scalar.addi v101 v103
  let v105 : BitVec 32 := Scalar.addi v80 v104
  let c1_i32_2106 : BitVec 32 := 1#32
  let v2398 : BitVec 32 := Scalar.muli v105 c1_i32_2106
  let v2399 : BitVec 32 := Scalar.addi c0_i32_2107 v2398
  v2399.toNat
def k0_dev48 (d0 : Dev nD) : Nat :=
  let c0_i32_2123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v80 : BitVec 32 := Scalar.muli v19 c8_i32_56
  let c0_i32_60 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_57 : BitVec 32 := 0#32
  let v81 : BitVec 1 := Scalar.cmpi .eq v29 c0_i32_57
  let c3_i32_58 : BitVec 32 := 3#32
  let c0_i32_59 : BitVec 32 := 0#32
  let v82 : BitVec 32 := Scalar.select v81 c3_i32_58 c0_i32_59
  let v83 : BitVec 32 := Scalar.addi c0_i32_60 v82
  let c1_i32_61 : BitVec 32 := 1#32
  let v84 : BitVec 1 := Scalar.cmpi .eq v29 c1_i32_61
  let c0_i32_62 : BitVec 32 := 0#32
  let c0_i32_63 : BitVec 32 := 0#32
  let v85 : BitVec 32 := Scalar.select v84 c0_i32_62 c0_i32_63
  let v86 : BitVec 32 := Scalar.addi v83 v85
  let c2_i32_64 : BitVec 32 := 2#32
  let v87 : BitVec 1 := Scalar.cmpi .eq v29 c2_i32_64
  let c1_i32_65 : BitVec 32 := 1#32
  let c0_i32_66 : BitVec 32 := 0#32
  let v88 : BitVec 32 := Scalar.select v87 c1_i32_65 c0_i32_66
  let v89 : BitVec 32 := Scalar.addi v86 v88
  let c3_i32_67 : BitVec 32 := 3#32
  let v90 : BitVec 1 := Scalar.cmpi .eq v29 c3_i32_67
  let c4_i32_68 : BitVec 32 := 4#32
  let c0_i32_69 : BitVec 32 := 0#32
  let v91 : BitVec 32 := Scalar.select v90 c4_i32_68 c0_i32_69
  let v92 : BitVec 32 := Scalar.addi v89 v91
  let c4_i32_70 : BitVec 32 := 4#32
  let v93 : BitVec 1 := Scalar.cmpi .eq v29 c4_i32_70
  let c7_i32_71 : BitVec 32 := 7#32
  let c0_i32_72 : BitVec 32 := 0#32
  let v94 : BitVec 32 := Scalar.select v93 c7_i32_71 c0_i32_72
  let v95 : BitVec 32 := Scalar.addi v92 v94
  let c5_i32_73 : BitVec 32 := 5#32
  let v96 : BitVec 1 := Scalar.cmpi .eq v29 c5_i32_73
  let c2_i32_74 : BitVec 32 := 2#32
  let c0_i32_75 : BitVec 32 := 0#32
  let v97 : BitVec 32 := Scalar.select v96 c2_i32_74 c0_i32_75
  let v98 : BitVec 32 := Scalar.addi v95 v97
  let c6_i32_76 : BitVec 32 := 6#32
  let v99 : BitVec 1 := Scalar.cmpi .eq v29 c6_i32_76
  let c5_i32_77 : BitVec 32 := 5#32
  let c0_i32_78 : BitVec 32 := 0#32
  let v100 : BitVec 32 := Scalar.select v99 c5_i32_77 c0_i32_78
  let v101 : BitVec 32 := Scalar.addi v98 v100
  let c7_i32_79 : BitVec 32 := 7#32
  let v102 : BitVec 1 := Scalar.cmpi .eq v29 c7_i32_79
  let c6_i32_80 : BitVec 32 := 6#32
  let c0_i32_81 : BitVec 32 := 0#32
  let v103 : BitVec 32 := Scalar.select v102 c6_i32_80 c0_i32_81
  let v104 : BitVec 32 := Scalar.addi v101 v103
  let v105 : BitVec 32 := Scalar.addi v80 v104
  let c1_i32_2122 : BitVec 32 := 1#32
  let v2420 : BitVec 32 := Scalar.muli v105 c1_i32_2122
  let v2421 : BitVec 32 := Scalar.addi c0_i32_2123 v2420
  v2421.toNat
def k0_dev49 (d0 : Dev nD) : Nat :=
  let c0_i32_2145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v54 : BitVec 32 := Scalar.muli v19 c8_i32_30
  let c0_i32_34 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_31 : BitVec 32 := 0#32
  let v55 : BitVec 1 := Scalar.cmpi .eq v29 c0_i32_31
  let c1_i32_32 : BitVec 32 := 1#32
  let c0_i32_33 : BitVec 32 := 0#32
  let v56 : BitVec 32 := Scalar.select v55 c1_i32_32 c0_i32_33
  let v57 : BitVec 32 := Scalar.addi c0_i32_34 v56
  let c1_i32_35 : BitVec 32 := 1#32
  let v58 : BitVec 1 := Scalar.cmpi .eq v29 c1_i32_35
  let c2_i32_36 : BitVec 32 := 2#32
  let c0_i32_37 : BitVec 32 := 0#32
  let v59 : BitVec 32 := Scalar.select v58 c2_i32_36 c0_i32_37
  let v60 : BitVec 32 := Scalar.addi v57 v59
  let c2_i32_38 : BitVec 32 := 2#32
  let v61 : BitVec 1 := Scalar.cmpi .eq v29 c2_i32_38
  let c5_i32_39 : BitVec 32 := 5#32
  let c0_i32_40 : BitVec 32 := 0#32
  let v62 : BitVec 32 := Scalar.select v61 c5_i32_39 c0_i32_40
  let v63 : BitVec 32 := Scalar.addi v60 v62
  let c3_i32_41 : BitVec 32 := 3#32
  let v64 : BitVec 1 := Scalar.cmpi .eq v29 c3_i32_41
  let c0_i32_42 : BitVec 32 := 0#32
  let c0_i32_43 : BitVec 32 := 0#32
  let v65 : BitVec 32 := Scalar.select v64 c0_i32_42 c0_i32_43
  let v66 : BitVec 32 := Scalar.addi v63 v65
  let c4_i32_44 : BitVec 32 := 4#32
  let v67 : BitVec 1 := Scalar.cmpi .eq v29 c4_i32_44
  let c3_i32_45 : BitVec 32 := 3#32
  let c0_i32_46 : BitVec 32 := 0#32
  let v68 : BitVec 32 := Scalar.select v67 c3_i32_45 c0_i32_46
  let v69 : BitVec 32 := Scalar.addi v66 v68
  let c5_i32_47 : BitVec 32 := 5#32
  let v70 : BitVec 1 := Scalar.cmpi .eq v29 c5_i32_47
  let c6_i32_48 : BitVec 32 := 6#32
  let c0_i32_49 : BitVec 32 := 0#32
  let v71 : BitVec 32 := Scalar.select v70 c6_i32_48 c0_i32_49
  let v72 : BitVec 32 := Scalar.addi v69 v71
  let c6_i32_50 : BitVec 32 := 6#32
  let v73 : BitVec 1 := Scalar.cmpi .eq v29 c6_i32_50
  let c7_i32_51 : BitVec 32 := 7#32
  let c0_i32_52 : BitVec 32 := 0#32
  let v74 : BitVec 32 := Scalar.select v73 c7_i32_51 c0_i32_52
  let v75 : BitVec 32 := Scalar.addi v72 v74
  let c7_i32_53 : BitVec 32 := 7#32
  let v76 : BitVec 1 := Scalar.cmpi .eq v29 c7_i32_53
  let c4_i32_54 : BitVec 32 := 4#32
  let c0_i32_55 : BitVec 32 := 0#32
  let v77 : BitVec 32 := Scalar.select v76 c4_i32_54 c0_i32_55
  let v78 : BitVec 32 := Scalar.addi v75 v77
  let v79 : BitVec 32 := Scalar.addi v54 v78
  let c1_i32_2144 : BitVec 32 := 1#32
  let v2448 : BitVec 32 := Scalar.muli v79 c1_i32_2144
  let v2449 : BitVec 32 := Scalar.addi c0_i32_2145 v2448
  v2449.toNat
def k0_dev50 (d0 : Dev nD) : Nat :=
  let c0_i32_2167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v54 : BitVec 32 := Scalar.muli v19 c8_i32_30
  let c0_i32_34 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_31 : BitVec 32 := 0#32
  let v55 : BitVec 1 := Scalar.cmpi .eq v29 c0_i32_31
  let c1_i32_32 : BitVec 32 := 1#32
  let c0_i32_33 : BitVec 32 := 0#32
  let v56 : BitVec 32 := Scalar.select v55 c1_i32_32 c0_i32_33
  let v57 : BitVec 32 := Scalar.addi c0_i32_34 v56
  let c1_i32_35 : BitVec 32 := 1#32
  let v58 : BitVec 1 := Scalar.cmpi .eq v29 c1_i32_35
  let c2_i32_36 : BitVec 32 := 2#32
  let c0_i32_37 : BitVec 32 := 0#32
  let v59 : BitVec 32 := Scalar.select v58 c2_i32_36 c0_i32_37
  let v60 : BitVec 32 := Scalar.addi v57 v59
  let c2_i32_38 : BitVec 32 := 2#32
  let v61 : BitVec 1 := Scalar.cmpi .eq v29 c2_i32_38
  let c5_i32_39 : BitVec 32 := 5#32
  let c0_i32_40 : BitVec 32 := 0#32
  let v62 : BitVec 32 := Scalar.select v61 c5_i32_39 c0_i32_40
  let v63 : BitVec 32 := Scalar.addi v60 v62
  let c3_i32_41 : BitVec 32 := 3#32
  let v64 : BitVec 1 := Scalar.cmpi .eq v29 c3_i32_41
  let c0_i32_42 : BitVec 32 := 0#32
  let c0_i32_43 : BitVec 32 := 0#32
  let v65 : BitVec 32 := Scalar.select v64 c0_i32_42 c0_i32_43
  let v66 : BitVec 32 := Scalar.addi v63 v65
  let c4_i32_44 : BitVec 32 := 4#32
  let v67 : BitVec 1 := Scalar.cmpi .eq v29 c4_i32_44
  let c3_i32_45 : BitVec 32 := 3#32
  let c0_i32_46 : BitVec 32 := 0#32
  let v68 : BitVec 32 := Scalar.select v67 c3_i32_45 c0_i32_46
  let v69 : BitVec 32 := Scalar.addi v66 v68
  let c5_i32_47 : BitVec 32 := 5#32
  let v70 : BitVec 1 := Scalar.cmpi .eq v29 c5_i32_47
  let c6_i32_48 : BitVec 32 := 6#32
  let c0_i32_49 : BitVec 32 := 0#32
  let v71 : BitVec 32 := Scalar.select v70 c6_i32_48 c0_i32_49
  let v72 : BitVec 32 := Scalar.addi v69 v71
  let c6_i32_50 : BitVec 32 := 6#32
  let v73 : BitVec 1 := Scalar.cmpi .eq v29 c6_i32_50
  let c7_i32_51 : BitVec 32 := 7#32
  let c0_i32_52 : BitVec 32 := 0#32
  let v74 : BitVec 32 := Scalar.select v73 c7_i32_51 c0_i32_52
  let v75 : BitVec 32 := Scalar.addi v72 v74
  let c7_i32_53 : BitVec 32 := 7#32
  let v76 : BitVec 1 := Scalar.cmpi .eq v29 c7_i32_53
  let c4_i32_54 : BitVec 32 := 4#32
  let c0_i32_55 : BitVec 32 := 0#32
  let v77 : BitVec 32 := Scalar.select v76 c4_i32_54 c0_i32_55
  let v78 : BitVec 32 := Scalar.addi v75 v77
  let v79 : BitVec 32 := Scalar.addi v54 v78
  let c1_i32_2166 : BitVec 32 := 1#32
  let v2476 : BitVec 32 := Scalar.muli v79 c1_i32_2166
  let v2477 : BitVec 32 := Scalar.addi c0_i32_2167 v2476
  v2477.toNat
def k0_dev51 (d0 : Dev nD) : Nat :=
  let c0_i32_2189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v80 : BitVec 32 := Scalar.muli v19 c8_i32_56
  let c0_i32_60 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_57 : BitVec 32 := 0#32
  let v81 : BitVec 1 := Scalar.cmpi .eq v29 c0_i32_57
  let c3_i32_58 : BitVec 32 := 3#32
  let c0_i32_59 : BitVec 32 := 0#32
  let v82 : BitVec 32 := Scalar.select v81 c3_i32_58 c0_i32_59
  let v83 : BitVec 32 := Scalar.addi c0_i32_60 v82
  let c1_i32_61 : BitVec 32 := 1#32
  let v84 : BitVec 1 := Scalar.cmpi .eq v29 c1_i32_61
  let c0_i32_62 : BitVec 32 := 0#32
  let c0_i32_63 : BitVec 32 := 0#32
  let v85 : BitVec 32 := Scalar.select v84 c0_i32_62 c0_i32_63
  let v86 : BitVec 32 := Scalar.addi v83 v85
  let c2_i32_64 : BitVec 32 := 2#32
  let v87 : BitVec 1 := Scalar.cmpi .eq v29 c2_i32_64
  let c1_i32_65 : BitVec 32 := 1#32
  let c0_i32_66 : BitVec 32 := 0#32
  let v88 : BitVec 32 := Scalar.select v87 c1_i32_65 c0_i32_66
  let v89 : BitVec 32 := Scalar.addi v86 v88
  let c3_i32_67 : BitVec 32 := 3#32
  let v90 : BitVec 1 := Scalar.cmpi .eq v29 c3_i32_67
  let c4_i32_68 : BitVec 32 := 4#32
  let c0_i32_69 : BitVec 32 := 0#32
  let v91 : BitVec 32 := Scalar.select v90 c4_i32_68 c0_i32_69
  let v92 : BitVec 32 := Scalar.addi v89 v91
  let c4_i32_70 : BitVec 32 := 4#32
  let v93 : BitVec 1 := Scalar.cmpi .eq v29 c4_i32_70
  let c7_i32_71 : BitVec 32 := 7#32
  let c0_i32_72 : BitVec 32 := 0#32
  let v94 : BitVec 32 := Scalar.select v93 c7_i32_71 c0_i32_72
  let v95 : BitVec 32 := Scalar.addi v92 v94
  let c5_i32_73 : BitVec 32 := 5#32
  let v96 : BitVec 1 := Scalar.cmpi .eq v29 c5_i32_73
  let c2_i32_74 : BitVec 32 := 2#32
  let c0_i32_75 : BitVec 32 := 0#32
  let v97 : BitVec 32 := Scalar.select v96 c2_i32_74 c0_i32_75
  let v98 : BitVec 32 := Scalar.addi v95 v97
  let c6_i32_76 : BitVec 32 := 6#32
  let v99 : BitVec 1 := Scalar.cmpi .eq v29 c6_i32_76
  let c5_i32_77 : BitVec 32 := 5#32
  let c0_i32_78 : BitVec 32 := 0#32
  let v100 : BitVec 32 := Scalar.select v99 c5_i32_77 c0_i32_78
  let v101 : BitVec 32 := Scalar.addi v98 v100
  let c7_i32_79 : BitVec 32 := 7#32
  let v102 : BitVec 1 := Scalar.cmpi .eq v29 c7_i32_79
  let c6_i32_80 : BitVec 32 := 6#32
  let c0_i32_81 : BitVec 32 := 0#32
  let v103 : BitVec 32 := Scalar.select v102 c6_i32_80 c0_i32_81
  let v104 : BitVec 32 := Scalar.addi v101 v103
  let v105 : BitVec 32 := Scalar.addi v80 v104
  let c1_i32_2188 : BitVec 32 := 1#32
  let v2504 : BitVec 32 := Scalar.muli v105 c1_i32_2188
  let v2505 : BitVec 32 := Scalar.addi c0_i32_2189 v2504
  v2505.toNat
def k0_dev52 (d0 : Dev nD) : Nat :=
  let c0_i32_2211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v80 : BitVec 32 := Scalar.muli v19 c8_i32_56
  let c0_i32_60 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_57 : BitVec 32 := 0#32
  let v81 : BitVec 1 := Scalar.cmpi .eq v29 c0_i32_57
  let c3_i32_58 : BitVec 32 := 3#32
  let c0_i32_59 : BitVec 32 := 0#32
  let v82 : BitVec 32 := Scalar.select v81 c3_i32_58 c0_i32_59
  let v83 : BitVec 32 := Scalar.addi c0_i32_60 v82
  let c1_i32_61 : BitVec 32 := 1#32
  let v84 : BitVec 1 := Scalar.cmpi .eq v29 c1_i32_61
  let c0_i32_62 : BitVec 32 := 0#32
  let c0_i32_63 : BitVec 32 := 0#32
  let v85 : BitVec 32 := Scalar.select v84 c0_i32_62 c0_i32_63
  let v86 : BitVec 32 := Scalar.addi v83 v85
  let c2_i32_64 : BitVec 32 := 2#32
  let v87 : BitVec 1 := Scalar.cmpi .eq v29 c2_i32_64
  let c1_i32_65 : BitVec 32 := 1#32
  let c0_i32_66 : BitVec 32 := 0#32
  let v88 : BitVec 32 := Scalar.select v87 c1_i32_65 c0_i32_66
  let v89 : BitVec 32 := Scalar.addi v86 v88
  let c3_i32_67 : BitVec 32 := 3#32
  let v90 : BitVec 1 := Scalar.cmpi .eq v29 c3_i32_67
  let c4_i32_68 : BitVec 32 := 4#32
  let c0_i32_69 : BitVec 32 := 0#32
  let v91 : BitVec 32 := Scalar.select v90 c4_i32_68 c0_i32_69
  let v92 : BitVec 32 := Scalar.addi v89 v91
  let c4_i32_70 : BitVec 32 := 4#32
  let v93 : BitVec 1 := Scalar.cmpi .eq v29 c4_i32_70
  let c7_i32_71 : BitVec 32 := 7#32
  let c0_i32_72 : BitVec 32 := 0#32
  let v94 : BitVec 32 := Scalar.select v93 c7_i32_71 c0_i32_72
  let v95 : BitVec 32 := Scalar.addi v92 v94
  let c5_i32_73 : BitVec 32 := 5#32
  let v96 : BitVec 1 := Scalar.cmpi .eq v29 c5_i32_73
  let c2_i32_74 : BitVec 32 := 2#32
  let c0_i32_75 : BitVec 32 := 0#32
  let v97 : BitVec 32 := Scalar.select v96 c2_i32_74 c0_i32_75
  let v98 : BitVec 32 := Scalar.addi v95 v97
  let c6_i32_76 : BitVec 32 := 6#32
  let v99 : BitVec 1 := Scalar.cmpi .eq v29 c6_i32_76
  let c5_i32_77 : BitVec 32 := 5#32
  let c0_i32_78 : BitVec 32 := 0#32
  let v100 : BitVec 32 := Scalar.select v99 c5_i32_77 c0_i32_78
  let v101 : BitVec 32 := Scalar.addi v98 v100
  let c7_i32_79 : BitVec 32 := 7#32
  let v102 : BitVec 1 := Scalar.cmpi .eq v29 c7_i32_79
  let c6_i32_80 : BitVec 32 := 6#32
  let c0_i32_81 : BitVec 32 := 0#32
  let v103 : BitVec 32 := Scalar.select v102 c6_i32_80 c0_i32_81
  let v104 : BitVec 32 := Scalar.addi v101 v103
  let v105 : BitVec 32 := Scalar.addi v80 v104
  let c1_i32_2210 : BitVec 32 := 1#32
  let v2532 : BitVec 32 := Scalar.muli v105 c1_i32_2210
  let v2533 : BitVec 32 := Scalar.addi c0_i32_2211 v2532
  v2533.toNat
def k0_dev53 (d0 : Dev nD) : Nat :=
  let c0_i32_2238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v54 : BitVec 32 := Scalar.muli v19 c8_i32_30
  let c0_i32_34 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_31 : BitVec 32 := 0#32
  let v55 : BitVec 1 := Scalar.cmpi .eq v29 c0_i32_31
  let c1_i32_32 : BitVec 32 := 1#32
  let c0_i32_33 : BitVec 32 := 0#32
  let v56 : BitVec 32 := Scalar.select v55 c1_i32_32 c0_i32_33
  let v57 : BitVec 32 := Scalar.addi c0_i32_34 v56
  let c1_i32_35 : BitVec 32 := 1#32
  let v58 : BitVec 1 := Scalar.cmpi .eq v29 c1_i32_35
  let c2_i32_36 : BitVec 32 := 2#32
  let c0_i32_37 : BitVec 32 := 0#32
  let v59 : BitVec 32 := Scalar.select v58 c2_i32_36 c0_i32_37
  let v60 : BitVec 32 := Scalar.addi v57 v59
  let c2_i32_38 : BitVec 32 := 2#32
  let v61 : BitVec 1 := Scalar.cmpi .eq v29 c2_i32_38
  let c5_i32_39 : BitVec 32 := 5#32
  let c0_i32_40 : BitVec 32 := 0#32
  let v62 : BitVec 32 := Scalar.select v61 c5_i32_39 c0_i32_40
  let v63 : BitVec 32 := Scalar.addi v60 v62
  let c3_i32_41 : BitVec 32 := 3#32
  let v64 : BitVec 1 := Scalar.cmpi .eq v29 c3_i32_41
  let c0_i32_42 : BitVec 32 := 0#32
  let c0_i32_43 : BitVec 32 := 0#32
  let v65 : BitVec 32 := Scalar.select v64 c0_i32_42 c0_i32_43
  let v66 : BitVec 32 := Scalar.addi v63 v65
  let c4_i32_44 : BitVec 32 := 4#32
  let v67 : BitVec 1 := Scalar.cmpi .eq v29 c4_i32_44
  let c3_i32_45 : BitVec 32 := 3#32
  let c0_i32_46 : BitVec 32 := 0#32
  let v68 : BitVec 32 := Scalar.select v67 c3_i32_45 c0_i32_46
  let v69 : BitVec 32 := Scalar.addi v66 v68
  let c5_i32_47 : BitVec 32 := 5#32
  let v70 : BitVec 1 := Scalar.cmpi .eq v29 c5_i32_47
  let c6_i32_48 : BitVec 32 := 6#32
  let c0_i32_49 : BitVec 32 := 0#32
  let v71 : BitVec 32 := Scalar.select v70 c6_i32_48 c0_i32_49
  let v72 : BitVec 32 := Scalar.addi v69 v71
  let c6_i32_50 : BitVec 32 := 6#32
  let v73 : BitVec 1 := Scalar.cmpi .eq v29 c6_i32_50
  let c7_i32_51 : BitVec 32 := 7#32
  let c0_i32_52 : BitVec 32 := 0#32
  let v74 : BitVec 32 := Scalar.select v73 c7_i32_51 c0_i32_52
  let v75 : BitVec 32 := Scalar.addi v72 v74
  let c7_i32_53 : BitVec 32 := 7#32
  let v76 : BitVec 1 := Scalar.cmpi .eq v29 c7_i32_53
  let c4_i32_54 : BitVec 32 := 4#32
  let c0_i32_55 : BitVec 32 := 0#32
  let v77 : BitVec 32 := Scalar.select v76 c4_i32_54 c0_i32_55
  let v78 : BitVec 32 := Scalar.addi v75 v77
  let v79 : BitVec 32 := Scalar.addi v54 v78
  let c1_i32_2237 : BitVec 32 := 1#32
  let v2564 : BitVec 32 := Scalar.muli v79 c1_i32_2237
  let v2565 : BitVec 32 := Scalar.addi c0_i32_2238 v2564
  v2565.toNat
def k0_dev54 (d0 : Dev nD) : Nat :=
  let c0_i32_2265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v54 : BitVec 32 := Scalar.muli v19 c8_i32_30
  let c0_i32_34 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_31 : BitVec 32 := 0#32
  let v55 : BitVec 1 := Scalar.cmpi .eq v29 c0_i32_31
  let c1_i32_32 : BitVec 32 := 1#32
  let c0_i32_33 : BitVec 32 := 0#32
  let v56 : BitVec 32 := Scalar.select v55 c1_i32_32 c0_i32_33
  let v57 : BitVec 32 := Scalar.addi c0_i32_34 v56
  let c1_i32_35 : BitVec 32 := 1#32
  let v58 : BitVec 1 := Scalar.cmpi .eq v29 c1_i32_35
  let c2_i32_36 : BitVec 32 := 2#32
  let c0_i32_37 : BitVec 32 := 0#32
  let v59 : BitVec 32 := Scalar.select v58 c2_i32_36 c0_i32_37
  let v60 : BitVec 32 := Scalar.addi v57 v59
  let c2_i32_38 : BitVec 32 := 2#32
  let v61 : BitVec 1 := Scalar.cmpi .eq v29 c2_i32_38
  let c5_i32_39 : BitVec 32 := 5#32
  let c0_i32_40 : BitVec 32 := 0#32
  let v62 : BitVec 32 := Scalar.select v61 c5_i32_39 c0_i32_40
  let v63 : BitVec 32 := Scalar.addi v60 v62
  let c3_i32_41 : BitVec 32 := 3#32
  let v64 : BitVec 1 := Scalar.cmpi .eq v29 c3_i32_41
  let c0_i32_42 : BitVec 32 := 0#32
  let c0_i32_43 : BitVec 32 := 0#32
  let v65 : BitVec 32 := Scalar.select v64 c0_i32_42 c0_i32_43
  let v66 : BitVec 32 := Scalar.addi v63 v65
  let c4_i32_44 : BitVec 32 := 4#32
  let v67 : BitVec 1 := Scalar.cmpi .eq v29 c4_i32_44
  let c3_i32_45 : BitVec 32 := 3#32
  let c0_i32_46 : BitVec 32 := 0#32
  let v68 : BitVec 32 := Scalar.select v67 c3_i32_45 c0_i32_46
  let v69 : BitVec 32 := Scalar.addi v66 v68
  let c5_i32_47 : BitVec 32 := 5#32
  let v70 : BitVec 1 := Scalar.cmpi .eq v29 c5_i32_47
  let c6_i32_48 : BitVec 32 := 6#32
  let c0_i32_49 : BitVec 32 := 0#32
  let v71 : BitVec 32 := Scalar.select v70 c6_i32_48 c0_i32_49
  let v72 : BitVec 32 := Scalar.addi v69 v71
  let c6_i32_50 : BitVec 32 := 6#32
  let v73 : BitVec 1 := Scalar.cmpi .eq v29 c6_i32_50
  let c7_i32_51 : BitVec 32 := 7#32
  let c0_i32_52 : BitVec 32 := 0#32
  let v74 : BitVec 32 := Scalar.select v73 c7_i32_51 c0_i32_52
  let v75 : BitVec 32 := Scalar.addi v72 v74
  let c7_i32_53 : BitVec 32 := 7#32
  let v76 : BitVec 1 := Scalar.cmpi .eq v29 c7_i32_53
  let c4_i32_54 : BitVec 32 := 4#32
  let c0_i32_55 : BitVec 32 := 0#32
  let v77 : BitVec 32 := Scalar.select v76 c4_i32_54 c0_i32_55
  let v78 : BitVec 32 := Scalar.addi v75 v77
  let v79 : BitVec 32 := Scalar.addi v54 v78
  let c1_i32_2264 : BitVec 32 := 1#32
  let v2596 : BitVec 32 := Scalar.muli v79 c1_i32_2264
  let v2597 : BitVec 32 := Scalar.addi c0_i32_2265 v2596
  v2597.toNat
def k0_dev55 (d0 : Dev nD) : Nat :=
  let c0_i32_2292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v80 : BitVec 32 := Scalar.muli v19 c8_i32_56
  let c0_i32_60 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_57 : BitVec 32 := 0#32
  let v81 : BitVec 1 := Scalar.cmpi .eq v29 c0_i32_57
  let c3_i32_58 : BitVec 32 := 3#32
  let c0_i32_59 : BitVec 32 := 0#32
  let v82 : BitVec 32 := Scalar.select v81 c3_i32_58 c0_i32_59
  let v83 : BitVec 32 := Scalar.addi c0_i32_60 v82
  let c1_i32_61 : BitVec 32 := 1#32
  let v84 : BitVec 1 := Scalar.cmpi .eq v29 c1_i32_61
  let c0_i32_62 : BitVec 32 := 0#32
  let c0_i32_63 : BitVec 32 := 0#32
  let v85 : BitVec 32 := Scalar.select v84 c0_i32_62 c0_i32_63
  let v86 : BitVec 32 := Scalar.addi v83 v85
  let c2_i32_64 : BitVec 32 := 2#32
  let v87 : BitVec 1 := Scalar.cmpi .eq v29 c2_i32_64
  let c1_i32_65 : BitVec 32 := 1#32
  let c0_i32_66 : BitVec 32 := 0#32
  let v88 : BitVec 32 := Scalar.select v87 c1_i32_65 c0_i32_66
  let v89 : BitVec 32 := Scalar.addi v86 v88
  let c3_i32_67 : BitVec 32 := 3#32
  let v90 : BitVec 1 := Scalar.cmpi .eq v29 c3_i32_67
  let c4_i32_68 : BitVec 32 := 4#32
  let c0_i32_69 : BitVec 32 := 0#32
  let v91 : BitVec 32 := Scalar.select v90 c4_i32_68 c0_i32_69
  let v92 : BitVec 32 := Scalar.addi v89 v91
  let c4_i32_70 : BitVec 32 := 4#32
  let v93 : BitVec 1 := Scalar.cmpi .eq v29 c4_i32_70
  let c7_i32_71 : BitVec 32 := 7#32
  let c0_i32_72 : BitVec 32 := 0#32
  let v94 : BitVec 32 := Scalar.select v93 c7_i32_71 c0_i32_72
  let v95 : BitVec 32 := Scalar.addi v92 v94
  let c5_i32_73 : BitVec 32 := 5#32
  let v96 : BitVec 1 := Scalar.cmpi .eq v29 c5_i32_73
  let c2_i32_74 : BitVec 32 := 2#32
  let c0_i32_75 : BitVec 32 := 0#32
  let v97 : BitVec 32 := Scalar.select v96 c2_i32_74 c0_i32_75
  let v98 : BitVec 32 := Scalar.addi v95 v97
  let c6_i32_76 : BitVec 32 := 6#32
  let v99 : BitVec 1 := Scalar.cmpi .eq v29 c6_i32_76
  let c5_i32_77 : BitVec 32 := 5#32
  let c0_i32_78 : BitVec 32 := 0#32
  let v100 : BitVec 32 := Scalar.select v99 c5_i32_77 c0_i32_78
  let v101 : BitVec 32 := Scalar.addi v98 v100
  let c7_i32_79 : BitVec 32 := 7#32
  let v102 : BitVec 1 := Scalar.cmpi .eq v29 c7_i32_79
  let c6_i32_80 : BitVec 32 := 6#32
  let c0_i32_81 : BitVec 32 := 0#32
  let v103 : BitVec 32 := Scalar.select v102 c6_i32_80 c0_i32_81
  let v104 : BitVec 32 := Scalar.addi v101 v103
  let v105 : BitVec 32 := Scalar.addi v80 v104
  let c1_i32_2291 : BitVec 32 := 1#32
  let v2628 : BitVec 32 := Scalar.muli v105 c1_i32_2291
  let v2629 : BitVec 32 := Scalar.addi c0_i32_2292 v2628
  v2629.toNat
def k0_dev56 (d0 : Dev nD) : Nat :=
  let c0_i32_2319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v80 : BitVec 32 := Scalar.muli v19 c8_i32_56
  let c0_i32_60 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_57 : BitVec 32 := 0#32
  let v81 : BitVec 1 := Scalar.cmpi .eq v29 c0_i32_57
  let c3_i32_58 : BitVec 32 := 3#32
  let c0_i32_59 : BitVec 32 := 0#32
  let v82 : BitVec 32 := Scalar.select v81 c3_i32_58 c0_i32_59
  let v83 : BitVec 32 := Scalar.addi c0_i32_60 v82
  let c1_i32_61 : BitVec 32 := 1#32
  let v84 : BitVec 1 := Scalar.cmpi .eq v29 c1_i32_61
  let c0_i32_62 : BitVec 32 := 0#32
  let c0_i32_63 : BitVec 32 := 0#32
  let v85 : BitVec 32 := Scalar.select v84 c0_i32_62 c0_i32_63
  let v86 : BitVec 32 := Scalar.addi v83 v85
  let c2_i32_64 : BitVec 32 := 2#32
  let v87 : BitVec 1 := Scalar.cmpi .eq v29 c2_i32_64
  let c1_i32_65 : BitVec 32 := 1#32
  let c0_i32_66 : BitVec 32 := 0#32
  let v88 : BitVec 32 := Scalar.select v87 c1_i32_65 c0_i32_66
  let v89 : BitVec 32 := Scalar.addi v86 v88
  let c3_i32_67 : BitVec 32 := 3#32
  let v90 : BitVec 1 := Scalar.cmpi .eq v29 c3_i32_67
  let c4_i32_68 : BitVec 32 := 4#32
  let c0_i32_69 : BitVec 32 := 0#32
  let v91 : BitVec 32 := Scalar.select v90 c4_i32_68 c0_i32_69
  let v92 : BitVec 32 := Scalar.addi v89 v91
  let c4_i32_70 : BitVec 32 := 4#32
  let v93 : BitVec 1 := Scalar.cmpi .eq v29 c4_i32_70
  let c7_i32_71 : BitVec 32 := 7#32
  let c0_i32_72 : BitVec 32 := 0#32
  let v94 : BitVec 32 := Scalar.select v93 c7_i32_71 c0_i32_72
  let v95 : BitVec 32 := Scalar.addi v92 v94
  let c5_i32_73 : BitVec 32 := 5#32
  let v96 : BitVec 1 := Scalar.cmpi .eq v29 c5_i32_73
  let c2_i32_74 : BitVec 32 := 2#32
  let c0_i32_75 : BitVec 32 := 0#32
  let v97 : BitVec 32 := Scalar.select v96 c2_i32_74 c0_i32_75
  let v98 : BitVec 32 := Scalar.addi v95 v97
  let c6_i32_76 : BitVec 32 := 6#32
  let v99 : BitVec 1 := Scalar.cmpi .eq v29 c6_i32_76
  let c5_i32_77 : BitVec 32 := 5#32
  let c0_i32_78 : BitVec 32 := 0#32
  let v100 : BitVec 32 := Scalar.select v99 c5_i32_77 c0_i32_78
  let v101 : BitVec 32 := Scalar.addi v98 v100
  let c7_i32_79 : BitVec 32 := 7#32
  let v102 : BitVec 1 := Scalar.cmpi .eq v29 c7_i32_79
  let c6_i32_80 : BitVec 32 := 6#32
  let c0_i32_81 : BitVec 32 := 0#32
  let v103 : BitVec 32 := Scalar.select v102 c6_i32_80 c0_i32_81
  let v104 : BitVec 32 := Scalar.addi v101 v103
  let v105 : BitVec 32 := Scalar.addi v80 v104
  let c1_i32_2318 : BitVec 32 := 1#32
  let v2660 : BitVec 32 := Scalar.muli v105 c1_i32_2318
  let v2661 : BitVec 32 := Scalar.addi c0_i32_2319 v2660
  v2661.toNat
def k0_dev57 (d0 : Dev nD) : Nat :=
  let c0_i32_2346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v54 : BitVec 32 := Scalar.muli v19 c8_i32_30
  let c0_i32_34 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_31 : BitVec 32 := 0#32
  let v55 : BitVec 1 := Scalar.cmpi .eq v29 c0_i32_31
  let c1_i32_32 : BitVec 32 := 1#32
  let c0_i32_33 : BitVec 32 := 0#32
  let v56 : BitVec 32 := Scalar.select v55 c1_i32_32 c0_i32_33
  let v57 : BitVec 32 := Scalar.addi c0_i32_34 v56
  let c1_i32_35 : BitVec 32 := 1#32
  let v58 : BitVec 1 := Scalar.cmpi .eq v29 c1_i32_35
  let c2_i32_36 : BitVec 32 := 2#32
  let c0_i32_37 : BitVec 32 := 0#32
  let v59 : BitVec 32 := Scalar.select v58 c2_i32_36 c0_i32_37
  let v60 : BitVec 32 := Scalar.addi v57 v59
  let c2_i32_38 : BitVec 32 := 2#32
  let v61 : BitVec 1 := Scalar.cmpi .eq v29 c2_i32_38
  let c5_i32_39 : BitVec 32 := 5#32
  let c0_i32_40 : BitVec 32 := 0#32
  let v62 : BitVec 32 := Scalar.select v61 c5_i32_39 c0_i32_40
  let v63 : BitVec 32 := Scalar.addi v60 v62
  let c3_i32_41 : BitVec 32 := 3#32
  let v64 : BitVec 1 := Scalar.cmpi .eq v29 c3_i32_41
  let c0_i32_42 : BitVec 32 := 0#32
  let c0_i32_43 : BitVec 32 := 0#32
  let v65 : BitVec 32 := Scalar.select v64 c0_i32_42 c0_i32_43
  let v66 : BitVec 32 := Scalar.addi v63 v65
  let c4_i32_44 : BitVec 32 := 4#32
  let v67 : BitVec 1 := Scalar.cmpi .eq v29 c4_i32_44
  let c3_i32_45 : BitVec 32 := 3#32
  let c0_i32_46 : BitVec 32 := 0#32
  let v68 : BitVec 32 := Scalar.select v67 c3_i32_45 c0_i32_46
  let v69 : BitVec 32 := Scalar.addi v66 v68
  let c5_i32_47 : BitVec 32 := 5#32
  let v70 : BitVec 1 := Scalar.cmpi .eq v29 c5_i32_47
  let c6_i32_48 : BitVec 32 := 6#32
  let c0_i32_49 : BitVec 32 := 0#32
  let v71 : BitVec 32 := Scalar.select v70 c6_i32_48 c0_i32_49
  let v72 : BitVec 32 := Scalar.addi v69 v71
  let c6_i32_50 : BitVec 32 := 6#32
  let v73 : BitVec 1 := Scalar.cmpi .eq v29 c6_i32_50
  let c7_i32_51 : BitVec 32 := 7#32
  let c0_i32_52 : BitVec 32 := 0#32
  let v74 : BitVec 32 := Scalar.select v73 c7_i32_51 c0_i32_52
  let v75 : BitVec 32 := Scalar.addi v72 v74
  let c7_i32_53 : BitVec 32 := 7#32
  let v76 : BitVec 1 := Scalar.cmpi .eq v29 c7_i32_53
  let c4_i32_54 : BitVec 32 := 4#32
  let c0_i32_55 : BitVec 32 := 0#32
  let v77 : BitVec 32 := Scalar.select v76 c4_i32_54 c0_i32_55
  let v78 : BitVec 32 := Scalar.addi v75 v77
  let v79 : BitVec 32 := Scalar.addi v54 v78
  let c1_i32_2345 : BitVec 32 := 1#32
  let v2692 : BitVec 32 := Scalar.muli v79 c1_i32_2345
  let v2693 : BitVec 32 := Scalar.addi c0_i32_2346 v2692
  v2693.toNat
def k0_dev58 (d0 : Dev nD) : Nat :=
  let c0_i32_2373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v54 : BitVec 32 := Scalar.muli v19 c8_i32_30
  let c0_i32_34 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_31 : BitVec 32 := 0#32
  let v55 : BitVec 1 := Scalar.cmpi .eq v29 c0_i32_31
  let c1_i32_32 : BitVec 32 := 1#32
  let c0_i32_33 : BitVec 32 := 0#32
  let v56 : BitVec 32 := Scalar.select v55 c1_i32_32 c0_i32_33
  let v57 : BitVec 32 := Scalar.addi c0_i32_34 v56
  let c1_i32_35 : BitVec 32 := 1#32
  let v58 : BitVec 1 := Scalar.cmpi .eq v29 c1_i32_35
  let c2_i32_36 : BitVec 32 := 2#32
  let c0_i32_37 : BitVec 32 := 0#32
  let v59 : BitVec 32 := Scalar.select v58 c2_i32_36 c0_i32_37
  let v60 : BitVec 32 := Scalar.addi v57 v59
  let c2_i32_38 : BitVec 32 := 2#32
  let v61 : BitVec 1 := Scalar.cmpi .eq v29 c2_i32_38
  let c5_i32_39 : BitVec 32 := 5#32
  let c0_i32_40 : BitVec 32 := 0#32
  let v62 : BitVec 32 := Scalar.select v61 c5_i32_39 c0_i32_40
  let v63 : BitVec 32 := Scalar.addi v60 v62
  let c3_i32_41 : BitVec 32 := 3#32
  let v64 : BitVec 1 := Scalar.cmpi .eq v29 c3_i32_41
  let c0_i32_42 : BitVec 32 := 0#32
  let c0_i32_43 : BitVec 32 := 0#32
  let v65 : BitVec 32 := Scalar.select v64 c0_i32_42 c0_i32_43
  let v66 : BitVec 32 := Scalar.addi v63 v65
  let c4_i32_44 : BitVec 32 := 4#32
  let v67 : BitVec 1 := Scalar.cmpi .eq v29 c4_i32_44
  let c3_i32_45 : BitVec 32 := 3#32
  let c0_i32_46 : BitVec 32 := 0#32
  let v68 : BitVec 32 := Scalar.select v67 c3_i32_45 c0_i32_46
  let v69 : BitVec 32 := Scalar.addi v66 v68
  let c5_i32_47 : BitVec 32 := 5#32
  let v70 : BitVec 1 := Scalar.cmpi .eq v29 c5_i32_47
  let c6_i32_48 : BitVec 32 := 6#32
  let c0_i32_49 : BitVec 32 := 0#32
  let v71 : BitVec 32 := Scalar.select v70 c6_i32_48 c0_i32_49
  let v72 : BitVec 32 := Scalar.addi v69 v71
  let c6_i32_50 : BitVec 32 := 6#32
  let v73 : BitVec 1 := Scalar.cmpi .eq v29 c6_i32_50
  let c7_i32_51 : BitVec 32 := 7#32
  let c0_i32_52 : BitVec 32 := 0#32
  let v74 : BitVec 32 := Scalar.select v73 c7_i32_51 c0_i32_52
  let v75 : BitVec 32 := Scalar.addi v72 v74
  let c7_i32_53 : BitVec 32 := 7#32
  let v76 : BitVec 1 := Scalar.cmpi .eq v29 c7_i32_53
  let c4_i32_54 : BitVec 32 := 4#32
  let c0_i32_55 : BitVec 32 := 0#32
  let v77 : BitVec 32 := Scalar.select v76 c4_i32_54 c0_i32_55
  let v78 : BitVec 32 := Scalar.addi v75 v77
  let v79 : BitVec 32 := Scalar.addi v54 v78
  let c1_i32_2372 : BitVec 32 := 1#32
  let v2724 : BitVec 32 := Scalar.muli v79 c1_i32_2372
  let v2725 : BitVec 32 := Scalar.addi c0_i32_2373 v2724
  v2725.toNat
def k0_dev59 (d0 : Dev nD) : Nat :=
  let c0_i32_2400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v80 : BitVec 32 := Scalar.muli v19 c8_i32_56
  let c0_i32_60 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_57 : BitVec 32 := 0#32
  let v81 : BitVec 1 := Scalar.cmpi .eq v29 c0_i32_57
  let c3_i32_58 : BitVec 32 := 3#32
  let c0_i32_59 : BitVec 32 := 0#32
  let v82 : BitVec 32 := Scalar.select v81 c3_i32_58 c0_i32_59
  let v83 : BitVec 32 := Scalar.addi c0_i32_60 v82
  let c1_i32_61 : BitVec 32 := 1#32
  let v84 : BitVec 1 := Scalar.cmpi .eq v29 c1_i32_61
  let c0_i32_62 : BitVec 32 := 0#32
  let c0_i32_63 : BitVec 32 := 0#32
  let v85 : BitVec 32 := Scalar.select v84 c0_i32_62 c0_i32_63
  let v86 : BitVec 32 := Scalar.addi v83 v85
  let c2_i32_64 : BitVec 32 := 2#32
  let v87 : BitVec 1 := Scalar.cmpi .eq v29 c2_i32_64
  let c1_i32_65 : BitVec 32 := 1#32
  let c0_i32_66 : BitVec 32 := 0#32
  let v88 : BitVec 32 := Scalar.select v87 c1_i32_65 c0_i32_66
  let v89 : BitVec 32 := Scalar.addi v86 v88
  let c3_i32_67 : BitVec 32 := 3#32
  let v90 : BitVec 1 := Scalar.cmpi .eq v29 c3_i32_67
  let c4_i32_68 : BitVec 32 := 4#32
  let c0_i32_69 : BitVec 32 := 0#32
  let v91 : BitVec 32 := Scalar.select v90 c4_i32_68 c0_i32_69
  let v92 : BitVec 32 := Scalar.addi v89 v91
  let c4_i32_70 : BitVec 32 := 4#32
  let v93 : BitVec 1 := Scalar.cmpi .eq v29 c4_i32_70
  let c7_i32_71 : BitVec 32 := 7#32
  let c0_i32_72 : BitVec 32 := 0#32
  let v94 : BitVec 32 := Scalar.select v93 c7_i32_71 c0_i32_72
  let v95 : BitVec 32 := Scalar.addi v92 v94
  let c5_i32_73 : BitVec 32 := 5#32
  let v96 : BitVec 1 := Scalar.cmpi .eq v29 c5_i32_73
  let c2_i32_74 : BitVec 32 := 2#32
  let c0_i32_75 : BitVec 32 := 0#32
  let v97 : BitVec 32 := Scalar.select v96 c2_i32_74 c0_i32_75
  let v98 : BitVec 32 := Scalar.addi v95 v97
  let c6_i32_76 : BitVec 32 := 6#32
  let v99 : BitVec 1 := Scalar.cmpi .eq v29 c6_i32_76
  let c5_i32_77 : BitVec 32 := 5#32
  let c0_i32_78 : BitVec 32 := 0#32
  let v100 : BitVec 32 := Scalar.select v99 c5_i32_77 c0_i32_78
  let v101 : BitVec 32 := Scalar.addi v98 v100
  let c7_i32_79 : BitVec 32 := 7#32
  let v102 : BitVec 1 := Scalar.cmpi .eq v29 c7_i32_79
  let c6_i32_80 : BitVec 32 := 6#32
  let c0_i32_81 : BitVec 32 := 0#32
  let v103 : BitVec 32 := Scalar.select v102 c6_i32_80 c0_i32_81
  let v104 : BitVec 32 := Scalar.addi v101 v103
  let v105 : BitVec 32 := Scalar.addi v80 v104
  let c1_i32_2399 : BitVec 32 := 1#32
  let v2756 : BitVec 32 := Scalar.muli v105 c1_i32_2399
  let v2757 : BitVec 32 := Scalar.addi c0_i32_2400 v2756
  v2757.toNat
def k0_dev60 (d0 : Dev nD) : Nat :=
  let c0_i32_2427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v80 : BitVec 32 := Scalar.muli v19 c8_i32_56
  let c0_i32_60 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_57 : BitVec 32 := 0#32
  let v81 : BitVec 1 := Scalar.cmpi .eq v29 c0_i32_57
  let c3_i32_58 : BitVec 32 := 3#32
  let c0_i32_59 : BitVec 32 := 0#32
  let v82 : BitVec 32 := Scalar.select v81 c3_i32_58 c0_i32_59
  let v83 : BitVec 32 := Scalar.addi c0_i32_60 v82
  let c1_i32_61 : BitVec 32 := 1#32
  let v84 : BitVec 1 := Scalar.cmpi .eq v29 c1_i32_61
  let c0_i32_62 : BitVec 32 := 0#32
  let c0_i32_63 : BitVec 32 := 0#32
  let v85 : BitVec 32 := Scalar.select v84 c0_i32_62 c0_i32_63
  let v86 : BitVec 32 := Scalar.addi v83 v85
  let c2_i32_64 : BitVec 32 := 2#32
  let v87 : BitVec 1 := Scalar.cmpi .eq v29 c2_i32_64
  let c1_i32_65 : BitVec 32 := 1#32
  let c0_i32_66 : BitVec 32 := 0#32
  let v88 : BitVec 32 := Scalar.select v87 c1_i32_65 c0_i32_66
  let v89 : BitVec 32 := Scalar.addi v86 v88
  let c3_i32_67 : BitVec 32 := 3#32
  let v90 : BitVec 1 := Scalar.cmpi .eq v29 c3_i32_67
  let c4_i32_68 : BitVec 32 := 4#32
  let c0_i32_69 : BitVec 32 := 0#32
  let v91 : BitVec 32 := Scalar.select v90 c4_i32_68 c0_i32_69
  let v92 : BitVec 32 := Scalar.addi v89 v91
  let c4_i32_70 : BitVec 32 := 4#32
  let v93 : BitVec 1 := Scalar.cmpi .eq v29 c4_i32_70
  let c7_i32_71 : BitVec 32 := 7#32
  let c0_i32_72 : BitVec 32 := 0#32
  let v94 : BitVec 32 := Scalar.select v93 c7_i32_71 c0_i32_72
  let v95 : BitVec 32 := Scalar.addi v92 v94
  let c5_i32_73 : BitVec 32 := 5#32
  let v96 : BitVec 1 := Scalar.cmpi .eq v29 c5_i32_73
  let c2_i32_74 : BitVec 32 := 2#32
  let c0_i32_75 : BitVec 32 := 0#32
  let v97 : BitVec 32 := Scalar.select v96 c2_i32_74 c0_i32_75
  let v98 : BitVec 32 := Scalar.addi v95 v97
  let c6_i32_76 : BitVec 32 := 6#32
  let v99 : BitVec 1 := Scalar.cmpi .eq v29 c6_i32_76
  let c5_i32_77 : BitVec 32 := 5#32
  let c0_i32_78 : BitVec 32 := 0#32
  let v100 : BitVec 32 := Scalar.select v99 c5_i32_77 c0_i32_78
  let v101 : BitVec 32 := Scalar.addi v98 v100
  let c7_i32_79 : BitVec 32 := 7#32
  let v102 : BitVec 1 := Scalar.cmpi .eq v29 c7_i32_79
  let c6_i32_80 : BitVec 32 := 6#32
  let c0_i32_81 : BitVec 32 := 0#32
  let v103 : BitVec 32 := Scalar.select v102 c6_i32_80 c0_i32_81
  let v104 : BitVec 32 := Scalar.addi v101 v103
  let v105 : BitVec 32 := Scalar.addi v80 v104
  let c1_i32_2426 : BitVec 32 := 1#32
  let v2788 : BitVec 32 := Scalar.muli v105 c1_i32_2426
  let v2789 : BitVec 32 := Scalar.addi c0_i32_2427 v2788
  v2789.toNat
def k0_dev61 (d0 : Dev nD) : Nat :=
  let c0_i32_2454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v54 : BitVec 32 := Scalar.muli v19 c8_i32_30
  let c0_i32_34 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_31 : BitVec 32 := 0#32
  let v55 : BitVec 1 := Scalar.cmpi .eq v29 c0_i32_31
  let c1_i32_32 : BitVec 32 := 1#32
  let c0_i32_33 : BitVec 32 := 0#32
  let v56 : BitVec 32 := Scalar.select v55 c1_i32_32 c0_i32_33
  let v57 : BitVec 32 := Scalar.addi c0_i32_34 v56
  let c1_i32_35 : BitVec 32 := 1#32
  let v58 : BitVec 1 := Scalar.cmpi .eq v29 c1_i32_35
  let c2_i32_36 : BitVec 32 := 2#32
  let c0_i32_37 : BitVec 32 := 0#32
  let v59 : BitVec 32 := Scalar.select v58 c2_i32_36 c0_i32_37
  let v60 : BitVec 32 := Scalar.addi v57 v59
  let c2_i32_38 : BitVec 32 := 2#32
  let v61 : BitVec 1 := Scalar.cmpi .eq v29 c2_i32_38
  let c5_i32_39 : BitVec 32 := 5#32
  let c0_i32_40 : BitVec 32 := 0#32
  let v62 : BitVec 32 := Scalar.select v61 c5_i32_39 c0_i32_40
  let v63 : BitVec 32 := Scalar.addi v60 v62
  let c3_i32_41 : BitVec 32 := 3#32
  let v64 : BitVec 1 := Scalar.cmpi .eq v29 c3_i32_41
  let c0_i32_42 : BitVec 32 := 0#32
  let c0_i32_43 : BitVec 32 := 0#32
  let v65 : BitVec 32 := Scalar.select v64 c0_i32_42 c0_i32_43
  let v66 : BitVec 32 := Scalar.addi v63 v65
  let c4_i32_44 : BitVec 32 := 4#32
  let v67 : BitVec 1 := Scalar.cmpi .eq v29 c4_i32_44
  let c3_i32_45 : BitVec 32 := 3#32
  let c0_i32_46 : BitVec 32 := 0#32
  let v68 : BitVec 32 := Scalar.select v67 c3_i32_45 c0_i32_46
  let v69 : BitVec 32 := Scalar.addi v66 v68
  let c5_i32_47 : BitVec 32 := 5#32
  let v70 : BitVec 1 := Scalar.cmpi .eq v29 c5_i32_47
  let c6_i32_48 : BitVec 32 := 6#32
  let c0_i32_49 : BitVec 32 := 0#32
  let v71 : BitVec 32 := Scalar.select v70 c6_i32_48 c0_i32_49
  let v72 : BitVec 32 := Scalar.addi v69 v71
  let c6_i32_50 : BitVec 32 := 6#32
  let v73 : BitVec 1 := Scalar.cmpi .eq v29 c6_i32_50
  let c7_i32_51 : BitVec 32 := 7#32
  let c0_i32_52 : BitVec 32 := 0#32
  let v74 : BitVec 32 := Scalar.select v73 c7_i32_51 c0_i32_52
  let v75 : BitVec 32 := Scalar.addi v72 v74
  let c7_i32_53 : BitVec 32 := 7#32
  let v76 : BitVec 1 := Scalar.cmpi .eq v29 c7_i32_53
  let c4_i32_54 : BitVec 32 := 4#32
  let c0_i32_55 : BitVec 32 := 0#32
  let v77 : BitVec 32 := Scalar.select v76 c4_i32_54 c0_i32_55
  let v78 : BitVec 32 := Scalar.addi v75 v77
  let v79 : BitVec 32 := Scalar.addi v54 v78
  let c1_i32_2453 : BitVec 32 := 1#32
  let v2820 : BitVec 32 := Scalar.muli v79 c1_i32_2453
  let v2821 : BitVec 32 := Scalar.addi c0_i32_2454 v2820
  v2821.toNat
def k0_dev62 (d0 : Dev nD) : Nat :=
  let c0_i32_2481 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v54 : BitVec 32 := Scalar.muli v19 c8_i32_30
  let c0_i32_34 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_31 : BitVec 32 := 0#32
  let v55 : BitVec 1 := Scalar.cmpi .eq v29 c0_i32_31
  let c1_i32_32 : BitVec 32 := 1#32
  let c0_i32_33 : BitVec 32 := 0#32
  let v56 : BitVec 32 := Scalar.select v55 c1_i32_32 c0_i32_33
  let v57 : BitVec 32 := Scalar.addi c0_i32_34 v56
  let c1_i32_35 : BitVec 32 := 1#32
  let v58 : BitVec 1 := Scalar.cmpi .eq v29 c1_i32_35
  let c2_i32_36 : BitVec 32 := 2#32
  let c0_i32_37 : BitVec 32 := 0#32
  let v59 : BitVec 32 := Scalar.select v58 c2_i32_36 c0_i32_37
  let v60 : BitVec 32 := Scalar.addi v57 v59
  let c2_i32_38 : BitVec 32 := 2#32
  let v61 : BitVec 1 := Scalar.cmpi .eq v29 c2_i32_38
  let c5_i32_39 : BitVec 32 := 5#32
  let c0_i32_40 : BitVec 32 := 0#32
  let v62 : BitVec 32 := Scalar.select v61 c5_i32_39 c0_i32_40
  let v63 : BitVec 32 := Scalar.addi v60 v62
  let c3_i32_41 : BitVec 32 := 3#32
  let v64 : BitVec 1 := Scalar.cmpi .eq v29 c3_i32_41
  let c0_i32_42 : BitVec 32 := 0#32
  let c0_i32_43 : BitVec 32 := 0#32
  let v65 : BitVec 32 := Scalar.select v64 c0_i32_42 c0_i32_43
  let v66 : BitVec 32 := Scalar.addi v63 v65
  let c4_i32_44 : BitVec 32 := 4#32
  let v67 : BitVec 1 := Scalar.cmpi .eq v29 c4_i32_44
  let c3_i32_45 : BitVec 32 := 3#32
  let c0_i32_46 : BitVec 32 := 0#32
  let v68 : BitVec 32 := Scalar.select v67 c3_i32_45 c0_i32_46
  let v69 : BitVec 32 := Scalar.addi v66 v68
  let c5_i32_47 : BitVec 32 := 5#32
  let v70 : BitVec 1 := Scalar.cmpi .eq v29 c5_i32_47
  let c6_i32_48 : BitVec 32 := 6#32
  let c0_i32_49 : BitVec 32 := 0#32
  let v71 : BitVec 32 := Scalar.select v70 c6_i32_48 c0_i32_49
  let v72 : BitVec 32 := Scalar.addi v69 v71
  let c6_i32_50 : BitVec 32 := 6#32
  let v73 : BitVec 1 := Scalar.cmpi .eq v29 c6_i32_50
  let c7_i32_51 : BitVec 32 := 7#32
  let c0_i32_52 : BitVec 32 := 0#32
  let v74 : BitVec 32 := Scalar.select v73 c7_i32_51 c0_i32_52
  let v75 : BitVec 32 := Scalar.addi v72 v74
  let c7_i32_53 : BitVec 32 := 7#32
  let v76 : BitVec 1 := Scalar.cmpi .eq v29 c7_i32_53
  let c4_i32_54 : BitVec 32 := 4#32
  let c0_i32_55 : BitVec 32 := 0#32
  let v77 : BitVec 32 := Scalar.select v76 c4_i32_54 c0_i32_55
  let v78 : BitVec 32 := Scalar.addi v75 v77
  let v79 : BitVec 32 := Scalar.addi v54 v78
  let c1_i32_2480 : BitVec 32 := 1#32
  let v2852 : BitVec 32 := Scalar.muli v79 c1_i32_2480
  let v2853 : BitVec 32 := Scalar.addi c0_i32_2481 v2852
  v2853.toNat
def k0_dev63 (d0 : Dev nD) : Nat :=
  let c0_i32_2508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v80 : BitVec 32 := Scalar.muli v19 c8_i32_56
  let c0_i32_60 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_57 : BitVec 32 := 0#32
  let v81 : BitVec 1 := Scalar.cmpi .eq v29 c0_i32_57
  let c3_i32_58 : BitVec 32 := 3#32
  let c0_i32_59 : BitVec 32 := 0#32
  let v82 : BitVec 32 := Scalar.select v81 c3_i32_58 c0_i32_59
  let v83 : BitVec 32 := Scalar.addi c0_i32_60 v82
  let c1_i32_61 : BitVec 32 := 1#32
  let v84 : BitVec 1 := Scalar.cmpi .eq v29 c1_i32_61
  let c0_i32_62 : BitVec 32 := 0#32
  let c0_i32_63 : BitVec 32 := 0#32
  let v85 : BitVec 32 := Scalar.select v84 c0_i32_62 c0_i32_63
  let v86 : BitVec 32 := Scalar.addi v83 v85
  let c2_i32_64 : BitVec 32 := 2#32
  let v87 : BitVec 1 := Scalar.cmpi .eq v29 c2_i32_64
  let c1_i32_65 : BitVec 32 := 1#32
  let c0_i32_66 : BitVec 32 := 0#32
  let v88 : BitVec 32 := Scalar.select v87 c1_i32_65 c0_i32_66
  let v89 : BitVec 32 := Scalar.addi v86 v88
  let c3_i32_67 : BitVec 32 := 3#32
  let v90 : BitVec 1 := Scalar.cmpi .eq v29 c3_i32_67
  let c4_i32_68 : BitVec 32 := 4#32
  let c0_i32_69 : BitVec 32 := 0#32
  let v91 : BitVec 32 := Scalar.select v90 c4_i32_68 c0_i32_69
  let v92 : BitVec 32 := Scalar.addi v89 v91
  let c4_i32_70 : BitVec 32 := 4#32
  let v93 : BitVec 1 := Scalar.cmpi .eq v29 c4_i32_70
  let c7_i32_71 : BitVec 32 := 7#32
  let c0_i32_72 : BitVec 32 := 0#32
  let v94 : BitVec 32 := Scalar.select v93 c7_i32_71 c0_i32_72
  let v95 : BitVec 32 := Scalar.addi v92 v94
  let c5_i32_73 : BitVec 32 := 5#32
  let v96 : BitVec 1 := Scalar.cmpi .eq v29 c5_i32_73
  let c2_i32_74 : BitVec 32 := 2#32
  let c0_i32_75 : BitVec 32 := 0#32
  let v97 : BitVec 32 := Scalar.select v96 c2_i32_74 c0_i32_75
  let v98 : BitVec 32 := Scalar.addi v95 v97
  let c6_i32_76 : BitVec 32 := 6#32
  let v99 : BitVec 1 := Scalar.cmpi .eq v29 c6_i32_76
  let c5_i32_77 : BitVec 32 := 5#32
  let c0_i32_78 : BitVec 32 := 0#32
  let v100 : BitVec 32 := Scalar.select v99 c5_i32_77 c0_i32_78
  let v101 : BitVec 32 := Scalar.addi v98 v100
  let c7_i32_79 : BitVec 32 := 7#32
  let v102 : BitVec 1 := Scalar.cmpi .eq v29 c7_i32_79
  let c6_i32_80 : BitVec 32 := 6#32
  let c0_i32_81 : BitVec 32 := 0#32
  let v103 : BitVec 32 := Scalar.select v102 c6_i32_80 c0_i32_81
  let v104 : BitVec 32 := Scalar.addi v101 v103
  let v105 : BitVec 32 := Scalar.addi v80 v104
  let c1_i32_2507 : BitVec 32 := 1#32
  let v2884 : BitVec 32 := Scalar.muli v105 c1_i32_2507
  let v2885 : BitVec 32 := Scalar.addi c0_i32_2508 v2884
  v2885.toNat
def k0_dev64 (d0 : Dev nD) : Nat :=
  let c0_i32_2535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v80 : BitVec 32 := Scalar.muli v19 c8_i32_56
  let c0_i32_60 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_57 : BitVec 32 := 0#32
  let v81 : BitVec 1 := Scalar.cmpi .eq v29 c0_i32_57
  let c3_i32_58 : BitVec 32 := 3#32
  let c0_i32_59 : BitVec 32 := 0#32
  let v82 : BitVec 32 := Scalar.select v81 c3_i32_58 c0_i32_59
  let v83 : BitVec 32 := Scalar.addi c0_i32_60 v82
  let c1_i32_61 : BitVec 32 := 1#32
  let v84 : BitVec 1 := Scalar.cmpi .eq v29 c1_i32_61
  let c0_i32_62 : BitVec 32 := 0#32
  let c0_i32_63 : BitVec 32 := 0#32
  let v85 : BitVec 32 := Scalar.select v84 c0_i32_62 c0_i32_63
  let v86 : BitVec 32 := Scalar.addi v83 v85
  let c2_i32_64 : BitVec 32 := 2#32
  let v87 : BitVec 1 := Scalar.cmpi .eq v29 c2_i32_64
  let c1_i32_65 : BitVec 32 := 1#32
  let c0_i32_66 : BitVec 32 := 0#32
  let v88 : BitVec 32 := Scalar.select v87 c1_i32_65 c0_i32_66
  let v89 : BitVec 32 := Scalar.addi v86 v88
  let c3_i32_67 : BitVec 32 := 3#32
  let v90 : BitVec 1 := Scalar.cmpi .eq v29 c3_i32_67
  let c4_i32_68 : BitVec 32 := 4#32
  let c0_i32_69 : BitVec 32 := 0#32
  let v91 : BitVec 32 := Scalar.select v90 c4_i32_68 c0_i32_69
  let v92 : BitVec 32 := Scalar.addi v89 v91
  let c4_i32_70 : BitVec 32 := 4#32
  let v93 : BitVec 1 := Scalar.cmpi .eq v29 c4_i32_70
  let c7_i32_71 : BitVec 32 := 7#32
  let c0_i32_72 : BitVec 32 := 0#32
  let v94 : BitVec 32 := Scalar.select v93 c7_i32_71 c0_i32_72
  let v95 : BitVec 32 := Scalar.addi v92 v94
  let c5_i32_73 : BitVec 32 := 5#32
  let v96 : BitVec 1 := Scalar.cmpi .eq v29 c5_i32_73
  let c2_i32_74 : BitVec 32 := 2#32
  let c0_i32_75 : BitVec 32 := 0#32
  let v97 : BitVec 32 := Scalar.select v96 c2_i32_74 c0_i32_75
  let v98 : BitVec 32 := Scalar.addi v95 v97
  let c6_i32_76 : BitVec 32 := 6#32
  let v99 : BitVec 1 := Scalar.cmpi .eq v29 c6_i32_76
  let c5_i32_77 : BitVec 32 := 5#32
  let c0_i32_78 : BitVec 32 := 0#32
  let v100 : BitVec 32 := Scalar.select v99 c5_i32_77 c0_i32_78
  let v101 : BitVec 32 := Scalar.addi v98 v100
  let c7_i32_79 : BitVec 32 := 7#32
  let v102 : BitVec 1 := Scalar.cmpi .eq v29 c7_i32_79
  let c6_i32_80 : BitVec 32 := 6#32
  let c0_i32_81 : BitVec 32 := 0#32
  let v103 : BitVec 32 := Scalar.select v102 c6_i32_80 c0_i32_81
  let v104 : BitVec 32 := Scalar.addi v101 v103
  let v105 : BitVec 32 := Scalar.addi v80 v104
  let c1_i32_2534 : BitVec 32 := 1#32
  let v2916 : BitVec 32 := Scalar.muli v105 c1_i32_2534
  let v2917 : BitVec 32 := Scalar.addi c0_i32_2535 v2916
  v2917.toNat
def k0_dev65 (d0 : Dev nD) : Nat :=
  let c0_i32_2562 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v54 : BitVec 32 := Scalar.muli v19 c8_i32_30
  let c0_i32_34 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_31 : BitVec 32 := 0#32
  let v55 : BitVec 1 := Scalar.cmpi .eq v29 c0_i32_31
  let c1_i32_32 : BitVec 32 := 1#32
  let c0_i32_33 : BitVec 32 := 0#32
  let v56 : BitVec 32 := Scalar.select v55 c1_i32_32 c0_i32_33
  let v57 : BitVec 32 := Scalar.addi c0_i32_34 v56
  let c1_i32_35 : BitVec 32 := 1#32
  let v58 : BitVec 1 := Scalar.cmpi .eq v29 c1_i32_35
  let c2_i32_36 : BitVec 32 := 2#32
  let c0_i32_37 : BitVec 32 := 0#32
  let v59 : BitVec 32 := Scalar.select v58 c2_i32_36 c0_i32_37
  let v60 : BitVec 32 := Scalar.addi v57 v59
  let c2_i32_38 : BitVec 32 := 2#32
  let v61 : BitVec 1 := Scalar.cmpi .eq v29 c2_i32_38
  let c5_i32_39 : BitVec 32 := 5#32
  let c0_i32_40 : BitVec 32 := 0#32
  let v62 : BitVec 32 := Scalar.select v61 c5_i32_39 c0_i32_40
  let v63 : BitVec 32 := Scalar.addi v60 v62
  let c3_i32_41 : BitVec 32 := 3#32
  let v64 : BitVec 1 := Scalar.cmpi .eq v29 c3_i32_41
  let c0_i32_42 : BitVec 32 := 0#32
  let c0_i32_43 : BitVec 32 := 0#32
  let v65 : BitVec 32 := Scalar.select v64 c0_i32_42 c0_i32_43
  let v66 : BitVec 32 := Scalar.addi v63 v65
  let c4_i32_44 : BitVec 32 := 4#32
  let v67 : BitVec 1 := Scalar.cmpi .eq v29 c4_i32_44
  let c3_i32_45 : BitVec 32 := 3#32
  let c0_i32_46 : BitVec 32 := 0#32
  let v68 : BitVec 32 := Scalar.select v67 c3_i32_45 c0_i32_46
  let v69 : BitVec 32 := Scalar.addi v66 v68
  let c5_i32_47 : BitVec 32 := 5#32
  let v70 : BitVec 1 := Scalar.cmpi .eq v29 c5_i32_47
  let c6_i32_48 : BitVec 32 := 6#32
  let c0_i32_49 : BitVec 32 := 0#32
  let v71 : BitVec 32 := Scalar.select v70 c6_i32_48 c0_i32_49
  let v72 : BitVec 32 := Scalar.addi v69 v71
  let c6_i32_50 : BitVec 32 := 6#32
  let v73 : BitVec 1 := Scalar.cmpi .eq v29 c6_i32_50
  let c7_i32_51 : BitVec 32 := 7#32
  let c0_i32_52 : BitVec 32 := 0#32
  let v74 : BitVec 32 := Scalar.select v73 c7_i32_51 c0_i32_52
  let v75 : BitVec 32 := Scalar.addi v72 v74
  let c7_i32_53 : BitVec 32 := 7#32
  let v76 : BitVec 1 := Scalar.cmpi .eq v29 c7_i32_53
  let c4_i32_54 : BitVec 32 := 4#32
  let c0_i32_55 : BitVec 32 := 0#32
  let v77 : BitVec 32 := Scalar.select v76 c4_i32_54 c0_i32_55
  let v78 : BitVec 32 := Scalar.addi v75 v77
  let v79 : BitVec 32 := Scalar.addi v54 v78
  let c1_i32_2561 : BitVec 32 := 1#32
  let v2948 : BitVec 32 := Scalar.muli v79 c1_i32_2561
  let v2949 : BitVec 32 := Scalar.addi c0_i32_2562 v2948
  v2949.toNat
def k0_dev66 (d0 : Dev nD) : Nat :=
  let c0_i32_2589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v54 : BitVec 32 := Scalar.muli v19 c8_i32_30
  let c0_i32_34 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_31 : BitVec 32 := 0#32
  let v55 : BitVec 1 := Scalar.cmpi .eq v29 c0_i32_31
  let c1_i32_32 : BitVec 32 := 1#32
  let c0_i32_33 : BitVec 32 := 0#32
  let v56 : BitVec 32 := Scalar.select v55 c1_i32_32 c0_i32_33
  let v57 : BitVec 32 := Scalar.addi c0_i32_34 v56
  let c1_i32_35 : BitVec 32 := 1#32
  let v58 : BitVec 1 := Scalar.cmpi .eq v29 c1_i32_35
  let c2_i32_36 : BitVec 32 := 2#32
  let c0_i32_37 : BitVec 32 := 0#32
  let v59 : BitVec 32 := Scalar.select v58 c2_i32_36 c0_i32_37
  let v60 : BitVec 32 := Scalar.addi v57 v59
  let c2_i32_38 : BitVec 32 := 2#32
  let v61 : BitVec 1 := Scalar.cmpi .eq v29 c2_i32_38
  let c5_i32_39 : BitVec 32 := 5#32
  let c0_i32_40 : BitVec 32 := 0#32
  let v62 : BitVec 32 := Scalar.select v61 c5_i32_39 c0_i32_40
  let v63 : BitVec 32 := Scalar.addi v60 v62
  let c3_i32_41 : BitVec 32 := 3#32
  let v64 : BitVec 1 := Scalar.cmpi .eq v29 c3_i32_41
  let c0_i32_42 : BitVec 32 := 0#32
  let c0_i32_43 : BitVec 32 := 0#32
  let v65 : BitVec 32 := Scalar.select v64 c0_i32_42 c0_i32_43
  let v66 : BitVec 32 := Scalar.addi v63 v65
  let c4_i32_44 : BitVec 32 := 4#32
  let v67 : BitVec 1 := Scalar.cmpi .eq v29 c4_i32_44
  let c3_i32_45 : BitVec 32 := 3#32
  let c0_i32_46 : BitVec 32 := 0#32
  let v68 : BitVec 32 := Scalar.select v67 c3_i32_45 c0_i32_46
  let v69 : BitVec 32 := Scalar.addi v66 v68
  let c5_i32_47 : BitVec 32 := 5#32
  let v70 : BitVec 1 := Scalar.cmpi .eq v29 c5_i32_47
  let c6_i32_48 : BitVec 32 := 6#32
  let c0_i32_49 : BitVec 32 := 0#32
  let v71 : BitVec 32 := Scalar.select v70 c6_i32_48 c0_i32_49
  let v72 : BitVec 32 := Scalar.addi v69 v71
  let c6_i32_50 : BitVec 32 := 6#32
  let v73 : BitVec 1 := Scalar.cmpi .eq v29 c6_i32_50
  let c7_i32_51 : BitVec 32 := 7#32
  let c0_i32_52 : BitVec 32 := 0#32
  let v74 : BitVec 32 := Scalar.select v73 c7_i32_51 c0_i32_52
  let v75 : BitVec 32 := Scalar.addi v72 v74
  let c7_i32_53 : BitVec 32 := 7#32
  let v76 : BitVec 1 := Scalar.cmpi .eq v29 c7_i32_53
  let c4_i32_54 : BitVec 32 := 4#32
  let c0_i32_55 : BitVec 32 := 0#32
  let v77 : BitVec 32 := Scalar.select v76 c4_i32_54 c0_i32_55
  let v78 : BitVec 32 := Scalar.addi v75 v77
  let v79 : BitVec 32 := Scalar.addi v54 v78
  let c1_i32_2588 : BitVec 32 := 1#32
  let v2980 : BitVec 32 := Scalar.muli v79 c1_i32_2588
  let v2981 : BitVec 32 := Scalar.addi c0_i32_2589 v2980
  v2981.toNat
def k0_dev67 (d0 : Dev nD) : Nat :=
  let c0_i32_2616 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v80 : BitVec 32 := Scalar.muli v19 c8_i32_56
  let c0_i32_60 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_57 : BitVec 32 := 0#32
  let v81 : BitVec 1 := Scalar.cmpi .eq v29 c0_i32_57
  let c3_i32_58 : BitVec 32 := 3#32
  let c0_i32_59 : BitVec 32 := 0#32
  let v82 : BitVec 32 := Scalar.select v81 c3_i32_58 c0_i32_59
  let v83 : BitVec 32 := Scalar.addi c0_i32_60 v82
  let c1_i32_61 : BitVec 32 := 1#32
  let v84 : BitVec 1 := Scalar.cmpi .eq v29 c1_i32_61
  let c0_i32_62 : BitVec 32 := 0#32
  let c0_i32_63 : BitVec 32 := 0#32
  let v85 : BitVec 32 := Scalar.select v84 c0_i32_62 c0_i32_63
  let v86 : BitVec 32 := Scalar.addi v83 v85
  let c2_i32_64 : BitVec 32 := 2#32
  let v87 : BitVec 1 := Scalar.cmpi .eq v29 c2_i32_64
  let c1_i32_65 : BitVec 32 := 1#32
  let c0_i32_66 : BitVec 32 := 0#32
  let v88 : BitVec 32 := Scalar.select v87 c1_i32_65 c0_i32_66
  let v89 : BitVec 32 := Scalar.addi v86 v88
  let c3_i32_67 : BitVec 32 := 3#32
  let v90 : BitVec 1 := Scalar.cmpi .eq v29 c3_i32_67
  let c4_i32_68 : BitVec 32 := 4#32
  let c0_i32_69 : BitVec 32 := 0#32
  let v91 : BitVec 32 := Scalar.select v90 c4_i32_68 c0_i32_69
  let v92 : BitVec 32 := Scalar.addi v89 v91
  let c4_i32_70 : BitVec 32 := 4#32
  let v93 : BitVec 1 := Scalar.cmpi .eq v29 c4_i32_70
  let c7_i32_71 : BitVec 32 := 7#32
  let c0_i32_72 : BitVec 32 := 0#32
  let v94 : BitVec 32 := Scalar.select v93 c7_i32_71 c0_i32_72
  let v95 : BitVec 32 := Scalar.addi v92 v94
  let c5_i32_73 : BitVec 32 := 5#32
  let v96 : BitVec 1 := Scalar.cmpi .eq v29 c5_i32_73
  let c2_i32_74 : BitVec 32 := 2#32
  let c0_i32_75 : BitVec 32 := 0#32
  let v97 : BitVec 32 := Scalar.select v96 c2_i32_74 c0_i32_75
  let v98 : BitVec 32 := Scalar.addi v95 v97
  let c6_i32_76 : BitVec 32 := 6#32
  let v99 : BitVec 1 := Scalar.cmpi .eq v29 c6_i32_76
  let c5_i32_77 : BitVec 32 := 5#32
  let c0_i32_78 : BitVec 32 := 0#32
  let v100 : BitVec 32 := Scalar.select v99 c5_i32_77 c0_i32_78
  let v101 : BitVec 32 := Scalar.addi v98 v100
  let c7_i32_79 : BitVec 32 := 7#32
  let v102 : BitVec 1 := Scalar.cmpi .eq v29 c7_i32_79
  let c6_i32_80 : BitVec 32 := 6#32
  let c0_i32_81 : BitVec 32 := 0#32
  let v103 : BitVec 32 := Scalar.select v102 c6_i32_80 c0_i32_81
  let v104 : BitVec 32 := Scalar.addi v101 v103
  let v105 : BitVec 32 := Scalar.addi v80 v104
  let c1_i32_2615 : BitVec 32 := 1#32
  let v3012 : BitVec 32 := Scalar.muli v105 c1_i32_2615
  let v3013 : BitVec 32 := Scalar.addi c0_i32_2616 v3012
  v3013.toNat
def k0_dev68 (d0 : Dev nD) : Nat :=
  let c0_i32_2643 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v80 : BitVec 32 := Scalar.muli v19 c8_i32_56
  let c0_i32_60 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_57 : BitVec 32 := 0#32
  let v81 : BitVec 1 := Scalar.cmpi .eq v29 c0_i32_57
  let c3_i32_58 : BitVec 32 := 3#32
  let c0_i32_59 : BitVec 32 := 0#32
  let v82 : BitVec 32 := Scalar.select v81 c3_i32_58 c0_i32_59
  let v83 : BitVec 32 := Scalar.addi c0_i32_60 v82
  let c1_i32_61 : BitVec 32 := 1#32
  let v84 : BitVec 1 := Scalar.cmpi .eq v29 c1_i32_61
  let c0_i32_62 : BitVec 32 := 0#32
  let c0_i32_63 : BitVec 32 := 0#32
  let v85 : BitVec 32 := Scalar.select v84 c0_i32_62 c0_i32_63
  let v86 : BitVec 32 := Scalar.addi v83 v85
  let c2_i32_64 : BitVec 32 := 2#32
  let v87 : BitVec 1 := Scalar.cmpi .eq v29 c2_i32_64
  let c1_i32_65 : BitVec 32 := 1#32
  let c0_i32_66 : BitVec 32 := 0#32
  let v88 : BitVec 32 := Scalar.select v87 c1_i32_65 c0_i32_66
  let v89 : BitVec 32 := Scalar.addi v86 v88
  let c3_i32_67 : BitVec 32 := 3#32
  let v90 : BitVec 1 := Scalar.cmpi .eq v29 c3_i32_67
  let c4_i32_68 : BitVec 32 := 4#32
  let c0_i32_69 : BitVec 32 := 0#32
  let v91 : BitVec 32 := Scalar.select v90 c4_i32_68 c0_i32_69
  let v92 : BitVec 32 := Scalar.addi v89 v91
  let c4_i32_70 : BitVec 32 := 4#32
  let v93 : BitVec 1 := Scalar.cmpi .eq v29 c4_i32_70
  let c7_i32_71 : BitVec 32 := 7#32
  let c0_i32_72 : BitVec 32 := 0#32
  let v94 : BitVec 32 := Scalar.select v93 c7_i32_71 c0_i32_72
  let v95 : BitVec 32 := Scalar.addi v92 v94
  let c5_i32_73 : BitVec 32 := 5#32
  let v96 : BitVec 1 := Scalar.cmpi .eq v29 c5_i32_73
  let c2_i32_74 : BitVec 32 := 2#32
  let c0_i32_75 : BitVec 32 := 0#32
  let v97 : BitVec 32 := Scalar.select v96 c2_i32_74 c0_i32_75
  let v98 : BitVec 32 := Scalar.addi v95 v97
  let c6_i32_76 : BitVec 32 := 6#32
  let v99 : BitVec 1 := Scalar.cmpi .eq v29 c6_i32_76
  let c5_i32_77 : BitVec 32 := 5#32
  let c0_i32_78 : BitVec 32 := 0#32
  let v100 : BitVec 32 := Scalar.select v99 c5_i32_77 c0_i32_78
  let v101 : BitVec 32 := Scalar.addi v98 v100
  let c7_i32_79 : BitVec 32 := 7#32
  let v102 : BitVec 1 := Scalar.cmpi .eq v29 c7_i32_79
  let c6_i32_80 : BitVec 32 := 6#32
  let c0_i32_81 : BitVec 32 := 0#32
  let v103 : BitVec 32 := Scalar.select v102 c6_i32_80 c0_i32_81
  let v104 : BitVec 32 := Scalar.addi v101 v103
  let v105 : BitVec 32 := Scalar.addi v80 v104
  let c1_i32_2642 : BitVec 32 := 1#32
  let v3044 : BitVec 32 := Scalar.muli v105 c1_i32_2642
  let v3045 : BitVec 32 := Scalar.addi c0_i32_2643 v3044
  v3045.toNat
def k0_dev69 (d0 : Dev nD) : Nat :=
  let c0_i32_2670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v54 : BitVec 32 := Scalar.muli v19 c8_i32_30
  let c0_i32_34 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_31 : BitVec 32 := 0#32
  let v55 : BitVec 1 := Scalar.cmpi .eq v29 c0_i32_31
  let c1_i32_32 : BitVec 32 := 1#32
  let c0_i32_33 : BitVec 32 := 0#32
  let v56 : BitVec 32 := Scalar.select v55 c1_i32_32 c0_i32_33
  let v57 : BitVec 32 := Scalar.addi c0_i32_34 v56
  let c1_i32_35 : BitVec 32 := 1#32
  let v58 : BitVec 1 := Scalar.cmpi .eq v29 c1_i32_35
  let c2_i32_36 : BitVec 32 := 2#32
  let c0_i32_37 : BitVec 32 := 0#32
  let v59 : BitVec 32 := Scalar.select v58 c2_i32_36 c0_i32_37
  let v60 : BitVec 32 := Scalar.addi v57 v59
  let c2_i32_38 : BitVec 32 := 2#32
  let v61 : BitVec 1 := Scalar.cmpi .eq v29 c2_i32_38
  let c5_i32_39 : BitVec 32 := 5#32
  let c0_i32_40 : BitVec 32 := 0#32
  let v62 : BitVec 32 := Scalar.select v61 c5_i32_39 c0_i32_40
  let v63 : BitVec 32 := Scalar.addi v60 v62
  let c3_i32_41 : BitVec 32 := 3#32
  let v64 : BitVec 1 := Scalar.cmpi .eq v29 c3_i32_41
  let c0_i32_42 : BitVec 32 := 0#32
  let c0_i32_43 : BitVec 32 := 0#32
  let v65 : BitVec 32 := Scalar.select v64 c0_i32_42 c0_i32_43
  let v66 : BitVec 32 := Scalar.addi v63 v65
  let c4_i32_44 : BitVec 32 := 4#32
  let v67 : BitVec 1 := Scalar.cmpi .eq v29 c4_i32_44
  let c3_i32_45 : BitVec 32 := 3#32
  let c0_i32_46 : BitVec 32 := 0#32
  let v68 : BitVec 32 := Scalar.select v67 c3_i32_45 c0_i32_46
  let v69 : BitVec 32 := Scalar.addi v66 v68
  let c5_i32_47 : BitVec 32 := 5#32
  let v70 : BitVec 1 := Scalar.cmpi .eq v29 c5_i32_47
  let c6_i32_48 : BitVec 32 := 6#32
  let c0_i32_49 : BitVec 32 := 0#32
  let v71 : BitVec 32 := Scalar.select v70 c6_i32_48 c0_i32_49
  let v72 : BitVec 32 := Scalar.addi v69 v71
  let c6_i32_50 : BitVec 32 := 6#32
  let v73 : BitVec 1 := Scalar.cmpi .eq v29 c6_i32_50
  let c7_i32_51 : BitVec 32 := 7#32
  let c0_i32_52 : BitVec 32 := 0#32
  let v74 : BitVec 32 := Scalar.select v73 c7_i32_51 c0_i32_52
  let v75 : BitVec 32 := Scalar.addi v72 v74
  let c7_i32_53 : BitVec 32 := 7#32
  let v76 : BitVec 1 := Scalar.cmpi .eq v29 c7_i32_53
  let c4_i32_54 : BitVec 32 := 4#32
  let c0_i32_55 : BitVec 32 := 0#32
  let v77 : BitVec 32 := Scalar.select v76 c4_i32_54 c0_i32_55
  let v78 : BitVec 32 := Scalar.addi v75 v77
  let v79 : BitVec 32 := Scalar.addi v54 v78
  let c1_i32_2669 : BitVec 32 := 1#32
  let v3076 : BitVec 32 := Scalar.muli v79 c1_i32_2669
  let v3077 : BitVec 32 := Scalar.addi c0_i32_2670 v3076
  v3077.toNat
def k0_dev70 (d0 : Dev nD) : Nat :=
  let c0_i32_2697 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v54 : BitVec 32 := Scalar.muli v19 c8_i32_30
  let c0_i32_34 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_31 : BitVec 32 := 0#32
  let v55 : BitVec 1 := Scalar.cmpi .eq v29 c0_i32_31
  let c1_i32_32 : BitVec 32 := 1#32
  let c0_i32_33 : BitVec 32 := 0#32
  let v56 : BitVec 32 := Scalar.select v55 c1_i32_32 c0_i32_33
  let v57 : BitVec 32 := Scalar.addi c0_i32_34 v56
  let c1_i32_35 : BitVec 32 := 1#32
  let v58 : BitVec 1 := Scalar.cmpi .eq v29 c1_i32_35
  let c2_i32_36 : BitVec 32 := 2#32
  let c0_i32_37 : BitVec 32 := 0#32
  let v59 : BitVec 32 := Scalar.select v58 c2_i32_36 c0_i32_37
  let v60 : BitVec 32 := Scalar.addi v57 v59
  let c2_i32_38 : BitVec 32 := 2#32
  let v61 : BitVec 1 := Scalar.cmpi .eq v29 c2_i32_38
  let c5_i32_39 : BitVec 32 := 5#32
  let c0_i32_40 : BitVec 32 := 0#32
  let v62 : BitVec 32 := Scalar.select v61 c5_i32_39 c0_i32_40
  let v63 : BitVec 32 := Scalar.addi v60 v62
  let c3_i32_41 : BitVec 32 := 3#32
  let v64 : BitVec 1 := Scalar.cmpi .eq v29 c3_i32_41
  let c0_i32_42 : BitVec 32 := 0#32
  let c0_i32_43 : BitVec 32 := 0#32
  let v65 : BitVec 32 := Scalar.select v64 c0_i32_42 c0_i32_43
  let v66 : BitVec 32 := Scalar.addi v63 v65
  let c4_i32_44 : BitVec 32 := 4#32
  let v67 : BitVec 1 := Scalar.cmpi .eq v29 c4_i32_44
  let c3_i32_45 : BitVec 32 := 3#32
  let c0_i32_46 : BitVec 32 := 0#32
  let v68 : BitVec 32 := Scalar.select v67 c3_i32_45 c0_i32_46
  let v69 : BitVec 32 := Scalar.addi v66 v68
  let c5_i32_47 : BitVec 32 := 5#32
  let v70 : BitVec 1 := Scalar.cmpi .eq v29 c5_i32_47
  let c6_i32_48 : BitVec 32 := 6#32
  let c0_i32_49 : BitVec 32 := 0#32
  let v71 : BitVec 32 := Scalar.select v70 c6_i32_48 c0_i32_49
  let v72 : BitVec 32 := Scalar.addi v69 v71
  let c6_i32_50 : BitVec 32 := 6#32
  let v73 : BitVec 1 := Scalar.cmpi .eq v29 c6_i32_50
  let c7_i32_51 : BitVec 32 := 7#32
  let c0_i32_52 : BitVec 32 := 0#32
  let v74 : BitVec 32 := Scalar.select v73 c7_i32_51 c0_i32_52
  let v75 : BitVec 32 := Scalar.addi v72 v74
  let c7_i32_53 : BitVec 32 := 7#32
  let v76 : BitVec 1 := Scalar.cmpi .eq v29 c7_i32_53
  let c4_i32_54 : BitVec 32 := 4#32
  let c0_i32_55 : BitVec 32 := 0#32
  let v77 : BitVec 32 := Scalar.select v76 c4_i32_54 c0_i32_55
  let v78 : BitVec 32 := Scalar.addi v75 v77
  let v79 : BitVec 32 := Scalar.addi v54 v78
  let c1_i32_2696 : BitVec 32 := 1#32
  let v3108 : BitVec 32 := Scalar.muli v79 c1_i32_2696
  let v3109 : BitVec 32 := Scalar.addi c0_i32_2697 v3108
  v3109.toNat
def k0_dev71 (d0 : Dev nD) : Nat :=
  let c0_i32_2724 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v80 : BitVec 32 := Scalar.muli v19 c8_i32_56
  let c0_i32_60 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_57 : BitVec 32 := 0#32
  let v81 : BitVec 1 := Scalar.cmpi .eq v29 c0_i32_57
  let c3_i32_58 : BitVec 32 := 3#32
  let c0_i32_59 : BitVec 32 := 0#32
  let v82 : BitVec 32 := Scalar.select v81 c3_i32_58 c0_i32_59
  let v83 : BitVec 32 := Scalar.addi c0_i32_60 v82
  let c1_i32_61 : BitVec 32 := 1#32
  let v84 : BitVec 1 := Scalar.cmpi .eq v29 c1_i32_61
  let c0_i32_62 : BitVec 32 := 0#32
  let c0_i32_63 : BitVec 32 := 0#32
  let v85 : BitVec 32 := Scalar.select v84 c0_i32_62 c0_i32_63
  let v86 : BitVec 32 := Scalar.addi v83 v85
  let c2_i32_64 : BitVec 32 := 2#32
  let v87 : BitVec 1 := Scalar.cmpi .eq v29 c2_i32_64
  let c1_i32_65 : BitVec 32 := 1#32
  let c0_i32_66 : BitVec 32 := 0#32
  let v88 : BitVec 32 := Scalar.select v87 c1_i32_65 c0_i32_66
  let v89 : BitVec 32 := Scalar.addi v86 v88
  let c3_i32_67 : BitVec 32 := 3#32
  let v90 : BitVec 1 := Scalar.cmpi .eq v29 c3_i32_67
  let c4_i32_68 : BitVec 32 := 4#32
  let c0_i32_69 : BitVec 32 := 0#32
  let v91 : BitVec 32 := Scalar.select v90 c4_i32_68 c0_i32_69
  let v92 : BitVec 32 := Scalar.addi v89 v91
  let c4_i32_70 : BitVec 32 := 4#32
  let v93 : BitVec 1 := Scalar.cmpi .eq v29 c4_i32_70
  let c7_i32_71 : BitVec 32 := 7#32
  let c0_i32_72 : BitVec 32 := 0#32
  let v94 : BitVec 32 := Scalar.select v93 c7_i32_71 c0_i32_72
  let v95 : BitVec 32 := Scalar.addi v92 v94
  let c5_i32_73 : BitVec 32 := 5#32
  let v96 : BitVec 1 := Scalar.cmpi .eq v29 c5_i32_73
  let c2_i32_74 : BitVec 32 := 2#32
  let c0_i32_75 : BitVec 32 := 0#32
  let v97 : BitVec 32 := Scalar.select v96 c2_i32_74 c0_i32_75
  let v98 : BitVec 32 := Scalar.addi v95 v97
  let c6_i32_76 : BitVec 32 := 6#32
  let v99 : BitVec 1 := Scalar.cmpi .eq v29 c6_i32_76
  let c5_i32_77 : BitVec 32 := 5#32
  let c0_i32_78 : BitVec 32 := 0#32
  let v100 : BitVec 32 := Scalar.select v99 c5_i32_77 c0_i32_78
  let v101 : BitVec 32 := Scalar.addi v98 v100
  let c7_i32_79 : BitVec 32 := 7#32
  let v102 : BitVec 1 := Scalar.cmpi .eq v29 c7_i32_79
  let c6_i32_80 : BitVec 32 := 6#32
  let c0_i32_81 : BitVec 32 := 0#32
  let v103 : BitVec 32 := Scalar.select v102 c6_i32_80 c0_i32_81
  let v104 : BitVec 32 := Scalar.addi v101 v103
  let v105 : BitVec 32 := Scalar.addi v80 v104
  let c1_i32_2723 : BitVec 32 := 1#32
  let v3140 : BitVec 32 := Scalar.muli v105 c1_i32_2723
  let v3141 : BitVec 32 := Scalar.addi c0_i32_2724 v3140
  v3141.toNat
def k0_dev72 (d0 : Dev nD) : Nat :=
  let c0_i32_2751 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v80 : BitVec 32 := Scalar.muli v19 c8_i32_56
  let c0_i32_60 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_57 : BitVec 32 := 0#32
  let v81 : BitVec 1 := Scalar.cmpi .eq v29 c0_i32_57
  let c3_i32_58 : BitVec 32 := 3#32
  let c0_i32_59 : BitVec 32 := 0#32
  let v82 : BitVec 32 := Scalar.select v81 c3_i32_58 c0_i32_59
  let v83 : BitVec 32 := Scalar.addi c0_i32_60 v82
  let c1_i32_61 : BitVec 32 := 1#32
  let v84 : BitVec 1 := Scalar.cmpi .eq v29 c1_i32_61
  let c0_i32_62 : BitVec 32 := 0#32
  let c0_i32_63 : BitVec 32 := 0#32
  let v85 : BitVec 32 := Scalar.select v84 c0_i32_62 c0_i32_63
  let v86 : BitVec 32 := Scalar.addi v83 v85
  let c2_i32_64 : BitVec 32 := 2#32
  let v87 : BitVec 1 := Scalar.cmpi .eq v29 c2_i32_64
  let c1_i32_65 : BitVec 32 := 1#32
  let c0_i32_66 : BitVec 32 := 0#32
  let v88 : BitVec 32 := Scalar.select v87 c1_i32_65 c0_i32_66
  let v89 : BitVec 32 := Scalar.addi v86 v88
  let c3_i32_67 : BitVec 32 := 3#32
  let v90 : BitVec 1 := Scalar.cmpi .eq v29 c3_i32_67
  let c4_i32_68 : BitVec 32 := 4#32
  let c0_i32_69 : BitVec 32 := 0#32
  let v91 : BitVec 32 := Scalar.select v90 c4_i32_68 c0_i32_69
  let v92 : BitVec 32 := Scalar.addi v89 v91
  let c4_i32_70 : BitVec 32 := 4#32
  let v93 : BitVec 1 := Scalar.cmpi .eq v29 c4_i32_70
  let c7_i32_71 : BitVec 32 := 7#32
  let c0_i32_72 : BitVec 32 := 0#32
  let v94 : BitVec 32 := Scalar.select v93 c7_i32_71 c0_i32_72
  let v95 : BitVec 32 := Scalar.addi v92 v94
  let c5_i32_73 : BitVec 32 := 5#32
  let v96 : BitVec 1 := Scalar.cmpi .eq v29 c5_i32_73
  let c2_i32_74 : BitVec 32 := 2#32
  let c0_i32_75 : BitVec 32 := 0#32
  let v97 : BitVec 32 := Scalar.select v96 c2_i32_74 c0_i32_75
  let v98 : BitVec 32 := Scalar.addi v95 v97
  let c6_i32_76 : BitVec 32 := 6#32
  let v99 : BitVec 1 := Scalar.cmpi .eq v29 c6_i32_76
  let c5_i32_77 : BitVec 32 := 5#32
  let c0_i32_78 : BitVec 32 := 0#32
  let v100 : BitVec 32 := Scalar.select v99 c5_i32_77 c0_i32_78
  let v101 : BitVec 32 := Scalar.addi v98 v100
  let c7_i32_79 : BitVec 32 := 7#32
  let v102 : BitVec 1 := Scalar.cmpi .eq v29 c7_i32_79
  let c6_i32_80 : BitVec 32 := 6#32
  let c0_i32_81 : BitVec 32 := 0#32
  let v103 : BitVec 32 := Scalar.select v102 c6_i32_80 c0_i32_81
  let v104 : BitVec 32 := Scalar.addi v101 v103
  let v105 : BitVec 32 := Scalar.addi v80 v104
  let c1_i32_2750 : BitVec 32 := 1#32
  let v3172 : BitVec 32 := Scalar.muli v105 c1_i32_2750
  let v3173 : BitVec 32 := Scalar.addi c0_i32_2751 v3172
  v3173.toNat
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x24576 : Shape := ⟨2, ![1536, 24576]⟩
abbrev S24576x1536 : Shape := ⟨2, ![24576, 1536]⟩
abbrev S1536x1536 : Shape := ⟨2, ![1536, 1536]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1536x24576, .f32⟩
  | .hbm, ⟨1, _⟩ => ⟨S24576x1536, .f32⟩
  | .hbm, ⟨2, _⟩ => ⟨S1536x1536, .f32⟩
  | .hbm, ⟨3, _⟩ => ⟨S_, .f32⟩
  | .hbm, ⟨4, _⟩ => ⟨S1536x1536, .f32⟩
  | .hbm, ⟨5, _⟩ => ⟨S1536x1536, .f32⟩
  | _, _ => ⟨S1536x24576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Clean.lean ====
/-
  The kernel's body as a program of a few steps over tables. The printed body is one long sequence
  of statements with every loop unrolled; here each kind of step (a block of the product, a chunk
  handed to a ring, a wait) is one definition, taking its buffers, semaphores, offsets and target
  device from tables, and `body_eq` states that the printed body is this program.
-/
module

public import proofs.«01_k».proof.Proof.Gen.KernelIdeal.Skeleton
public import proofs.«01_k».proof.Proof.Gen.KernelIdeal.Frame

@[expose] public section

set_option maxRecDepth 65536

noncomputable section

namespace Cert.KernelIdeal.Run

open Idealize.ShloMosaic Idealize.ShloMosaic.TcCoe Idealize.SL.Sem
open Cert.KernelIdeal Cert.KernelIdeal.Gen

variable {F : FTy → Type} [FloatOps F]

/-- A program of the body. -/
abbrev Pr (F : FTy → Type) : Type → Type 1 := Prog (TpuEff nD τ sig (Elt F) Λ₀ .tc)

/-- A pair of start indices at which a block of shape `b` lies inside an array of shape `s`. -/
abbrev Off (s : Shape) (b : Fin s.rank → ℕ) : Type := {o : Fin s.rank → ℕ // ∀ a, o a + b a ≤ s.size a}

/-- The blocks' extents inside a two-axis array. -/
abbrev OffP (n : ℕ) : Type := Off S1536x1536 ![n, 1536]
abbrev OffA (n : ℕ) : Type := Off S1536x768 ![n, 768]

/-- What the body reads of its device: the start of every block it touches and the target of every copy. -/
structure Tab where
  a0 : OffA 192
  p0 : OffP 192
  a : Fin 2 → Fin 7 → OffA 96
  p : Fin 2 → Fin 7 → OffP 96
  rs : Fin 4 → Fin 7 → OffP 48
  own : Fin 4 → OffP 48
  zs : Fin 2 → Fin 3 → OffP 24
  zo : Fin 2 → OffP 24
  za : Fin 2 → Fin 3 → OffP 24
  ag : Fin 4 → Fin 7 → OffP 48
  dB : Fin 4 → Dev nD
  dRS : Fin 4 → Fin 7 → Dev nD
  dZ : Fin 2 → Fin 3 → Dev nD
  dZA : Fin 2 → Fin 3 → Dev nD
  dAG : Fin 4 → Fin 7 → Dev nD

/-- The place of ring `i`'s step `s` in a list of all rings' steps, step by step. -/
def at4 (i : Fin 4) (s : Fin 7) : Fin 28 := ⟨4 * s.val + i.val, by omega⟩
/-- The same for the two columns' three steps. -/
def at2 (j : Fin 2) (s : Fin 3) : Fin 6 := ⟨2 * s.val + j.val, by omega⟩

/-- The table the printed body reads on device `d`. -/
def printed (d : Dev nD) : Tab where
  a0 := ⟨k0_off1 d, k0_off1_inb d⟩
  p0 := ⟨k0_off2 d, k0_off2_inb d⟩
  a := ![fun n => match n with
      | ⟨0, _⟩ => ⟨k0_off4 d, k0_off4_inb d⟩
      | ⟨n + 1, h⟩ => ⟨k0_off8 d (BitVec.ofNat 32 n), k0_off8_inb d ⟨n, by omega⟩⟩,
    fun n => match n with
      | ⟨0, _⟩ => ⟨k0_off6 d, k0_off6_inb d⟩
      | ⟨n + 1, h⟩ => ⟨k0_off10 d (BitVec.ofNat 32 n), k0_off10_inb d ⟨n, by omega⟩⟩]
  p := ![fun n => match n with
      | ⟨0, _⟩ => ⟨k0_off5 d, k0_off5_inb d⟩
      | ⟨n + 1, h⟩ => ⟨k0_off9 d (BitVec.ofNat 32 n), k0_off9_inb d ⟨n, by omega⟩⟩,
    fun n => match n with
      | ⟨0, _⟩ => ⟨k0_off7 d, k0_off7_inb d⟩
      | ⟨n + 1, h⟩ => ⟨k0_off11 d (BitVec.ofNat 32 n), k0_off11_inb d ⟨n, by omega⟩⟩]
  rs := fun i s => ⟨k0_off3 d (k0_off3_at (at4 i s)).1 (k0_off3_at (at4 i s)).2, k0_off3_inb d (at4 i s)⟩
  own := fun i => ⟨k0_off12 d (k0_off12_at i).1 (k0_off12_at i).2, k0_off12_inb d i⟩
  zs := ![fun s => ⟨k0_off13 d (BitVec.ofNat 32 s.val), k0_off13_inb d s⟩,
    fun s => ⟨k0_off14 d (BitVec.ofNat 32 s.val), k0_off14_inb d s⟩]
  zo := ![⟨k0_off15 d, k0_off15_inb d⟩, ⟨k0_off16 d, k0_off16_inb d⟩]
  za := ![fun s => ⟨k0_off17 d (BitVec.ofNat 32 s.val), k0_off17_inb d s⟩,
    fun s => ⟨k0_off18 d (BitVec.ofNat 32 s.val), k0_off18_inb d s⟩]
  ag := fun i s => ⟨k0_off19 d (k0_off19_at (at4 i s)).1 (k0_off19_at (at4 i s)).2.1 (k0_off19_at (at4 i s)).2.2,
    k0_off19_inb d (at4 i s)⟩
  dB := ![
    ⟨k0_dev1 d, k0_dev1_lt d⟩, ⟨k0_dev2 d, k0_dev2_lt d⟩, ⟨k0_dev3 d, k0_dev3_lt d⟩, ⟨k0_dev4 d, k0_dev4_lt d⟩]
  dRS := fun i s => (![
    ⟨k0_dev5 d, k0_dev5_lt d⟩, ⟨k0_dev6 d, k0_dev6_lt d⟩, ⟨k0_dev7 d, k0_dev7_lt d⟩, ⟨k0_dev8 d, k0_dev8_lt d⟩,
    ⟨k0_dev9 d, k0_dev9_lt d⟩, ⟨k0_dev10 d, k0_dev10_lt d⟩, ⟨k0_dev11 d, k0_dev11_lt d⟩, ⟨k0_dev12 d, k0_dev12_lt d⟩,
    ⟨k0_dev13 d, k0_dev13_lt d⟩, ⟨k0_dev14 d, k0_dev14_lt d⟩, ⟨k0_dev15 d, k0_dev15_lt d⟩, ⟨k0_dev16 d, k0_dev16_lt d⟩,
    ⟨k0_dev17 d, k0_dev17_lt d⟩, ⟨k0_dev18 d, k0_dev18_lt d⟩, ⟨k0_dev19 d, k0_dev19_lt d⟩, ⟨k0_dev20 d, k0_dev20_lt d⟩,
    ⟨k0_dev21 d, k0_dev21_lt d⟩, ⟨k0_dev22 d, k0_dev22_lt d⟩, ⟨k0_dev23 d, k0_dev23_lt d⟩, ⟨k0_dev24 d, k0_dev24_lt d⟩,
    ⟨k0_dev25 d, k0_dev25_lt d⟩, ⟨k0_dev26 d, k0_dev26_lt d⟩, ⟨k0_dev27 d, k0_dev27_lt d⟩, ⟨k0_dev28 d, k0_dev28_lt d⟩,
    ⟨k0_dev29 d, k0_dev29_lt d⟩, ⟨k0_dev30 d, k0_dev30_lt d⟩, ⟨k0_dev31 d, k0_dev31_lt d⟩, ⟨k0_dev32 d, k0_dev32_lt d⟩] : Fin 28 → Dev nD) (at4 i s)
  dZ := fun j s => (![
    ⟨k0_dev33 d, k0_dev33_lt d⟩, ⟨k0_dev34 d, k0_dev34_lt d⟩,
    ⟨k0_dev35 d, k0_dev35_lt d⟩, ⟨k0_dev36 d, k0_dev36_lt d⟩,
    ⟨k0_dev37 d, k0_dev37_lt d⟩, ⟨k0_dev38 d, k0_dev38_lt d⟩] : Fin 6 → Dev nD) (at2 j s)
  dZA := fun j s => (![
    ⟨k0_dev39 d, k0_dev39_lt d⟩, ⟨k0_dev40 d, k0_dev40_lt d⟩,
    ⟨k0_dev41 d, k0_dev41_lt d⟩, ⟨k0_dev42 d, k0_dev42_lt d⟩,
    ⟨k0_dev43 d, k0_dev43_lt d⟩, ⟨k0_dev44 d, k0_dev44_lt d⟩] : Fin 6 → Dev nD) (at2 j s)
  dAG := fun i s => (![
    ⟨k0_dev45 d, k0_dev45_lt d⟩, ⟨k0_dev46 d, k0_dev46_lt d⟩, ⟨k0_dev47 d, k0_dev47_lt d⟩, ⟨k0_dev48 d, k0_dev48_lt d⟩,
    ⟨k0_dev49 d, k0_dev49_lt d⟩, ⟨k0_dev50 d, k0_dev50_lt d⟩, ⟨k0_dev51 d, k0_dev51_lt d⟩, ⟨k0_dev52 d, k0_dev52_lt d⟩,
    ⟨k0_dev53 d, k0_dev53_lt d⟩, ⟨k0_dev54 d, k0_dev54_lt d⟩, ⟨k0_dev55 d, k0_dev55_lt d⟩, ⟨k0_dev56 d, k0_dev56_lt d⟩,
    ⟨k0_dev57 d, k0_dev57_lt d⟩, ⟨k0_dev58 d, k0_dev58_lt d⟩, ⟨k0_dev59 d, k0_dev59_lt d⟩, ⟨k0_dev60 d, k0_dev60_lt d⟩,
    ⟨k0_dev61 d, k0_dev61_lt d⟩, ⟨k0_dev62 d, k0_dev62_lt d⟩, ⟨k0_dev63 d, k0_dev63_lt d⟩, ⟨k0_dev64 d, k0_dev64_lt d⟩,
    ⟨k0_dev65 d, k0_dev65_lt d⟩, ⟨k0_dev66 d, k0_dev66_lt d⟩, ⟨k0_dev67 d, k0_dev67_lt d⟩, ⟨k0_dev68 d, k0_dev68_lt d⟩,
    ⟨k0_dev69 d, k0_dev69_lt d⟩, ⟨k0_dev70 d, k0_dev70_lt d⟩, ⟨k0_dev71 d, k0_dev71_lt d⟩, ⟨k0_dev72 d, k0_dev72_lt d⟩] : Fin 28 → Dev nD) (at4 i s)

/-- The body's buffers and semaphore arrays. -/
structure Mems where
  a : Memref sig .tc .vmem S1536x768 .f32
  b : Memref sig .tc .vmem S768x1536 .f32
  o : Memref sig .tc .vmem S1536x1536 .f32
  p : Memref sig .tc .vmem S1536x1536 .f32
  sb : Fin 4 → Memref sig .tc .vmem S2x48x1536 .f32
  rc : Fin 4 → Memref sig .tc .vmem S7x48x1536 .f32
  zb : Fin 2 → Memref sig .tc .vmem S2x24x1536 .f32
  zr : Fin 2 → Memref sig .tc .vmem S3x24x1536 .f32
  ss : Fin 4 → DmaSems sig S2
  rs : Fin 4 → DmaSems sig S7
  zs : Fin 2 → DmaSems sig S2
  zq : Fin 2 → DmaSems sig S3
  az : Fin 2 → DmaSems sig S3
  ag : Fin 4 → DmaSems sig S7

/-- The two slots of a send buffer alternate. -/
def par (s : ℕ) : Fin 2 := ⟨s % 2, Nat.mod_lt _ (by decide)⟩

theorem inb3 {n m k : ℕ} (s : Fin n) :
    ∀ a, (![s.val, 0, 0] : Fin 3 → ℕ) a + (![1, m, k] : Fin 3 → ℕ) a ≤ (![n, m, k] : Fin 3 → ℕ) a := by
  intro a; fin_cases a
  · exact s.isLt
  · exact (Nat.zero_add _).le
  · exact (Nat.zero_add _).le

theorem inb1 {n : ℕ} (s : Fin n) : ∀ a, (![s.val] : Fin 1 → ℕ) a + (![1] : Fin 1 → ℕ) a ≤ (![n] : Fin 1 → ℕ) a := by
  intro a; fin_cases a; exact s.isLt

section Slots
variable (M : Mems)

/-- Slot `k` of a send buffer, of a landing buffer: its rectangle, and the buffer a copy reads or writes. -/
abbrev r2x48 (k : Fin 2) : Rect S2x48x1536 := Rect.unit (s := S2x48x1536) ![k.val, 0, 0] S1x48x1536.size (inb3 (n := 2) (m := 48) (k := 1536) k)
abbrev r7x48 (k : Fin 7) : Rect S7x48x1536 := Rect.unit (s := S7x48x1536) ![k.val, 0, 0] S1x48x1536.size (inb3 (n := 7) (m := 48) (k := 1536) k)
abbrev r2x24 (k : Fin 2) : Rect S2x24x1536 := Rect.unit (s := S2x24x1536) ![k.val, 0, 0] S1x24x1536.size (inb3 (n := 2) (m := 24) (k := 1536) k)
abbrev r3x24 (k : Fin 3) : Rect S3x24x1536 := Rect.unit (s := S3x24x1536) ![k.val, 0, 0] S1x24x1536.size (inb3 (n := 3) (m := 24) (k := 1536) k)

def Mems.sbS (i : Fin 4) (k : Fin 2) : Memref sig .tc .vmem S48x1536 .f32 :=
  ((M.sb i).slice (r2x48 k) (fun _ => rfl)).squeeze S48x1536 squeezes_S1x48x1536_S48x1536
def Mems.rcS (i : Fin 4) (k : Fin 7) : Memref sig .tc .vmem S48x1536 .f32 :=
  ((M.rc i).slice (r7x48 k) (fun _ => rfl)).squeeze S48x1536 squeezes_S1x48x1536_S48x1536
def Mems.zbS (j : Fin 2) (k : Fin 2) : Memref sig .tc .vmem S24x1536 .f32 :=
  ((M.zb j).slice (r2x24 k) (fun _ => rfl)).squeeze S24x1536 squeezes_S1x24x1536_S24x1536
def Mems.zrS (j : Fin 2) (k : Fin 3) : Memref sig .tc .vmem S24x1536 .f32 :=
  ((M.zr j).slice (r3x24 k) (fun _ => rfl)).squeeze S24x1536 squeezes_S1x24x1536_S24x1536

/-- Rows of the result's buffer. -/
def Mems.o48 (o : OffP 48) : Memref sig .tc .vmem S48x1536 .f32 := M.o.slice (Rect.unit (s := S1536x1536) o.1 S48x1536.size o.2) (fun _ => rfl)
def Mems.o24 (o : OffP 24) : Memref sig .tc .vmem S24x1536 .f32 := M.o.slice (Rect.unit (s := S1536x1536) o.1 S24x1536.size o.2) (fun _ => rfl)

/-- One semaphore of an array. -/
def sem2 (a : DmaSems sig S2) (k : Fin 2) : DmaSem sig :=
  ((a.slice (Rect.unit (s := S2) ![k.val] S1.size (inb1 k))).squeeze S_ squeezes_S1_S_).sem
def sem3 (a : DmaSems sig S3) (k : Fin 3) : DmaSem sig :=
  ((a.slice (Rect.unit (s := S3) ![k.val] S1.size (inb1 k))).squeeze S_ squeezes_S1_S_).sem
def sem7 (a : DmaSems sig S7) (k : Fin 7) : DmaSem sig :=
  ((a.slice (Rect.unit (s := S7) ![k.val] S1.size (inb1 k))).squeeze S_ squeezes_S1_S_).sem

end Slots

/-- The send semaphore of a ring's or a column's step, and the receive semaphores of the four phases. -/
def Mems.ssem (M : Mems) (i : Fin 4) (s : Fin 7) : DmaSem sig := sem2 (M.ss i) (par s.val)
def Mems.zsem (M : Mems) (j : Fin 2) (s : Fin 3) : DmaSem sig := sem2 (M.zs j) (par s.val)

/-- The barrier's semaphore. -/
def bsem : Sem sig := (SemArray.scalar (sig.barrier 0 rfl) : Sems sig S_).sem

/-! ## The steps -/

section Steps
variable (M : Mems) (T : Tab)

/-- The first block of the product: 192 rows. -/
def mm0 : Pr F PUnit := do
  let v143 : Vec F S192x768 .f32 ← Prog.lift (.load M.a (Rect.unit (s := S1536x768) T.a0.1 S192x768.size T.a0.2).toLoadRect (View.loadsAt_vmem h_S192x768))
  let v145 : Vec F S768x1536 .f32 ← Prog.lift (.load M.b (Rect.unit (s := S768x1536) ![0, 0] S768x1536.size inb_S768x1536_S768x1536_0_0).toLoadRect (View.loadsAt_vmem h_S768x1536))
  let _v : Vec F S192x1536 .f32 ← Prog.lift (.load M.p (Rect.unit (s := S1536x1536) T.p0.1 S192x1536.size T.p0.2).toLoadRect (View.loadsAt_vmem h_S192x1536))
  Prog.lift (.store M.p (Rect.unit (s := S1536x1536) T.p0.1 S192x1536.size T.p0.2) (k0_pay1 v143 v145) Finset.univ (View.stores_vmem_bits_univ h_S192x1536 rfl) (.inl rfl))

/-- A further block of the product: 96 rows. -/
def mm (a : OffA 96) (p : OffP 96) : Pr F PUnit := do
  let v277 : Vec F S96x768 .f32 ← Prog.lift (.load M.a (Rect.unit (s := S1536x768) a.1 S96x768.size a.2).toLoadRect (View.loadsAt_vmem h_S96x768))
  let v279 : Vec F S768x1536 .f32 ← Prog.lift (.load M.b (Rect.unit (s := S768x1536) ![0, 0] S768x1536.size inb_S768x1536_S768x1536_0_0).toLoadRect (View.loadsAt_vmem h_S768x1536))
  let _v : Vec F S96x1536 .f32 ← Prog.lift (.load M.p (Rect.unit (s := S1536x1536) p.1 S96x1536.size p.2).toLoadRect (View.loadsAt_vmem h_S96x1536))
  Prog.lift (.store M.p (Rect.unit (s := S1536x1536) p.1 S96x1536.size p.2) (k0_pay6 v277 v279) Finset.univ (View.stores_vmem_bits_univ h_S96x1536 rfl) (.inl rfl))

/-- Both halves' blocks of round `n`. -/
def mms (n : Fin 7) : Pr F PUnit := do
  mm M (T.a 0 n) (T.p 0 n)
  mm M (T.a 1 n) (T.p 1 n)

/-- The copy of a send buffer's slot into the peer's landing slot `s`. -/
def rsCopy (i : Fin 4) (s : Fin 7) : Pr F PUnit :=
  Prog.lift (.enqueueDma (M.sbS i (par s.val)) (.remote (Dev.tc (T.dRS i s)) (M.rcS i s) (.dma (M.ssem i s))) (.dma (sem7 (M.rs i) s))
    ((View.wordExact_bits rfl).reshape _ _) ((View.wordExact_bits rfl).reshape _ _) ⟨⟨rfl, Or.inl rfl⟩, trivial⟩)

/-- Step 0 of a ring's reduction: a chunk of the product sent on. -/
def rsFirst (i : Fin 4) : Pr F PUnit := do
  let v166 : Vec F S48x1536 .f32 ← Prog.lift (.load M.p (Rect.unit (s := S1536x1536) (T.rs i 0).1 S48x1536.size (T.rs i 0).2).toLoadRect (View.loadsAt_vmem h_S48x1536))
  let _v : Vec F S1x48x1536 .f32 ← Prog.lift (.load (M.sb i) (r2x48 0).toLoadRect (View.loadsAt_vmem h_S1x48x1536))
  Prog.lift (.store (M.sb i) (r2x48 0) (k0_pay2 v166) Finset.univ (View.stores_vmem_bits_univ h_S1x48x1536 rfl) (.inl rfl))
  rsCopy M T i 0

/-- A later step: the chunk plus what landed in slot `t`, sent on. -/
def rsNext (i : Fin 4) (t s : Fin 7) : Pr F PUnit := do
  let v331 : Vec F S48x1536 .f32 ← Prog.lift (.load M.p (Rect.unit (s := S1536x1536) (T.rs i s).1 S48x1536.size (T.rs i s).2).toLoadRect (View.loadsAt_vmem h_S48x1536))
  let v332 : Vec F S1x48x1536 .f32 ← Prog.lift (.load (M.rc i) (r7x48 t).toLoadRect (View.loadsAt_vmem h_S1x48x1536))
  let _v : Vec F S1x48x1536 .f32 ← Prog.lift (.load (M.sb i) (r2x48 (par s.val)).toLoadRect (View.loadsAt_vmem h_S1x48x1536))
  Prog.lift (.store (M.sb i) (r2x48 (par s.val)) (k0_pay8 v331 v332) Finset.univ (View.stores_vmem_bits_univ h_S1x48x1536 rfl) (.inl rfl))
  rsCopy M T i s

/-- The wait for what the peer sends at step `s`. -/
def rsRecv (i : Fin 4) (s : Fin 7) : Pr F PUnit :=
  Prog.lift (.waitDma2 (sem7 (M.rs i) s) (M.sbS i (par s.val)) (M.rcS i s) ((View.wordExact_bits rfl).reshape _ _) ((View.wordExact_bits rfl).reshape _ _))

/-- The wait for the copy sent at step `s` to have been read. -/
def rsSent (i : Fin 4) (s : Fin 7) : Pr F PUnit :=
  Prog.lift (.waitDma2 (M.ssem i s) (M.rcS i s) (M.sbS i (par s.val)) ((View.wordExact_bits rfl).reshape _ _) ((View.wordExact_bits rfl).reshape _ _))

/-- One ring's part of round 0, of a round `s` (with `r` before it and `t` after it), and of the last round. -/
def rsStep0 (i : Fin 4) : Pr F PUnit := do rsRecv M i 0; rsNext M T i 0 1
def rsStep (i : Fin 4) (r s t : Fin 7) : Pr F PUnit := do rsRecv M i s; rsSent M i r; rsNext M T i s t
def rsStep6 (i : Fin 4) : Pr F PUnit := do rsRecv M i 6; rsSent M i 5

/-- The same for the four rings in order. -/
def four (f : Fin 4 → Pr F PUnit) : Pr F PUnit := do f 0; f 1; f 2; f 3
def two (f : Fin 2 → Pr F PUnit) : Pr F PUnit := do f 0; f 1

/-- The own chunk plus what landed last. -/
def ownAdd (i : Fin 4) : Pr F PUnit := do
  let v1766 : Vec F S48x1536 .f32 ← Prog.lift (.load M.p (Rect.unit (s := S1536x1536) (T.own i).1 S48x1536.size (T.own i).2).toLoadRect (View.loadsAt_vmem h_S48x1536))
  let v1767 : Vec F S1x48x1536 .f32 ← Prog.lift (.load (M.rc i) (r7x48 6).toLoadRect (View.loadsAt_vmem h_S1x48x1536))
  let _v : Vec F S48x1536 .f32 ← Prog.lift (.load M.p (Rect.unit (s := S1536x1536) (T.own i).1 S48x1536.size (T.own i).2).toLoadRect (View.loadsAt_vmem h_S48x1536))
  Prog.lift (.store M.p (Rect.unit (s := S1536x1536) (T.own i).1 S48x1536.size (T.own i).2) (k0_pay51 v1766 v1767) Finset.univ (View.stores_vmem_bits_univ h_S48x1536 rfl) (.inl rfl))

/-! ### The columns' reduction -/

def zLoadP (j : Fin 2) (s : Fin 3) : Pr F (Vec F S24x1536 .f32) :=
  Prog.lift (.load M.p (Rect.unit (s := S1536x1536) (T.zs j s).1 S24x1536.size (T.zs j s).2).toLoadRect (View.loadsAt_vmem h_S24x1536))
def zLoadR (j : Fin 2) (s : Fin 3) : Pr F (Vec F S1x24x1536 .f32) :=
  Prog.lift (.load (M.zr j) (r3x24 s).toLoadRect (View.loadsAt_vmem h_S1x24x1536))
def zPut (j : Fin 2) (s : Fin 3) (w : Vec F S1x24x1536 .f32) : Pr F PUnit := do
  let _v : Vec F S1x24x1536 .f32 ← Prog.lift (.load (M.zb j) (r2x24 (par s.val)).toLoadRect (View.loadsAt_vmem h_S1x24x1536))
  Prog.lift (.store (M.zb j) (r2x24 (par s.val)) w Finset.univ (View.stores_vmem_bits_univ h_S1x24x1536 rfl) (.inl rfl))
def zCopy (j : Fin 2) (s : Fin 3) : Pr F PUnit :=
  Prog.lift (.enqueueDma (M.zbS j (par s.val)) (.remote (Dev.tc (T.dZ j s)) (M.zrS j s) (.dma (M.zsem j s))) (.dma (sem3 (M.zq j) s))
    ((View.wordExact_bits rfl).reshape _ _) ((View.wordExact_bits rfl).reshape _ _) ⟨⟨rfl, Or.inl rfl⟩, trivial⟩)
def zRecv (j : Fin 2) (s : Fin 3) : Pr F PUnit :=
  Prog.lift (.waitDma2 (sem3 (M.zq j) s) (M.zbS j (par s.val)) (M.zrS j s) ((View.wordExact_bits rfl).reshape _ _) ((View.wordExact_bits rfl).reshape _ _))
def zSent (j : Fin 2) (s : Fin 3) : Pr F PUnit :=
  Prog.lift (.waitDma2 (M.zsem j s) (M.zrS j s) (M.zbS j (par s.val)) ((View.wordExact_bits rfl).reshape _ _) ((View.wordExact_bits rfl).reshape _ _))

def zTail (s : Fin 3) : Pr F PUnit := do
  two fun j => zCopy M T j s
  two fun j => zSent M j s
  two fun j => zRecv M j s
def zFirst : Pr F PUnit := do
  let v ← zLoadP M T 0 0
  let w ← zLoadP M T 1 0
  zPut M 0 0 (k0_pay55 v)
  zPut M 1 0 (k0_pay55 w)
  zTail M T 0
def zNext (t s : Fin 3) : Pr F PUnit := do
  let v ← zLoadP M T 0 s
  let w ← zLoadP M T 1 s
  let v' ← zLoadR M 0 t
  let w' ← zLoadR M 1 t
  zPut M 0 s (k0_pay57 v v')
  zPut M 1 s (k0_pay57 w w')
  zTail M T s

/-- The finished rows of this device: the last sum, cut below at zero. -/
def zOwn (j : Fin 2) : Pr F PUnit := do
  let v2131 : Vec F S24x1536 .f32 ← Prog.lift (.load M.p (Rect.unit (s := S1536x1536) (T.zo j).1 S24x1536.size (T.zo j).2).toLoadRect (View.loadsAt_vmem h_S24x1536))
  let v2132 : Vec F S1x24x1536 .f32 ← zLoadR M j 2
  let _v : Vec F S24x1536 .f32 ← Prog.lift (.load M.o (Rect.unit (s := S1536x1536) (T.zo j).1 S24x1536.size (T.zo j).2).toLoadRect (View.loadsAt_vmem h_S24x1536))
  Prog.lift (.store M.o (Rect.unit (s := S1536x1536) (T.zo j).1 S24x1536.size (T.zo j).2) (k0_pay61 v2131 v2132) Finset.univ (View.stores_vmem_bits_univ h_S24x1536 rfl) (.inl rfl))

/-! ### The two gathers -/

def zaCopy (j : Fin 2) (s : Fin 3) : Pr F PUnit :=
  Prog.lift (.enqueueDma (M.o24 (T.za j s)) (.remote (Dev.tc (T.dZA j s)) (M.o24 (T.za j s)) (.dma (M.zsem j s))) (.dma (sem3 (M.az j) s))
    (View.wordExact_bits rfl) (View.wordExact_bits rfl) ⟨⟨rfl, Or.inl rfl⟩, trivial⟩)
def zaRecv (j : Fin 2) (s : Fin 3) : Pr F PUnit :=
  Prog.lift (.waitDma2 (sem3 (M.az j) s) (M.o24 (T.za j s)) (M.o24 (T.za j s)) (View.wordExact_bits rfl) (View.wordExact_bits rfl))
def zaSent (j : Fin 2) (s : Fin 3) : Pr F PUnit :=
  Prog.lift (.waitDma2 (M.zsem j s) (M.o24 (T.za j s)) (M.o24 (T.za j s)) (View.wordExact_bits rfl) (View.wordExact_bits rfl))
def zaStep (s : Fin 3) : Pr F PUnit := do
  two fun j => zaCopy M T j s
  two fun j => zaSent M T j s
  two fun j => zaRecv M T j s

def agCopy (i : Fin 4) (s : Fin 7) : Pr F PUnit :=
  Prog.lift (.enqueueDma (M.o48 (T.ag i s)) (.remote (Dev.tc (T.dAG i s)) (M.o48 (T.ag i s)) (.dma (M.ssem i s))) (.dma (sem7 (M.ag i) s))
    (View.wordExact_bits rfl) (View.wordExact_bits rfl) ⟨⟨rfl, Or.inl rfl⟩, trivial⟩)
def agRecv (i : Fin 4) (s : Fin 7) : Pr F PUnit :=
  Prog.lift (.waitDma2 (sem7 (M.ag i) s) (M.o48 (T.ag i s)) (M.o48 (T.ag i s)) (View.wordExact_bits rfl) (View.wordExact_bits rfl))
def agSent (i : Fin 4) (s : Fin 7) : Pr F PUnit :=
  Prog.lift (.waitDma2 (M.ssem i s) (M.o48 (T.ag i s)) (M.o48 (T.ag i s)) (View.wordExact_bits rfl) (View.wordExact_bits rfl))
def agStep0 (i : Fin 4) : Pr F PUnit := do agRecv M T i 0; agCopy M T i 1
def agStep (i : Fin 4) (r s t : Fin 7) : Pr F PUnit := do agRecv M T i s; agSent M T i r; agCopy M T i t
def agStep6 (i : Fin 4) : Pr F PUnit := do agRecv M T i 6; agSent M T i 5

/-! ### The phases -/

/-- The barrier with the four neighbours. -/
def barrier : Pr F PUnit := do
  semSignalWord (T.dB 0) bsem 1#32
  semSignalWord (T.dB 1) bsem 1#32
  semSignalWord (T.dB 2) bsem 1#32
  semSignalWord (T.dB 3) bsem 1#32
  semWaitWord bsem 4#32

/-- A middle round of the rings' reduction, with the blocks of the product computed behind it. -/
def rsRound (r s t : Fin 7) : Pr F PUnit := do
  four fun i => rsStep M T i r s t
  mms M T t

def rsPhase : Pr F PUnit := do
  mm0 M T
  four fun i => rsFirst M T i
  mms M T 0
  four fun i => rsStep0 M T i
  mms M T 1
  rsRound M T 0 1 2
  rsRound M T 1 2 3
  rsRound M T 2 3 4
  rsRound M T 3 4 5
  rsRound M T 4 5 6
  four fun i => rsStep6 M i
  four fun i => rsSent M i 6
  four fun i => ownAdd M T i

def zPhase : Pr F PUnit := do
  zFirst M T
  zNext M T 0 1
  zNext M T 1 2
  two fun j => zOwn M T j

def zaPhase : Pr F PUnit := do
  zaStep M T 0
  zaStep M T 1
  zaStep M T 2

def agPhase : Pr F PUnit := do
  four fun i => agCopy M T i 0
  four fun i => agStep0 M T i
  four fun i => agStep M T i 0 1 2
  four fun i => agStep M T i 1 2 3
  four fun i => agStep M T i 2 3 4
  four fun i => agStep M T i 3 4 5
  four fun i => agStep M T i 4 5 6
  four fun i => agStep6 M T i
  four fun i => agSent M T i 6

/-- The body on a device whose table is `T`. -/
def bodyOn : Pr F PUnit := do
  barrier T
  rsPhase M T
  zPhase M T
  zaPhase M T
  agPhase M T

end Steps

/-- The body: it reads its device, then runs on that device's table. -/
def body (M : Mems) : Pr F PUnit := do
  let d : Dev nD ← Prog.lift .deviceId
  bodyOn M (printed d)

/-- The buffers and semaphores the launch calls the body with. -/
def mems : Mems where
  a := Memref.whole cc0_stg0_0
  b := Memref.whole cc0_stg1_0
  o := Memref.whole cc0_stg2_0
  p := Memref.whole cc0_scratch0
  sb := ![Memref.whole cc0_scratch1, Memref.whole cc0_scratch2, Memref.whole cc0_scratch3, Memref.whole cc0_scratch4]
  rc := ![Memref.whole cc0_scratch5, Memref.whole cc0_scratch6, Memref.whole cc0_scratch7, Memref.whole cc0_scratch8]
  zb := ![Memref.whole cc0_scratch9, Memref.whole cc0_scratch10]
  zr := ![Memref.whole cc0_scratch11, Memref.whole cc0_scratch12]
  ss := ![cc0_scratch13, cc0_scratch14, cc0_scratch15, cc0_scratch16]
  rs := ![cc0_scratch17, cc0_scratch18, cc0_scratch19, cc0_scratch20]
  zs := ![cc0_scratch21, cc0_scratch22]
  zq := ![cc0_scratch23, cc0_scratch24]
  az := ![cc0_scratch25, cc0_scratch26]
  ag := ![cc0_scratch27, cc0_scratch28, cc0_scratch29, cc0_scratch30]

/-- The printed body is the program above. -/
theorem body_eq : bodyAt0 (F := F) t0_0 = body mems := by
  chain_rfl

end Cert.KernelIdeal.Run

end
-- ==== Proof.Mesh.lean ====
/-
  The mesh and the rows: the thirty-two devices are four planes of an eight-ring each, a device's
  place in its ring read off a table; the neighbours a device signals and copies to, and the rows
  every block starts at, in closed form. `printed_eq`: the table the body computes from its device's
  number is the closed one.
-/
module

public import proofs.«01_k».proof.Proof.Clean

@[expose] public section

set_option maxRecDepth 65536

noncomputable section

namespace Cert.KernelIdeal.Run

open Idealize.ShloMosaic Idealize.ShloMosaic.TcCoe Idealize.SL.Sem
open Cert.KernelIdeal Cert.KernelIdeal.Gen

/-! ## Devices -/

/-- A device's place in its plane's ring, its plane, and the device at a plane and a place. -/
def pos (c : Dev nD) : ℕ := (![0, 1, 2, 7, 6, 3, 4, 5] : Fin 8 → ℕ) ⟨c.val % 8, Nat.mod_lt _ (by decide)⟩
def pl (c : Dev nD) : ℕ := c.val / 8
def ringAt (r : ℕ) : Fin 8 := (![0, 1, 2, 5, 6, 7, 4, 3] : Fin 8 → Fin 8) ⟨r % 8, Nat.mod_lt _ (by decide)⟩
def devAt (q r : ℕ) : Dev nD := ⟨8 * (q % 4) + (ringAt r).val, by have := (ringAt r).isLt; show _ < 32; omega⟩

/-- Ring `i` sends to `fwd i`, and hears from `bwd i`: the first two rings run one way, the others the other. -/
def fwd (i : Fin 4) (c : Dev nD) : Dev nD := devAt (pl c) (pos c + if i.val < 2 then 1 else 7)
def bwd (i : Fin 4) (c : Dev nD) : Dev nD := devAt (pl c) (pos c + if i.val < 2 then 7 else 1)
/-- The columns likewise. -/
def up (j : Fin 2) (c : Dev nD) : Dev nD := devAt (pl c + if j.val < 1 then 1 else 3) (pos c)
def dn (j : Fin 2) (c : Dev nD) : Dev nD := devAt (pl c + if j.val < 1 then 3 else 1) (pos c)

theorem fwd_bwd (i : Fin 4) (c : Dev nD) : fwd i (bwd i c) = c := by revert i c; decide
theorem bwd_fwd (i : Fin 4) (c : Dev nD) : bwd i (fwd i c) = c := by revert i c; decide
theorem up_dn (j : Fin 2) (c : Dev nD) : up j (dn j c) = c := by revert j c; decide
theorem dn_up (j : Fin 2) (c : Dev nD) : dn j (up j c) = c := by revert j c; decide

/-- The four neighbours in the order the barrier signals them, and the device whose signal of that number comes here. -/
def nbr (d : Fin 4) (c : Dev nD) : Dev nD := (![bwd 0 c, fwd 0 c, up 0 c, dn 0 c] : Fin 4 → Dev nD) d
def rbn (d : Fin 4) (c : Dev nD) : Dev nD := (![fwd 0 c, bwd 0 c, dn 0 c, up 0 c] : Fin 4 → Dev nD) d
theorem nbr_rbn (d : Fin 4) (c : Dev nD) : nbr d (rbn d c) = c := by revert d c; decide
theorem rbn_nbr (d : Fin 4) (c : Dev nD) : rbn d (nbr d c) = c := by revert d c; decide

/-! ## Rows -/

/-- Half block `h`'s first row at distance `n` along half `h`'s ring from the device's own block. -/
def mmRow (h : Fin 2) (n : ℕ) (c : Dev nD) : ℕ := 192 * ((pos c + if h.val < 1 then 8 - n else n) % 8) + 96 * h.val
/-- Ring `i`'s half, and its place in it. -/
def hf (i : Fin 4) : Fin 2 := ⟨i.val / 2, by omega⟩
/-- The chunk ring `i` adds at step `n`; at 7 the chunk the device keeps. -/
def rsRow (i : Fin 4) (n : ℕ) (c : Dev nD) : ℕ := mmRow (hf i) n c + 48 * (i.val % 2)
/-- The sliver column `j` adds at step `n`, at 3 the one the device keeps; the sliver it passes on at gather step `n`. -/
def zsRow (j : Fin 2) (n : ℕ) (c : Dev nD) : ℕ := mmRow j 7 c + 24 * ((pl c + if j.val < 1 then 4 - n else n) % 4)
def zaRow (j : Fin 2) (n : ℕ) (c : Dev nD) : ℕ := mmRow j 7 c + 24 * ((pl c + if j.val < 1 then 5 - n else 3 + n) % 4)
/-- The chunk ring `i` passes on at gather step `n`. -/
def agRow (i : Fin 4) (n : ℕ) (c : Dev nD) : ℕ := 192 * ((pos c + if i.val < 2 then 9 - n else 7 + n) % 8) + 48 * i.val

theorem mmRow_le (h : Fin 2) (n : ℕ) (c : Dev nD) : mmRow h n c + 96 ≤ 1536 := by
  have := Nat.mod_lt (pos c + if h.val < 1 then 8 - n else n) (show 0 < 8 by decide)
  unfold mmRow; omega
theorem rsRow_le (i : Fin 4) (n : ℕ) (c : Dev nD) : rsRow i n c + 48 ≤ 1536 := by
  have := mmRow_le (hf i) n c; unfold rsRow; omega
theorem zsRow_le (j : Fin 2) (n : ℕ) (c : Dev nD) : zsRow j n c + 24 ≤ 1536 := by
  have := mmRow_le j 7 c
  have := Nat.mod_lt (pl c + if j.val < 1 then 4 - n else n) (show 0 < 4 by decide)
  unfold zsRow; omega
theorem zaRow_le (j : Fin 2) (n : ℕ) (c : Dev nD) : zaRow j n c + 24 ≤ 1536 := by
  have := mmRow_le j 7 c
  have := Nat.mod_lt (pl c + if j.val < 1 then 5 - n else 3 + n) (show 0 < 4 by decide)
  unfold zaRow; omega
theorem agRow_le (i : Fin 4) (n : ℕ) (c : Dev nD) : agRow i n c + 48 ≤ 1536 := by
  have := Nat.mod_lt (pos c + if i.val < 2 then 9 - n else 7 + n) (show 0 < 8 by decide)
  unfold agRow; omega
theorem row0_le (c : Dev nD) : mmRow 0 0 c + 192 ≤ 1536 := by
  have := Nat.mod_lt (pos c + 8) (show 0 < 8 by decide)
  show 192 * ((pos c + 8) % 8) + 96 * 0 + 192 ≤ 1536; omega

/-- Rows `a` on, `n` of them. -/
def rowP {n : ℕ} (a : ℕ) (h : a + n ≤ 1536) : OffP n := ⟨![a, 0], fun x => by fin_cases x; exacts [h, (Nat.zero_add _).le]⟩
def rowA {n : ℕ} (a : ℕ) (h : a + n ≤ 1536) : OffA n := ⟨![a, 0], fun x => by fin_cases x; exacts [h, (Nat.zero_add _).le]⟩

/-- The closed table. -/
def tab (c : Dev nD) : Tab where
  a0 := rowA (mmRow 0 0 c) (row0_le c)
  p0 := rowP (mmRow 0 0 c) (row0_le c)
  a h n := rowA (mmRow h (n.val + 1) c) (mmRow_le h _ c)
  p h n := rowP (mmRow h (n.val + 1) c) (mmRow_le h _ c)
  rs i s := rowP (rsRow i s.val c) (rsRow_le i _ c)
  own i := rowP (rsRow i 7 c) (rsRow_le i _ c)
  zs j s := rowP (zsRow j s.val c) (zsRow_le j _ c)
  zo j := rowP (zsRow j 3 c) (zsRow_le j _ c)
  za j s := rowP (zaRow j s.val c) (zaRow_le j _ c)
  ag i s := rowP (agRow i s.val c) (agRow_le i _ c)
  dB d := nbr d c
  dRS i _ := fwd i c
  dZ j _ := up j c
  dZA j _ := up j c
  dAG i _ := fwd i c

theorem offP_ext {n : ℕ} (o : OffP n) (a : ℕ) (h : a + n ≤ 1536) (h0 : o.1 0 = a) (h1 : o.1 1 = 0) : o = rowP a h := by
  apply Subtype.ext; funext x; match x with
  | ⟨0, _⟩ => exact h0
  | ⟨1, _⟩ => exact h1
theorem offA_ext {n : ℕ} (o : OffA n) (a : ℕ) (h : a + n ≤ 1536) (h0 : o.1 0 = a) (h1 : o.1 1 = 0) : o = rowA a h := by
  apply Subtype.ext; funext x; match x with
  | ⟨0, _⟩ => exact h0
  | ⟨1, _⟩ => exact h1

theorem a0_eq (c : Dev nD) : (printed c).a0 = (tab c).a0 :=
  offA_ext _ _ (row0_le c) (by revert c; decide +kernel) (by revert c; decide +kernel)
theorem p0_eq (c : Dev nD) : (printed c).p0 = (tab c).p0 :=
  offP_ext _ _ (row0_le c) (by revert c; decide +kernel) (by revert c; decide +kernel)
theorem a_eq (c : Dev nD) (h : Fin 2) (n : Fin 7) : (printed c).a h n = (tab c).a h n :=
  offA_ext _ _ (mmRow_le h _ c) (by revert c h n; decide +kernel) (by revert c h n; decide +kernel)
theorem p_eq (c : Dev nD) (h : Fin 2) (n : Fin 7) : (printed c).p h n = (tab c).p h n :=
  offP_ext _ _ (mmRow_le h _ c) (by revert c h n; decide +kernel) (by revert c h n; decide +kernel)
theorem rs_eq (c : Dev nD) (i : Fin 4) (s : Fin 7) : (printed c).rs i s = (tab c).rs i s :=
  offP_ext _ _ (rsRow_le i _ c) (by revert c i s; decide +kernel) (by revert c i s; decide +kernel)
theorem own_eq (c : Dev nD) (i : Fin 4) : (printed c).own i = (tab c).own i :=
  offP_ext _ _ (rsRow_le i _ c) (by revert c i; decide +kernel) (by revert c i; decide +kernel)
theorem zs_eq (c : Dev nD) (j : Fin 2) (s : Fin 3) : (printed c).zs j s = (tab c).zs j s :=
  offP_ext _ _ (zsRow_le j _ c) (by revert c j s; decide +kernel) (by revert c j s; decide +kernel)
theorem zo_eq (c : Dev nD) (j : Fin 2) : (printed c).zo j = (tab c).zo j :=
  offP_ext _ _ (zsRow_le j _ c) (by revert c j; decide +kernel) (by revert c j; decide +kernel)
theorem za_eq (c : Dev nD) (j : Fin 2) (s : Fin 3) : (printed c).za j s = (tab c).za j s :=
  offP_ext _ _ (zaRow_le j _ c) (by revert c j s; decide +kernel) (by revert c j s; decide +kernel)
theorem ag_eq (c : Dev nD) (i : Fin 4) (s : Fin 7) : (printed c).ag i s = (tab c).ag i s :=
  offP_ext _ _ (agRow_le i _ c) (by revert c i s; decide +kernel) (by revert c i s; decide +kernel)
theorem dB_eq (c : Dev nD) (d : Fin 4) : (printed c).dB d = (tab c).dB d := by revert c d; decide +kernel
theorem dRS_eq (c : Dev nD) (i : Fin 4) (s : Fin 7) : (printed c).dRS i s = (tab c).dRS i s := by revert c i s; decide +kernel
theorem dZ_eq (c : Dev nD) (j : Fin 2) (s : Fin 3) : (printed c).dZ j s = (tab c).dZ j s := by revert c j s; decide +kernel
theorem dZA_eq (c : Dev nD) (j : Fin 2) (s : Fin 3) : (printed c).dZA j s = (tab c).dZA j s := by revert c j s; decide +kernel
theorem dAG_eq (c : Dev nD) (i : Fin 4) (s : Fin 7) : (printed c).dAG i s = (tab c).dAG i s := by revert c i s; decide +kernel

theorem Tab.ext' {x y : Tab} (h1 : x.a0 = y.a0) (h2 : x.p0 = y.p0) (h3 : x.a = y.a) (h4 : x.p = y.p) (h5 : x.rs = y.rs)
    (h6 : x.own = y.own) (h7 : x.zs = y.zs) (h8 : x.zo = y.zo) (h9 : x.za = y.za) (h10 : x.ag = y.ag) (h11 : x.dB = y.dB)
    (h12 : x.dRS = y.dRS) (h13 : x.dZ = y.dZ) (h14 : x.dZA = y.dZA) (h15 : x.dAG = y.dAG) : x = y := by
  cases x; cases y; simp only at *; subst_vars; rfl

/-- The table the body reads is the closed one. -/
theorem printed_eq (c : Dev nD) : printed c = tab c :=
  Tab.ext' (a0_eq c) (p0_eq c) (funext₂ (a_eq c)) (funext₂ (p_eq c)) (funext₂ (rs_eq c)) (funext (own_eq c)) (funext₂ (zs_eq c))
    (funext (zo_eq c)) (funext₂ (za_eq c)) (funext₂ (ag_eq c)) (funext (dB_eq c)) (funext₂ (dRS_eq c)) (funext₂ (dZ_eq c))
    (funext₂ (dZA_eq c)) (funext₂ (dAG_eq c))

end Cert.KernelIdeal.Run

end
-- ==== Proof.Vals.lean ====
/-
  What every buffer holds, as functions of the devices' operands: the blocks of the product, the
  partial sums a ring and a column pass on, the finished rows, and the result, for any floats.
-/
module

public import proofs.«01_k».proof.Proof.Mesh
public import Idealize.ShloMosaic.Lib.ValueIdx

@[expose] public section

noncomputable section

namespace Cert.KernelIdeal.Run

open Idealize.ShloMosaic Idealize.ShloMosaic.TcCoe Idealize.SL.Sem
open Idealize.ShloMosaic.ValueIdx
open Cert.KernelIdeal Cert.KernelIdeal.Gen

variable {F : FTy → Type} [FloatOps F]

/-- The rectangle of `n` rows from an offset. -/
abbrev rcP {n : ℕ} (o : OffP n) : Rect S1536x1536 := Rect.unit (s := S1536x1536) o.1 ![n, 1536] o.2
abbrev rcA {n : ℕ} (o : OffA n) : Rect S1536x768 := Rect.unit (s := S1536x768) o.1 ![n, 768] o.2
abbrev rcB : Rect S768x1536 := Rect.unit (s := S768x1536) ![0, 0] S768x1536.size inb_S768x1536_S768x1536_0_0

/-- The rows of an array at an offset. -/
def ldP {n : ℕ} (o : OffP n) (f : Vec F S1536x1536 .f32) : Vec F ⟨2, ![n, 1536]⟩ .f32 := fun j => f ((rcP o).emb j)
def ldA {n : ℕ} (o : OffA n) (f : Vec F S1536x768 .f32) : Vec F ⟨2, ![n, 768]⟩ .f32 := fun j => f ((rcA o).emb j)
def ldB (f : Vec F S768x1536 .f32) : Vec F S768x1536 .f32 := fun j => f (rcB.emb j)

/-- A block of rows as a slot of a buffer holds it, and back. -/
abbrev box48 (x : Vec F S48x1536 .f32) : Vec F S1x48x1536 .f32 := shapeCast S1x48x1536 x shapeCasts_S48x1536_S1x48x1536
abbrev unb48 (x : Vec F S1x48x1536 .f32) : Vec F S48x1536 .f32 := shapeCast S48x1536 x shapeCasts_S1x48x1536_S48x1536
abbrev box24 (x : Vec F S24x1536 .f32) : Vec F S1x24x1536 .f32 := shapeCast S1x24x1536 x shapeCasts_S24x1536_S1x24x1536
abbrev unb24 (x : Vec F S1x24x1536 .f32) : Vec F S24x1536 .f32 := shapeCast S24x1536 x shapeCasts_S1x24x1536_S24x1536

variable (A : Dev nD → Vec F S1536x768 .f32) (B : Dev nD → Vec F S768x1536 .f32)

/-- The device's own block of the product, and half a block at distance `n`. -/
def blk0 (c : Dev nD) : Vec F S192x1536 .f32 := k0_pay1 (ldA (rowA (n := 192) (mmRow 0 0 c) (row0_le c)) (A c)) (ldB (B c))
def blk (h : Fin 2) (n : ℕ) (c : Dev nD) : Vec F S96x1536 .f32 := k0_pay6 (ldA (rowA (n := 96) (mmRow h n c) (mmRow_le h n c)) (A c)) (ldB (B c))

/-- The distance of block `b`'s half `h` from the device's own block along that half's ring. -/
def dist (h b : ℕ) (c : Dev nD) : ℕ := if h < 1 then (pos c + 8 - b) % 8 else (b + 8 - pos c) % 8

/-- The device's whole product, block by block. -/
def pval (c : Dev nD) : Vec F S1536x1536 .f32 := fun x =>
  if dist ((x 0).val % 192 / 96) ((x 0).val / 192) c = 0 then blk0 A B c (ix2 ⟨(x 0).val % 192, Nat.mod_lt _ (by decide)⟩ (x 1))
  else blk A B ⟨(x 0).val % 192 / 96, by omega⟩ (dist ((x 0).val % 192 / 96) ((x 0).val / 192) c) c (ix2 ⟨(x 0).val % 96, Nat.mod_lt _ (by decide)⟩ (x 1))

/-- Ring `i`'s chunk of the product at step `n`; the partial sum it sends on at step `n`. -/
def pv (i : Fin 4) (n : ℕ) (c : Dev nD) : Vec F S48x1536 .f32 := ldP (rowP (n := 48) (rsRow i n c) (rsRow_le i n c)) (pval A B c)
def vs (i : Fin 4) : ℕ → Dev nD → Vec F S48x1536 .f32
  | 0, c => unb48 (k0_pay2 (pv A B i 0 c))
  | n + 1, c => unb48 (k0_pay8 (pv A B i (n + 1) c) (box48 (vs i n (bwd i c))))

/-- The chunk the device keeps, summed over its plane; the device's rows of its plane's sum. -/
def rsT (i : Fin 4) (c : Dev nD) : Vec F S48x1536 .f32 := k0_pay51 (pv A B i 7 c) (box48 (vs A B i 6 (bwd i c)))
def pown (c : Dev nD) : Vec F S1536x1536 .f32 := fun x =>
  rsT A B ⟨2 * ((x 0).val % 192 / 96) + (x 0).val % 96 / 48, by omega⟩ c (ix2 ⟨(x 0).val % 48, Nat.mod_lt _ (by decide)⟩ (x 1))

/-- Column `j`'s sliver at step `n`; the partial sum it sends on; the sliver the device finishes. -/
def zp (j : Fin 2) (n : ℕ) (c : Dev nD) : Vec F S24x1536 .f32 := ldP (rowP (n := 24) (zsRow j n c) (zsRow_le j n c)) (pown A B c)
def zv (j : Fin 2) : ℕ → Dev nD → Vec F S24x1536 .f32
  | 0, c => unb24 (k0_pay55 (zp A B j 0 c))
  | n + 1, c => unb24 (k0_pay57 (zp A B j (n + 1) c) (box24 (zv j n (dn j c))))
def zF (j : Fin 2) (c : Dev nD) : Vec F S24x1536 .f32 := k0_pay61 (zp A B j 3 c) (box24 (zv A B j 2 (dn j c)))

/-- The device that finishes sliver `t` of half `h` of block `b`. -/
def ownerOf (h b t : ℕ) : Dev nD := if h < 1 then devAt (t + 3) (b + 7) else devAt (t + 1) (b + 1)

/-- The result, the same on every device: each sliver as its device finishes it. -/
def oval : Vec F S1536x1536 .f32 := fun x =>
  zF A B ⟨(x 0).val % 192 / 96, by omega⟩ (ownerOf ((x 0).val % 192 / 96) ((x 0).val / 192) ((x 0).val % 96 / 24))
    (ix2 ⟨(x 0).val % 24, Nat.mod_lt _ (by decide)⟩ (x 1))

end Cert.KernelIdeal.Run

end
-- ==== Proof.Proto.lean ====
/-
  The protocol: every copy is an event, named by its phase, its ring or column and its step, and
  each device performs each event once. The semaphores' cells, how many rounds each has, what each
  round's payment hands over; the order the events are issued in and the levels that order gives.
-/
module

public import proofs.«01_k».proof.Proof.Vals
public import Idealize.ShloMosaic.Lib.Pipeline.Launch
public import Idealize.ShloMosaic.Lib.Pipeline.Kit
public import Idealize.ShloMosaic.Lib.Tactic

@[expose] public section

set_option maxRecDepth 65536

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- Duties are named by the barrier's four signals; every other round has the one duty 0. -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Events -/

/-- A copy: of a ring's reduction, a column's, a column's gather, a ring's gather. -/
inductive Ev
  | rs (i : Fin 4) (s : Fin 7)
  | zr (j : Fin 2) (s : Fin 3)
  | za (j : Fin 2) (s : Fin 3)
  | ag (i : Fin 4) (s : Fin 7)
  deriving DecidableEq, Fintype

/-- A DMA semaphore: a send semaphore of a ring or a column, or the receive semaphore of an event. -/
inductive DC
  | ss (i : Fin 4) (k : Fin 2)
  | zs (j : Fin 2) (k : Fin 2)
  | rcv (e : Ev)
  deriving DecidableEq, Fintype

/-- A cell: the barrier's or a DMA semaphore's. -/
abbrev Cell : Type := Option DC

/-- The device an event's copy goes to, and the one it comes from. -/
def tgt : Ev → Dev nD → Dev nD
  | .rs i _, c => fwd i c
  | .zr j _, c => up j c
  | .za j _, c => up j c
  | .ag i _, c => fwd i c
def src : Ev → Dev nD → Dev nD
  | .rs i _, c => bwd i c
  | .zr j _, c => dn j c
  | .za j _, c => dn j c
  | .ag i _, c => bwd i c
theorem tgt_src (e : Ev) (c : Dev nD) : tgt e (src e c) = c := by
  cases e <;> first | exact fwd_bwd _ _ | exact up_dn _ _
theorem src_tgt (e : Ev) (c : Dev nD) : src e (tgt e c) = c := by
  cases e <;> first | exact bwd_fwd _ _ | exact dn_up _ _

/-- The barrier signal whose sender is the event's target. -/
def dirOf : Ev → Fin 4
  | .rs i _ => if i.val < 2 then 0 else 1
  | .zr j _ => if j.val < 1 then 3 else 2
  | .za j _ => if j.val < 1 then 3 else 2
  | .ag i _ => if i.val < 2 then 0 else 1
theorem rbn_dirOf (e : Ev) (c : Dev nD) : rbn (dirOf e) c = tgt e c := by
  have hr : ∀ (i : Fin 4) (c : Dev nD), rbn (if i.val < 2 then 0 else 1) c = fwd i c := by decide
  have hz : ∀ (j : Fin 2) (c : Dev nD), rbn (if j.val < 1 then 3 else 2) c = up j c := by decide
  cases e <;> first | exact hr _ _ | exact hz _ _

/-- The send semaphore an event uses and the round of it. -/
def sx : Ev → DC
  | .rs i s => .ss i (par s.val)
  | .zr j s => .zs j (par s.val)
  | .za j s => .zs j (par s.val)
  | .ag i s => .ss i (par s.val)
def sr : Ev → ℕ
  | .rs _ s => s.val / 2
  | .zr _ s => s.val / 2
  | .za _ s => s.val / 2 + (2 - s.val % 2)
  | .ag _ s => s.val / 2 + (4 - s.val % 2)

/-- The number of rounds of a cell, and the event a round of a send semaphore belongs to. -/
def nr : DC → ℕ
  | .ss _ k => if k.val = 0 then 8 else 6
  | .zs _ k => if k.val = 0 then 4 else 2
  | .rcv _ => 1
def sev : DC → ℕ → Ev
  | .ss i k, r => if r < 4 - k.val then .rs i ⟨(2 * r + k.val) % 7, Nat.mod_lt _ (by decide)⟩
      else .ag i ⟨(2 * (r - (4 - k.val)) + k.val) % 7, Nat.mod_lt _ (by decide)⟩
  | .zs j k, r => if r < 2 - k.val then .zr j ⟨(2 * r + k.val) % 3, Nat.mod_lt _ (by decide)⟩
      else .za j ⟨(2 * (r - (2 - k.val)) + k.val) % 3, Nat.mod_lt _ (by decide)⟩
  | .rcv e, _ => e
theorem sev_sx (e : Ev) : sev (sx e) (sr e) = e := by revert e; decide
theorem sr_lt (e : Ev) : sr e < nr (sx e) := by revert e; decide

/-- The semaphore of a cell. -/
def dsem : DC → SemLoc sig
  | .ss i k => .dma (sem2 (mems.ss i) k)
  | .zs j k => .dma (sem2 (mems.zs j) k)
  | .rcv (.rs i s) => .dma (sem7 (mems.rs i) s)
  | .rcv (.zr j s) => .dma (sem3 (mems.zq j) s)
  | .rcv (.za j s) => .dma (sem3 (mems.az j) s)
  | .rcv (.ag i s) => .dma (sem7 (mems.ag i) s)
def csem : Cell → SemLoc sig
  | none => .reg bsem
  | some x => dsem x
theorem dsem_inj : Function.Injective dsem := by
  have h : ∀ x y : DC, dsem x = dsem y → x = y := by decide +kernel
  exact fun x y => h x y
theorem dsem_ne (x : DC) : dsem x ≠ .reg bsem := by
  cases x with
  | rcv e => cases e <;> exact fun h => by cases h
  | ss i k => exact fun h => by cases h
  | zs i k => exact fun h => by cases h
theorem csem_inj : Function.Injective csem := by
  rintro (_ | x) (_ | y) h
  · rfl
  · exact absurd h.symm (dsem_ne y)
  · exact absurd h (dsem_ne x)
  · exact congrArg some (dsem_inj h)

theorem ownSemFacts : Pipeline.OwnSemFacts cfg0.spec dsem :=
  ⟨by decide +kernel, dsem_inj, by decide +kernel⟩

/-- The cell of a semaphore. -/
def dec (q : SemLoc sig) : Option Cell := by
  classical exact if h : ∃ x, csem x = q then some h.choose else none
theorem dec_csem (x : Cell) : dec (csem x) = some x := by
  unfold dec
  have h : ∃ y, csem y = csem x := ⟨x, rfl⟩
  rw [dif_pos h]
  exact congrArg some (csem_inj h.choose_spec)

abbrev gc (x : Cell) (c : Dev nD) : GSem nD τ sig := ((c : Thread nD τ), csem x)
abbrev rcell (e : Ev) (c : Dev nD) : GSem nD τ sig := gc (some (.rcv e)) c

/-! ## Amounts -/

def N48 : ℕ := (mems.rcS 0 0).view.dmaCredit
def N24 : ℕ := (mems.zrS 0 0).view.dmaCredit
def amtE : Ev → ℕ
  | .rs _ _ => N48
  | .zr _ _ => N24
  | .za _ _ => N24
  | .ag _ _ => N48
def amt : Cell → ℕ
  | none => 1
  | some (.ss _ _) => N48
  | some (.zs _ _) => N24
  | some (.rcv e) => amtE e
theorem N48_pos : 0 < N48 := View.dmaCredit_pos _ (by decide)
theorem N24_pos : 0 < N24 := View.dmaCredit_pos _ (by decide)
theorem amtE_pos (e : Ev) : 0 < amtE e := by cases e <;> first | exact N48_pos | exact N24_pos
theorem amt_pos (x : Cell) : 0 < amt x := by
  rcases x with _ | (_ | _ | e)
  exacts [Nat.one_pos, N48_pos, N24_pos, amtE_pos e]
theorem amt_sx (e : Ev) : amt (some (sx e)) = amtE e := by cases e <;> rfl

/-! ## Payloads -/

section Pay
variable (A : Dev nD → Vec F S1536x768 .f32) (B : Dev nD → Vec F S768x1536 .f32)

/-- Rows of an array. -/
def rowSet (a n : ℕ) : Finset (S1536x1536.Idx) := Finset.univ.filter fun x => a ≤ (x 0).val ∧ (x 0).val < a + n
theorem mem_rowSet (a n : ℕ) (x : S1536x1536.Idx) : x ∈ rowSet a n ↔ a ≤ (x 0).val ∧ (x 0).val < a + n := by simp [rowSet]

/-- A buffer a copy ends in, owned at unknown contents. -/
def anyAt {s : Shape} (c : Dev nD) (m : Memref sig .tc .vmem s .f32) : sProp 𝕄 :=
  iprop(∃ f : Buf (Elt F) (m.view.loc (c : Thread nD τ)), m.view.loc (c : Thread nD τ) ↦[m.view.set]{fullShare} f)
/-- Rows of the result's buffer: at the result, at unknown contents. -/
def oPts (c : Dev nD) (a n : ℕ) : sProp 𝕄 := iprop(((c : Thread nD τ).loc cc0_stg2_0) ↦[rowSet a n]{fullShare} (oval A B : Buf (Elt F) ((c : Thread nD τ).loc cc0_stg2_0)))
def oAny (c : Dev nD) (a n : ℕ) : sProp 𝕄 := iprop(∃ f : Buf (Elt F) ((c : Thread nD τ).loc cc0_stg2_0), ((c : Thread nD τ).loc cc0_stg2_0) ↦[rowSet a n]{fullShare} f)

/-- What an event's copy reads, as the sender has it back. -/
def srcPay : Ev → Dev nD → sProp 𝕄
  | .rs i s, c => anyAt c (mems.sbS i (par s.val))
  | .zr j s, c => anyAt c (mems.zbS j (par s.val))
  | .za j s, c => oPts A B c (zaRow j s.val c) 24
  | .ag i s, c => oPts A B c (agRow i s.val c) 48
/-- What an event's copy leaves on its target `c`. -/
def rcvPay : Ev → Dev nD → sProp 𝕄
  | .rs i s, c => owns (c : Thread nD τ) (mems.rcS i s) fullShare (vs A B i s.val (bwd i c))
  | .zr j s, c => owns (c : Thread nD τ) (mems.zrS j s) fullShare (zv A B j s.val (dn j c))
  | .za j s, c => oPts A B c (zaRow j (s.val + 1) c) 24
  | .ag i s, c => oPts A B c (agRow i (s.val + 1) c) 48
/-- The room it needs there. -/
def dstAny : Ev → Dev nD → sProp 𝕄
  | .rs i s, c => anyAt c (mems.rcS i s)
  | .zr j s, c => anyAt c (mems.zrS j s)
  | .za j s, c => oAny c (zaRow j (s.val + 1) c) 24
  | .ag i s, c => oAny c (agRow i (s.val + 1) c) 48
/-- What the barrier signal `d` hands `c`: its sender's room for every copy `c` sends there. -/
def barPay (d : Fin 4) (c : Dev nD) : sProp 𝕄 := bigSep (Finset.univ.filter fun e : Ev => dirOf e = d) fun e => dstAny e (rbn d c)

omit [FloatOps F] in
instance anyAt_storable {s : Shape} (c : Dev nD) (m : Memref sig .tc .vmem s .f32) : BI.Storable (upEmb : UEmb _ 𝕄) (anyAt (F := F) c m) := by
  unfold anyAt; infer_instance
instance oPts_storable (c : Dev nD) (a n : ℕ) : BI.Storable (upEmb : UEmb _ 𝕄) (oPts A B c a n) := by unfold oPts; infer_instance
omit [FloatOps F] in
instance oAny_storable (c : Dev nD) (a n : ℕ) : BI.Storable (upEmb : UEmb _ 𝕄) (oAny (F := F) c a n) := by unfold oAny; infer_instance
instance srcPay_storable (e : Ev) (c : Dev nD) : BI.Storable (upEmb : UEmb _ 𝕄) (srcPay A B e c) := by cases e <;> (unfold srcPay; infer_instance)
instance rcvPay_storable (e : Ev) (c : Dev nD) : BI.Storable (upEmb : UEmb _ 𝕄) (rcvPay A B e c) := by cases e <;> (unfold rcvPay; infer_instance)
omit [FloatOps F] in
instance dstAny_storable (e : Ev) (c : Dev nD) : BI.Storable (upEmb : UEmb _ 𝕄) (dstAny (F := F) e c) := by cases e <;> (unfold dstAny; infer_instance)
omit [FloatOps F] in
instance barPay_storable (d : Fin 4) (c : Dev nD) : BI.Storable (upEmb : UEmb _ 𝕄) (barPay (F := F) d c) := by unfold barPay; infer_instance

/-! ## The schedule -/

def dutC : Cell → ℕ → Finset (Fin 4)
  | none, r => if r < 1 then Finset.univ else ∅
  | some x, r => if r < nr x then {0} else ∅
def payC : Cell → ℕ → Fin 4 → Dev nD → sProp 𝕄
  | none, _, d, c => barPay d c
  | some (.ss i k), r, _, c => srcPay A B (sev (.ss i k) r) c
  | some (.zs j k), r, _, c => srcPay A B (sev (.zs j k) r) c
  | some (.rcv e), _, _, c => rcvPay A B e c

def Rd : Rounds.Schedule (GSem nD τ sig) (Fin 4) 𝕄 where
  duties g r := if g.1.2 = .tc then (match dec g.2 with | some x => dutC x r | none => ∅) else ∅
  unitless _ := False
  amount g _ _ := match dec g.2 with | some x => amt x | none => 1
  payload g r d := match dec g.2 with | some x => payC A B x r d g.1.1 | none => iprop(emp)
  amount_pos g _ _ _ := by
    show 0 < (match dec g.2 with | some x => amt x | none => 1)
    split
    · exact amt_pos _
    · exact Nat.one_pos

instance payC_storable (x : Cell) (r : ℕ) (d : Fin 4) (c : Dev nD) : BI.Storable (upEmb : UEmb _ 𝕄) (payC A B x r d c) := by
  rcases x with _ | (_ | _ | e) <;> (unfold payC; infer_instance)
instance Rd_payload_storable (g : GSem nD τ sig) (r : ℕ) (d : Fin 4) : BI.Storable (upEmb : UEmb _ 𝕄) ((Rd A B).payload g r d) := by
  show BI.Storable upEmb (match dec g.2 with | some x => payC A B x r d g.1.1 | none => iprop(emp))
  split <;> infer_instance

theorem duties_gc (x : Cell) (c : Dev nD) (r : ℕ) : (Rd A B).duties (gc x c) r = dutC x r := by
  dsimp only [Rd]; rw [if_pos rfl, dec_csem]
theorem amount_gc (x : Cell) (c : Dev nD) (r : ℕ) (d : Fin 4) : (Rd A B).amount (gc x c) r d = amt x := by
  dsimp only [Rd]; rw [dec_csem]
theorem payload_gc (x : Cell) (c : Dev nD) (r : ℕ) (d : Fin 4) : (Rd A B).payload (gc x c) r d = payC A B x r d c := by
  dsimp only [Rd]; rw [dec_csem]

theorem mem_bar (c : Dev nD) (d : Fin 4) : d ∈ (Rd A B).duties (gc none c) 0 := by
  rw [duties_gc]; exact Finset.mem_univ d
theorem duties_dma (x : DC) (c : Dev nD) (r : ℕ) (h : r < nr x) : (Rd A B).duties (gc (some x) c) r = {0} := by
  rw [duties_gc]; exact if_pos h
theorem duties_end (x : DC) (c : Dev nD) (r : ℕ) (h : nr x ≤ r) : (Rd A B).duties (gc (some x) c) r = ∅ := by
  rw [duties_gc]; exact if_neg (Nat.not_lt.mpr h)
theorem duties_bar_end (c : Dev nD) (r : ℕ) (h : 1 ≤ r) : (Rd A B).duties (gc none c) r = ∅ := by
  rw [duties_gc]; exact if_neg (Nat.not_lt.mpr h)
theorem expect_bar (c : Dev nD) : (Rd A B).expect (gc none c) 0 = 4 := by
  unfold Schedule.expect Schedule.amountOf
  rw [duties_gc, Finset.sum_congr rfl fun d _ => amount_gc A B none c 0 d]; rfl
theorem expect_dma (x : DC) (c : Dev nD) (r : ℕ) (h : r < nr x) : (Rd A B).expect (gc (some x) c) r = amt (some x) := by
  unfold Schedule.expect Schedule.amountOf
  rw [duties_dma A B x c r h, Finset.sum_singleton, amount_gc]
theorem rest_dma (x : DC) (c : Dev nD) (r : ℕ) (h : r < nr x) :
    bigSep ((Rd A B).duties (gc (some x) c) r \ ∅) (fun d => (Rd A B).payload (gc (some x) c) r d) = payC A B (some x) r 0 c := by
  rw [Finset.sdiff_empty, duties_dma A B x c r h, bigSep_singleton, payload_gc]
theorem rest_bar (c : Dev nD) :
    bigSep ((Rd A B).duties (gc none c) 0 \ ∅) (fun d => (Rd A B).payload (gc none c) 0 d) = bigSep Finset.univ fun d => barPay (F := F) d c := by
  rw [Finset.sdiff_empty, duties_gc]
  exact bigSep_congr fun d _ => payload_gc A B none c 0 d
theorem pay_sx (e : Ev) (d : Fin 4) (c : Dev nD) : payC A B (some (sx e)) (sr e) d c = srcPay A B e c := by
  have h := sev_sx e
  cases e <;> (dsimp only [sx] at h ⊢; dsimp only [payC]; rw [h])

end Pay

/-! ## What is owed, and the levels -/

/-- The event issued at each time. -/
def evt (k : ℕ) : Ev :=
  if k < 28 then .rs ⟨k % 4, Nat.mod_lt _ (by decide)⟩ ⟨k / 4 % 7, Nat.mod_lt _ (by decide)⟩
  else if k < 34 then .zr ⟨(k - 28) % 2, Nat.mod_lt _ (by decide)⟩ ⟨(k - 28) / 2 % 3, Nat.mod_lt _ (by decide)⟩
  else if k < 40 then .za ⟨(k - 34) % 2, Nat.mod_lt _ (by decide)⟩ ⟨(k - 34) / 2 % 3, Nat.mod_lt _ (by decide)⟩
  else .ag ⟨(k - 40) % 4, Nat.mod_lt _ (by decide)⟩ ⟨(k - 40) / 4 % 7, Nat.mod_lt _ (by decide)⟩
/-- The time of an event. -/
def tm : Ev → ℕ
  | .rs i s => 4 * s.val + i.val
  | .zr j s => 28 + 2 * s.val + j.val
  | .za j s => 34 + 2 * s.val + j.val
  | .ag i s => 40 + 4 * s.val + i.val
theorem evt_tm (e : Ev) : evt (tm e) = e := by revert e; decide
theorem tm_lt (e : Ev) : tm e < 68 := by revert e; decide
theorem tm_evt (k : Fin 68) : tm (evt k.val) = k.val := by revert k; decide

def owedE (c : Dev nD) (k : ℕ) : CellTallies nD τ sig Unit := tallyAt (rcell (evt k) (tgt (evt k) c)) () (amtE (evt k))
/-- Owed once `k` events are issued. -/
def Ow (c : Dev nD) (k : ℕ) : CellTallies nD τ sig Unit := ∑ t ∈ Finset.Ico k 68, owedE c t
/-- Owed once `k` of the barrier's signals are given. -/
def Ob (c : Dev nD) (k : ℕ) : CellTallies nD τ sig Unit := Ow c 0 + ∑ d ∈ Finset.univ.filter (fun d : Fin 4 => k ≤ d.val), tallyAt (gc none (nbr d c)) () 1

theorem Ow_succ (c : Dev nD) (e : Ev) : Ow c (tm e) = Ow c (tm e + 1) + tallyAt (rcell e (tgt e c)) () (amtE e) := by
  unfold Ow
  rw [Finset.sum_eq_sum_Ico_succ_bot (tm_lt e), add_comm]
  unfold owedE; rw [evt_tm]
theorem Ow_end (c : Dev nD) : Ow c 68 = 0 := by unfold Ow; rw [Finset.Ico_self, Finset.sum_empty]
theorem Ob_succ (c : Dev nD) (d : Fin 4) : Ob c d.val = Ob c (d.val + 1) + tallyAt (gc none (nbr d c)) () 1 := by
  have h : (Finset.univ.filter fun x : Fin 4 => d.val ≤ x.val) = insert d (Finset.univ.filter fun x : Fin 4 => d.val + 1 ≤ x.val) := by
    revert d; decide
  unfold Ob; rw [h, Finset.sum_insert (by simp), add_assoc, add_comm (tallyAt _ _ _)]
theorem Ob_end (c : Dev nD) : Ob c 4 = Ow c 0 := by
  have h : (Finset.univ.filter fun x : Fin 4 => 4 ≤ x.val) = ∅ := by decide
  unfold Ob; rw [h, Finset.sum_empty, add_zero]

/-- An event's level: its phase and step. -/
def lvE : Ev → ℕ
  | .rs _ s => 2 + s.val
  | .zr _ s => 9 + s.val
  | .za _ s => 12 + s.val
  | .ag _ s => 15 + s.val
def lvC : Cell → ℕ
  | none => 1
  | some (.rcv e) => lvE e
  | some _ => 0
def L (g : GSem nD τ sig) : Finset Unit := if g.1.2 = .tc then {()} else ∅
def lv (g : GSem nD τ sig) (_ : Unit) : ℕ := match dec g.2 with | some x => lvC x | none => 0
theorem lv_gc (x : Cell) (c : Dev nD) : lv (gc x c) () = lvC x := by unfold lv; rw [dec_csem]
theorem L_of_ne (g : GSem nD τ sig) (h : g.1.2 ≠ .tc) : L g = ∅ := if_neg h
theorem L_tc (c : Dev nD) (sm : SemLoc sig) : L ((c : Thread nD τ), sm) = {()} := if_pos rfl

theorem Ow_pos {c : Dev nD} {k : ℕ} {g : GSem nD τ sig} {u : Unit} (h : 0 < Ow c k g u) :
    ∃ t : Fin 68, k ≤ t.val ∧ g = rcell (evt t.val) (tgt (evt t.val) c) := by
  unfold Ow at h
  rw [Finset.sum_apply, Finsupp.finset_sum_apply] at h
  obtain ⟨t, ht, hp⟩ := Finset.exists_ne_zero_of_sum_ne_zero h.ne'
  rw [Finset.mem_Ico] at ht
  refine ⟨⟨t, ht.2⟩, ht.1, ?_⟩
  unfold owedE at hp
  rw [tallyAt_apply] at hp
  by_contra hn
  exact hp (if_neg fun h' => hn h'.1)

/-- A wait is free while everything owed lies above its cell. -/
theorem mayWait_Ow (c : Dev nD) (q : SemLoc sig) (k n : ℕ) (hq : lv ((c : Thread nD τ), q) () ≤ n) (hk : ∀ t : Fin 68, k ≤ t.val → n < lvE (evt t.val)) :
    (levAts L lv : sProp 𝕄) ⊢ MayWait (c : Thread nD τ) q () (Ow c k) :=
  MayOwe.of_cut (L := L) (lev := lv) n (fun p hp => by rw [Finset.mem_singleton.mp hp, L_tc]; exact Finset.mem_singleton_self _)
    (fun g u hg => by obtain ⟨t, -, rfl⟩ := Ow_pos hg; exact Finset.mem_singleton_self _)
    (fun p hp => by rw [Finset.mem_singleton.mp hp]; exact hq)
    (fun g u hg => by obtain ⟨t, ht, rfl⟩ := Ow_pos hg; rw [lv_gc]; exact hk t ht)

end Cert.KernelIdeal.Run

end
-- ==== Proof.Rules.lean ====
/-
  The rules the body is run by: what is known throughout, triples in that context and how they
  compose, and the three kinds of step an event has: its issue, the wait for its arrival, the wait
  for its source to have been read.
-/
module

public import proofs.«01_k».proof.Proof.Proto

@[expose] public section

set_option maxRecDepth 65536

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- No program of the body calls another. -/
abbrev 𝒱₀ : Variants := Variants.none

variable (A : Dev nD → Vec F S1536x768 .f32) (B : Dev nD → Vec F S768x1536 .f32) (K : Dev nD × Cell → ℕ)

/-- What every device knows throughout: all cells' invariants, that their rounds have begun, the levels. -/
def ctx : sProp 𝕄 :=
  iprop((bigSep Finset.univ fun ck : Dev nD × Cell => cellInv ER (Rd A B) (K ck) (gc ck.2 ck.1))
    ∗ (bigSep Finset.univ fun ck : Dev nD × Cell => reached ER (gc ck.2 ck.1) 0) ∗ levAts L lv)

instance ctx_persistent : BI.Persistent (ctx A B K) := by unfold ctx; infer_instance

theorem ctx_inv (c : Dev nD) (x : Cell) : ctx A B K ⊢ cellInv ER (Rd A B) (K (c, x)) (gc x c) := by
  unfold ctx; exact sep_elim_left.trans (bigSep_elim (Finset.mem_univ (c, x)))
theorem ctx_reached (c : Dev nD) (x : Cell) : ctx A B K ⊢ (reached ER (gc x c) 0 : sProp 𝕄) := by
  unfold ctx; exact sep_elim_right.trans (sep_elim_left.trans (bigSep_elim (Φ := fun ck : Dev nD × Cell => (reached ER (gc ck.2 ck.1) 0 : sProp 𝕄)) (Finset.mem_univ (c, x))))
theorem ctx_lev : ctx A B K ⊢ (levAts L lv : sProp 𝕄) := by
  unfold ctx; exact sep_elim_right.trans sep_elim_right

section Triples
variable (c : Dev nD) {α β : Type}

/-- From `P` the program runs and ends in `R`. -/
def Tri (P : sProp 𝕄) (p : Pr F α) (R : α → sProp 𝕄) : Prop :=
  iprop(ctx A B K ∗ P) ⊢ wp frame (wpE (defs₀ (F := F)) 𝒱₀ (c : Thread nD τ) none) Set.univ p R

variable {A B K c}

theorem Tri.elim {P : sProp 𝕄} {p : Pr F α} {R : α → sProp 𝕄} (h : Tri A B K c P p R) :
    iprop(ctx A B K ∗ P) ⊢ wp frame (wpE (defs₀ (F := F)) 𝒱₀ (c : Thread nD τ) none) Set.univ p R := h
theorem Tri.cons {P P' : sProp 𝕄} {p : Pr F α} {R R' : α → sProp 𝕄} (h : Tri A B K c P p R) (hP : P' ⊢ P) (hR : ∀ a, R a ⊢ R' a) :
    Tri A B K c P' p R' :=
  (sep_mono_right hP).trans (BIBase.Entails.trans h (wp_mono _ _ _ hR))
theorem Tri.pre {P P' : sProp 𝕄} {p : Pr F α} {R : α → sProp 𝕄} (h : Tri A B K c P p R) (hP : P' ⊢ P) : Tri A B K c P' p R :=
  h.cons hP fun _ => BI.Entails.refl _
theorem Tri.post {P : sProp 𝕄} {p : Pr F α} {R R' : α → sProp 𝕄} (h : Tri A B K c P p R) (hR : ∀ a, R a ⊢ R' a) : Tri A B K c P p R' :=
  h.cons (BI.Entails.refl _) hR
theorem Tri.frame {P : sProp 𝕄} {p : Pr F α} {R : α → sProp 𝕄} (h : Tri A B K c P p R) (X : sProp 𝕄) :
    Tri A B K c iprop(P ∗ X) p (fun a => iprop(R a ∗ X)) :=
  (sep_assoc (PROP := sProp 𝕄)).2.trans ((sep_mono_left h).trans (wp_frame_r _ _ _))
theorem Tri.bind {P : sProp 𝕄} {p : Pr F α} {k : α → Pr F β} {R : α → sProp 𝕄} {R' : β → sProp 𝕄}
    (h : Tri A B K c P p R) (hk : ∀ a, Tri A B K c (R a) (k a) R') : Tri A B K c P (p >>= k) R' := by
  unfold Tri
  rw [wp_bind]
  iintro ⟨#Hc, HP⟩
  iapply (wp_wand (p := p) (Q := R) Idealize.ShloMosaic.frame (wpE (defs₀ (F := F)) 𝒱₀ (c : Thread nD τ) none) Set.univ) $$ [HP]
  · iapply h.elim
    isplitr <;> iassumption
  iintro %a HR
  iapply (hk a).elim
  isplitr <;> iassumption
/-- A triple at the head of a program being run; at its end. -/
theorem Tri.use (A : Dev nD → Vec F S1536x768 .f32) (B : Dev nD → Vec F S768x1536 .f32) (K : Dev nD × Cell → ℕ) (c : Dev nD) {P : sProp 𝕄} {p : Pr F α} {R : α → sProp 𝕄} (h : Tri A B K c P p R) {k : α → Pr F β} {Q : β → sProp 𝕄} :
    iprop(ctx A B K ∗ P) ⊢ iprop((∀ a, R a -∗ wp Idealize.ShloMosaic.frame (wpE (defs₀ (F := F)) 𝒱₀ (c : Thread nD τ) none) Set.univ (k a) Q)
      -∗ wp Idealize.ShloMosaic.frame (wpE (defs₀ (F := F)) 𝒱₀ (c : Thread nD τ) none) Set.univ (p >>= k) Q) := by
  rw [wp_bind]
  exact BIBase.Entails.trans h (wp_wand _ _ _)
theorem Tri.last (A : Dev nD → Vec F S1536x768 .f32) (B : Dev nD → Vec F S768x1536 .f32) (K : Dev nD × Cell → ℕ) (c : Dev nD) {P : sProp 𝕄} {p : Pr F α} {R : α → sProp 𝕄} (h : Tri A B K c P p R) {Q : α → sProp 𝕄} :
    iprop(ctx A B K ∗ P) ⊢ iprop((∀ a, R a -∗ Q a) -∗ wp Idealize.ShloMosaic.frame (wpE (defs₀ (F := F)) 𝒱₀ (c : Thread nD τ) none) Set.univ p Q) :=
  BIBase.Entails.trans h (wp_wand _ _ _)
theorem Tri.ret {P : sProp 𝕄} {R : α → sProp 𝕄} (a : α) (h : P ⊢ R a) : Tri A B K c P (.ret a) R := by
  unfold Tri
  rw [wp_ret]
  exact (sep_elim_right.trans h).trans fupd_intro

/-- The same step on each of the rings, on each column, a state passing along. -/
theorem Tri.four {S : ℕ → sProp 𝕄} {P R : Fin 4 → sProp 𝕄} {f : Fin 4 → Pr F PUnit}
    (h : ∀ i : Fin 4, Tri A B K c iprop(S i.val ∗ P i) (f i) (fun _ => iprop(S (i.val + 1) ∗ R i))) :
    Tri A B K c iprop(S 0 ∗ P 0 ∗ P 1 ∗ P 2 ∗ P 3) (four f) (fun _ => iprop(S 4 ∗ R 0 ∗ R 1 ∗ R 2 ∗ R 3)) := by
  unfold Run.four
  have h0 : Tri A B K c iprop(S 0 ∗ P 0) (f 0) (fun _ => iprop(S 1 ∗ R 0)) := h 0
  have h1 : Tri A B K c iprop(S 1 ∗ P 1) (f 1) (fun _ => iprop(S 2 ∗ R 1)) := h 1
  have h2 : Tri A B K c iprop(S 2 ∗ P 2) (f 2) (fun _ => iprop(S 3 ∗ R 2)) := h 2
  have h3 : Tri A B K c iprop(S 3 ∗ P 3) (f 3) (fun _ => iprop(S 4 ∗ R 3)) := h 3
  refine Tri.bind ((h0.frame iprop(P 1 ∗ P 2 ∗ P 3)).pre (by iintro ⟨a, b, c⟩; isplitl [a b] <;> first | iassumption | (isplitl [a] <;> iassumption))) fun _ => ?_
  refine Tri.bind ((h1.frame iprop(R 0 ∗ P 2 ∗ P 3)).pre (by
    iintro ⟨⟨a, b⟩, c, d⟩; isplitl [a c]
    · isplitl [a] <;> iassumption
    · isplitl [b] <;> iassumption)) fun _ => ?_
  refine Tri.bind ((h2.frame iprop(R 0 ∗ R 1 ∗ P 3)).pre (by
    iintro ⟨⟨a, b⟩, c, d, e⟩; isplitl [a d]
    · isplitl [a] <;> iassumption
    · isplitl [c]; · iassumption
      isplitl [b] <;> iassumption)) fun _ => ?_
  refine ((h3.frame iprop(R 0 ∗ R 1 ∗ R 2)).cons (by
    iintro ⟨⟨a, b⟩, c, d, e⟩; isplitl [a e]
    · isplitl [a] <;> iassumption
    · isplitl [c]; · iassumption
      isplitl [d] <;> iassumption) fun _ => by
    iintro ⟨⟨a, b⟩, c, d, e⟩
    isplitl [a]; · iassumption
    isplitl [c]; · iassumption
    isplitl [d]; · iassumption
    isplitl [e] <;> iassumption)
theorem Tri.two {S : ℕ → sProp 𝕄} {P R : Fin 2 → sProp 𝕄} {f : Fin 2 → Pr F PUnit}
    (h : ∀ i : Fin 2, Tri A B K c iprop(S i.val ∗ P i) (f i) (fun _ => iprop(S (i.val + 1) ∗ R i))) :
    Tri A B K c iprop(S 0 ∗ P 0 ∗ P 1) (two f) (fun _ => iprop(S 2 ∗ R 0 ∗ R 1)) := by
  unfold Run.two
  have h0 : Tri A B K c iprop(S 0 ∗ P 0) (f 0) (fun _ => iprop(S 1 ∗ R 0)) := h 0
  have h1 : Tri A B K c iprop(S 1 ∗ P 1) (f 1) (fun _ => iprop(S 2 ∗ R 1)) := h 1
  refine Tri.bind ((h0.frame (P 1)).pre (by iintro ⟨a, b, c⟩; isplitl [a b] <;> first | iassumption | (isplitl [a] <;> iassumption))) fun _ => ?_
  exact ((h1.frame (R 0)).cons (by
    iintro ⟨⟨a, b⟩, c⟩; isplitl [a c]
    · isplitl [a] <;> iassumption
    · iassumption) fun _ => by
    iintro ⟨⟨a, b⟩, c⟩
    isplitl [a]; · iassumption
    isplitl [c] <;> iassumption)

end Triples

/-! ## The three steps of an event -/

section Steps
variable (c : Dev nD)

/-- What the device owes once `k` events are issued. -/
def owX (k : ℕ) : sProp 𝕄 := iprop(∃ W, owes (c : Thread nD τ) (Ow c k) W)
/-- A send semaphore at the start of a round with nothing under way; with a copy under way. -/
def Idle (x : DC) (R : ℕ) : sProp 𝕄 := iprop(atPos ER (gc (some x) c) R ∅ 0 ∗ reached ER (gc (some x) c) R)
def Fly (x : DC) (R : ℕ) : sProp 𝕄 := iprop(atPos ER (gc (some x) c) R ∅ 0 ∗ cred (tallyAt (gc (some x) c) () (amt (some x))))
/-- The right to issue an event; the right to wait for its arrival; that it has arrived. -/
def Tok (e : Ev) : sProp 𝕄 := iprop(dutyTok ER (rcell e (tgt e c)) 0 0 ∗ dutyTok ER (gc (some (sx e)) c) (sr e) 0)
def RcvK (e : Ev) : sProp 𝕄 := iprop(cred (tallyAt (rcell e c) () (amtE e)) ∗ atPos ER (rcell e c) 0 ∅ 0)
def Got (e : Ev) : sProp 𝕄 := atPos ER (rcell e c) 1 ∅ 0

variable {A B K c}

theorem tri_issue (e : Ev) {n : Dev nD} (hn : n = tgt e c) {s : Shape} {sp sp' : CoreSpace}
    {src : Memref sig (c : Thread nD τ).2.kind sp s .f32} {dst : Memref sig (Dev.tc n : Thread nD τ).2.kind sp' s .f32}
    {hsc : dst.view.ref.isScScratch = false} {sS sem : SemLoc sig} (hS : sS = dsem (sx e)) (hR : sem = dsem (.rcv e))
    {hsrc : src.view.WordExact} {hdst : dst.view.WordExact} {hsem : DmaTarget.Typed sp sem (.remote (Dev.tc n : Thread nD τ) dst sS hsc)}
    (fs : Buf (Elt F) (src.view.loc (c : Thread nD τ))) (fd : Buf (Elt F) (dst.view.loc (n : Thread nD τ)))
    (hN : dst.view.amount sem = amtE e)
    (hpay₁ : (src.view.loc (c : Thread nD τ) ↦[src.view.set]{fullShare} fs) ⊢ srcPay A B e c)
    (hpay₂ : (dst.view.loc (n : Thread nD τ) ↦[dst.view.set]{fullShare} (dst.view.write (Elt F) fd (src.view.read (Elt F) fs) Finset.univ)) ⊢ rcvPay A B e (tgt e c)) :
    Tri A B K c iprop(Idle c (sx e) (sr e) ∗ Tok c e ∗ (src.view.loc (c : Thread nD τ) ↦[src.view.set]{fullShare} fs)
        ∗ (dst.view.loc (n : Thread nD τ) ↦[dst.view.set]{fullShare} fd) ∗ owX c (tm e))
      (Prog.lift (.enqueueDma src (.remote (Dev.tc n : Thread nD τ) dst sS hsc) sem hsrc hdst hsem))
      (fun _ => iprop(Fly c (sx e) (sr e) ∗ owX c (tm e + 1))) := by
  subst hn; subst hS; subst hR
  unfold Tri Idle Fly Tok owX
  iintro ⟨#Hc, ⟨Hat, #Hr⟩, ⟨Ht, Hs⟩, Hsrc, Hdst, ⟨%W, Ho⟩⟩
  simp only [Prog.lift]
  ihave #Hi1 := (ctx_inv A B K c (some (sx e))) $$ Hc
  ihave #Hi2 := (ctx_inv A B K (tgt e c) (some (.rcv e))) $$ Hc
  ihave #Hr2 := (ctx_reached A B K (tgt e c) (some (.rcv e))) $$ Hc
  iapply (Rounds.wp_send_pointsTo 𝒱₀ ER (Rd A B) (c : Thread nD τ) none (c' := (tgt e c : Thread nD τ)) (κ₁ := K (c, some (sx e))) (κ₂ := K (tgt e c, some (.rcv e)))
    (r₁ := sr e) (r₂ := 0) (d₁ := 0) (d₂ := 0) (fd := fd)
    ((Finset.ext_iff.mp (duties_dma A B (sx e) c _ (sr_lt e)) 0).mpr (Finset.mem_singleton_self _))
    ((Finset.ext_iff.mp (duties_dma A B (.rcv e) (tgt e c) 0 Nat.one_pos) 0).mpr (Finset.mem_singleton_self _))
    () () (amtE e) hN ((amount_gc A B (some (sx e)) c _ _).trans (amt_sx e)) (amount_gc A B (some (.rcv e)) _ _ _) (Ow c (tm e + 1)) (Ow_succ c e) (W := W)
    (hpay₁.trans (Entails.of_eq ((payload_gc A B (some (sx e)) c _ _).trans (pay_sx A B e _ c)).symm))
    (hpay₂.trans (Entails.of_eq (payload_gc A B (some (.rcv e)) (tgt e c) _ _).symm))) $$ [Hsrc Hdst Ho Ht Hs]
  · isplitr; · iexact Hi1
    isplitr; · iexact Hi2
    isplitl [Hsrc]; · iexact Hsrc
    isplitl [Hdst]; · iexact Hdst
    isplitl [Ho]; · iexact Ho
    isplitl [Hs]; · iexact Hs
    isplitr; · iexact Hr
    isplitl [Ht]; · iexact Ht
    iexact Hr2
  iintro ⟨Hcr, Ho⟩
  rw [wp_ret]; imodintro
  isplitl [Hat Hcr]
  · isplitl [Hat]; · iexact Hat
    rw [amt_sx]; iexact Hcr
  iexists W; iexact Ho

theorem lvE_mono : ∀ a b : Fin 68, a ≤ b → lvE (evt a.val) ≤ lvE (evt b.val) := by decide +kernel
/-- That an event's arrival can be waited for after `k` issues: nothing owed is as low. -/
def CanWait (e : Ev) (k : ℕ) : Prop := 68 ≤ k ∨ lvE e < lvE (evt k)
instance (e : Ev) (k : ℕ) : Decidable (CanWait e k) := inferInstanceAs (Decidable (_ ∨ _))
theorem CanWait.lt {e : Ev} {k : ℕ} (h : CanWait e k) (t : Fin 68) (ht : k ≤ t.val) : lvE e < lvE (evt t.val) := by
  rcases h with h | h
  · omega
  · exact lt_of_lt_of_le h (lvE_mono ⟨k, by omega⟩ t ht)

theorem tri_recv (e : Ev) (k : ℕ) (hk : CanWait e k) {s : Shape} {sp : CoreSpace}
    {src dst : Memref sig .tc sp s .f32} {sem : DmaSem sig} (hR : SemLoc.dma sem = dsem (.rcv e))
    {hsrc : src.view.WordExact} {hdst : dst.view.WordExact} (hN : dst.view.dmaCredit = amtE e) :
    Tri A B K c iprop(RcvK c e ∗ owX c k) (Prog.lift (.waitDma2 sem src dst hsrc hdst))
      (fun _ => iprop(Got c e ∗ rcvPay A B e c ∗ owX c k)) := by
  unfold Tri RcvK Got owX
  iintro ⟨#Hc, ⟨Hcr, Hat⟩, ⟨%W, Ho⟩⟩
  simp only [Prog.lift]
  ihave #Hi := (ctx_inv A B K c (some (.rcv e))) $$ Hc
  ihave #Hl := (ctx_lev A B K) $$ Hc
  have hg : ((c : Thread nD τ), SemLoc.dma sem) = rcell e c := by rw [hR]; rfl
  iapply (Rounds.wp_wait_rest_token 𝒱₀ ER (Rd A B) (c : Thread nD τ) none (sm := .dma sem) (k' := amtE e) (κ := K (c, some (.rcv e)))
      (by rw [← hN]; exact wpE_waitDma2_eq 𝒱₀ (c : Thread nD τ) none Set.univ) (Set.mem_univ _) () (O := Ow c k) (W := W) (R := 0) (m := 0) (T := ∅)
      (by rw [hg, Nat.zero_add, expect_dma A B (.rcv e) c 0 Nat.one_pos]; rfl)) $$ [Hcr Ho Hat]
  · rw [hg]
    isplitr; · iexact Hi
    isplitl [Hcr]; · iexact Hcr
    isplitl [Ho]; · iexact Ho
    isplitr
    · iapply (mayWait_Ow c (.dma sem) k (lvE e) (by rw [hR]; exact (lv_gc (some (.rcv e)) c).le) (fun t ht => hk.lt t ht)); iexact Hl
    iexact Hat
  rw [hg, rest_dma A B (.rcv e) c 0 Nat.one_pos, show payC A B (some (.rcv e)) 0 0 c = rcvPay A B e c from rfl]
  iintro ⟨Ho, Hat, -, Hpay⟩
  rw [wp_ret]; imodintro
  isplitl [Hat]; · iexact Hat
  isplitl [Hpay]; · iexact Hpay
  iexists _; iexact Ho

theorem lvE_pos : ∀ e : Ev, 0 < lvE e := by decide
theorem lvE_two : ∀ e : Ev, 2 ≤ lvE e := by decide

theorem tri_sent (e : Ev) (k : ℕ) {s : Shape} {sp : CoreSpace}
    {src dst : Memref sig .tc sp s .f32} {sem : DmaSem sig} (hS : SemLoc.dma sem = dsem (sx e))
    {hsrc : src.view.WordExact} {hdst : dst.view.WordExact} (hN : dst.view.dmaCredit = amtE e) :
    Tri A B K c iprop(Fly c (sx e) (sr e) ∗ owX c k) (Prog.lift (.waitDma2 sem src dst hsrc hdst))
      (fun _ => iprop(Idle c (sx e) (sr e + 1) ∗ srcPay A B e c ∗ owX c k)) := by
  unfold Tri Idle Fly owX
  iintro ⟨#Hc, ⟨Hat, Hcr⟩, ⟨%W, Ho⟩⟩
  simp only [Prog.lift]
  ihave #Hi := (ctx_inv A B K c (some (sx e))) $$ Hc
  ihave #Hl := (ctx_lev A B K) $$ Hc
  have hg : ((c : Thread nD τ), SemLoc.dma sem) = gc (some (sx e)) c := by rw [hS]; rfl
  have hl : lvC (some (sx e)) = 0 := by cases e <;> rfl
  iapply (Rounds.wp_wait_rest_token 𝒱₀ ER (Rd A B) (c : Thread nD τ) none (sm := .dma sem) (k' := amtE e) (κ := K (c, some (sx e)))
      (by rw [← hN]; exact wpE_waitDma2_eq 𝒱₀ (c : Thread nD τ) none Set.univ) (Set.mem_univ _) () (O := Ow c k) (W := W) (R := sr e) (m := 0) (T := ∅)
      (by rw [hg, Nat.zero_add, expect_dma A B _ c _ (sr_lt e), amt_sx])) $$ [Hcr Ho Hat]
  · rw [hg]
    isplitr; · iexact Hi
    isplitl [Hcr]; · rw [amt_sx]; iexact Hcr
    isplitl [Ho]; · iexact Ho
    isplitr
    · iapply (mayWait_Ow c (.dma sem) k 0 (by rw [hS]; exact ((lv_gc (some (sx e)) c).trans hl).le) (fun t _ => lvE_pos _)); iexact Hl
    iexact Hat
  rw [hg, rest_dma A B _ c _ (sr_lt e), pay_sx]
  iintro ⟨Ho, Hat, Hr, Hpay⟩
  rw [wp_ret]; imodintro
  isplitl [Hat Hr]
  · isplitl [Hat] <;> iassumption
  isplitl [Hpay]; · iexact Hpay
  iexists _; iexact Ho

end Steps

end Cert.KernelIdeal.Run

end
-- ==== Proof.Cells.lean ====
/-
  The memory steps: what a load finds and a store leaves in a slot of a send or landing buffer, in
  the product's buffer, in the result's rows; and how a buffer falls into its slots.
-/
module

public import proofs.«01_k».proof.Proof.Rules
public import Idealize.ShloMosaic.Lib.Pipeline.Value

@[expose] public section

set_option maxRecDepth 65536

noncomputable section

namespace Cert.KernelIdeal.Run

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

variable {A : Dev nD → Vec F S1536x768 .f32} {B : Dev nD → Vec F S768x1536 .f32} {K : Dev nD × Cell → ℕ} {c : Dev nD}

/-! ## Slots -/

section Slot
variable {s t : Shape} (m : Memref sig .tc .vmem s .f32) (r : Rect s) (hr : ∀ a, r.stride a = 1) (hq : r.shape.Squeezes t)

theorem slot_set : ((m.slice r hr).squeeze t hq).view.set = (m.access r).set := View.set_reshape _ _

/-- A load of a slot whose contents are known. -/
theorem tri_slot_load {hl : m.view.LoadsAt r.toLoadRect} (hb : t.ShapeCasts r.shape) (X : Vec F t .f32) :
    Tri A B K c (owns (c : Thread nD τ) ((m.slice r hr).squeeze t hq) fullShare X) (Prog.lift (.load m r.toLoadRect hl))
      (fun v => iprop(⌜v = shapeCast r.shape X hb⌝ ∗ owns (c : Thread nD τ) ((m.slice r hr).squeeze t hq) fullShare X)) := by
  have hc : r.shape.ShapeCasts t := hb.symm
  unfold Tri owns
  iintro ⟨-, ⟨%f, %hf, H⟩⟩
  simp only [Prog.lift]
  iapply (wp_load_rect 𝒱₀ (c : Thread nD τ) none Set.univ (m := m) (r := r) (by rw [slot_set m r hr hq])) $$ H; iintro H
  rw [wp_ret]; imodintro
  isplitr
  · ipureintro
    rw [← hf, Memref.read_squeeze_slice m r hr hq hc f]
    exact (shapeCast_shapeCast _ hc hb).symm
  · iexists f; isplitr; · (ipureintro; exact hf)
    iexact H
/-- A load of a slot whose contents are not used. -/
theorem tri_slot_peek {hl : m.view.LoadsAt r.toLoadRect} :
    Tri A B K c (anyAt c ((m.slice r hr).squeeze t hq)) (Prog.lift (.load m r.toLoadRect hl)) (fun _ => anyAt (F := F) c ((m.slice r hr).squeeze t hq)) := by
  unfold Tri anyAt
  iintro ⟨-, ⟨%f, H⟩⟩
  simp only [Prog.lift]
  iapply (wp_load_rect 𝒱₀ (c : Thread nD τ) none Set.univ (m := m) (r := r) (by rw [slot_set m r hr hq])) $$ H; iintro H
  rw [wp_ret]; imodintro
  iexists f; iexact H
/-- A store into a slot. -/
theorem tri_slot_store (hc : r.shape.ShapeCasts t) (w : Vec F r.shape .f32) {hx : (m.access r).Stores Finset.univ} {hm} :
    Tri A B K c (anyAt c ((m.slice r hr).squeeze t hq)) (Prog.lift (.store m r w Finset.univ hx hm))
      (fun _ => owns (c : Thread nD τ) ((m.slice r hr).squeeze t hq) fullShare (shapeCast t w hc)) := by
  unfold Tri anyAt owns
  iintro ⟨-, ⟨%f, H⟩⟩
  simp only [Prog.lift]
  iapply (wp_store 𝒱₀ (c : Thread nD τ) none Set.univ (m := m) (r := r) (Mk := Finset.univ) (by rw [slot_set m r hr hq]; exact Finset.Subset.refl _)) $$ H; iintro H
  rw [wp_ret]; imodintro
  iexists ((m.access r).write (Elt F) f w Finset.univ); isplitr
  · ipureintro
    rw [Memref.read_squeeze_slice m r hr hq hc]
    exact congrArg (fun v => shapeCast t v hc) (View.read_write_univ (v := m.access r) f w)
  · iexact H

end Slot

theorem owns_any {s : Shape} (m : Memref sig .tc .vmem s .f32) (X : Vec F s .f32) : owns (c : Thread nD τ) m fullShare X ⊢ (anyAt c m : sProp 𝕄) := by
  unfold owns anyAt
  iintro ⟨%f, -, H⟩; iexists f; iexact H

/-! ## The product's buffer and the operands -/

/-- Rows `a` on, by coordinates. -/
theorem emb_rowP {n : ℕ} (a : ℕ) (h : a + n ≤ 1536) (j : (⟨2, ![n, 1536]⟩ : Shape).Idx) :
    ((rcP (rowP (n := n) a h)).emb j 0).val = a + (j 0).val ∧ ((rcP (rowP (n := n) a h)).emb j 1).val = (j 1).val := by
  constructor
  · rw [Rect.emb_apply]; show a + 1 * (j 0).val = _; omega
  · rw [Rect.emb_apply]; show 0 + 1 * (j 1).val = _; omega
theorem rcP_set {n : ℕ} (a : ℕ) (h : a + n ≤ 1536) : (rcP (rowP (n := n) a h)).set = rowSet a n := by
  ext x
  rw [← Rect.map_emb_univ, Finset.mem_map, mem_rowSet]
  constructor
  · rintro ⟨j, -, rfl⟩
    have h0 : (j 0).val < n := (j 0).isLt
    have := (emb_rowP a h j).1
    show a ≤ ((rcP (rowP a h)).emb j 0).val ∧ ((rcP (rowP a h)).emb j 0).val < a + n
    omega
  · rintro ⟨h1, h2⟩
    have hj := emb_rowP a h (ix2 (n0 := n) (n1 := 1536) ⟨(x 0).val - a, by omega⟩ (x 1))
    refine ⟨ix2 (n0 := n) (n1 := 1536) ⟨(x 0).val - a, by omega⟩ (x 1), Finset.mem_univ _, ?_⟩
    funext k
    match k with
    | ⟨0, _⟩ => exact Fin.ext (hj.1.trans (Nat.add_sub_cancel' h1))
    | ⟨1, _⟩ => exact Fin.ext hj.2

/-- The product's buffer, its rows where `ok` holds at `V`. -/
def pAt (c : Dev nD) (ok : ℕ → Prop) (V : Vec F S1536x1536 .f32) : sProp 𝕄 :=
  iprop(∃ f : Buf (Elt F) ((c : Thread nD τ).loc cc0_scratch0), ⌜∀ x : S1536x1536.Idx, ok (x 0).val → (f : Vec F S1536x1536 .f32) x = V x⌝ ∗ ((c : Thread nD τ).loc cc0_scratch0) ↦{fullShare} f)
def aAt (c : Dev nD) (X : Vec F S1536x768 .f32) : sProp 𝕄 := iprop(((c : Thread nD τ).loc cc0_stg0_0) ↦{fullShare} (X : Buf (Elt F) ((c : Thread nD τ).loc cc0_stg0_0)))
def bAt (c : Dev nD) (X : Vec F S768x1536 .f32) : sProp 𝕄 := iprop(((c : Thread nD τ).loc cc0_stg1_0) ↦{fullShare} (X : Buf (Elt F) ((c : Thread nD τ).loc cc0_stg1_0)))

theorem pAt_mono {ok ok' : ℕ → Prop} {V V' : Vec F S1536x1536 .f32} (h : ∀ x : S1536x1536.Idx, ok' (x 0).val → ok (x 0).val ∧ V x = V' x) :
    pAt c ok V ⊢ pAt c ok' V' := by
  unfold pAt
  iintro ⟨%f, %hf, H⟩
  iexists f; isplitr
  · ipureintro; exact fun x hx => (hf x (h x hx).1).trans (h x hx).2
  · iexact H

theorem tri_a_load {n : ℕ} (o : OffA n) (X : Vec F S1536x768 .f32) {hl : mems.a.view.LoadsAt (rcA o).toLoadRect} :
    Tri A B K c (aAt c X) (Prog.lift (.load mems.a (rcA o).toLoadRect hl)) (fun v => iprop(⌜v = ldA o X⌝ ∗ aAt c X)) := by
  unfold Tri aAt
  iintro ⟨-, H⟩
  dsimp only [Prog.lift, mems]
  iapply (wp_load_rect 𝒱₀ (c : Thread nD τ) none Set.univ (m := Memref.whole cc0_stg0_0) (r := rcA o) (S := Finset.univ) (Finset.subset_univ _)) $$ H; iintro H
  rw [wp_ret]; imodintro
  isplitr; · ipureintro; rfl
  iexact H
theorem tri_b_load (X : Vec F S768x1536 .f32) {hl : mems.b.view.LoadsAt rcB.toLoadRect} :
    Tri A B K c (bAt c X) (Prog.lift (.load mems.b rcB.toLoadRect hl)) (fun v => iprop(⌜v = ldB X⌝ ∗ bAt c X)) := by
  unfold Tri bAt
  iintro ⟨-, H⟩
  dsimp only [Prog.lift, mems]
  iapply (wp_load_rect 𝒱₀ (c : Thread nD τ) none Set.univ (m := Memref.whole cc0_stg1_0) (r := rcB) (S := Finset.univ) (Finset.subset_univ _)) $$ H; iintro H
  rw [wp_ret]; imodintro
  isplitr; · ipureintro; rfl
  iexact H
theorem tri_p_load {n : ℕ} (a : ℕ) (h : a + n ≤ 1536) {ok : ℕ → Prop} {V : Vec F S1536x1536 .f32} (hok : ∀ x, a ≤ x → x < a + n → ok x)
    {hl : mems.p.view.LoadsAt (rcP (rowP (n := n) a h)).toLoadRect} :
    Tri A B K c (pAt c ok V) (Prog.lift (.load mems.p (rcP (rowP (n := n) a h)).toLoadRect hl)) (fun v => iprop(⌜v = ldP (rowP (n := n) a h) V⌝ ∗ pAt c ok V)) := by
  unfold Tri pAt
  iintro ⟨-, ⟨%f, %hf, H⟩⟩
  dsimp only [Prog.lift, mems]
  iapply (wp_load_rect 𝒱₀ (c : Thread nD τ) none Set.univ (m := Memref.whole cc0_scratch0) (r := rcP (rowP (n := n) a h)) (S := Finset.univ) (Finset.subset_univ _)) $$ H; iintro H
  rw [wp_ret]; imodintro
  isplitr
  · ipureintro
    funext j
    have h0 : (j 0).val < n := (j 0).isLt
    have hj := (emb_rowP a h j).1
    exact hf ((rcP (rowP a h)).emb j) (hok _ (by omega) (by omega))
  · iexists f; isplitr; · (ipureintro; exact hf)
    iexact H
theorem tri_p_peek {r : LoadRect S1536x1536} {ok : ℕ → Prop} {V : Vec F S1536x1536 .f32} {hl : mems.p.view.LoadsAt r} :
    Tri A B K c (pAt c ok V) (Prog.lift (.load mems.p r hl)) (fun _ => pAt c ok V) := by
  unfold Tri pAt
  iintro ⟨-, ⟨%f, %hf, H⟩⟩
  dsimp only [Prog.lift, mems]
  iapply (wp_load 𝒱₀ (c : Thread nD τ) none Set.univ (m := Memref.whole cc0_scratch0) (S := Finset.univ) (Finset.subset_univ _)) $$ H; iintro H
  rw [wp_ret]; imodintro
  iexists f; isplitr; · (ipureintro; exact hf)
  iexact H
/-- A store of rows: they hold what is stored, the others what they held. -/
theorem tri_p_store {n : ℕ} (a : ℕ) (h : a + n ≤ 1536) {ok ok' : ℕ → Prop} {V V' : Vec F S1536x1536 .f32} (w : Vec F ⟨2, ![n, 1536]⟩ .f32)
    (hin : ∀ (x : S1536x1536.Idx) (hx : a ≤ (x 0).val ∧ (x 0).val < a + n), ok' (x 0).val → w (ix2 ⟨(x 0).val - a, by omega⟩ (x 1)) = V' x)
    (hout : ∀ x : S1536x1536.Idx, ¬(a ≤ (x 0).val ∧ (x 0).val < a + n) → ok' (x 0).val → ok (x 0).val ∧ V x = V' x)
    {hx : (mems.p.access (rcP (rowP (n := n) a h))).Stores Finset.univ} {hm} :
    Tri A B K c (pAt c ok V) (Prog.lift (.store mems.p (rcP (rowP (n := n) a h)) w Finset.univ hx hm)) (fun _ => pAt c ok' V') := by
  unfold Tri pAt
  iintro ⟨-, ⟨%f, %hf, H⟩⟩
  dsimp only [Prog.lift, mems]
  iapply (wp_store 𝒱₀ (c : Thread nD τ) none Set.univ (m := Memref.whole cc0_scratch0) (r := rcP (rowP (n := n) a h)) (S := Finset.univ) (Mk := Finset.univ) (Finset.subset_univ _)) $$ H; iintro H
  rw [wp_ret]; imodintro
  iexists (((Memref.whole cc0_scratch0).access (rcP (rowP (n := n) a h))).write (Elt F) f w Finset.univ); isplitr
  · ipureintro
    intro x hox
    by_cases hxr : a ≤ (x 0).val ∧ (x 0).val < a + n
    · rw [← hin x hxr hox]
      have hj := emb_rowP a h (ix2 (n0 := n) (n1 := 1536) ⟨(x 0).val - a, by omega⟩ (x 1))
      have hxe : x = (rcP (rowP (n := n) a h)).emb (ix2 (n0 := n) (n1 := 1536) ⟨(x 0).val - a, by omega⟩ (x 1)) := by
        funext k
        match k with
        | ⟨0, _⟩ => exact Fin.ext (hj.1.trans (Nat.add_sub_cancel' hxr.1)).symm
        | ⟨1, _⟩ => exact Fin.ext hj.2.symm
      have := congrFun (View.read_write_univ (v := mems.p.access (rcP (rowP (n := n) a h))) f w) (ix2 (n0 := n) (n1 := 1536) ⟨(x 0).val - a, by omega⟩ (x 1))
      refine Eq.trans ?_ this
      conv_lhs => rw [hxe]
      rfl
    · refine Eq.trans (View.write_of_not_mem (v := (Memref.whole cc0_scratch0).access (rcP (rowP (n := n) a h))) (Val := Elt F) f w Finset.univ (i := x) ?_) ((hf x (hout x hxr hox).1).trans (hout x hxr hox).2)
      intro hmem
      have hm' : x ∈ (rcP (rowP (n := n) a h)).set := by rw [← View.set_slice_whole cc0_scratch0]; exact hmem
      rw [rcP_set] at hm'
      exact hxr ((mem_rowSet _ _ _).mp hm')
  · iexact H

/-! ## The result's rows -/

theorem o_set {n : ℕ} (a : ℕ) (h : a + n ≤ 1536) : (mems.o.access (rcP (rowP (n := n) a h))).set = rowSet a n :=
  (View.set_slice_whole cc0_stg2_0 _).trans (rcP_set a h)

theorem tri_o_peek {n : ℕ} (a : ℕ) (h : a + n ≤ 1536) {hl : mems.o.view.LoadsAt (rcP (rowP (n := n) a h)).toLoadRect} :
    Tri A B K c (oAny c a n) (Prog.lift (.load mems.o (rcP (rowP (n := n) a h)).toLoadRect hl)) (fun _ => oAny (F := F) c a n) := by
  unfold Tri oAny
  iintro ⟨-, ⟨%f, H⟩⟩
  dsimp only [Prog.lift, mems]
  iapply (wp_load_rect 𝒱₀ (c : Thread nD τ) none Set.univ (m := Memref.whole cc0_stg2_0) (r := rcP (rowP (n := n) a h)) (S := rowSet a n) (o_set a h).le) $$ H; iintro H
  rw [wp_ret]; imodintro
  iexists f; iexact H
theorem tri_o_store {n : ℕ} (a : ℕ) (h : a + n ≤ 1536) (w : Vec F ⟨2, ![n, 1536]⟩ .f32) (hw : w = ldP (rowP (n := n) a h) (oval A B))
    {hx : (mems.o.access (rcP (rowP (n := n) a h))).Stores Finset.univ} {hm} :
    Tri A B K c (oAny c a n) (Prog.lift (.store mems.o (rcP (rowP (n := n) a h)) w Finset.univ hx hm)) (fun _ => oPts A B c a n) := by
  unfold Tri oAny oPts
  iintro ⟨-, ⟨%f, H⟩⟩
  dsimp only [Prog.lift, mems]
  iapply (wp_store 𝒱₀ (c : Thread nD τ) none Set.univ (m := Memref.whole cc0_stg2_0) (r := rcP (rowP (n := n) a h)) (S := rowSet a n) (Mk := Finset.univ) (o_set a h).le) $$ H; iintro H
  rw [wp_ret]; imodintro
  have hc : ∀ x ∈ rowSet a n, ((mems.o.access (rcP (rowP (n := n) a h))).write (Elt F) f w Finset.univ) x = (oval A B : Buf (Elt F) ((c : Thread nD τ).loc cc0_stg2_0)) x := by
    intro x hx
    rw [← rcP_set a h, ← Rect.map_emb_univ, Finset.mem_map] at hx
    obtain ⟨j, -, rfl⟩ := hx
    exact (congrFun (View.read_write_univ (v := mems.o.access (rcP (rowP (n := n) a h))) f w) j).trans (congrFun hw j)
  rw [← pointsTo_congr (ℓ := (c : Thread nD τ).loc cc0_stg2_0) (q := fullShare) hc]
  iexact H

end Cert.KernelIdeal.Run

end
-- ==== Proof.Lanes.lean ====
/-
  What a ring or a column holds between its steps: the events still to issue and to wait for, those
  that have arrived, and the two send slots, each idle or with a copy under way.
-/
module

public import proofs.«01_k».proof.Proof.Cells

@[expose] public section

set_option maxRecDepth 65536

noncomputable section

namespace Cert.KernelIdeal.Run

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

/-! ## Lines -/

section Lines
/-- The steps from `k` on; the steps before `k`. -/
def frm {N : ℕ} (Φ : Fin N → sProp 𝕄) (k : ℕ) : sProp 𝕄 := bigSep (Finset.univ.filter fun s : Fin N => k ≤ s.val) Φ
def upt {N : ℕ} (Φ : Fin N → sProp 𝕄) (k : ℕ) : sProp 𝕄 := bigSep (Finset.univ.filter fun s : Fin N => s.val < k) Φ

omit [FloatOps F] in
theorem frm_take {N : ℕ} (Φ : Fin N → sProp 𝕄) (s : Fin N) {k : ℕ} (hk : k = s.val) : frm Φ k = iprop(Φ s ∗ frm Φ (k + 1)) := by
  subst hk
  have h : (Finset.univ.filter fun x : Fin N => s.val ≤ x.val) = insert s (Finset.univ.filter fun x : Fin N => s.val + 1 ≤ x.val) := by
    ext x; simp only [Finset.mem_filter, Finset.mem_univ, _root_.true_and, Finset.mem_insert, Fin.ext_iff]; omega
  unfold frm; rw [h, bigSep_insert (by simp)]; rfl
omit [FloatOps F] in
theorem upt_put {N : ℕ} (Φ : Fin N → sProp 𝕄) (s : Fin N) {k : ℕ} (hk : k = s.val) : upt Φ (k + 1) = iprop(Φ s ∗ upt Φ k) := by
  subst hk
  have h : (Finset.univ.filter fun x : Fin N => x.val < s.val + 1) = insert s (Finset.univ.filter fun x : Fin N => x.val < s.val) := by
    ext x; simp only [Finset.mem_filter, Finset.mem_univ, _root_.true_and, Finset.mem_insert, Fin.ext_iff]; omega
  unfold upt; rw [h, bigSep_insert (by simp)]; rfl
omit [FloatOps F] in
theorem frm_zero {N : ℕ} (Φ : Fin N → sProp 𝕄) : frm Φ 0 = bigSep Finset.univ Φ := by
  unfold frm; rw [Finset.filter_true_of_mem fun _ _ => Nat.zero_le _]
omit [FloatOps F] in
theorem upt_zero {N : ℕ} (Φ : Fin N → sProp 𝕄) : upt Φ 0 = iprop(emp) := by
  unfold upt; rw [Finset.filter_false_of_mem fun _ _ => Nat.not_lt_zero _]; rfl
omit [FloatOps F] in
theorem frm_end {N : ℕ} (Φ : Fin N → sProp 𝕄) : frm Φ N = iprop(emp) := by
  unfold frm; rw [Finset.filter_false_of_mem fun x _ => Nat.not_le.mpr x.isLt]; rfl
omit [FloatOps F] in
theorem upt_end {N : ℕ} (Φ : Fin N → sProp 𝕄) : upt Φ N = bigSep Finset.univ Φ := by
  unfold upt; rw [Finset.filter_true_of_mem fun x _ => x.isLt]

end Lines

/-! ## The two send slots -/

section Sends
/-- With steps below `n` read and steps below `k` issued: whether slot `q` is under way, and its rounds so far. -/
abbrev flying (q : Fin 2) (n k : ℕ) : Prop := (n % 2 = q.val ∧ n < k) ∨ (n % 2 ≠ q.val ∧ n + 1 < k)
abbrev cnt (q : Fin 2) (n : ℕ) : ℕ := (n + 1 - q.val) / 2

def sndAt (c : Dev nD) (x : Fin 2 → DC) (b : Fin 2 → ℕ) (slot : Fin 2 → sProp 𝕄) (n k : ℕ) (q : Fin 2) : sProp 𝕄 :=
  if flying q n k then Fly c (x q) (cnt q n + b q) else iprop(Idle c (x q) (cnt q n + b q) ∗ slot q)
def Snd (c : Dev nD) (x : Fin 2 → DC) (b : Fin 2 → ℕ) (slot : Fin 2 → sProp 𝕄) (n k : ℕ) : sProp 𝕄 := bigSep Finset.univ (sndAt c x b slot n k)
def sndR (c : Dev nD) (x : Fin 2 → DC) (b : Fin 2 → ℕ) (slot : Fin 2 → sProp 𝕄) (n k : ℕ) (q : Fin 2) : sProp 𝕄 := bigSep (Finset.univ.erase q) (sndAt c x b slot n k)

theorem par_val (s : ℕ) : (par s).val = s % 2 := rfl
theorem mem_erase_par {q : Fin 2} {s : ℕ} (h : q ∈ Finset.univ.erase (par s)) : q.val ≠ s % 2 :=
  fun e => (Finset.mem_erase.mp h).1 (Fin.ext e)

omit [FloatOps F] in
theorem snd_idle (c : Dev nD) (x : Fin 2 → DC) (b : Fin 2 → ℕ) (slot : Fin 2 → sProp 𝕄) {n k : ℕ} (h1 : n ≤ k) (h2 : k < n + 2) :
    Snd c x b slot n k = iprop((Idle c (x (par k)) (k / 2 + b (par k)) ∗ slot (par k)) ∗ sndR c x b slot n k (par k)) := by
  unfold Snd sndR
  rw [bigSep_univ_split (par k)]
  have hf : ¬flying (par k) n k := by rw [flying, par_val]; omega
  have hc : cnt (par k) n = k / 2 := by rw [cnt, par_val]; omega
  conv_lhs => rw [sndAt, if_neg hf, hc]
  rfl
omit [FloatOps F] in
theorem snd_issued (c : Dev nD) (x : Fin 2 → DC) (b : Fin 2 → ℕ) (slot : Fin 2 → sProp 𝕄) {n k : ℕ} (h1 : n ≤ k) (h2 : k < n + 2) :
    Snd c x b slot n (k + 1) = iprop(Fly c (x (par k)) (k / 2 + b (par k)) ∗ sndR c x b slot n k (par k)) := by
  unfold Snd sndR
  rw [bigSep_univ_split (par k)]
  have hf : flying (par k) n (k + 1) := by rw [flying, par_val]; omega
  have hc : cnt (par k) n = k / 2 := by rw [cnt, par_val]; omega
  conv_lhs => rw [sndAt, if_pos hf, hc]
  have : bigSep (Finset.univ.erase (par k)) (sndAt c x b slot n (k + 1)) = bigSep (Finset.univ.erase (par k)) (sndAt c x b slot n k) := by
    refine bigSep_congr fun q hq => ?_
    have hq := mem_erase_par hq
    have hi : flying q n (k + 1) ↔ flying q n k := by have := q.isLt; unfold flying; omega
    unfold sndAt; simp only [hi]
  rw [this]; rfl
omit [FloatOps F] in
theorem snd_flying (c : Dev nD) (x : Fin 2 → DC) (b : Fin 2 → ℕ) (slot : Fin 2 → sProp 𝕄) {n k : ℕ} (h1 : n < k) :
    Snd c x b slot n k = iprop(Fly c (x (par n)) (n / 2 + b (par n)) ∗ sndR c x b slot n k (par n)) := by
  unfold Snd sndR
  rw [bigSep_univ_split (par n)]
  have hf : flying (par n) n k := by rw [flying, par_val]; omega
  have hc : cnt (par n) n = n / 2 := by rw [cnt, par_val]; omega
  conv_lhs => rw [sndAt, if_pos hf, hc]
  rfl
omit [FloatOps F] in
theorem snd_read (c : Dev nD) (x : Fin 2 → DC) (b : Fin 2 → ℕ) (slot : Fin 2 → sProp 𝕄) {n k : ℕ} (h1 : n < k) (h2 : k ≤ n + 2) :
    Snd c x b slot (n + 1) k = iprop((Idle c (x (par n)) (n / 2 + b (par n) + 1) ∗ slot (par n)) ∗ sndR c x b slot n k (par n)) := by
  unfold Snd sndR
  rw [bigSep_univ_split (par n)]
  have hf : ¬flying (par n) (n + 1) k := by rw [flying, par_val]; omega
  have hc : cnt (par n) (n + 1) + b (par n) = n / 2 + b (par n) + 1 := by rw [cnt, par_val]; omega
  conv_lhs => rw [sndAt, if_neg hf, hc]
  have : bigSep (Finset.univ.erase (par n)) (sndAt c x b slot (n + 1) k) = bigSep (Finset.univ.erase (par n)) (sndAt c x b slot n k) := by
    refine bigSep_congr fun q hq => ?_
    have hq := mem_erase_par hq
    have hi : flying q (n + 1) k ↔ flying q n k := by have := q.isLt; unfold flying; omega
    have hc : cnt q (n + 1) = cnt q n := by have := q.isLt; unfold cnt; omega
    unfold sndAt; simp only [hi, hc]
  rw [this]; rfl

end Sends

/-! ## An event's resources -/

section Events
variable (A : Dev nD → Vec F S1536x768 .f32) (B : Dev nD → Vec F S768x1536 .f32) (c : Dev nD)

/-- The right to issue an event with the room it needs; an event that has arrived with what it left. -/
def IssK (e : Ev) : sProp 𝕄 := iprop(Tok c e ∗ dstAny e (tgt e c))
def Arr (e : Ev) : sProp 𝕄 := iprop(Got c e ∗ rcvPay A B e c)

end Events

/-! ## Credits -/

theorem sbS_credit (i : Fin 4) (k : Fin 2) : (mems.sbS i k).view.dmaCredit = N48 := by fin_cases i <;> fin_cases k <;> rfl
theorem rcS_credit (i : Fin 4) (k : Fin 7) : (mems.rcS i k).view.dmaCredit = N48 := by fin_cases i <;> fin_cases k <;> rfl
theorem zbS_credit (j : Fin 2) (k : Fin 2) : (mems.zbS j k).view.dmaCredit = N24 := by fin_cases j <;> fin_cases k <;> rfl
theorem zrS_credit (j : Fin 2) (k : Fin 3) : (mems.zrS j k).view.dmaCredit = N24 := by fin_cases j <;> fin_cases k <;> rfl
theorem o48_credit (o : OffP 48) : (mems.o48 o).view.dmaCredit = N48 := rfl
theorem o24_credit (o : OffP 24) : (mems.o24 o).view.dmaCredit = N24 := rfl

end Cert.KernelIdeal.Run

end
-- ==== Proof.Reduce.lean ====
/-
  The rings' reduction: each step of a ring, the blocks of the product computed behind, and the
  phase from its first block to the sums this device keeps.
-/
module

public import proofs.«01_k».proof.Proof.Lanes

@[expose] public section

set_option maxRecDepth 65536

noncomputable section

namespace Cert.KernelIdeal.Run

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

/-! ## Which rows of the product are there -/

theorem pos_lt (c : Dev nD) : pos c < 8 := by revert c; decide
theorem pl_lt (c : Dev nD) : pl c < 4 := by revert c; decide

/-- Half 0 is there up to distance `d0`, half 1 up to `d1` (exclusive). -/
def okD (c : Dev nD) (d0 d1 : ℕ) (r : ℕ) : Prop := dist (r % 192 / 96) (r / 192) c < if r % 192 / 96 < 1 then d0 else d1

theorem dist_mm (c : Dev nD) (h : Fin 2) (n : ℕ) (hn : n ≤ 7) (r : ℕ) (h1 : mmRow h n c ≤ r) (h2 : r < mmRow h n c + 96) :
    r % 192 / 96 = h.val ∧ dist (r % 192 / 96) (r / 192) c = n ∧ r % 96 = r - mmRow h n c := by
  have hp := pos_lt c
  unfold mmRow at h1 h2 ⊢
  unfold dist
  generalize pos c = q at *
  have hh : h.val < 2 := h.isLt
  generalize h.val = g at *
  interval_cases g <;> interval_cases n <;> simp only [Nat.lt_irrefl, Nat.lt_one_iff, if_true, if_false, Nat.reduceSub, Nat.reduceMul, Nat.add_zero, Nat.zero_add] at h1 h2 ⊢
  all_goals split <;> omega
theorem mm_of_dist (c : Dev nD) (h : Fin 2) (n : ℕ) (hn : n ≤ 7) (r : ℕ) (hr : r < 1536) (e : r % 192 / 96 = h.val) (hd : dist (r % 192 / 96) (r / 192) c = n) :
    mmRow h n c ≤ r ∧ r < mmRow h n c + 96 := by
  have hp := pos_lt c
  unfold dist at hd
  unfold mmRow
  rw [e] at hd
  generalize pos c = q at *
  have hh : h.val < 2 := h.isLt
  generalize h.val = g at *
  interval_cases g <;> interval_cases n <;> simp only [Nat.lt_irrefl, Nat.lt_one_iff, if_true, if_false, Nat.reduceSub, Nat.reduceMul, Nat.add_zero, Nat.zero_add] at hd ⊢ <;> omega

variable {A : Dev nD → Vec F S1536x768 .f32} {B : Dev nD → Vec F S768x1536 .f32} {K : Dev nD × Cell → ℕ} {c : Dev nD}

/-! ## The blocks of the product -/

theorem dist0 (r : ℕ) (hr : r < 1536) : dist (r % 192 / 96) (r / 192) c = 0 ↔ mmRow 0 0 c ≤ r ∧ r < mmRow 0 0 c + 192 := by
  have hp := pos_lt c
  unfold dist
  show _ ↔ 192 * ((pos c + 8) % 8) + 96 * 0 ≤ r ∧ r < 192 * ((pos c + 8) % 8) + 96 * 0 + 192
  split <;> omega

/-- The first block. -/
theorem tri_mm0 {V : Vec F S1536x1536 .f32} :
    Tri A B K c iprop(aAt c (A c) ∗ bAt c (B c) ∗ pAt c (fun _ => False) V) (mm0 mems (tab c))
      (fun _ => iprop(aAt c (A c) ∗ bAt c (B c) ∗ pAt c (okD c 1 1) (pval A B c))) := by
  have hin : ∀ (x : S1536x1536.Idx) (hx : mmRow 0 0 c ≤ (x 0).val ∧ (x 0).val < mmRow 0 0 c + 192), okD c 1 1 (x 0).val →
      blk0 A B c (ix2 ⟨(x 0).val - mmRow 0 0 c, by omega⟩ (x 1)) = pval A B c x := by
    intro x hx _
    have h0 : (x 0).val < 1536 := (x 0).isLt
    unfold pval
    rw [if_pos ((dist0 _ h0).mpr hx)]
    congr 2
    refine Fin.ext ?_
    show (x 0).val - mmRow 0 0 c = (x 0).val % 192
    have : mmRow 0 0 c = 192 * ((pos c + 8) % 8) + 96 * 0 := rfl
    omega
  have hout : ∀ x : S1536x1536.Idx, ¬(mmRow 0 0 c ≤ (x 0).val ∧ (x 0).val < mmRow 0 0 c + 192) → okD c 1 1 (x 0).val → False ∧ V x = pval A B c x := by
    intro x hx hok
    have h0 : (x 0).val < 1536 := (x 0).isLt
    exact absurd ((dist0 _ h0).mp (by unfold okD at hok; split at hok <;> omega)) hx
  unfold Tri mm0
  iintro ⟨#Hc, Ha, Hb, Hp⟩
  iapply Tri.use A B K c (tri_a_load (rowA (n := 192) (mmRow 0 0 c) (row0_le c)) (A c)) $$ [Ha]
  · isplitr <;> iassumption
  iintro %va ⟨%hva, Ha⟩
  iapply Tri.use A B K c (tri_b_load (B c)) $$ [Hb]
  · isplitr <;> iassumption
  iintro %vb ⟨%hvb, Hb⟩
  iapply Tri.use A B K c (tri_p_peek (r := (rcP (rowP (n := 192) (mmRow 0 0 c) (row0_le c))).toLoadRect)) $$ [Hp]
  · isplitr <;> iassumption
  iintro %v0 Hp
  subst hva; subst hvb
  iapply Tri.last A B K c (tri_p_store (n := 192) (mmRow 0 0 c) (row0_le c) (ok := fun _ => False) (V := V) (blk0 A B c) hin hout) $$ [Hp]
  · isplitr <;> iassumption
  · iintro %_ Hp
    isplitl [Ha]; · iexact Ha
    isplitl [Hb] <;> iassumption

/-- A further block of half `h`, at distance `n + 1`. -/
theorem tri_mm (h : Fin 2) (n : Fin 7) {d0 d1 e0 e1 : ℕ} (hd : if h.val < 1 then (e0 = n.val + 2 ∧ d0 = n.val + 1 ∧ e1 = d1) else (e1 = n.val + 2 ∧ d1 = n.val + 1 ∧ e0 = d0)) :
    Tri A B K c iprop(aAt c (A c) ∗ bAt c (B c) ∗ pAt c (okD c d0 d1) (pval A B c)) (mm mems ((tab c).a h n) ((tab c).p h n))
      (fun _ => iprop(aAt c (A c) ∗ bAt c (B c) ∗ pAt c (okD c e0 e1) (pval A B c))) := by
  have hin : ∀ (x : S1536x1536.Idx) (hx : mmRow h (n.val + 1) c ≤ (x 0).val ∧ (x 0).val < mmRow h (n.val + 1) c + 96), okD c e0 e1 (x 0).val →
      blk A B h (n.val + 1) c (ix2 ⟨(x 0).val - mmRow h (n.val + 1) c, by omega⟩ (x 1)) = pval A B c x := by
    intro x hx _
    obtain ⟨k1, k2, k3⟩ := dist_mm c h (n.val + 1) (by omega) (x 0).val hx.1 hx.2
    unfold pval
    rw [if_neg (by rw [k2]; omega)]
    have kh : (⟨(x 0).val % 192 / 96, by omega⟩ : Fin 2) = h := Fin.ext k1
    rw [kh, k2]
    congr 2
    exact Fin.ext k3.symm
  have hout : ∀ x : S1536x1536.Idx, ¬(mmRow h (n.val + 1) c ≤ (x 0).val ∧ (x 0).val < mmRow h (n.val + 1) c + 96) → okD c e0 e1 (x 0).val →
      okD c d0 d1 (x 0).val ∧ pval A B c x = pval A B c x := by
    intro x hx hok
    refine ⟨?_, rfl⟩
    have h0 : (x 0).val < 1536 := (x 0).isLt
    by_contra hn
    have hm := mm_of_dist c h (n.val + 1) (by omega) _ h0
    by_cases e : (x 0).val % 192 / 96 = h.val
    · refine hx (hm e ?_)
      unfold okD at hok hn
      rw [e] at hok hn ⊢
      split at hd <;> rename_i hh <;> simp only [hh, if_true, if_false] at hok hn <;> omega
    · unfold okD at hok hn
      have : (x 0).val % 192 / 96 < 2 := by omega
      split at hd <;> split at hok <;> rename_i hh <;> simp only [hh, if_true, if_false] at hn <;> omega
  unfold Tri mm
  iintro ⟨#Hc, Ha, Hb, Hp⟩
  iapply Tri.use A B K c (tri_a_load (rowA (n := 96) (mmRow h (n.val + 1) c) (mmRow_le h _ c)) (A c)) $$ [Ha]
  · isplitr <;> iassumption
  iintro %va ⟨%hva, Ha⟩
  iapply Tri.use A B K c (tri_b_load (B c)) $$ [Hb]
  · isplitr <;> iassumption
  iintro %vb ⟨%hvb, Hb⟩
  iapply Tri.use A B K c (tri_p_peek (r := (rcP (rowP (n := 96) (mmRow h (n.val + 1) c) (mmRow_le h _ c))).toLoadRect)) $$ [Hp]
  · isplitr <;> iassumption
  iintro %v0 Hp
  subst hva; subst hvb
  iapply Tri.last A B K c (tri_p_store (n := 96) (mmRow h (n.val + 1) c) (mmRow_le h _ c) (blk A B h (n.val + 1) c) hin hout) $$ [Hp]
  · isplitr <;> iassumption
  · iintro %_ Hp
    isplitl [Ha]; · iexact Ha
    isplitl [Hb] <;> iassumption

/-- Both halves' blocks. -/
theorem tri_mms (n : Fin 7) :
    Tri A B K c iprop(aAt c (A c) ∗ bAt c (B c) ∗ pAt c (okD c (n.val + 1) (n.val + 1)) (pval A B c)) (mms mems (tab c) n)
      (fun _ => iprop(aAt c (A c) ∗ bAt c (B c) ∗ pAt c (okD c (n.val + 2) (n.val + 2)) (pval A B c))) := by
  unfold mms
  exact (tri_mm 0 n (e0 := n.val + 2) (e1 := n.val + 1) (by simp)).bind fun _ => tri_mm 1 n (by simp)

/-! ## A ring's steps -/

/-- A ring's send slots. -/
abbrev SndS (c : Dev nD) (i : Fin 4) (n k : ℕ) : sProp 𝕄 := Snd c (DC.ss i) (fun _ => 0) (fun q => anyAt (F := F) c (mems.sbS i q)) n k
/-- A ring with `k` steps issued, `m` arrived and `n` read. -/
def RSL (A : Dev nD → Vec F S1536x768 .f32) (B : Dev nD → Vec F S768x1536 .f32) (c : Dev nD) (i : Fin 4) (k m n : ℕ) : sProp 𝕄 :=
  iprop(frm (fun s => IssK c (.rs i s)) k ∗ frm (fun s => RcvK c (.rs i s)) m ∗ upt (fun s => Arr A B c (.rs i s)) m ∗ SndS c i n k)

theorem rsCopy_tri (A : Dev nD → Vec F S1536x768 .f32) (B : Dev nD → Vec F S768x1536 .f32) (K : Dev nD × Cell → ℕ) (c : Dev nD) (i : Fin 4) (s : Fin 7)
    (fs : Buf (Elt F) ((mems.sbS i (par s.val)).view.loc (c : Thread nD τ))) (fd : Buf (Elt F) ((mems.rcS i s).view.loc (fwd i c : Thread nD τ)))
    (h1 : ((mems.sbS i (par s.val)).view.loc (c : Thread nD τ) ↦[(mems.sbS i (par s.val)).view.set]{fullShare} fs) ⊢ srcPay A B (.rs i s) c)
    (h2 : ((mems.rcS i s).view.loc (fwd i c : Thread nD τ) ↦[(mems.rcS i s).view.set]{fullShare} ((mems.rcS i s).view.write (Elt F) fd ((mems.sbS i (par s.val)).view.read (Elt F) fs) Finset.univ))
      ⊢ rcvPay A B (.rs i s) (fwd i c)) :
    Tri A B K c iprop(Idle c (.ss i (par s.val)) (s.val / 2) ∗ Tok c (.rs i s) ∗ ((mems.sbS i (par s.val)).view.loc (c : Thread nD τ) ↦[(mems.sbS i (par s.val)).view.set]{fullShare} fs)
        ∗ ((mems.rcS i s).view.loc (fwd i c : Thread nD τ) ↦[(mems.rcS i s).view.set]{fullShare} fd) ∗ owX c (4 * s.val + i.val))
      (rsCopy mems (tab c) i s) (fun _ => iprop(Fly c (.ss i (par s.val)) (s.val / 2) ∗ owX c (4 * s.val + i.val + 1))) :=
  tri_issue (.rs i s) (n := fwd i c) rfl (src := mems.sbS i (par s.val)) (dst := mems.rcS i s) (sS := .dma (mems.ssem i s)) (sem := .dma (sem7 (mems.rs i) s))
    rfl rfl fs fd (rcS_credit i s) h1 h2

theorem tri_rsCopy (i : Fin 4) (s : Fin 7) :
    Tri A B K c iprop(Idle c (.ss i (par s.val)) (s.val / 2) ∗ IssK c (.rs i s) ∗ owns (c : Thread nD τ) (mems.sbS i (par s.val)) fullShare (vs A B i s.val c)
        ∗ owX c (4 * s.val + i.val))
      (rsCopy mems (tab c) i s)
      (fun _ => iprop(Fly c (.ss i (par s.val)) (s.val / 2) ∗ owX c (4 * s.val + i.val + 1))) := by
  unfold Tri rsCopy IssK owns
  iintro ⟨#Hc, Hi, ⟨Ht, Hd⟩, ⟨%fs, %hfs, Hs⟩, Ho⟩
  have h1 : iprop((View.loc (c : Thread nD τ) (mems.sbS i (par s.val)).view) ↦[(mems.sbS i (par s.val)).view.set]{fullShare} fs) ⊢ srcPay A B (.rs i s) c := by
    show _ ⊢ anyAt c (mems.sbS i (par s.val))
    unfold anyAt; iintro H; iexists fs; iexact H
  ihave Hd2 := (show dstAny (F := F) (.rs i s) (tgt (.rs i s) c) ⊢ anyAt (fwd i c) (mems.rcS i s) from BI.Entails.refl _) $$ Hd
  unfold anyAt
  icases Hd2 with ⟨%fd, Hd⟩
  have h2 : iprop((View.loc (fwd i c : Thread nD τ) (mems.rcS i s).view) ↦[(mems.rcS i s).view.set]{fullShare}
      (mems.rcS i s).view.write (Elt F) fd ((mems.sbS i (par s.val)).view.read (Elt F) fs) Finset.univ) ⊢ rcvPay A B (.rs i s) (fwd i c) := by
    show _ ⊢ owns (fwd i c : Thread nD τ) (mems.rcS i s) fullShare (vs A B i s.val (bwd i (fwd i c)))
    rw [bwd_fwd]; unfold owns
    iintro H
    iexists ((mems.rcS i s).view.write (Elt F) fd ((mems.sbS i (par s.val)).view.read (Elt F) fs) Finset.univ)
    isplitr
    · ipureintro; rw [View.read_write_univ]; exact hfs
    · iexact H
  iapply Tri.elim (rsCopy_tri A B K c i s fs fd h1 h2) $$ [Hi Ht Hd Hs Ho]
  isplitr; · iexact Hc
  isplitl [Hi]; · iexact Hi
  isplitl [Ht]; · iexact Ht
  isplitl [Hs]; · iexact Hs
  isplitl [Hd] <;> iassumption

/-- A block put in the step's slot and sent on. -/
theorem tri_rsTail (i : Fin 4) (s : Fin 7) {n : ℕ} (h1 : n ≤ s.val) (h2 : s.val < n + 2) (w : Vec F S1x48x1536 .f32) (hw : unb48 w = vs A B i s.val c)
    {hl : (mems.sb i).view.LoadsAt (r2x48 (par s.val)).toLoadRect} {hx : ((mems.sb i).access (r2x48 (par s.val))).Stores Finset.univ} {hm} :
    Tri A B K c iprop(owX c (4 * s.val + i.val) ∗ frm (fun s => IssK c (.rs i s)) s.val ∗ SndS c i n s.val)
      (do
        let _v : Vec F S1x48x1536 .f32 ← Prog.lift (.load (mems.sb i) (r2x48 (par s.val)).toLoadRect hl)
        Prog.lift (.store (mems.sb i) (r2x48 (par s.val)) w Finset.univ hx hm)
        rsCopy mems (tab c) i s)
      (fun _ => iprop(owX c (4 * s.val + i.val + 1) ∗ frm (fun s => IssK c (.rs i s)) (s.val + 1) ∗ SndS c i n (s.val + 1))) := by
  have hpk : Tri A B K c (anyAt c (mems.sbS i (par s.val))) (Prog.lift (.load (mems.sb i) (r2x48 (par s.val)).toLoadRect hl)) (fun _ => anyAt (F := F) c (mems.sbS i (par s.val))) :=
    tri_slot_peek (mems.sb i) (r2x48 (par s.val)) (fun _ => rfl) squeezes_S1x48x1536_S48x1536
  have hst : Tri A B K c (anyAt c (mems.sbS i (par s.val))) (Prog.lift (.store (mems.sb i) (r2x48 (par s.val)) w Finset.univ hx hm))
      (fun _ => owns (c : Thread nD τ) (mems.sbS i (par s.val)) fullShare (vs A B i s.val c)) := by
    rw [← hw]
    exact tri_slot_store (mems.sb i) (r2x48 (par s.val)) (fun _ => rfl) squeezes_S1x48x1536_S48x1536 shapeCasts_S1x48x1536_S48x1536 w
  unfold Tri
  dsimp only [SndS]
  rw [snd_idle c (DC.ss i) _ _ h1 h2, snd_issued c (DC.ss i) _ _ h1 h2, frm_take _ s rfl]
  dsimp only [Nat.add_zero]
  iintro ⟨#Hc, Ho, ⟨Hk, Hf⟩, ⟨⟨Hi, Hs⟩, Hr⟩⟩
  iapply Tri.use A B K c hpk $$ [Hs]
  · isplitr <;> iassumption
  iintro %_ Hs
  iapply Tri.use A B K c hst $$ [Hs]
  · isplitr <;> iassumption
  iintro %_ Hs
  iapply Tri.last A B K c (tri_rsCopy i s) $$ [Hi Hk Hs Ho]
  · isplitr; · iexact Hc
    isplitl [Hi]; · iexact Hi
    isplitl [Hk]; · iexact Hk
    isplitl [Hs] <;> iassumption
  iintro %_ ⟨Hi, Ho⟩
  isplitl [Ho]; · iexact Ho
  isplitl [Hf]; · iexact Hf
  isplitl [Hi] <;> iassumption

theorem rs_ok (i : Fin 4) {n d : ℕ} (hn : n ≤ 7) (hd : n < d) (x : ℕ) (h1 : rsRow i n c ≤ x) (h2 : x < rsRow i n c + 48) : okD c d d x := by
  unfold rsRow at h1 h2
  obtain ⟨-, k2, -⟩ := dist_mm c (hf i) n hn x (by omega) (by omega)
  unfold okD; rw [k2]; split <;> exact hd

theorem tri_rsFirst (i : Fin 4) {d : ℕ} (hd : 0 < d) :
    Tri A B K c iprop((owX c (0 + i.val) ∗ pAt c (okD c d d) (pval A B c)) ∗ RSL A B c i 0 0 0) (rsFirst mems (tab c) i)
      (fun _ => iprop((owX c (0 + i.val + 1) ∗ pAt c (okD c d d) (pval A B c)) ∗ RSL A B c i 1 0 0)) := by
  have ht {hl hx hm} : Tri A B K c iprop(owX c (0 + i.val) ∗ frm (fun s => IssK c (.rs i s)) 0 ∗ SndS c i 0 0)
      (do
        let _v : Vec F S1x48x1536 .f32 ← Prog.lift (.load (mems.sb i) (r2x48 0).toLoadRect hl)
        Prog.lift (.store (mems.sb i) (r2x48 0) (k0_pay2 (pv A B i 0 c)) Finset.univ hx hm)
        rsCopy mems (tab c) i 0)
      (fun _ => iprop(owX c (0 + i.val + 1) ∗ frm (fun s => IssK c (.rs i s)) 1 ∗ SndS c i 0 1)) :=
    tri_rsTail i 0 (n := 0) (by decide) (by decide) (k0_pay2 (pv A B i 0 c)) rfl
  unfold Tri rsFirst RSL
  iintro ⟨#Hc, ⟨Ho, Hp⟩, Hf, Hg, Hu, Hs⟩
  iapply Tri.use A B K c (tri_p_load (n := 48) (rsRow i 0 c) (rsRow_le i 0 c) (rs_ok i (by decide) hd)) $$ [Hp]
  · isplitr <;> iassumption
  iintro %v ⟨%hv, Hp⟩
  subst hv
  iapply Tri.last A B K c ht $$ [Ho Hf Hs]
  · isplitr; · iexact Hc
    isplitl [Ho]; · iexact Ho
    isplitl [Hf] <;> iassumption
  iintro %_ ⟨Ho, Hf, Hs⟩
  isplitl [Ho Hp]
  · isplitl [Ho] <;> iassumption
  isplitl [Hf]; · iexact Hf
  isplitl [Hg]; · iexact Hg
  isplitl [Hu] <;> iassumption

/-- A landed block read. -/
theorem tri_rsRead (i : Fin 4) (t : Fin 7) {k : ℕ} (hk : k = t.val + 1) {hl : (mems.rc i).view.LoadsAt (r7x48 t).toLoadRect} :
    Tri A B K c (upt (fun s => Arr A B c (.rs i s)) k) (Prog.lift (.load (mems.rc i) (r7x48 t).toLoadRect hl))
      (fun v => iprop(⌜v = box48 (vs A B i t.val (bwd i c))⌝ ∗ upt (fun s => Arr A B c (.rs i s)) k)) := by
  subst hk
  rw [upt_put _ t rfl]
  refine ((tri_slot_load (mems.rc i) (r7x48 t) (fun _ => rfl) squeezes_S1x48x1536_S48x1536 shapeCasts_S48x1536_S1x48x1536 (vs A B i t.val (bwd i c))).frame
    iprop(Got c (.rs i t) ∗ upt (fun s => Arr A B c (.rs i s)) t.val)).cons ?_ fun v => ?_
  · show iprop((Got c (.rs i t) ∗ owns (c : Thread nD τ) (mems.rcS i t) fullShare (vs A B i t.val (bwd i c))) ∗ _) ⊢ iprop(owns (c : Thread nD τ) (mems.rcS i t) fullShare (vs A B i t.val (bwd i c)) ∗ _)
    iintro ⟨⟨Hg, Ho⟩, Hu⟩
    isplitl [Ho]; · iexact Ho
    isplitl [Hg] <;> iassumption
  · show iprop((⌜v = box48 (vs A B i t.val (bwd i c))⌝ ∗ owns (c : Thread nD τ) (mems.rcS i t) fullShare (vs A B i t.val (bwd i c))) ∗ _)
      ⊢ iprop(_ ∗ ((Got c (.rs i t) ∗ owns (c : Thread nD τ) (mems.rcS i t) fullShare (vs A B i t.val (bwd i c))) ∗ _))
    iintro ⟨⟨%hv, Ho⟩, Hg, Hu⟩
    isplitr; · ipureintro; exact hv
    isplitl [Ho Hg]
    · isplitl [Hg] <;> iassumption
    · iexact Hu

theorem tri_rsNext (i : Fin 4) (t s : Fin 7) (hs : s.val = t.val + 1) {n d : ℕ} (h1 : n ≤ s.val) (h2 : s.val < n + 2) (hd : s.val < d) :
    Tri A B K c iprop((owX c (4 * s.val + i.val) ∗ pAt c (okD c d d) (pval A B c)) ∗ RSL A B c i s.val s.val n) (rsNext mems (tab c) i t s)
      (fun _ => iprop((owX c (4 * s.val + i.val + 1) ∗ pAt c (okD c d d) (pval A B c)) ∗ RSL A B c i (s.val + 1) s.val n)) := by
  have hw : unb48 (k0_pay8 (pv A B i s.val c) (box48 (vs A B i t.val (bwd i c)))) = vs A B i s.val c := by rw [hs]; rfl
  unfold Tri rsNext RSL
  iintro ⟨#Hc, ⟨Ho, Hp⟩, Hf, Hg, Hu, Hs⟩
  iapply Tri.use A B K c (tri_p_load (n := 48) (rsRow i s.val c) (rsRow_le i s.val c) (rs_ok i (by omega) hd)) $$ [Hp]
  · isplitr <;> iassumption
  iintro %v ⟨%hv, Hp⟩
  iapply Tri.use A B K c (tri_rsRead i t hs) $$ [Hu]
  · isplitr <;> iassumption
  iintro %v' ⟨%hv', Hu⟩
  subst hv; subst hv'
  iapply Tri.last A B K c (tri_rsTail i s (n := n) h1 h2 _ hw) $$ [Ho Hf Hs]
  · isplitr; · iexact Hc
    isplitl [Ho]; · iexact Ho
    isplitl [Hf] <;> iassumption
  iintro %_ ⟨Ho, Hf, Hs⟩
  isplitl [Ho Hp]
  · isplitl [Ho] <;> iassumption
  isplitl [Hf]; · iexact Hf
  isplitl [Hg]; · iexact Hg
  isplitl [Hu] <;> iassumption

theorem tri_rsRecv (i : Fin 4) (s : Fin 7) {k n T : ℕ} (hk : CanWait (.rs i s) T) :
    Tri A B K c iprop(owX c T ∗ RSL A B c i k s.val n) (rsRecv mems i s) (fun _ => iprop(owX c T ∗ RSL A B c i k (s.val + 1) n)) := by
  have h : Tri A B K c iprop(RcvK c (.rs i s) ∗ owX c T) (rsRecv mems i s) (fun _ => iprop(Got c (.rs i s) ∗ rcvPay A B (.rs i s) c ∗ owX c T)) :=
    tri_recv (.rs i s) T hk rfl (rcS_credit i s)
  unfold Tri RSL
  rw [frm_take (fun s => RcvK c (.rs i s)) s rfl, upt_put _ s rfl]
  unfold Arr
  iintro ⟨#Hc, Ho, Hf, ⟨Hr, Hg⟩, Hu, Hs⟩
  iapply Tri.last A B K c h $$ [Hr Ho]
  · isplitr; · iexact Hc
    isplitl [Hr] <;> iassumption
  iintro %_ ⟨Hg', Hp, Ho⟩
  isplitl [Ho]; · iexact Ho
  isplitl [Hf]; · iexact Hf
  isplitl [Hg]; · iexact Hg
  isplitr [Hs]
  · isplitr [Hu]
    · isplitl [Hg'] <;> iassumption
    · iexact Hu
  · iexact Hs

theorem tri_rsSent (i : Fin 4) (r : Fin 7) {k m n T : ℕ} (hn : n = r.val) (h1 : n < k) (h2 : k ≤ n + 2) :
    Tri A B K c iprop(owX c T ∗ RSL A B c i k m n) (rsSent mems i r) (fun _ => iprop(owX c T ∗ RSL A B c i k m (n + 1))) := by
  have h : Tri A B K c iprop(Fly c (.ss i (par r.val)) (r.val / 2) ∗ owX c T) (rsSent mems i r)
      (fun _ => iprop(Idle c (.ss i (par r.val)) (r.val / 2 + 1) ∗ anyAt c (mems.sbS i (par r.val)) ∗ owX c T)) :=
    tri_sent (.rs i r) T rfl (sbS_credit i (par r.val))
  subst hn
  unfold Tri RSL
  dsimp only [SndS]
  rw [snd_flying c (DC.ss i) _ _ h1, snd_read c (DC.ss i) _ _ h1 h2]
  iintro ⟨#Hc, Ho, Hf, Hg, Hu, ⟨Hy, Hs⟩⟩
  iapply Tri.last A B K c h $$ [Hy Ho]
  · isplitr; · iexact Hc
    isplitl [Hy] <;> iassumption
  iintro %_ ⟨Hi, Ha, Ho⟩
  isplitl [Ho]; · iexact Ho
  isplitl [Hf]; · iexact Hf
  isplitl [Hg]; · iexact Hg
  isplitl [Hu]; · iexact Hu
  isplitl [Hi Ha]
  · isplitl [Hi] <;> iassumption
  · iexact Hs

/-! ## The rounds -/

theorem wait_rs : ∀ (i : Fin 4) (s : Fin 7), s.val < 6 → CanWait (.rs i s) (4 * (s.val + 1) + i.val) := by decide
theorem wait_rs6 : ∀ i : Fin 4, CanWait (.rs i 6) 28 := by decide

/-- The four rings at one stage, with `d` distances of the product there. -/
def W (A : Dev nD → Vec F S1536x768 .f32) (B : Dev nD → Vec F S768x1536 .f32) (c : Dev nD) (t d k m n : ℕ) : sProp 𝕄 :=
  iprop((owX c t ∗ pAt c (okD c d d) (pval A B c)) ∗ RSL A B c 0 k m n ∗ RSL A B c 1 k m n ∗ RSL A B c 2 k m n ∗ RSL A B c 3 k m n)

theorem tri_W_mms (n : Fin 7) {t k m l d : ℕ} (hd : d = n.val + 1) :
    Tri A B K c iprop((aAt c (A c) ∗ bAt c (B c)) ∗ W A B c t d k m l) (mms mems (tab c) n) (fun _ => iprop((aAt c (A c) ∗ bAt c (B c)) ∗ W A B c t (d + 1) k m l)) := by
  subst hd
  unfold W
  refine ((tri_mms n).frame iprop(owX c t ∗ RSL A B c 0 k m l ∗ RSL A B c 1 k m l ∗ RSL A B c 2 k m l ∗ RSL A B c 3 k m l)).cons ?_ fun _ => ?_
  · iintro ⟨⟨Ha, Hb⟩, ⟨Ho, Hp⟩, Hr⟩
    isplitr [Ho Hr]
    · isplitl [Ha]; · iexact Ha
      isplitl [Hb] <;> iassumption
    · isplitl [Ho] <;> iassumption
  · iintro ⟨⟨Ha, Hb, Hp⟩, Ho, Hr⟩
    isplitl [Ha Hb]
    · isplitl [Ha] <;> iassumption
    · isplitr [Hr]
      · isplitl [Ho] <;> iassumption
      · iexact Hr

theorem tri_W_four {t d k m n k' m' n' : ℕ} {f : Fin 4 → Pr F PUnit}
    (h : ∀ i : Fin 4, Tri A B K c iprop((owX c (t + i.val) ∗ pAt c (okD c d d) (pval A B c)) ∗ RSL A B c i k m n) (f i)
      (fun _ => iprop((owX c (t + i.val + 1) ∗ pAt c (okD c d d) (pval A B c)) ∗ RSL A B c i k' m' n'))) :
    Tri A B K c iprop((aAt c (A c) ∗ bAt c (B c)) ∗ W A B c t d k m n) (four f) (fun _ => iprop((aAt c (A c) ∗ bAt c (B c)) ∗ W A B c (t + 4) d k' m' n')) := by
  refine ((Tri.four (S := fun i => iprop(owX c (t + i) ∗ pAt c (okD c d d) (pval A B c))) h).frame iprop(aAt c (A c) ∗ bAt c (B c))).cons ?_ fun _ => ?_
  · exact BI.sep_comm
  · exact BI.sep_comm

theorem tri_W_still {t d k m n k' m' n' : ℕ} {f : Fin 4 → Pr F PUnit}
    (h : ∀ i : Fin 4, Tri A B K c iprop(owX c t ∗ RSL A B c i k m n) (f i) (fun _ => iprop(owX c t ∗ RSL A B c i k' m' n'))) :
    Tri A B K c iprop((aAt c (A c) ∗ bAt c (B c)) ∗ W A B c t d k m n) (four f) (fun _ => iprop((aAt c (A c) ∗ bAt c (B c)) ∗ W A B c t d k' m' n')) := by
  unfold W
  refine ((Tri.four (S := fun _ => owX c t) h).frame iprop((aAt c (A c) ∗ bAt c (B c)) ∗ pAt c (okD c d d) (pval A B c))).cons ?_ fun _ => ?_ <;>
  · iintro H
    first
    | (icases H with ⟨Hab, ⟨Ho, Hp⟩, Hr⟩
       isplitl [Ho Hr]
       · isplitl [Ho] <;> iassumption
       · isplitl [Hab] <;> iassumption)
    | (icases H with ⟨⟨Ho, Hr⟩, Hab, Hp⟩
       isplitl [Hab]; · iexact Hab
       isplitl [Ho Hp]
       · isplitl [Ho] <;> iassumption
       · iexact Hr)

/-- A ring's step with the product's state kept aside. -/
theorem tri_aside {t k m n k' m' n' : ℕ} {i : Fin 4} {ok : ℕ → Prop} {p : Pr F PUnit}
    (h : Tri A B K c iprop(owX c t ∗ RSL A B c i k m n) p (fun _ => iprop(owX c t ∗ RSL A B c i k' m' n'))) :
    Tri A B K c iprop((owX c t ∗ pAt c ok (pval A B c)) ∗ RSL A B c i k m n) p (fun _ => iprop((owX c t ∗ pAt c ok (pval A B c)) ∗ RSL A B c i k' m' n')) := by
  refine (h.frame (pAt c ok (pval A B c))).cons ?_ fun _ => ?_
  · iintro ⟨⟨Ho, Hp⟩, Hr⟩
    isplitr [Hp]
    · isplitl [Ho] <;> iassumption
    · iexact Hp
  · iintro ⟨⟨Ho, Hr⟩, Hp⟩
    isplitr [Hr]
    · isplitl [Ho] <;> iassumption
    · iexact Hr

theorem tri_W_first :
    Tri A B K c iprop((aAt c (A c) ∗ bAt c (B c)) ∗ W A B c 0 1 0 0 0) (four fun i => rsFirst mems (tab c) i) (fun _ => iprop((aAt c (A c) ∗ bAt c (B c)) ∗ W A B c 4 1 1 0 0)) :=
  tri_W_four (t := 0) fun i => tri_rsFirst i (by decide)
theorem tri_W_step0 :
    Tri A B K c iprop((aAt c (A c) ∗ bAt c (B c)) ∗ W A B c 4 2 1 0 0) (four fun i => rsStep0 mems (tab c) i) (fun _ => iprop((aAt c (A c) ∗ bAt c (B c)) ∗ W A B c 8 2 2 1 0)) :=
  tri_W_four (t := 4) fun i => Tri.bind (tri_aside (tri_rsRecv i 0 (wait_rs i 0 (by decide)))) fun _ =>
    tri_rsNext i 0 1 rfl (n := 0) (by decide) (by decide) (by decide)
theorem tri_W_round (r s t : Fin 7) (hs : s.val = r.val + 1) (ht : t.val = s.val + 1) {T d k m n : ℕ} (hT : T = 4 * t.val) (hd : d = t.val + 1)
    (hk : k = t.val) (hm : m = s.val) (hn : n = r.val) :
    Tri A B K c iprop((aAt c (A c) ∗ bAt c (B c)) ∗ W A B c T d k m n) (rsRound mems (tab c) r s t)
      (fun _ => iprop((aAt c (A c) ∗ bAt c (B c)) ∗ W A B c (T + 4) (d + 1) (k + 1) (m + 1) (n + 1))) := by
  subst hT
  subst hd
  subst hk
  subst hm
  subst hn
  unfold rsRound
  refine Tri.bind (tri_W_four fun i => ?_) fun _ => tri_W_mms t rfl
  unfold rsStep
  have hw : CanWait (.rs i s) (4 * t.val + i.val) := by rw [ht]; exact wait_rs i s (by omega)
  refine Tri.bind (tri_aside (tri_rsRecv i s hw)) fun _ => Tri.bind (tri_aside (tri_rsSent i r rfl (by omega) (by omega))) fun _ => ?_
  have h := tri_rsNext (A := A) (B := B) (K := K) (c := c) i s t ht (n := r.val + 1) (d := t.val + 1) (by omega) (by omega) (by omega)
  rw [← ht]
  exact h

/-! ## The rows a device keeps -/

/-- The rows of the two halves a device keeps. -/
def okOwn (c : Dev nD) (r : ℕ) : Prop := ∃ h : Fin 2, mmRow h 7 c ≤ r ∧ r < mmRow h 7 c + 96

theorem own_row (i : Fin 4) (r : ℕ) (h1 : rsRow i 7 c ≤ r) (h2 : r < rsRow i 7 c + 48) :
    2 * (r % 192 / 96) + r % 96 / 48 = i.val ∧ r % 48 = r - rsRow i 7 c := by
  unfold rsRow mmRow hf at *
  have := i.isLt
  simp only at *
  generalize (pos c + _) = q at *
  omega

theorem own_mem (i : Fin 4) (r : ℕ) (hr : okOwn c r) (e : 2 * (r % 192 / 96) + r % 96 / 48 = i.val) : rsRow i 7 c ≤ r ∧ r < rsRow i 7 c + 48 := by
  obtain ⟨h, g1, g2⟩ := hr
  have hh := h.isLt
  have hm : mmRow h 7 c % 192 = 96 * h.val := by unfold mmRow; omega
  have eh : hf i = h := Fin.ext (by show i.val / 2 = h.val; omega)
  unfold rsRow; rw [eh]
  omega

/-- With the rings below `k` added. -/
def Vmix (A : Dev nD → Vec F S1536x768 .f32) (B : Dev nD → Vec F S768x1536 .f32) (c : Dev nD) (k : ℕ) : Vec F S1536x1536 .f32 := fun x =>
  if 2 * ((x 0).val % 192 / 96) + (x 0).val % 96 / 48 < k then pown A B c x else pval A B c x

theorem tri_ownAdd (i : Fin 4) :
    Tri A B K c iprop(pAt c (okOwn c) (Vmix A B c i.val) ∗ RSL A B c i 7 7 7) (ownAdd mems (tab c) i)
      (fun _ => iprop(pAt c (okOwn c) (Vmix A B c (i.val + 1)) ∗ RSL A B c i 7 7 7)) := by
  have hok : ∀ x, rsRow i 7 c ≤ x → x < rsRow i 7 c + 48 → okOwn c x := fun x h1 h2 =>
    ⟨hf i, by unfold rsRow at *; omega, by unfold rsRow at *; omega⟩
  have hv : ldP (rowP (n := 48) (rsRow i 7 c) (rsRow_le i 7 c)) (Vmix A B c i.val) = pv A B i 7 c := by
    unfold pv ldP
    funext j
    have hj : (j 0).val < 48 := (j 0).isLt
    have e := (emb_rowP (rsRow i 7 c) (rsRow_le i 7 c) j).1
    have := own_row (c := c) i (((rcP (rowP (n := 48) (rsRow i 7 c) (rsRow_le i 7 c))).emb j) 0).val (by omega) (by omega)
    unfold Vmix
    rw [if_neg (by omega)]
  have hin : ∀ (x : S1536x1536.Idx) (hx : rsRow i 7 c ≤ (x 0).val ∧ (x 0).val < rsRow i 7 c + 48), okOwn c (x 0).val →
      rsT A B i c (ix2 ⟨(x 0).val - rsRow i 7 c, by omega⟩ (x 1)) = Vmix A B c (i.val + 1) x := by
    intro x hx _
    obtain ⟨e1, e2⟩ := own_row i (x 0).val hx.1 hx.2
    unfold Vmix
    rw [if_pos (by omega)]
    unfold pown
    have ei : (⟨2 * ((x 0).val % 192 / 96) + (x 0).val % 96 / 48, by omega⟩ : Fin 4) = i := Fin.ext e1
    rw [ei]
    congr 2
    exact Fin.ext e2.symm
  have hout : ∀ x : S1536x1536.Idx, ¬(rsRow i 7 c ≤ (x 0).val ∧ (x 0).val < rsRow i 7 c + 48) → okOwn c (x 0).val →
      okOwn c (x 0).val ∧ Vmix A B c i.val x = Vmix A B c (i.val + 1) x := by
    intro x hx hk
    refine ⟨hk, ?_⟩
    unfold Vmix
    have : 2 * ((x 0).val % 192 / 96) + (x 0).val % 96 / 48 ≠ i.val := by
      exact fun e => hx (own_mem i _ hk e)
    by_cases h : 2 * ((x 0).val % 192 / 96) + (x 0).val % 96 / 48 < i.val
    · rw [if_pos h, if_pos (by omega)]
    · rw [if_neg h, if_neg (by omega)]
  unfold Tri ownAdd RSL
  iintro ⟨#Hc, Hp, Hf, Hg, Hu, Hs⟩
  iapply Tri.use A B K c (tri_p_load (n := 48) (rsRow i 7 c) (rsRow_le i 7 c) hok) $$ [Hp]
  · isplitr <;> iassumption
  iintro %v ⟨%hv1, Hp⟩
  iapply Tri.use A B K c (tri_rsRead i 6 (k := 7) rfl) $$ [Hu]
  · isplitr <;> iassumption
  iintro %v' ⟨%hv', Hu⟩
  iapply Tri.use A B K c (tri_p_peek (r := (rcP (rowP (n := 48) (rsRow i 7 c) (rsRow_le i 7 c))).toLoadRect)) $$ [Hp]
  · isplitr <;> iassumption
  iintro %v0 Hp
  rw [hv] at hv1
  subst hv1; subst hv'
  iapply Tri.last A B K c (tri_p_store (n := 48) (rsRow i 7 c) (rsRow_le i 7 c) (rsT A B i c) hin hout) $$ [Hp]
  · isplitr <;> iassumption
  · iintro %_ Hp
    isplitl [Hp]; · iexact Hp
    isplitl [Hf]; · iexact Hf
    isplitl [Hg]; · iexact Hg
    isplitl [Hu] <;> iassumption

theorem tri_W_own :
    Tri A B K c iprop((aAt c (A c) ∗ bAt c (B c)) ∗ W A B c 28 8 7 7 7) (four fun i => ownAdd mems (tab c) i)
      (fun _ => iprop((aAt c (A c) ∗ bAt c (B c)) ∗ owX c 28 ∗ pAt c (okOwn c) (pown A B c) ∗ RSL A B c 0 7 7 7 ∗ RSL A B c 1 7 7 7 ∗ RSL A B c 2 7 7 7 ∗ RSL A B c 3 7 7 7)) := by
  have e0 : pAt c (okD c 8 8) (pval A B c) ⊢ pAt c (okOwn c) (Vmix A B c 0) := pAt_mono fun x hx => by
    have h0 : (x 0).val < 1536 := (x 0).isLt
    constructor
    · have := pos_lt c
      have : dist ((x 0).val % 192 / 96) ((x 0).val / 192) c < 8 := by unfold dist; split <;> omega
      unfold okD; split <;> exact this
    · unfold Vmix; rw [if_neg (by omega)]
  have e4 : pAt c (okOwn c) (Vmix A B c 4) ⊢ pAt c (okOwn c) (pown A B c) := pAt_mono fun x hx => by
    refine ⟨hx, ?_⟩
    unfold Vmix; rw [if_pos (by omega)]
  unfold W
  refine ((Tri.four (S := fun k => pAt c (okOwn c) (Vmix A B c k)) (fun i => tri_ownAdd i)).frame iprop((aAt c (A c) ∗ bAt c (B c)) ∗ owX c 28)).cons ?_ fun _ => ?_
  · iintro ⟨Hab, ⟨Ho, Hp⟩, Hr⟩
    isplitl [Hp Hr]
    · isplitl [Hp]; · (iapply e0; iexact Hp)
      iexact Hr
    · isplitl [Hab] <;> iassumption
  · iintro ⟨⟨Hp, Hr⟩, Hab, Ho⟩
    isplitl [Hab]; · iexact Hab
    isplitl [Ho]; · iexact Ho
    isplitl [Hp]; · (iapply e4; iexact Hp)
    iexact Hr

/-- The rings' reduction, from a product's buffer that holds nothing known to the sums this device keeps. -/
theorem tri_rsPhase {V : Vec F S1536x1536 .f32} :
    Tri A B K c iprop((aAt c (A c) ∗ bAt c (B c)) ∗ (owX c 0 ∗ pAt c (fun _ => False) V) ∗ RSL A B c 0 0 0 0 ∗ RSL A B c 1 0 0 0 ∗ RSL A B c 2 0 0 0 ∗ RSL A B c 3 0 0 0)
      (rsPhase mems (tab c))
      (fun _ => iprop((aAt c (A c) ∗ bAt c (B c)) ∗ owX c 28 ∗ pAt c (okOwn c) (pown A B c) ∗ RSL A B c 0 7 7 7 ∗ RSL A B c 1 7 7 7 ∗ RSL A B c 2 7 7 7 ∗ RSL A B c 3 7 7 7)) := by
  unfold rsPhase
  have h0 : Tri A B K c iprop((aAt c (A c) ∗ bAt c (B c)) ∗ (owX c 0 ∗ pAt c (fun _ => False) V) ∗ RSL A B c 0 0 0 0 ∗ RSL A B c 1 0 0 0 ∗ RSL A B c 2 0 0 0 ∗ RSL A B c 3 0 0 0)
      (mm0 mems (tab c)) (fun _ => iprop((aAt c (A c) ∗ bAt c (B c)) ∗ W A B c 0 1 0 0 0)) := by
    unfold W
    refine ((tri_mm0 (V := V)).frame iprop(owX c 0 ∗ RSL A B c 0 0 0 0 ∗ RSL A B c 1 0 0 0 ∗ RSL A B c 2 0 0 0 ∗ RSL A B c 3 0 0 0)).cons ?_ fun _ => ?_
    · iintro ⟨⟨Ha, Hb⟩, ⟨Ho, Hp⟩, Hr⟩
      isplitr [Ho Hr]
      · isplitl [Ha]; · iexact Ha
        isplitl [Hb] <;> iassumption
      · isplitl [Ho] <;> iassumption
    · iintro ⟨⟨Ha, Hb, Hp⟩, Ho, Hr⟩
      isplitl [Ha Hb]
      · isplitl [Ha] <;> iassumption
      · isplitr [Hr]
        · isplitl [Ho] <;> iassumption
        · iexact Hr
  refine Tri.bind h0 fun _ => Tri.bind tri_W_first fun _ => Tri.bind (tri_W_mms 0 rfl) fun _ => Tri.bind tri_W_step0 fun _ => Tri.bind (tri_W_mms 1 rfl) fun _ =>
    Tri.bind (tri_W_round 0 1 2 rfl rfl rfl rfl rfl rfl rfl) fun _ => Tri.bind (tri_W_round 1 2 3 rfl rfl rfl rfl rfl rfl rfl) fun _ =>
    Tri.bind (tri_W_round 2 3 4 rfl rfl rfl rfl rfl rfl rfl) fun _ => Tri.bind (tri_W_round 3 4 5 rfl rfl rfl rfl rfl rfl rfl) fun _ =>
    Tri.bind (tri_W_round 4 5 6 rfl rfl rfl rfl rfl rfl rfl) fun _ =>
    Tri.bind (tri_W_still fun i => Tri.bind (tri_rsRecv i 6 (wait_rs6 i)) fun _ => tri_rsSent i 5 rfl (by decide) (by decide)) fun _ =>
    Tri.bind (tri_W_still fun i => tri_rsSent i 6 rfl (by decide) (by decide)) fun _ => tri_W_own

end Cert.KernelIdeal.Run

end
-- ==== Proof.Columns.lean ====
/-
  The columns' reduction: each column's three steps, and the rows of the result a device finishes.
-/
module

public import proofs.«01_k».proof.Proof.Reduce

@[expose] public section

set_option maxRecDepth 65536

noncomputable section

namespace Cert.KernelIdeal.Run

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

variable {A : Dev nD → Vec F S1536x768 .f32} {B : Dev nD → Vec F S768x1536 .f32} {K : Dev nD × Cell → ℕ} {c : Dev nD}

/-- A column's send slots. -/
abbrev SndZ (c : Dev nD) (j : Fin 2) (n k : ℕ) : sProp 𝕄 := Snd c (DC.zs j) (fun _ => 0) (fun q => anyAt (F := F) c (mems.zbS j q)) n k
abbrev SndZR (c : Dev nD) (j : Fin 2) (n k : ℕ) (q : Fin 2) : sProp 𝕄 := sndR c (DC.zs j) (fun _ => 0) (fun q => anyAt (F := F) c (mems.zbS j q)) n k q

/-- A column with `k` steps issued, `m` arrived and `n` read. -/
def ZL (A : Dev nD → Vec F S1536x768 .f32) (B : Dev nD → Vec F S768x1536 .f32) (c : Dev nD) (j : Fin 2) (k m n : ℕ) : sProp 𝕄 :=
  iprop(frm (fun s => IssK c (.zr j s)) k ∗ frm (fun s => RcvK c (.zr j s)) m ∗ upt (fun s => Arr A B c (.zr j s)) m ∗ SndZ c j n k)
/-- A column whose slot holds what step `s` sends. -/
def ZP (A : Dev nD → Vec F S1536x768 .f32) (B : Dev nD → Vec F S768x1536 .f32) (c : Dev nD) (j : Fin 2) (s : ℕ) : sProp 𝕄 :=
  iprop(frm (fun s => IssK c (.zr j s)) s ∗ frm (fun s => RcvK c (.zr j s)) s ∗ upt (fun s => Arr A B c (.zr j s)) s
    ∗ (Idle c (.zs j (par s)) (s / 2) ∗ owns (c : Thread nD τ) (mems.zbS j (par s)) fullShare (zv A B j s c)) ∗ SndZR c j s s (par s))

theorem tri_zPut (j : Fin 2) (s : Fin 3) (w : Vec F S1x24x1536 .f32) (hw : unb24 w = zv A B j s.val c) :
    Tri A B K c (ZL A B c j s.val s.val s.val) (zPut mems j s w) (fun _ => ZP A B c j s.val) := by
  have hpk {hl} : Tri A B K c (anyAt c (mems.zbS j (par s.val))) (Prog.lift (.load (mems.zb j) (r2x24 (par s.val)).toLoadRect hl)) (fun _ => anyAt (F := F) c (mems.zbS j (par s.val))) :=
    tri_slot_peek (mems.zb j) (r2x24 (par s.val)) (fun _ => rfl) squeezes_S1x24x1536_S24x1536
  have hst {hx hm} : Tri A B K c (anyAt c (mems.zbS j (par s.val))) (Prog.lift (.store (mems.zb j) (r2x24 (par s.val)) w Finset.univ hx hm))
      (fun _ => owns (c : Thread nD τ) (mems.zbS j (par s.val)) fullShare (zv A B j s.val c)) := by
    rw [← hw]
    exact tri_slot_store (mems.zb j) (r2x24 (par s.val)) (fun _ => rfl) squeezes_S1x24x1536_S24x1536 shapeCasts_S1x24x1536_S24x1536 w
  unfold Tri zPut ZL ZP
  dsimp only [SndZ, SndZR]
  rw [snd_idle c (DC.zs j) _ _ (le_refl s.val) (by omega)]
  dsimp only [Nat.add_zero]
  iintro ⟨#Hc, Hf, Hg, Hu, ⟨⟨Hi, Hs⟩, Hr⟩⟩
  iapply Tri.use A B K c hpk $$ [Hs]
  · isplitr <;> iassumption
  iintro %_ Hs
  iapply Tri.last A B K c hst $$ [Hs]
  · isplitr <;> iassumption
  iintro %_ Hs
  isplitl [Hf]; · iexact Hf
  isplitl [Hg]; · iexact Hg
  isplitl [Hu]; · iexact Hu
  isplitr [Hr]
  · isplitl [Hi] <;> iassumption
  · iexact Hr

theorem zCopy_tri (A : Dev nD → Vec F S1536x768 .f32) (B : Dev nD → Vec F S768x1536 .f32) (K : Dev nD × Cell → ℕ) (c : Dev nD) (j : Fin 2) (s : Fin 3)
    (fs : Buf (Elt F) ((mems.zbS j (par s.val)).view.loc (c : Thread nD τ))) (fd : Buf (Elt F) ((mems.zrS j s).view.loc (up j c : Thread nD τ)))
    (h1 : ((mems.zbS j (par s.val)).view.loc (c : Thread nD τ) ↦[(mems.zbS j (par s.val)).view.set]{fullShare} fs) ⊢ srcPay A B (.zr j s) c)
    (h2 : ((mems.zrS j s).view.loc (up j c : Thread nD τ) ↦[(mems.zrS j s).view.set]{fullShare} ((mems.zrS j s).view.write (Elt F) fd ((mems.zbS j (par s.val)).view.read (Elt F) fs) Finset.univ))
      ⊢ rcvPay A B (.zr j s) (up j c)) :
    Tri A B K c iprop(Idle c (.zs j (par s.val)) (s.val / 2) ∗ Tok c (.zr j s) ∗ ((mems.zbS j (par s.val)).view.loc (c : Thread nD τ) ↦[(mems.zbS j (par s.val)).view.set]{fullShare} fs)
        ∗ ((mems.zrS j s).view.loc (up j c : Thread nD τ) ↦[(mems.zrS j s).view.set]{fullShare} fd) ∗ owX c (28 + 2 * s.val + j.val))
      (zCopy mems (tab c) j s) (fun _ => iprop(Fly c (.zs j (par s.val)) (s.val / 2) ∗ owX c (28 + 2 * s.val + j.val + 1))) :=
  tri_issue (.zr j s) (n := up j c) rfl (src := mems.zbS j (par s.val)) (dst := mems.zrS j s) (sS := .dma (mems.zsem j s)) (sem := .dma (sem3 (mems.zq j) s))
    rfl rfl fs fd (zrS_credit j s) h1 h2

theorem tri_zCopy (j : Fin 2) (s : Fin 3) :
    Tri A B K c iprop(owX c (28 + 2 * s.val + j.val) ∗ ZP A B c j s.val) (zCopy mems (tab c) j s)
      (fun _ => iprop(owX c (28 + 2 * s.val + j.val + 1) ∗ ZL A B c j (s.val + 1) s.val s.val)) := by
  unfold Tri ZL ZP
  dsimp only [SndZ, SndZR]
  rw [snd_issued c (DC.zs j) _ _ (le_refl s.val) (by omega), frm_take (fun s => IssK c (.zr j s)) s rfl]
  unfold IssK owns
  dsimp only [Nat.add_zero]
  iintro ⟨#Hc, Ho, ⟨⟨Ht, Hd⟩, Hf⟩, Hg, Hu, ⟨Hi, ⟨%fs, %hfs, Hs⟩⟩, Hr⟩
  have h1 : iprop((View.loc (c : Thread nD τ) (mems.zbS j (par s.val)).view) ↦[(mems.zbS j (par s.val)).view.set]{fullShare} fs) ⊢ srcPay A B (.zr j s) c := by
    show _ ⊢ anyAt c (mems.zbS j (par s.val))
    unfold anyAt; iintro H; iexists fs; iexact H
  ihave Hd2 := (show dstAny (F := F) (.zr j s) (tgt (.zr j s) c) ⊢ anyAt (up j c) (mems.zrS j s) from BI.Entails.refl _) $$ Hd
  unfold anyAt
  icases Hd2 with ⟨%fd, Hd⟩
  have h2 : iprop((View.loc (up j c : Thread nD τ) (mems.zrS j s).view) ↦[(mems.zrS j s).view.set]{fullShare}
      (mems.zrS j s).view.write (Elt F) fd ((mems.zbS j (par s.val)).view.read (Elt F) fs) Finset.univ) ⊢ rcvPay A B (.zr j s) (up j c) := by
    show _ ⊢ owns (up j c : Thread nD τ) (mems.zrS j s) fullShare (zv A B j s.val (dn j (up j c)))
    rw [dn_up]; unfold owns
    iintro H
    iexists ((mems.zrS j s).view.write (Elt F) fd ((mems.zbS j (par s.val)).view.read (Elt F) fs) Finset.univ)
    isplitr
    · ipureintro; rw [View.read_write_univ]; exact hfs
    · iexact H
  iapply Tri.last A B K c (zCopy_tri A B K c j s fs fd h1 h2) $$ [Hi Ht Hd Hs Ho]
  · isplitr; · iexact Hc
    isplitl [Hi]; · iexact Hi
    isplitl [Ht]; · iexact Ht
    isplitl [Hs]; · iexact Hs
    isplitl [Hd] <;> iassumption
  iintro %_ ⟨Hi, Ho⟩
  isplitl [Ho]; · iexact Ho
  isplitl [Hf]; · iexact Hf
  isplitl [Hg]; · iexact Hg
  isplitl [Hu]; · iexact Hu
  isplitl [Hi] <;> iassumption

theorem tri_zRecv (j : Fin 2) (s : Fin 3) {k n T : ℕ} (hk : CanWait (.zr j s) T) :
    Tri A B K c iprop(owX c T ∗ ZL A B c j k s.val n) (zRecv mems j s) (fun _ => iprop(owX c T ∗ ZL A B c j k (s.val + 1) n)) := by
  have h : Tri A B K c iprop(RcvK c (.zr j s) ∗ owX c T) (zRecv mems j s) (fun _ => iprop(Got c (.zr j s) ∗ rcvPay A B (.zr j s) c ∗ owX c T)) :=
    tri_recv (.zr j s) T hk rfl (zrS_credit j s)
  unfold Tri ZL
  rw [frm_take (fun s => RcvK c (.zr j s)) s rfl, upt_put _ s rfl]
  unfold Arr
  iintro ⟨#Hc, Ho, Hf, ⟨Hr, Hg⟩, Hu, Hs⟩
  iapply Tri.last A B K c h $$ [Hr Ho]
  · isplitr; · iexact Hc
    isplitl [Hr] <;> iassumption
  iintro %_ ⟨Hg', Hp, Ho⟩
  isplitl [Ho]; · iexact Ho
  isplitl [Hf]; · iexact Hf
  isplitl [Hg]; · iexact Hg
  isplitr [Hs]
  · isplitr [Hu]
    · isplitl [Hg'] <;> iassumption
    · iexact Hu
  · iexact Hs

theorem tri_zSent (j : Fin 2) (r : Fin 3) {k m n T : ℕ} (hn : n = r.val) (h1 : n < k) (h2 : k ≤ n + 2) :
    Tri A B K c iprop(owX c T ∗ ZL A B c j k m n) (zSent mems j r) (fun _ => iprop(owX c T ∗ ZL A B c j k m (n + 1))) := by
  have h : Tri A B K c iprop(Fly c (.zs j (par r.val)) (r.val / 2) ∗ owX c T) (zSent mems j r)
      (fun _ => iprop(Idle c (.zs j (par r.val)) (r.val / 2 + 1) ∗ anyAt c (mems.zbS j (par r.val)) ∗ owX c T)) :=
    tri_sent (.zr j r) T rfl (zbS_credit j (par r.val))
  subst hn
  unfold Tri ZL
  dsimp only [SndZ]
  rw [snd_flying c (DC.zs j) _ _ h1, snd_read c (DC.zs j) _ _ h1 h2]
  iintro ⟨#Hc, Ho, Hf, Hg, Hu, ⟨Hy, Hs⟩⟩
  iapply Tri.last A B K c h $$ [Hy Ho]
  · isplitr; · iexact Hc
    isplitl [Hy] <;> iassumption
  iintro %_ ⟨Hi, Ha, Ho⟩
  isplitl [Ho]; · iexact Ho
  isplitl [Hf]; · iexact Hf
  isplitl [Hg]; · iexact Hg
  isplitl [Hu]; · iexact Hu
  isplitl [Hi Ha]
  · isplitl [Hi] <;> iassumption
  · iexact Hs

theorem wait_zr : ∀ (j : Fin 2) (s : Fin 3), CanWait (.zr j s) (28 + 2 * s.val + 2) := by decide

/-- Both columns' copies, and the waits. -/
theorem tri_zTail (s : Fin 3) :
    Tri A B K c iprop(owX c (28 + 2 * s.val) ∗ ZP A B c 0 s.val ∗ ZP A B c 1 s.val) (zTail mems (tab c) s)
      (fun _ => iprop(owX c (28 + 2 * s.val + 2) ∗ ZL A B c 0 (s.val + 1) (s.val + 1) (s.val + 1) ∗ ZL A B c 1 (s.val + 1) (s.val + 1) (s.val + 1))) := by
  unfold zTail
  refine Tri.bind (Tri.two (S := fun j => owX c (28 + 2 * s.val + j)) (P := fun j => ZP A B c j s.val) (R := fun j => ZL A B c j (s.val + 1) s.val s.val) fun j => tri_zCopy j s) fun _ =>
    Tri.bind (Tri.two (S := fun _ => owX c (28 + 2 * s.val + 2)) (R := fun j => ZL A B c j (s.val + 1) s.val (s.val + 1)) fun j => tri_zSent j s rfl (by omega) (by omega)) fun _ =>
    Tri.two (S := fun _ => owX c (28 + 2 * s.val + 2)) fun j => tri_zRecv j s (wait_zr j s)

/-! ## The loads -/

theorem zs_ok (j : Fin 2) (n : ℕ) (x : ℕ) (h1 : zsRow j n c ≤ x) (h2 : x < zsRow j n c + 24) : okOwn c x := by
  refine ⟨j, ?_, ?_⟩ <;> unfold zsRow at * <;> omega

theorem tri_zLoadP (j : Fin 2) (s : Fin 3) :
    Tri A B K c (pAt c (okOwn c) (pown A B c)) (zLoadP mems (tab c) j s) (fun v => iprop(⌜v = zp A B j s.val c⌝ ∗ pAt c (okOwn c) (pown A B c))) :=
  tri_p_load (n := 24) (zsRow j s.val c) (zsRow_le j s.val c) (zs_ok j s.val)

theorem tri_zRead (j : Fin 2) (t : Fin 3) {k : ℕ} (hk : k = t.val + 1) :
    Tri A B K c (upt (fun s => Arr A B c (.zr j s)) k) (zLoadR mems j t)
      (fun v => iprop(⌜v = box24 (zv A B j t.val (dn j c))⌝ ∗ upt (fun s => Arr A B c (.zr j s)) k)) := by
  subst hk
  rw [upt_put _ t rfl]
  refine ((tri_slot_load (mems.zr j) (r3x24 t) (fun _ => rfl) squeezes_S1x24x1536_S24x1536 shapeCasts_S24x1536_S1x24x1536 (zv A B j t.val (dn j c))).frame
    iprop(Got c (.zr j t) ∗ upt (fun s => Arr A B c (.zr j s)) t.val)).cons ?_ fun v => ?_
  · show iprop((Got c (.zr j t) ∗ owns (c : Thread nD τ) (mems.zrS j t) fullShare (zv A B j t.val (dn j c))) ∗ _) ⊢ iprop(owns (c : Thread nD τ) (mems.zrS j t) fullShare (zv A B j t.val (dn j c)) ∗ _)
    iintro ⟨⟨Hg, Ho⟩, Hu⟩
    isplitl [Ho]; · iexact Ho
    isplitl [Hg] <;> iassumption
  · show iprop((⌜v = box24 (zv A B j t.val (dn j c))⌝ ∗ owns (c : Thread nD τ) (mems.zrS j t) fullShare (zv A B j t.val (dn j c))) ∗ _)
      ⊢ iprop(_ ∗ ((Got c (.zr j t) ∗ owns (c : Thread nD τ) (mems.zrS j t) fullShare (zv A B j t.val (dn j c))) ∗ _))
    iintro ⟨⟨%hv, Ho⟩, Hg, Hu⟩
    isplitr; · ipureintro; exact hv
    isplitl [Ho Hg]
    · isplitl [Hg] <;> iassumption
    · iexact Hu
theorem tri_zLoadR (j : Fin 2) (t : Fin 3) {k m n : ℕ} (hm : m = t.val + 1) :
    Tri A B K c (ZL A B c j k m n) (zLoadR mems j t) (fun v => iprop(⌜v = box24 (zv A B j t.val (dn j c))⌝ ∗ ZL A B c j k m n)) := by
  unfold ZL
  refine ((tri_zRead j t hm).frame iprop(frm (fun s => IssK c (.zr j s)) k ∗ frm (fun s => RcvK c (.zr j s)) m ∗ SndZ c j n k)).cons ?_ fun v => ?_
  · iintro ⟨Hf, Hg, Hu, Hs⟩
    isplitl [Hu]; · iexact Hu
    isplitl [Hf]; · iexact Hf
    isplitl [Hg] <;> iassumption
  · iintro ⟨⟨%hv, Hu⟩, Hf, Hg, Hs⟩
    isplitr; · ipureintro; exact hv
    isplitl [Hf]; · iexact Hf
    isplitl [Hg]; · iexact Hg
    isplitl [Hu] <;> iassumption

/-! ## The steps -/

theorem tri_zFirst :
    Tri A B K c iprop(pAt c (okOwn c) (pown A B c) ∗ owX c 28 ∗ ZL A B c 0 0 0 0 ∗ ZL A B c 1 0 0 0) (zFirst mems (tab c))
      (fun _ => iprop(pAt c (okOwn c) (pown A B c) ∗ owX c 30 ∗ ZL A B c 0 1 1 1 ∗ ZL A B c 1 1 1 1)) := by
  have hp (j : Fin 2) : Tri A B K c (ZL A B c j 0 0 0) (zPut mems j 0 (k0_pay55 (zp A B j 0 c))) (fun _ => ZP A B c j 0) := tri_zPut j 0 _ rfl
  have ht : Tri A B K c iprop(owX c 28 ∗ ZP A B c 0 0 ∗ ZP A B c 1 0) (zTail mems (tab c) 0) (fun _ => iprop(owX c 30 ∗ ZL A B c 0 1 1 1 ∗ ZL A B c 1 1 1 1)) := tri_zTail 0
  have hl (j : Fin 2) : Tri A B K c (pAt c (okOwn c) (pown A B c)) (zLoadP mems (tab c) j 0) (fun v => iprop(⌜v = zp A B j 0 c⌝ ∗ pAt c (okOwn c) (pown A B c))) := tri_zLoadP j 0
  unfold Tri zFirst
  iintro ⟨#Hc, Hp, Ho, H0, H1⟩
  iapply Tri.use A B K c (hl 0) $$ [Hp]
  · isplitr <;> iassumption
  iintro %v ⟨%hv, Hp⟩
  iapply Tri.use A B K c (hl 1) $$ [Hp]
  · isplitr <;> iassumption
  iintro %w ⟨%hw, Hp⟩
  subst hv; subst hw
  iapply Tri.use A B K c (hp 0) $$ [H0]
  · isplitr <;> iassumption
  iintro %_ H0
  iapply Tri.use A B K c (hp 1) $$ [H1]
  · isplitr <;> iassumption
  iintro %_ H1
  iapply Tri.last A B K c ht $$ [Ho H0 H1]
  · isplitr; · iexact Hc
    isplitl [Ho]; · iexact Ho
    isplitl [H0] <;> iassumption
  iintro %_ H
  isplitl [Hp] <;> iassumption

theorem tri_zNext (t s : Fin 3) (hs : s.val = t.val + 1) :
    Tri A B K c iprop(pAt c (okOwn c) (pown A B c) ∗ owX c (28 + 2 * s.val) ∗ ZL A B c 0 s.val s.val s.val ∗ ZL A B c 1 s.val s.val s.val) (zNext mems (tab c) t s)
      (fun _ => iprop(pAt c (okOwn c) (pown A B c) ∗ owX c (28 + 2 * s.val + 2) ∗ ZL A B c 0 (s.val + 1) (s.val + 1) (s.val + 1) ∗ ZL A B c 1 (s.val + 1) (s.val + 1) (s.val + 1))) := by
  have hp (j : Fin 2) : Tri A B K c (ZL A B c j s.val s.val s.val) (zPut mems j s (k0_pay57 (zp A B j s.val c) (box24 (zv A B j t.val (dn j c))))) (fun _ => ZP A B c j s.val) :=
    tri_zPut j s _ (by rw [hs]; rfl)
  unfold Tri zNext
  iintro ⟨#Hc, Hp, Ho, H0, H1⟩
  iapply Tri.use A B K c (tri_zLoadP 0 s) $$ [Hp]
  · isplitr <;> iassumption
  iintro %v ⟨%hv, Hp⟩
  iapply Tri.use A B K c (tri_zLoadP 1 s) $$ [Hp]
  · isplitr <;> iassumption
  iintro %w ⟨%hw, Hp⟩
  iapply Tri.use A B K c (tri_zLoadR 0 t hs) $$ [H0]
  · isplitr <;> iassumption
  iintro %v' ⟨%hv', H0⟩
  iapply Tri.use A B K c (tri_zLoadR 1 t hs) $$ [H1]
  · isplitr <;> iassumption
  iintro %w' ⟨%hw', H1⟩
  subst hv; subst hw; subst hv'; subst hw'
  iapply Tri.use A B K c (hp 0) $$ [H0]
  · isplitr <;> iassumption
  iintro %_ H0
  iapply Tri.use A B K c (hp 1) $$ [H1]
  · isplitr <;> iassumption
  iintro %_ H1
  iapply Tri.last A B K c (tri_zTail s) $$ [Ho H0 H1]
  · isplitr; · iexact Hc
    isplitl [Ho]; · iexact Ho
    isplitl [H0] <;> iassumption
  iintro %_ H
  isplitl [Hp] <;> iassumption

/-! ## The finished rows -/

theorem zs3 : ∀ (j : Fin 2) (c : Dev nD), zsRow j 3 c = zaRow j 0 c := by decide
theorem zs3_own : ∀ (j : Fin 2) (c : Dev nD), zsRow j 3 c % 192 / 96 = j.val ∧ ownerOf (zsRow j 3 c % 192 / 96) (zsRow j 3 c / 192) (zsRow j 3 c % 96 / 24) = c
    ∧ zsRow j 3 c % 24 = 0 := by decide +kernel

theorem zF_oval (j : Fin 2) : zF A B j c = ldP (rowP (n := 24) (zsRow j 3 c) (zsRow_le j 3 c)) (oval A B) := by
  funext x
  obtain ⟨k1, k2, k3⟩ := zs3_own j c
  have hx : (x 0).val < 24 := (x 0).isLt
  obtain ⟨e0, e1⟩ := emb_rowP (zsRow j 3 c) (zsRow_le j 3 c) x
  unfold ldP oval
  generalize (rcP (rowP (n := 24) (zsRow j 3 c) (zsRow_le j 3 c))).emb x = y at *
  have a1 : (y 0).val % 192 / 96 = zsRow j 3 c % 192 / 96 := by omega
  have a2 : (y 0).val / 192 = zsRow j 3 c / 192 := by omega
  have a3 : (y 0).val % 96 / 24 = zsRow j 3 c % 96 / 24 := by omega
  have a4 : (y 0).val % 24 = (x 0).val := by omega
  have ej : (⟨(y 0).val % 192 / 96, by omega⟩ : Fin 2) = j := Fin.ext (a1.trans k1)
  rw [ej, a1, a2, a3, k2]
  congr 1
  funext a
  refine Fin.cases (Fin.ext a4.symm) (fun a => Fin.cases (Fin.ext e1.symm) (fun a => a.elim0) a) a

theorem tri_zOwn (j : Fin 2) :
    Tri A B K c iprop(pAt c (okOwn c) (pown A B c) ∗ ZL A B c j 3 3 3 ∗ oAny c (zaRow j 0 c) 24) (zOwn mems (tab c) j)
      (fun _ => iprop(pAt c (okOwn c) (pown A B c) ∗ ZL A B c j 3 3 3 ∗ oPts A B c (zaRow j 0 c) 24)) := by
  have hr : Tri A B K c (ZL A B c j 3 3 3) (zLoadR mems j 2) (fun v => iprop(⌜v = box24 (zv A B j 2 (dn j c))⌝ ∗ ZL A B c j 3 3 3)) := tri_zLoadR j 2 rfl
  rw [← zs3]
  unfold Tri zOwn
  iintro ⟨#Hc, Hp, Hz, Ho⟩
  iapply Tri.use A B K c (tri_p_load (n := 24) (zsRow j 3 c) (zsRow_le j 3 c) (zs_ok j 3)) $$ [Hp]
  · isplitr <;> iassumption
  iintro %v ⟨%hv, Hp⟩
  iapply Tri.use A B K c hr $$ [Hz]
  · isplitr <;> iassumption
  iintro %v' ⟨%hv', Hz⟩
  iapply Tri.use A B K c (tri_o_peek (n := 24) (zsRow j 3 c) (zsRow_le j 3 c)) $$ [Ho]
  · isplitr <;> iassumption
  iintro %_ Ho
  subst hv; subst hv'
  iapply Tri.last A B K c (tri_o_store (n := 24) (zsRow j 3 c) (zsRow_le j 3 c) (zF A B j c) (zF_oval j)) $$ [Ho]
  · isplitr <;> iassumption
  iintro %_ Ho
  isplitl [Hp]; · iexact Hp
  isplitl [Hz] <;> iassumption

/-- The columns' reduction. -/
theorem tri_zPhase :
    Tri A B K c iprop((pAt c (okOwn c) (pown A B c) ∗ owX c 28 ∗ ZL A B c 0 0 0 0 ∗ ZL A B c 1 0 0 0) ∗ oAny c (zaRow 0 0 c) 24 ∗ oAny c (zaRow 1 0 c) 24) (zPhase mems (tab c))
      (fun _ => iprop((pAt c (okOwn c) (pown A B c) ∗ owX c 34 ∗ ZL A B c 0 3 3 3 ∗ ZL A B c 1 3 3 3) ∗ oPts A B c (zaRow 0 0 c) 24 ∗ oPts A B c (zaRow 1 0 c) 24)) := by
  unfold zPhase
  refine Tri.bind (tri_zFirst.frame _) fun _ => Tri.bind ((tri_zNext 0 1 rfl).frame _) fun _ => Tri.bind ((tri_zNext 1 2 rfl).frame _) fun _ => ?_
  refine ((Tri.two (S := fun _ => pAt c (okOwn c) (pown A B c)) tri_zOwn).frame (owX c 34)).cons ?_ fun _ => ?_
  · show iprop((pAt c (okOwn c) (pown A B c) ∗ owX c 34 ∗ ZL A B c 0 3 3 3 ∗ ZL A B c 1 3 3 3) ∗ oAny c (zaRow 0 0 c) 24 ∗ oAny c (zaRow 1 0 c) 24) ⊢ _
    iintro ⟨⟨Hp, Ho, H0, H1⟩, O0, O1⟩
    isplitr [Ho]
    · isplitl [Hp]; · iexact Hp
      isplitl [H0 O0]
      · isplitl [H0] <;> iassumption
      · isplitl [H1] <;> iassumption
    · iexact Ho
  · iintro ⟨⟨Hp, ⟨H0, O0⟩, H1, O1⟩, Ho⟩
    isplitr [O0 O1]
    · isplitl [Hp]; · iexact Hp
      isplitl [Ho]; · iexact Ho
      isplitl [H0] <;> iassumption
    · isplitl [O0] <;> iassumption

end Cert.KernelIdeal.Run

end
-- ==== Proof.Gather.lean ====
/-
  The gathers: finished rows passed along a column, then along a ring. A copy reads rows of the
  result's buffer and leaves the same rows on its target; what arrives is what is passed on next.
-/
module

public import proofs.«01_k».proof.Proof.Columns

@[expose] public section

set_option maxRecDepth 65536

noncomputable section

namespace Cert.KernelIdeal.Run

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

variable {A : Dev nD → Vec F S1536x768 .f32} {B : Dev nD → Vec F S768x1536 .f32} {K : Dev nD × Cell → ℕ} {c : Dev nD}

/-! ## A copy of rows -/

/-- Rows of the result's buffer as a copy names them. -/
abbrev orow {n : ℕ} (a : ℕ) (h : a + n ≤ 1536) : Memref sig .tc .vmem ⟨2, ![n, 1536]⟩ .f32 := mems.o.slice (rcP (rowP (n := n) a h)) (fun _ => rfl)

theorem orow_set {n : ℕ} (a : ℕ) (h : a + n ≤ 1536) : (orow (n := n) a h).view.set = rowSet a n := o_set a h

theorem orow_congr {n : ℕ} (a : ℕ) (h : a + n ≤ 1536) (f g : Vec F S1536x1536 .f32) :
    ∀ x ∈ rowSet a n, ((orow (n := n) a h).view.write (Elt F) f ((orow (n := n) a h).view.read (Elt F) g) Finset.univ) x = g x := by
  intro x hx
  rw [← rcP_set a h, ← Rect.map_emb_univ, Finset.mem_map] at hx
  obtain ⟨j, -, rfl⟩ := hx
  exact congrFun (View.read_write_univ (v := (orow (n := n) a h).view) f ((orow (n := n) a h).view.read (Elt F) g)) j

theorem tri_rows {n : ℕ} (a : ℕ) (h : a + n ≤ 1536) (e : Ev) (hs : srcPay A B e c = oPts A B c a n)
    (hr : rcvPay A B e (tgt e c) = oPts A B (tgt e c) a n) (hd : dstAny (F := F) e (tgt e c) = oAny (tgt e c) a n)
    {sS sem : SemLoc sig} (hS : sS = dsem (sx e)) (hR : sem = dsem (.rcv e)) (hN : (orow (n := n) a h).view.amount sem = amtE e)
    {hsrc hdst hsem} :
    Tri A B K c iprop(Idle c (sx e) (sr e) ∗ IssK c e ∗ oPts A B c a n ∗ owX c (tm e))
      (Prog.lift (.enqueueDma (orow (n := n) a h) (.remote (Dev.tc (tgt e c) : Thread nD τ) (orow (n := n) a h) sS rfl) sem hsrc hdst hsem))
      (fun _ => iprop(Fly c (sx e) (sr e) ∗ owX c (tm e + 1))) := by
  unfold Tri IssK
  rw [hd]
  unfold oPts oAny
  iintro ⟨#Hc, Hi, ⟨Ht, ⟨%fd, Hd⟩⟩, Hs, Ho⟩
  have h1 : iprop(((orow (n := n) a h).view.loc (c : Thread nD τ)) ↦[(orow (n := n) a h).view.set]{fullShare} (oval A B : Buf (Elt F) ((c : Thread nD τ).loc cc0_stg2_0))) ⊢ srcPay A B e c := by
    rw [hs, orow_set]; exact BI.Entails.refl _
  have h2 : iprop(((orow (n := n) a h).view.loc (tgt e c : Thread nD τ)) ↦[(orow (n := n) a h).view.set]{fullShare}
      ((orow (n := n) a h).view.write (Elt F) fd ((orow (n := n) a h).view.read (Elt F) (oval A B : Buf (Elt F) ((c : Thread nD τ).loc cc0_stg2_0))) Finset.univ)) ⊢ rcvPay A B e (tgt e c) := by
    rw [hr, orow_set]
    unfold oPts
    rw [← pointsTo_congr (ℓ := (tgt e c : Thread nD τ).loc cc0_stg2_0) (q := fullShare) (orow_congr a h fd (oval A B))]
    exact BI.Entails.refl _
  have h3 : Tri A B K c iprop(Idle c (sx e) (sr e) ∗ Tok c e ∗ (((c : Thread nD τ).loc cc0_stg2_0) ↦[rowSet a n]{fullShare} (oval A B : Buf (Elt F) ((c : Thread nD τ).loc cc0_stg2_0)))
        ∗ (((tgt e c : Thread nD τ).loc cc0_stg2_0) ↦[rowSet a n]{fullShare} fd) ∗ owX c (tm e))
      (Prog.lift (.enqueueDma (orow (n := n) a h) (.remote (Dev.tc (tgt e c) : Thread nD τ) (orow (n := n) a h) sS rfl) sem hsrc hdst hsem))
      (fun _ => iprop(Fly c (sx e) (sr e) ∗ owX c (tm e + 1))) := by
    have h4 := tri_issue (A := A) (B := B) (K := K) (c := c) e (n := tgt e c) rfl (src := orow (n := n) a h) (dst := orow (n := n) a h) (hsrc := hsrc) (hdst := hdst) (hsem := hsem) (sS := sS) (sem := sem) hS hR
      (oval A B : Buf (Elt F) ((c : Thread nD τ).loc cc0_stg2_0)) fd hN h1 h2
    rw [orow_set] at h4
    exact h4
  iapply h3.elim $$ [Hi Ht Hd Hs Ho]
  isplitr; · iexact Hc
  isplitl [Hi]; · iexact Hi
  isplitl [Ht]; · iexact Ht
  isplitl [Hs]; · iexact Hs
  isplitl [Hd] <;> iassumption

/-! ## A line of a gather -/

/-- A line's events in order, the rows a device passes on at each, its send semaphores and their rounds before it. -/
structure Line (A : Dev nD → Vec F S1536x768 .f32) (B : Dev nD → Vec F S768x1536 .f32) (c : Dev nD) where
  N : ℕ
  ev : Fin N → Ev
  o : ℕ → sProp 𝕄
  x : Fin 2 → DC
  b : Fin 2 → ℕ
  hsx : ∀ s : Fin N, sx (ev s) = x (par s.val)
  hsr : ∀ s : Fin N, sr (ev s) = s.val / 2 + b (par s.val)
  hsrc : ∀ s : Fin N, srcPay A B (ev s) c = o s.val
  hrcv : ∀ s : Fin N, rcvPay A B (ev s) c = o (s.val + 1)

/-- `k` steps issued, `m` arrived, `n` read; `h` the rows at hand. -/
def Line.at (L : Line A B c) (k m n : ℕ) (h : sProp 𝕄) : sProp 𝕄 :=
  iprop(frm (fun s => IssK c (L.ev s)) k ∗ frm (fun s => RcvK c (L.ev s)) m ∗ upt (fun s => Got c (L.ev s)) m
    ∗ upt (fun s : Fin L.N => L.o s.val) n ∗ h ∗ Snd c L.x L.b (fun _ => iprop(emp)) n k)

theorem Line.copy (L : Line A B c) (s : Fin L.N) {k n : ℕ} (hk : k = s.val) (h1 : n ≤ k) (h2 : k < n + 2) {p : Pr F PUnit}
    (hp : Tri A B K c iprop(Idle c (sx (L.ev s)) (sr (L.ev s)) ∗ IssK c (L.ev s) ∗ L.o s.val ∗ owX c (tm (L.ev s))) p
      (fun _ => iprop(Fly c (sx (L.ev s)) (sr (L.ev s)) ∗ owX c (tm (L.ev s) + 1)))) :
    Tri A B K c iprop(owX c (tm (L.ev s)) ∗ L.at k k n (L.o s.val)) p (fun _ => iprop(owX c (tm (L.ev s) + 1) ∗ L.at (k + 1) k n iprop(emp))) := by
  subst hk
  rw [L.hsx, L.hsr] at hp
  unfold Tri Line.at
  rw [snd_idle c L.x L.b _ h1 h2, snd_issued c L.x L.b _ h1 h2, frm_take (fun s => IssK c (L.ev s)) s rfl]
  iintro ⟨#Hc, Ho, ⟨Hk, Hf⟩, Hg, Hu, Hb, Hh, ⟨Hi, -⟩, Hr⟩
  iapply Tri.last A B K c hp $$ [Hi Hk Hh Ho]
  · isplitr; · iexact Hc
    isplitl [Hi]; · iexact Hi
    isplitl [Hk]; · iexact Hk
    isplitl [Hh] <;> iassumption
  iintro %_ ⟨Hy, Ho⟩
  isplitl [Ho]; · iexact Ho
  isplitl [Hf]; · iexact Hf
  isplitl [Hg]; · iexact Hg
  isplitl [Hu]; · iexact Hu
  isplitl [Hb]; · iexact Hb
  isplitr; · iempintro
  isplitl [Hy] <;> iassumption

theorem Line.recv (L : Line A B c) (s : Fin L.N) {k m n T : ℕ} (hm : m = s.val) {p : Pr F PUnit}
    (hp : Tri A B K c iprop(RcvK c (L.ev s) ∗ owX c T) p (fun _ => iprop(Got c (L.ev s) ∗ rcvPay A B (L.ev s) c ∗ owX c T))) :
    Tri A B K c iprop(owX c T ∗ L.at k m n iprop(emp)) p (fun _ => iprop(owX c T ∗ L.at k (m + 1) n (L.o (s.val + 1)))) := by
  subst hm
  rw [L.hrcv] at hp
  unfold Tri Line.at
  rw [frm_take (fun s => RcvK c (L.ev s)) s rfl, upt_put (fun s => Got c (L.ev s)) s rfl]
  iintro ⟨#Hc, Ho, Hf, ⟨Hk, Hg⟩, Hu, Hb, -, Hs⟩
  iapply Tri.last A B K c hp $$ [Hk Ho]
  · isplitr; · iexact Hc
    isplitl [Hk] <;> iassumption
  iintro %_ ⟨Hq, Hh, Ho⟩
  isplitl [Ho]; · iexact Ho
  isplitl [Hf]; · iexact Hf
  isplitl [Hg]; · iexact Hg
  isplitl [Hq Hu]
  · isplitl [Hq] <;> iassumption
  isplitl [Hb]; · iexact Hb
  isplitl [Hh] <;> iassumption

theorem Line.sent (L : Line A B c) (r : Fin L.N) {k m n T : ℕ} {h : sProp 𝕄} (hn : n = r.val) (h1 : n < k) (h2 : k ≤ n + 2) {p : Pr F PUnit}
    (hp : Tri A B K c iprop(Fly c (sx (L.ev r)) (sr (L.ev r)) ∗ owX c T) p (fun _ => iprop(Idle c (sx (L.ev r)) (sr (L.ev r) + 1) ∗ srcPay A B (L.ev r) c ∗ owX c T))) :
    Tri A B K c iprop(owX c T ∗ L.at k m n h) p (fun _ => iprop(owX c T ∗ L.at k m (n + 1) h)) := by
  subst hn
  rw [L.hsrc, L.hsx, L.hsr] at hp
  unfold Tri Line.at
  rw [snd_flying c L.x L.b _ h1, snd_read c L.x L.b _ h1 h2, upt_put (fun s : Fin L.N => L.o s.val) r rfl]
  iintro ⟨#Hc, Ho, Hf, Hg, Hu, Hb, Hh, ⟨Hy, Hr⟩⟩
  iapply Tri.last A B K c hp $$ [Hy Ho]
  · isplitr; · iexact Hc
    isplitl [Hy] <;> iassumption
  iintro %_ ⟨Hi, Hq, Ho⟩
  isplitl [Ho]; · iexact Ho
  isplitl [Hf]; · iexact Hf
  isplitl [Hg]; · iexact Hg
  isplitl [Hu]; · iexact Hu
  isplitl [Hq Hb]
  · isplitl [Hq] <;> iassumption
  isplitl [Hh]; · iexact Hh
  isplitr [Hr]
  · isplitl [Hi]; · iexact Hi
    iempintro
  · iexact Hr

/-! ## The columns' gather -/

theorem zaRow_up : ∀ (j : Fin 2) (s : Fin 3) (c : Dev nD), zaRow j (s.val + 1) (up j c) = zaRow j s.val c := by decide
theorem agRow_fwd : ∀ (i : Fin 4) (s : Fin 7) (c : Dev nD), agRow i (s.val + 1) (fwd i c) = agRow i s.val c := by decide

def zaL (A : Dev nD → Vec F S1536x768 .f32) (B : Dev nD → Vec F S768x1536 .f32) (c : Dev nD) (j : Fin 2) : Line A B c where
  N := 3
  ev s := .za j s
  o s := oPts A B c (zaRow j s c) 24
  x := .zs j
  b q := 2 - q.val
  hsx _ := rfl
  hsr _ := rfl
  hsrc _ := rfl
  hrcv _ := rfl
def agL (A : Dev nD → Vec F S1536x768 .f32) (B : Dev nD → Vec F S768x1536 .f32) (c : Dev nD) (i : Fin 4) : Line A B c where
  N := 7
  ev s := .ag i s
  o s := oPts A B c (agRow i s c) 48
  x := .ss i
  b q := 4 - q.val
  hsx _ := rfl
  hsr _ := rfl
  hsrc _ := rfl
  hrcv _ := rfl

theorem tri_zaCopy (j : Fin 2) (s : Fin 3) :
    Tri A B K c iprop(owX c (34 + 2 * s.val + j.val) ∗ (zaL A B c j).at s.val s.val s.val (oPts A B c (zaRow j s.val c) 24)) (zaCopy mems (tab c) j s)
      (fun _ => iprop(owX c (34 + 2 * s.val + j.val + 1) ∗ (zaL A B c j).at (s.val + 1) s.val s.val iprop(emp))) :=
  (zaL A B c j).copy s rfl (le_refl s.val) (by omega) (tri_rows (n := 24) (zaRow j s.val c) (zaRow_le j s.val c) (.za j s) rfl
    (by show oPts A B (up j c) (zaRow j (s.val + 1) (up j c)) 24 = _; rw [zaRow_up]; rfl)
    (by show oAny (up j c) (zaRow j (s.val + 1) (up j c)) 24 = _; rw [zaRow_up]; rfl) (sS := .dma (mems.zsem j s)) (sem := .dma (sem3 (mems.az j) s)) rfl rfl rfl)
theorem tri_zaRecv (j : Fin 2) (s : Fin 3) {T : ℕ} (hk : CanWait (.za j s) T) {k n : ℕ} :
    Tri A B K c iprop(owX c T ∗ (zaL A B c j).at k s.val n iprop(emp)) (zaRecv mems (tab c) j s)
      (fun _ => iprop(owX c T ∗ (zaL A B c j).at k (s.val + 1) n (oPts A B c (zaRow j (s.val + 1) c) 24))) :=
  (zaL A B c j).recv s rfl (tri_recv (.za j s) T hk rfl rfl)
theorem tri_zaSent (j : Fin 2) (s : Fin 3) {T k m : ℕ} {h : sProp 𝕄} (h1 : s.val < k) (h2 : k ≤ s.val + 2) :
    Tri A B K c iprop(owX c T ∗ (zaL A B c j).at k m s.val h) (zaSent mems (tab c) j s)
      (fun _ => iprop(owX c T ∗ (zaL A B c j).at k m (s.val + 1) h)) :=
  (zaL A B c j).sent s rfl h1 h2 (tri_sent (.za j s) T rfl rfl)

theorem wait_za : ∀ (j : Fin 2) (s : Fin 3), CanWait (.za j s) (34 + 2 * s.val + 2) := by decide

/-- A column at a step. -/
abbrev ZA (A : Dev nD → Vec F S1536x768 .f32) (B : Dev nD → Vec F S768x1536 .f32) (c : Dev nD) (s : ℕ) (j : Fin 2) : sProp 𝕄 :=
  (zaL A B c j).at s s s (oPts A B c (zaRow j s c) 24)

theorem tri_zaStep (s : Fin 3) :
    Tri A B K c iprop(owX c (34 + 2 * s.val) ∗ ZA A B c s.val 0 ∗ ZA A B c s.val 1) (zaStep mems (tab c) s)
      (fun _ => iprop(owX c (34 + 2 * s.val + 2) ∗ ZA A B c (s.val + 1) 0 ∗ ZA A B c (s.val + 1) 1)) := by
  unfold zaStep
  refine Tri.bind (Tri.two (S := fun j => owX c (34 + 2 * s.val + j)) (P := ZA A B c s.val) (R := fun j => (zaL A B c j).at (s.val + 1) s.val s.val iprop(emp)) fun j => tri_zaCopy j s) fun _ =>
    Tri.bind (Tri.two (S := fun _ => owX c (34 + 2 * s.val + 2)) (R := fun j => (zaL A B c j).at (s.val + 1) s.val (s.val + 1) iprop(emp)) fun j => tri_zaSent j s (by omega) (by omega)) fun _ =>
    Tri.two (S := fun _ => owX c (34 + 2 * s.val + 2)) (R := ZA A B c (s.val + 1)) fun j => tri_zaRecv j s (wait_za j s)

theorem tri_zaPhase :
    Tri A B K c iprop(owX c 34 ∗ ZA A B c 0 0 ∗ ZA A B c 0 1) (zaPhase mems (tab c)) (fun _ => iprop(owX c 40 ∗ ZA A B c 3 0 ∗ ZA A B c 3 1)) := by
  unfold zaPhase
  exact Tri.bind (tri_zaStep 0) fun _ => Tri.bind (tri_zaStep 1) fun _ => tri_zaStep 2

/-! ## The rings' gather -/

theorem tri_agCopy (i : Fin 4) (s : Fin 7) {k n : ℕ} (hk : k = s.val) (h1 : n ≤ k) (h2 : k < n + 2) :
    Tri A B K c iprop(owX c (40 + 4 * s.val + i.val) ∗ (agL A B c i).at k k n (oPts A B c (agRow i s.val c) 48)) (agCopy mems (tab c) i s)
      (fun _ => iprop(owX c (40 + 4 * s.val + i.val + 1) ∗ (agL A B c i).at (k + 1) k n iprop(emp))) :=
  (agL A B c i).copy s hk h1 h2 (tri_rows (n := 48) (agRow i s.val c) (agRow_le i s.val c) (.ag i s) rfl
    (by show oPts A B (fwd i c) (agRow i (s.val + 1) (fwd i c)) 48 = _; rw [agRow_fwd]; rfl)
    (by show oAny (fwd i c) (agRow i (s.val + 1) (fwd i c)) 48 = _; rw [agRow_fwd]; rfl) (sS := .dma (mems.ssem i s)) (sem := .dma (sem7 (mems.ag i) s)) rfl rfl rfl)
theorem tri_agRecv (i : Fin 4) (s : Fin 7) {T : ℕ} (hk : CanWait (.ag i s) T) {k m n : ℕ} (hm : m = s.val) :
    Tri A B K c iprop(owX c T ∗ (agL A B c i).at k m n iprop(emp)) (agRecv mems (tab c) i s)
      (fun _ => iprop(owX c T ∗ (agL A B c i).at k (m + 1) n (oPts A B c (agRow i (s.val + 1) c) 48))) :=
  (agL A B c i).recv s hm (tri_recv (.ag i s) T hk rfl rfl)
theorem tri_agSent (i : Fin 4) (r : Fin 7) {T k m n : ℕ} {h : sProp 𝕄} (hn : n = r.val) (h1 : n < k) (h2 : k ≤ n + 2) :
    Tri A B K c iprop(owX c T ∗ (agL A B c i).at k m n h) (agSent mems (tab c) i r)
      (fun _ => iprop(owX c T ∗ (agL A B c i).at k m (n + 1) h)) :=
  (agL A B c i).sent r hn h1 h2 (tri_sent (.ag i r) T rfl rfl)

theorem wait_ag : ∀ (i : Fin 4) (s : Fin 7), CanWait (.ag i s) (40 + 4 * (s.val + 1) + i.val) := by decide
theorem wait_ag6 : ∀ i : Fin 4, CanWait (.ag i 6) 68 := by decide

/-- The rings with one step under way. -/
abbrev AG (A : Dev nD → Vec F S1536x768 .f32) (B : Dev nD → Vec F S768x1536 .f32) (c : Dev nD) (t k m n : ℕ) (h : Fin 4 → sProp 𝕄) : sProp 𝕄 :=
  iprop(owX c t ∗ (agL A B c 0).at k m n (h 0) ∗ (agL A B c 1).at k m n (h 1) ∗ (agL A B c 2).at k m n (h 2) ∗ (agL A B c 3).at k m n (h 3))
abbrev hE : Fin 4 → sProp 𝕄 := fun _ => iprop(emp)
abbrev hO (A : Dev nD → Vec F S1536x768 .f32) (B : Dev nD → Vec F S768x1536 .f32) (c : Dev nD) (s : ℕ) : Fin 4 → sProp 𝕄 := fun i => oPts A B c (agRow i s c) 48

theorem tri_AG_step (r s t : Fin 7) (hs : s.val = r.val + 1) (ht : t.val = s.val + 1) {T k m n : ℕ} (hT : T = 40 + 4 * t.val)
    (hk : k = t.val) (hm : m = s.val) (hn : n = r.val) :
    Tri A B K c (AG A B c T k m n hE) (four fun i => agStep mems (tab c) i r s t) (fun _ => AG A B c (T + 4) (k + 1) (m + 1) (n + 1) hE) := by
  subst hT
  subst hk
  subst hm
  subst hn
  refine Tri.four (S := fun i => owX c (40 + 4 * t.val + i)) (P := fun i => (agL A B c i).at t.val s.val r.val iprop(emp)) (R := fun i => (agL A B c i).at (t.val + 1) (s.val + 1) (r.val + 1) iprop(emp)) fun i => ?_
  unfold agStep
  have hw : CanWait (.ag i s) (40 + 4 * t.val + i.val) := by rw [ht]; exact wait_ag i s
  refine Tri.bind (tri_agRecv i s hw rfl) fun _ => Tri.bind (tri_agSent i r rfl (by omega) (by omega)) fun _ => ?_
  have h := tri_agCopy (A := A) (B := B) (K := K) (c := c) i t (k := t.val) (n := r.val + 1) rfl (by omega) (by omega)
  rw [← ht]
  exact h

theorem tri_agPhase :
    Tri A B K c (AG A B c 40 0 0 0 (hO A B c 0)) (agPhase mems (tab c)) (fun _ => AG A B c 68 7 7 7 (hO A B c 7)) := by
  unfold agPhase
  have h0 : Tri A B K c (AG A B c 40 0 0 0 (hO A B c 0)) (four fun i => agCopy mems (tab c) i 0) (fun _ => AG A B c 44 1 0 0 hE) :=
    Tri.four (S := fun i => owX c (40 + i)) (P := fun i => (agL A B c i).at 0 0 0 (oPts A B c (agRow i 0 c) 48)) (R := fun i => (agL A B c i).at 1 0 0 iprop(emp))
      fun i => tri_agCopy i 0 rfl (by decide) (by decide)
  have h1 : Tri A B K c (AG A B c 44 1 0 0 hE) (four fun i => agStep0 mems (tab c) i) (fun _ => AG A B c 48 2 1 0 hE) :=
    Tri.four (S := fun i => owX c (44 + i)) (P := fun i => (agL A B c i).at 1 0 0 iprop(emp)) (R := fun i => (agL A B c i).at 2 1 0 iprop(emp))
      fun i => Tri.bind (tri_agRecv i 0 (wait_ag i 0) rfl) fun _ => tri_agCopy i 1 rfl (by decide) (by decide)
  have h6 : Tri A B K c (AG A B c 68 7 6 5 hE) (four fun i => agStep6 mems (tab c) i) (fun _ => AG A B c 68 7 7 6 (hO A B c 7)) :=
    Tri.four (S := fun _ => owX c 68) (P := fun i => (agL A B c i).at 7 6 5 iprop(emp)) (R := fun i => (agL A B c i).at 7 7 6 (oPts A B c (agRow i 7 c) 48))
      fun i => Tri.bind (tri_agRecv i 6 (wait_ag6 i) rfl) fun _ => tri_agSent i 5 rfl (by decide) (by decide)
  have h7 : Tri A B K c (AG A B c 68 7 7 6 (hO A B c 7)) (four fun i => agSent mems (tab c) i 6) (fun _ => AG A B c 68 7 7 7 (hO A B c 7)) :=
    Tri.four (S := fun _ => owX c 68) (P := fun i => (agL A B c i).at 7 7 6 (oPts A B c (agRow i 7 c) 48)) (R := fun i => (agL A B c i).at 7 7 7 (oPts A B c (agRow i 7 c) 48))
      fun i => tri_agSent i 6 rfl (by decide) (by decide)
  exact Tri.bind h0 fun _ => Tri.bind h1 fun _ => Tri.bind (tri_AG_step 0 1 2 rfl rfl rfl rfl rfl rfl) fun _ => Tri.bind (tri_AG_step 1 2 3 rfl rfl rfl rfl rfl rfl) fun _ =>
    Tri.bind (tri_AG_step 2 3 4 rfl rfl rfl rfl rfl rfl) fun _ => Tri.bind (tri_AG_step 3 4 5 rfl rfl rfl rfl rfl rfl) fun _ =>
    Tri.bind (tri_AG_step 4 5 6 rfl rfl rfl rfl rfl rfl) fun _ => Tri.bind h6 fun _ => h7

end Cert.KernelIdeal.Run

end
-- ==== Proof.Room.lean ====
/-
  The room the copies end in: each landing and send buffer as its slots, the result's buffer as the
  rows the gathers bring, and back.
-/
module

public import proofs.«01_k».proof.Proof.Lanes

@[expose] public section

set_option maxRecDepth 65536

noncomputable section

namespace Cert.KernelIdeal.Run

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem bigSep_two (Φ : Fin 2 → sProp 𝕄) : bigSep Finset.univ Φ = iprop(Φ 0 ∗ Φ 1) := bigSep_univ_eq_bigSepL [0, 1] (by decide) (by decide) Φ

/-! ## Events by phase -/

/-- The events, phase by phase. -/
def evEquiv : ((Fin 4 × Fin 7) ⊕ (Fin 2 × Fin 3)) ⊕ ((Fin 2 × Fin 3) ⊕ (Fin 4 × Fin 7)) ≃ Ev where
  toFun
    | .inl (.inl x) => .rs x.1 x.2
    | .inl (.inr x) => .zr x.1 x.2
    | .inr (.inl x) => .za x.1 x.2
    | .inr (.inr x) => .ag x.1 x.2
  invFun
    | .rs i s => .inl (.inl (i, s))
    | .zr i s => .inl (.inr (i, s))
    | .za i s => .inr (.inl (i, s))
    | .ag i s => .inr (.inr (i, s))
  left_inv := by rintro ((_ | _) | (_ | _)) <;> rfl
  right_inv := by rintro (_ | _ | _ | _) <;> rfl

omit [FloatOps F] in
theorem bigSep_ev (Φ : Ev → sProp 𝕄) :
    bigSep Finset.univ Φ = iprop(((bigSep Finset.univ fun i : Fin 4 => bigSep Finset.univ fun s : Fin 7 => Φ (.rs i s))
        ∗ bigSep Finset.univ fun j : Fin 2 => bigSep Finset.univ fun s : Fin 3 => Φ (.zr j s))
      ∗ (bigSep Finset.univ fun j : Fin 2 => bigSep Finset.univ fun s : Fin 3 => Φ (.za j s))
        ∗ bigSep Finset.univ fun i : Fin 4 => bigSep Finset.univ fun s : Fin 7 => Φ (.ag i s)) := by
  rw [bigSep_univ_equiv evEquiv, bigSep_univ_sum, bigSep_univ_sum, bigSep_univ_sum, bigSep_univ_prod, bigSep_univ_prod, bigSep_univ_prod, bigSep_univ_prod]
  rfl

/-! ## A buffer as its slots -/

section Slots
variable {s t : Shape} {T : Type} [Fintype T] [DecidableEq T] (m : Memref sig .tc .vmem s .f32) (r : T → Rect s)
  (hr : ∀ k a, (r k).stride a = 1) (hq : ∀ k, (r k).shape.Squeezes t)
  (hd : ∀ k k', k ≠ k' → Disjoint (r k).set (r k').set)
  (hcov : (Finset.univ : Finset T).biUnion (fun k => (r k).set) = Finset.univ)

/-- Slot `k` of a buffer. -/
abbrev slotOf (k : T) : Memref sig .tc .vmem t .f32 := (m.slice (r k) (hr k)).squeeze t (hq k)

omit [FloatOps F] [Fintype T] [DecidableEq T] in
include hd in
theorem slots_disj (k k' : T) (h : k ≠ k') : Disjoint (slotOf m r hr hq k).view.set (slotOf m r hr hq k').view.set := by
  rw [slot_set, slot_set]
  show Disjoint (m.view.slice (r k)).set (m.view.slice (r k')).set
  rw [View.set_slice, View.set_slice]
  exact (Finset.disjoint_map _).mpr (hd k k' h)
omit [FloatOps F] in
include hcov in
theorem slots_cover : m.view.set = (Finset.univ : Finset T).biUnion fun k => (slotOf m r hr hq k).view.set := by
  have h : ∀ k, (slotOf m r hr hq k).view.set = (m.view.slice (r k)).set := fun k => slot_set m (r k) (hr k) (hq k)
  rw [Finset.biUnion_congr rfl fun k _ => h k]
  ext i; constructor
  · intro hi
    rw [View.set, Finset.mem_map] at hi
    obtain ⟨x, -, rfl⟩ := hi
    obtain ⟨k, -, hx⟩ := Finset.mem_biUnion.mp (hcov.symm ▸ Finset.mem_univ x)
    exact Finset.mem_biUnion.mpr ⟨k, Finset.mem_univ _, by rw [View.set_slice]; exact Finset.mem_map_of_mem _ hx⟩
  · intro hi
    obtain ⟨k, -, hi⟩ := Finset.mem_biUnion.mp hi
    exact View.set_slice_subset _ _ hi

omit [FloatOps F] in
include hd hcov in
theorem room_split (c : Dev nD) : anyAt (F := F) c m ⊢ bigSep Finset.univ fun k => anyAt c (slotOf m r hr hq k) := by
  have h : ∀ f : Buf (Elt F) (m.view.loc (c : Thread nD τ)), iprop(m.view.loc (c : Thread nD τ) ↦[m.view.set]{fullShare} f) ⊢ (bigSep Finset.univ fun k => anyAt c (slotOf m r hr hq k) : sProp 𝕄) := by
    intro f
    rw [slots_cover m r hr hq hcov, pointsTo_biUnion _ _ fun k _ k' _ hne => slots_disj m r hr hq hd k k' hne]
    exact bigSep_mono fun k _ => show iprop(m.view.loc (c : Thread nD τ) ↦[(slotOf m r hr hq k).view.set]{fullShare} f) ⊢ (anyAt c (slotOf m r hr hq k) : sProp 𝕄) from by
      unfold anyAt; iintro H; iexists f; iexact H
  unfold anyAt
  iintro ⟨%f, H⟩
  iapply (h f); iexact H
include hd hcov in
theorem room_join (c : Dev nD) : (bigSep Finset.univ fun k => anyAt (F := F) c (slotOf m r hr hq k)) ⊢ anyAt c m := by
  haveI : Nonempty (Buf (Elt F) (m.view.loc (c : Thread nD τ))) := ⟨fun _ => Classical.arbitrary _⟩
  have h : (bigSep Finset.univ fun k => anyAt (F := F) c (slotOf m r hr hq k))
      = (bigSep Finset.univ fun k => iprop(∃ f : Buf (Elt F) (m.view.loc (c : Thread nD τ)), m.view.loc (c : Thread nD τ) ↦[(slotOf m r hr hq k).view.set]{fullShare} f) : sProp 𝕄) := rfl
  rw [h]
  iintro H
  ihave H' := (BI.bigSep_exists_pi Finset.univ (fun (k : T) (f : Buf (Elt F) (m.view.loc (c : Thread nD τ))) => (m.view.loc (c : Thread nD τ) ↦[(slotOf m r hr hq k).view.set]{fullShare} f : sProp 𝕄))) $$ H
  icases H' with ⟨%fs, H⟩
  ihave H2 := (pointsTo_biUnion_join Finset.univ (fun k => (slotOf m r hr hq k).view.set) fs (Classical.arbitrary _) fun k _ k' _ hne => slots_disj m r hr hq hd k k' hne) $$ H
  icases H2 with ⟨%g, -, H⟩
  unfold anyAt
  iexists g
  rw [slots_cover m r hr hq hcov]; iexact H

end Slots

/-- Slot `k`: the entries whose first coordinate is `k`. -/
theorem mem_slot {n h w : ℕ} (k : Fin n) (x : (⟨3, ![n, h, w]⟩ : Shape).Idx) :
    x ∈ (Rect.unit (s := ⟨3, ![n, h, w]⟩) ![k.val, 0, 0] (![1, h, w] : Fin 3 → ℕ) (inb3 k)).set ↔ (x 0).val = k.val := by
  rw [← Rect.map_emb_univ, Finset.mem_map]
  constructor
  · rintro ⟨j, -, rfl⟩
    have hj : (j 0).val < 1 := (j 0).isLt
    show ((Rect.unit (s := ⟨3, ![n, h, w]⟩) ![k.val, 0, 0] (![1, h, w] : Fin 3 → ℕ) (inb3 k)).emb j 0).val = _
    rw [Rect.emb_apply]; show k.val + 1 * (j 0).val = _; omega
  · intro hx
    refine ⟨ix3 (n0 := 1) (n1 := h) (n2 := w) 0 (x 1) (x 2), Finset.mem_univ _, ?_⟩
    funext a
    match a with
    | ⟨0, _⟩ => exact Fin.ext (by rw [Rect.emb_apply]; show k.val + 1 * 0 = (x 0).val; omega)
    | ⟨1, _⟩ => exact Fin.ext (by rw [Rect.emb_apply]; show 0 + 1 * (x 1).val = (x 1).val; omega)
    | ⟨2, _⟩ => exact Fin.ext (by rw [Rect.emb_apply]; show 0 + 1 * (x 2).val = (x 2).val; omega)
theorem slot_disj {n h w : ℕ} (k k' : Fin n) (hne : k ≠ k') :
    Disjoint (Rect.unit (s := ⟨3, ![n, h, w]⟩) ![k.val, 0, 0] (![1, h, w] : Fin 3 → ℕ) (inb3 k)).set
      (Rect.unit (s := ⟨3, ![n, h, w]⟩) ![k'.val, 0, 0] (![1, h, w] : Fin 3 → ℕ) (inb3 k')).set :=
  Finset.disjoint_left.mpr fun x hx hx' => hne (Fin.ext (((mem_slot k x).mp hx).symm.trans ((mem_slot k' x).mp hx')))
theorem slot_cov {n h w : ℕ} :
    (Finset.univ : Finset (Fin n)).biUnion (fun k => (Rect.unit (s := ⟨3, ![n, h, w]⟩) ![k.val, 0, 0] (![1, h, w] : Fin 3 → ℕ) (inb3 k)).set) = Finset.univ := by
  ext x
  simp only [Finset.mem_univ, iff_true, Finset.mem_biUnion, _root_.true_and]
  exact ⟨x 0, (mem_slot (x 0) x).mpr rfl⟩

omit [FloatOps F] in
theorem sb_split (c : Dev nD) (i : Fin 4) : anyAt (F := F) c (mems.sb i) ⊢ bigSep Finset.univ fun k => anyAt c (mems.sbS i k) :=
  room_split (mems.sb i) r2x48 (fun _ _ => rfl) (fun _ => squeezes_S1x48x1536_S48x1536) slot_disj slot_cov c
theorem sb_join (c : Dev nD) (i : Fin 4) : (bigSep Finset.univ fun k => anyAt (F := F) c (mems.sbS i k)) ⊢ anyAt c (mems.sb i) :=
  room_join (mems.sb i) r2x48 (fun _ _ => rfl) (fun _ => squeezes_S1x48x1536_S48x1536) slot_disj slot_cov c
omit [FloatOps F] in
theorem rc_split (c : Dev nD) (i : Fin 4) : anyAt (F := F) c (mems.rc i) ⊢ bigSep Finset.univ fun k => anyAt c (mems.rcS i k) :=
  room_split (mems.rc i) r7x48 (fun _ _ => rfl) (fun _ => squeezes_S1x48x1536_S48x1536) slot_disj slot_cov c
theorem rc_join (c : Dev nD) (i : Fin 4) : (bigSep Finset.univ fun k => anyAt (F := F) c (mems.rcS i k)) ⊢ anyAt c (mems.rc i) :=
  room_join (mems.rc i) r7x48 (fun _ _ => rfl) (fun _ => squeezes_S1x48x1536_S48x1536) slot_disj slot_cov c
omit [FloatOps F] in
theorem zb_split (c : Dev nD) (j : Fin 2) : anyAt (F := F) c (mems.zb j) ⊢ bigSep Finset.univ fun k => anyAt c (mems.zbS j k) :=
  room_split (mems.zb j) r2x24 (fun _ _ => rfl) (fun _ => squeezes_S1x24x1536_S24x1536) slot_disj slot_cov c
theorem zb_join (c : Dev nD) (j : Fin 2) : (bigSep Finset.univ fun k => anyAt (F := F) c (mems.zbS j k)) ⊢ anyAt c (mems.zb j) :=
  room_join (mems.zb j) r2x24 (fun _ _ => rfl) (fun _ => squeezes_S1x24x1536_S24x1536) slot_disj slot_cov c
omit [FloatOps F] in
theorem zr_split (c : Dev nD) (j : Fin 2) : anyAt (F := F) c (mems.zr j) ⊢ bigSep Finset.univ fun k => anyAt c (mems.zrS j k) :=
  room_split (mems.zr j) r3x24 (fun _ _ => rfl) (fun _ => squeezes_S1x24x1536_S24x1536) slot_disj slot_cov c
theorem zr_join (c : Dev nD) (j : Fin 2) : (bigSep Finset.univ fun k => anyAt (F := F) c (mems.zrS j k)) ⊢ anyAt c (mems.zr j) :=
  room_join (mems.zr j) r3x24 (fun _ _ => rfl) (fun _ => squeezes_S1x24x1536_S24x1536) slot_disj slot_cov c

/-- The body's scratch buffers, whole at some contents. -/
def Scratch (c : Dev nD) : sProp 𝕄 :=
  iprop(anyAt (F := F) c mems.p ∗ (bigSep Finset.univ fun i => anyAt c (mems.sb i)) ∗ (bigSep Finset.univ fun i => anyAt c (mems.rc i))
    ∗ (bigSep Finset.univ fun j => anyAt c (mems.zb j)) ∗ bigSep Finset.univ fun j => anyAt c (mems.zr j))

omit [FloatOps F] in
theorem any_whole (c : Dev nD) {s : Shape} (m : Memref sig .tc .vmem s .f32) (hm : m.view.set = Finset.univ) :
    anyAt (F := F) c m = iprop(∃ f : Buf (Elt F) (m.view.loc (c : Thread nD τ)), m.view.loc (c : Thread nD τ) ↦{fullShare} f) := by
  unfold anyAt; rw [hm]

omit [FloatOps F] in
theorem scratch_eq (c : Dev nD) : (Pipeline.scopedRest (Ix := Unit) (Name := ℕ) (U := UU) (Lvl := ℕ) (Val := Elt F) cfg0.spec c : sProp 𝕄) ⊣⊢ Scratch c := by
  rw [scopedRest0_eq]
  unfold Scratch
  rw [bigSep_fin4, bigSep_fin4, bigSep_two, bigSep_two]
  have hp := any_whole (F := F) c mems.p (View.set_whole _)
  have hsb : ∀ i, anyAt (F := F) c (mems.sb i) = _ := fun i => any_whole c (mems.sb i) (by fin_cases i <;> exact View.set_whole _)
  have hrc : ∀ i, anyAt (F := F) c (mems.rc i) = _ := fun i => any_whole c (mems.rc i) (by fin_cases i <;> exact View.set_whole _)
  have hzb : ∀ i, anyAt (F := F) c (mems.zb i) = _ := fun i => any_whole c (mems.zb i) (by fin_cases i <;> exact View.set_whole _)
  have hzr : ∀ i, anyAt (F := F) c (mems.zr i) = _ := fun i => any_whole c (mems.zr i) (by fin_cases i <;> exact View.set_whole _)
  rw [hp, hsb, hsb, hsb, hsb, hrc, hrc, hrc, hrc, hzb, hzb, hzr, hzr]
  constructor
  · iintro ⟨p, b0, b1, b2, b3, r0, r1, r2, r3, y0, y1, z0, z1⟩
    isplitl [p]; · iexact p
    isplitl [b0 b1 b2 b3]
    · isplitl [b0]; · iexact b0
      isplitl [b1]; · iexact b1
      isplitl [b2]; · iexact b2
      iexact b3
    isplitl [r0 r1 r2 r3]
    · isplitl [r0]; · iexact r0
      isplitl [r1]; · iexact r1
      isplitl [r2]; · iexact r2
      iexact r3
    isplitl [y0 y1]
    · isplitl [y0]; · iexact y0
      iexact y1
    isplitl [z0]; · iexact z0
    iexact z1
  · iintro ⟨p, ⟨b0, b1, b2, b3⟩, ⟨r0, r1, r2, r3⟩, ⟨y0, y1⟩, z0, z1⟩
    isplitl [p]; · iexact p
    isplitl [b0]; · iexact b0
    isplitl [b1]; · iexact b1
    isplitl [b2]; · iexact b2
    isplitl [b3]; · iexact b3
    isplitl [r0]; · iexact r0
    isplitl [r1]; · iexact r1
    isplitl [r2]; · iexact r2
    isplitl [r3]; · iexact r3
    isplitl [y0]; · iexact y0
    isplitl [y1]; · iexact y1
    isplitl [z0]; · iexact z0
    iexact z1

/-! ## The result's buffer as its rows -/

section Rows
variable {T : Type} [Fintype T] [DecidableEq T]

/-- Rows in units of 24: a piece starts at a multiple and is one or two units long. -/
def units (a n : ℕ) : Finset (Fin 64) := Finset.univ.filter fun u => a ≤ 24 * u.val ∧ 24 * u.val + 24 ≤ a + n

theorem mem_units {a n : ℕ} (ha : a % 24 = 0) (hn : n % 24 = 0) (x : S1536x1536.Idx) :
    x ∈ rowSet a n ↔ (⟨(x 0).val / 24, by have : (x 0).val < 1536 := (x 0).isLt; omega⟩ : Fin 64) ∈ units a n := by
  rw [mem_rowSet]; unfold units; rw [Finset.mem_filter]
  constructor
  · rintro ⟨h1, h2⟩; exact ⟨Finset.mem_univ _, by show a ≤ 24 * ((x 0).val / 24) ∧ 24 * ((x 0).val / 24) + 24 ≤ a + n; omega⟩
  · rintro ⟨-, h⟩
    have h : a ≤ 24 * ((x 0).val / 24) ∧ 24 * ((x 0).val / 24) + 24 ≤ a + n := h
    omega

/-- The rows of a family of pieces. -/
def rowsOf (a n : T → ℕ) : Finset S1536x1536.Idx := Finset.univ.biUnion fun t => rowSet (a t) (n t)
def unitsOf (a n : T → ℕ) : Finset (Fin 64) := Finset.univ.biUnion fun t => units (a t) (n t)
/-- Pieces in whole units that do not meet. -/
structure Pieces (a n : T → ℕ) : Prop where
  ha : ∀ t, a t % 24 = 0
  hn : ∀ t, n t % 24 = 0
  hd : ∀ t t', t ≠ t' → a t + n t ≤ a t' ∨ a t' + n t' ≤ a t

omit [Fintype T] [DecidableEq T] in
theorem Pieces.disj {a n : T → ℕ} (h : Pieces a n) (t t' : T) (hne : t ≠ t') : Disjoint (rowSet (a t) (n t)) (rowSet (a t') (n t')) :=
  Finset.disjoint_left.mpr fun x hx hx' => by
    rw [mem_rowSet] at hx hx'; have := h.hd t t' hne; omega
omit [DecidableEq T] in
theorem Pieces.mem {a n : T → ℕ} (h : Pieces a n) (x : S1536x1536.Idx) :
    x ∈ rowsOf a n ↔ (⟨(x 0).val / 24, by have : (x 0).val < 1536 := (x 0).isLt; omega⟩ : Fin 64) ∈ unitsOf a n := by
  unfold rowsOf unitsOf
  simp only [Finset.mem_biUnion, mem_units (h.ha _) (h.hn _)]
omit [DecidableEq T] in
theorem Pieces.whole {a n : T → ℕ} (h : Pieces a n) (hu : unitsOf a n = Finset.univ) : rowsOf a n = Finset.univ := by
  ext x; rw [h.mem, hu]; simp only [Finset.mem_univ]
omit [DecidableEq T] in
theorem Pieces.same {a n : T → ℕ} (h : Pieces a n) {T' : Type} [Fintype T'] {a' n' : T' → ℕ} (h' : Pieces a' n') (hu : unitsOf a n = unitsOf a' n') :
    rowsOf a n = rowsOf a' n' := by
  ext x; rw [h.mem, h'.mem, hu]

omit [DecidableEq T] in
theorem rows_oPts {A : Dev nD → Vec F S1536x768 .f32} {B : Dev nD → Vec F S768x1536 .f32} (c : Dev nD) {a n : T → ℕ} (h : Pieces a n) :
    (bigSep Finset.univ fun t => oPts A B c (a t) (n t))
      = iprop(((c : Thread nD τ).loc cc0_stg2_0) ↦[rowsOf a n]{fullShare} (oval A B : Buf (Elt F) ((c : Thread nD τ).loc cc0_stg2_0))) := by
  unfold rowsOf
  rw [pointsTo_biUnion _ _ fun t _ t' _ hne => h.disj t t' hne]; rfl
omit [FloatOps F] [DecidableEq T] in
theorem rows_oAny (c : Dev nD) {a n : T → ℕ} (h : Pieces a n) (hu : unitsOf a n = Finset.univ) (f : Buf (Elt F) ((c : Thread nD τ).loc cc0_stg2_0)) :
    iprop(((c : Thread nD τ).loc cc0_stg2_0) ↦{fullShare} f) ⊢ (bigSep Finset.univ fun t => oAny c (a t) (n t) : sProp 𝕄) := by
  have e : iprop(((c : Thread nD τ).loc cc0_stg2_0) ↦{fullShare} f) = (bigSep Finset.univ fun t => iprop(((c : Thread nD τ).loc cc0_stg2_0) ↦[rowSet (a t) (n t)]{fullShare} f) : sProp 𝕄) := by
    rw [← pointsTo_biUnion _ _ fun t _ t' _ hne => h.disj t t' hne]
    show _ = iprop(((c : Thread nD τ).loc cc0_stg2_0) ↦[rowsOf a n]{fullShare} f)
    rw [h.whole hu]
  rw [e]
  exact bigSep_mono fun t _ => show iprop(((c : Thread nD τ).loc cc0_stg2_0) ↦[rowSet (a t) (n t)]{fullShare} f) ⊢ (oAny c (a t) (n t) : sProp 𝕄) from by
    unfold oAny; iintro H; iexists f; iexact H

end Rows

/-- What the gathers start from: the four slivers of each column, and each ring's further chunks. -/
abbrev inA (c : Dev nD) : (Fin 2 × Fin 4) ⊕ (Fin 4 × Fin 7) → ℕ
  | .inl x => zaRow x.1 x.2.val c
  | .inr x => agRow x.1 (x.2.val + 1) c
abbrev inN : (Fin 2 × Fin 4) ⊕ (Fin 4 × Fin 7) → ℕ
  | .inl _ => 24
  | .inr _ => 48
/-- What they leave: each ring's eight chunks. The slivers are the rings' first chunks. -/
abbrev outA (c : Dev nD) (x : Fin 4 × Fin 8) : ℕ := agRow x.1 x.2.val c
abbrev slvA (c : Dev nD) (x : Fin 2 × Fin 4) : ℕ := zaRow x.1 x.2.val c
abbrev fstA (c : Dev nD) (i : Fin 4) : ℕ := agRow i 0 c

theorem in_pieces (c : Dev nD) : Pieces (inA c) inN :=
  ⟨by revert c; decide +kernel, by decide, by revert c; decide +kernel⟩
theorem in_units : ∀ c : Dev nD, unitsOf (inA c) inN = Finset.univ := by decide +kernel
theorem out_pieces (c : Dev nD) : Pieces (outA c) (fun _ => 48) :=
  ⟨by revert c; decide +kernel, fun _ => rfl, by revert c; decide +kernel⟩
theorem out_units : ∀ c : Dev nD, unitsOf (outA c) (fun _ => 48) = Finset.univ := by decide +kernel
theorem slv_pieces (c : Dev nD) : Pieces (slvA c) (fun _ => 24) :=
  ⟨by revert c; decide +kernel, fun _ => rfl, by revert c; decide +kernel⟩
theorem fst_pieces (c : Dev nD) : Pieces (fstA c) (fun _ => 48) :=
  ⟨by revert c; decide +kernel, fun _ => rfl, by revert c; decide +kernel⟩
theorem slv_units : ∀ c : Dev nD, unitsOf (slvA c) (fun _ => 24) = unitsOf (fstA c) (fun _ => 48) := by decide +kernel

omit [FloatOps F] in
/-- The result's buffer as the room the gathers need. -/
theorem out_split (c : Dev nD) (f : Buf (Elt F) ((c : Thread nD τ).loc cc0_stg2_0)) :
    iprop(((c : Thread nD τ).loc cc0_stg2_0) ↦{fullShare} f)
      ⊢ (iprop((bigSep Finset.univ fun j : Fin 2 => bigSep Finset.univ fun s : Fin 4 => oAny c (zaRow j s.val c) 24)
        ∗ bigSep Finset.univ fun i : Fin 4 => bigSep Finset.univ fun s : Fin 7 => oAny c (agRow i (s.val + 1) c) 48) : sProp 𝕄) := by
  refine (rows_oAny c (in_pieces c) (in_units c) f).trans (Entails.of_eq ?_)
  rw [bigSep_univ_sum, bigSep_univ_prod, bigSep_univ_prod]
  rfl
/-- The slivers are the rings' first chunks; -/
theorem slv_fst {A : Dev nD → Vec F S1536x768 .f32} {B : Dev nD → Vec F S768x1536 .f32} (c : Dev nD) :
    (bigSep Finset.univ fun j : Fin 2 => bigSep Finset.univ fun s : Fin 4 => oPts A B c (zaRow j s.val c) 24)
      = bigSep Finset.univ fun i : Fin 4 => oPts A B c (agRow i 0 c) 48 := by
  refine (bigSep_univ_prod (fun x : Fin 2 × Fin 4 => oPts A B c (zaRow x.1 x.2.val c) 24)).symm.trans ?_
  rw [rows_oPts c (slv_pieces c), rows_oPts c (fst_pieces c), (slv_pieces c).same (fst_pieces c) (slv_units c)]
/-- the rings' chunks the whole result. -/
theorem out_join {A : Dev nD → Vec F S1536x768 .f32} {B : Dev nD → Vec F S768x1536 .f32} (c : Dev nD) :
    (bigSep Finset.univ fun i : Fin 4 => bigSep Finset.univ fun s : Fin 8 => oPts A B c (agRow i s.val c) 48)
      = iprop(((c : Thread nD τ).loc cc0_stg2_0) ↦{fullShare} (oval A B : Buf (Elt F) ((c : Thread nD τ).loc cc0_stg2_0))) := by
  refine (bigSep_univ_prod (fun x : Fin 4 × Fin 8 => oPts A B c (agRow x.1 x.2.val c) 48)).symm.trans ?_
  rw [rows_oPts c (out_pieces c), (out_pieces c).whole (out_units c)]

end Cert.KernelIdeal.Run

end
-- ==== Proof.Whole.lean ====
/-
  The body from start to finish: the barrier, which trades each device's own room for its
  neighbours', then the four phases, each ring and column handed from one phase to the next.
-/
module

public import proofs.«01_k».proof.Proof.Gather
public import proofs.«01_k».proof.Proof.Room

@[expose] public section

set_option maxRecDepth 65536

noncomputable section

namespace Cert.KernelIdeal.Run

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {A : Dev nD → Vec F S1536x768 .f32} {B : Dev nD → Vec F S768x1536 .f32} {K : Dev nD × Cell → ℕ} {c : Dev nD}

/-! ## Regrouping -/

section Groups
variable {I : Type} [DecidableEq I] [Fintype I]

omit [FloatOps F] in
theorem pack2 {X Y R : I → sProp 𝕄} (h : ∀ i, iprop(X i ∗ Y i) ⊢ R i) : iprop(bigSep Finset.univ X ∗ bigSep Finset.univ Y) ⊢ bigSep Finset.univ R := by
  rw [← bigSep_sep']; exact bigSep_mono fun i _ => h i
omit [FloatOps F] in
theorem pack4 {X Y Z W R : I → sProp 𝕄} (h : ∀ i, iprop(X i ∗ Y i ∗ Z i ∗ W i) ⊢ R i) :
    iprop(bigSep Finset.univ X ∗ bigSep Finset.univ Y ∗ bigSep Finset.univ Z ∗ bigSep Finset.univ W) ⊢ bigSep Finset.univ R := by
  rw [← bigSep_sep', ← bigSep_sep', ← bigSep_sep']; exact bigSep_mono fun i _ => h i
omit [FloatOps F] in
theorem unpack2 {X Y R : I → sProp 𝕄} (h : ∀ i, R i ⊢ iprop(X i ∗ Y i)) : bigSep Finset.univ R ⊢ iprop(bigSep Finset.univ X ∗ bigSep Finset.univ Y) := by
  rw [← bigSep_sep']; exact bigSep_mono fun i _ => h i
omit [FloatOps F] in
theorem unpack3 {X Y Z R : I → sProp 𝕄} (h : ∀ i, R i ⊢ iprop(X i ∗ Y i ∗ Z i)) :
    bigSep Finset.univ R ⊢ iprop(bigSep Finset.univ X ∗ bigSep Finset.univ Y ∗ bigSep Finset.univ Z) := by
  rw [← bigSep_sep', ← bigSep_sep']; exact bigSep_mono fun i _ => h i
omit [FloatOps F] [Fintype I] in
theorem with_ctx {X R : I → sProp 𝕄} {S : Finset I} {P : sProp 𝕄} [BI.Persistent P] (h : ∀ i ∈ S, iprop(P ∗ X i) ⊢ R i) : iprop(P ∗ bigSep S X) ⊢ bigSep S R :=
  (sep_mono_left (BI.bigSep_of_persistent S P)).trans (by rw [← bigSep_sep']; exact bigSep_mono h)

omit [FloatOps F] in
theorem bigSep_last (n : ℕ) (Φ : ℕ → sProp 𝕄) :
    bigSep Finset.univ (fun s : Fin (n + 1) => Φ s.val) = iprop(Φ n ∗ bigSep Finset.univ fun s : Fin n => Φ s.val) := by
  have h := upt_put (fun s : Fin (n + 1) => Φ s.val) (Fin.last n) (k := n) rfl
  rw [upt_end] at h
  have e : (Finset.univ.filter fun s : Fin (n + 1) => s.val < n) = Finset.univ.map Fin.castSuccEmb := by
    ext s; simp only [Finset.mem_filter, Finset.mem_univ, _root_.true_and, Finset.mem_map]
    constructor
    · intro hs; exact ⟨⟨s.val, hs⟩, Fin.ext rfl⟩
    · rintro ⟨a, rfl⟩; exact a.isLt
  rw [h]; unfold upt; rw [e, bigSep_map]; rfl
omit [FloatOps F] in
theorem bigSep_first (n : ℕ) (Φ : ℕ → sProp 𝕄) :
    bigSep Finset.univ (fun s : Fin (n + 1) => Φ s.val) = iprop(Φ 0 ∗ bigSep Finset.univ fun s : Fin n => Φ (s.val + 1)) := by
  rw [Fin.univ_succ, Finset.cons_eq_insert, bigSep_insert (by simp [Fin.succ_ne_zero]), bigSep_map]; rfl

/-- Two send slots with nothing under way. -/
theorem snd_at (x : Fin 2 → DC) (b : Fin 2 → ℕ) (slot : Fin 2 → sProp 𝕄) (n : ℕ) (R : Fin 2 → ℕ) (hR : ∀ q, cnt q n + b q = R q) :
    Snd c x b slot n n = iprop((bigSep Finset.univ fun q => Idle c (x q) (R q)) ∗ bigSep Finset.univ slot) := by
  unfold Snd
  rw [← bigSep_sep']
  refine bigSep_congr fun q _ => ?_
  have hf : ¬flying q n n := by unfold flying; omega
  rw [sndAt, if_neg hf, hR]

/-- The DMA semaphores: a ring's and a column's send semaphores, the events' receive semaphores. -/
def dcEquiv : (Fin 4 × Fin 2) ⊕ ((Fin 2 × Fin 2) ⊕ Ev) ≃ DC where
  toFun
    | .inl x => .ss x.1 x.2
    | .inr (.inl x) => .zs x.1 x.2
    | .inr (.inr e) => .rcv e
  invFun
    | .ss i k => .inl (i, k)
    | .zs i k => .inr (.inl (i, k))
    | .rcv e => .inr (.inr e)
  left_inv := by rintro (_ | (_ | _)) <;> rfl
  right_inv := by rintro (_ | _ | _) <;> rfl
omit [FloatOps F] in
theorem bigSep_dc (Φ : DC → sProp 𝕄) :
    bigSep Finset.univ Φ = iprop((bigSep Finset.univ fun i : Fin 4 => bigSep Finset.univ fun k : Fin 2 => Φ (.ss i k))
      ∗ (bigSep Finset.univ fun j : Fin 2 => bigSep Finset.univ fun k : Fin 2 => Φ (.zs j k)) ∗ bigSep Finset.univ fun e : Ev => Φ (.rcv e)) := by
  rw [bigSep_univ_equiv dcEquiv, bigSep_univ_sum, bigSep_univ_sum, bigSep_univ_prod, bigSep_univ_prod]
  rfl

end Groups

/-! ## What a device starts and ends with -/

/-- A device's places on its own cells, and the duties it pays. -/
def Keys (c : Dev nD) : sProp 𝕄 :=
  iprop(atPos ER (gc none c) 0 ∅ 0 ∗ (bigSep Finset.univ fun x : DC => atPos ER (gc (some x) c) 0 ∅ 0)
    ∗ (bigSep Finset.univ fun d : Fin 4 => dutyTok ER (gc none (nbr d c)) 0 d) ∗ bigSep Finset.univ fun e : Ev => Tok c e)
/-- The credit the launch gives it: its neighbours' signals and every arrival. -/
def Creds (c : Dev nD) : sProp 𝕄 :=
  iprop(cred (tallyAt (gc none c) () 4) ∗ bigSep Finset.univ fun e : Ev => cred (tallyAt (rcell e c) () (amtE e)))
/-- All its cells' rounds are over. -/
def Ends (c : Dev nD) : sProp 𝕄 :=
  iprop(atPos ER (gc none c) 1 ∅ 0 ∗ bigSep Finset.univ fun x : DC => atPos ER (gc (some x) c) (nr x) ∅ 0)
/-- Their counters back at zero. -/
def Zeros (c : Dev nD) : sProp 𝕄 :=
  iprop(semVal (gc none c) 0 ∗ bigSep Finset.univ fun x : DC => semVal (gc (some x) c) 0)

theorem close_all (A : Dev nD → Vec F S1536x768 .f32) (B : Dev nD → Vec F S768x1536 .f32) (K : Dev nD × Cell → ℕ) (c : Dev nD) :
    iprop(ctx A B K ∗ Ends c) ⊢ (|={Set.univ}=> Zeros c : sProp 𝕄) := by
  have h : ∀ x : DC, iprop(ctx A B K ∗ atPos ER (gc (some x) c) (nr x) ∅ 0) ⊢ (|={Set.univ}=> semVal (gc (some x) c) 0 : sProp 𝕄) := fun x =>
    (sep_mono_left (ctx_inv A B K c (some x))).trans (Rounds.cell_close ER (Rd A B) (Set.mem_univ (K (c, some x))) (fun h => h) (R := nr x) (fun r hr => duties_end A B x c r hr))
  have h2 : iprop(ctx A B K ∗ bigSep Finset.univ fun x : DC => atPos ER (gc (some x) c) (nr x) ∅ 0) ⊢ (|={Set.univ}=> bigSep Finset.univ fun x : DC => semVal (gc (some x) c) 0 : sProp 𝕄) :=
    (with_ctx (S := Finset.univ) fun x _ => h x).trans (bigSep_fupd _ _)
  unfold Ends Zeros
  iintro ⟨#Hc, Hb, Hx⟩
  ihave #Hi := (ctx_inv A B K c none) $$ Hc
  imod (Rounds.cell_close ER (Rd A B) (Set.mem_univ (K (c, none))) (fun h => h) (R := 1) (fun r hr => duties_bar_end A B c r hr)) $$ [Hb] with Hz
  · isplitr; · iexact Hi
    iexact Hb
  imod h2 $$ [Hx] with Hy
  · isplitr; · iexact Hc
    iexact Hx
  imodintro
  isplitl [Hz]; · iexact Hz
  iexact Hy

/-! ## The barrier -/

/-- What is owed once `k` signals are given. -/
def obX (c : Dev nD) (k : ℕ) : sProp 𝕄 := iprop(∃ W, owes (c : Thread nD τ) (Ob c k) W)

theorem tri_signal (d : Fin 4) :
    Tri A B K c iprop(obX c d.val ∗ dutyTok ER (gc none (nbr d c)) 0 d ∗ barPay d (nbr d c)) (semSignalWord (nbr d c) bsem 1#32) (fun _ => obX c (d.val + 1)) := by
  have hp : barPay d (nbr d c) ⊢ (Rd A B).payload ((nbr d c : Thread nD τ), SemLoc.reg bsem) 0 d := Entails.of_eq (payload_gc A B none (nbr d c) 0 d).symm
  unfold Tri obX
  iintro ⟨#Hc, ⟨%W, Ho⟩, Ht, Hp⟩
  simp only [semSignalWord]
  ihave #Hi := (ctx_inv A B K (nbr d c) none) $$ Hc
  ihave #Hr := (ctx_reached A B K (nbr d c) none) $$ Hc
  iapply (Rounds.wp_signal 𝒱₀ ER (Rd A B) (c : Thread nD τ) none (dst := (nbr d c : Thread nD τ)) (κ := K (nbr d c, none))
      (d := d) (mem_bar A B (nbr d c) d) ((amount_gc A B none (nbr d c) 0 d).trans (by decide)) () (Ob c (d.val + 1)) (Ob_succ c d)) $$ [Ho Ht Hp]
  · isplitr; · iexact Hi
    isplitl [Ho]; · iexact Ho
    isplitl [Ht]; · iexact Ht
    isplitl [Hp]
    · iapply hp; iexact Hp
    iexact Hr
  iintro Ho
  rw [wp_ret]; imodintro
  iexists W; iexact Ho

theorem tri_barWait :
    Tri A B K c iprop(obX c 4 ∗ cred (tallyAt (gc none c) () 4) ∗ atPos ER (gc none c) 0 ∅ 0) (semWaitWord bsem 4#32)
      (fun _ => iprop(owX c 0 ∗ atPos ER (gc none c) 1 ∅ 0 ∗ bigSep Finset.univ fun d => barPay (F := F) d c)) := by
  unfold Tri obX owX
  rw [Ob_end]
  iintro ⟨#Hc, ⟨%W, Ho⟩, Hcr, Hat⟩
  simp only [semWaitWord]
  ihave #Hi := (ctx_inv A B K c none) $$ Hc
  ihave #Hl := (ctx_lev A B K) $$ Hc
  iapply (Rounds.wp_wait_rest_token 𝒱₀ ER (Rd A B) (c : Thread nD τ) none (κ := K (c, none))
      (wpE_semWait_eq 𝒱₀ (c : Thread nD τ) none Set.univ) (Set.mem_univ _) () (O := Ow c 0) (W := W) (R := 0) (m := 0) (T := ∅)
      ((expect_bar A B c).trans (by decide)).symm) $$ [Hcr Ho Hat]
  · isplitr; · iexact Hi
    isplitl [Hcr]; · iexact Hcr
    isplitl [Ho]; · iexact Ho
    isplitr
    · iapply (mayWait_Ow c (.reg bsem) 0 1 (lv_gc none c).le (fun t _ => lt_of_lt_of_le (by decide) (lvE_two (evt t.val)))); iexact Hl
    iexact Hat
  iintro ⟨Ho, Hat, -, Hpay⟩
  rw [wp_ret]; imodintro
  isplitl [Ho]; · iexists _; iexact Ho
  isplitl [Hat]; · iexact Hat
  iapply (Entails.of_eq (rest_bar A B c)); iexact Hpay

omit [FloatOps F] in
theorem by_dir (Φ : Ev → sProp 𝕄) : bigSep Finset.univ Φ = bigSep Finset.univ fun d : Fin 4 => bigSep (Finset.univ.filter fun e : Ev => dirOf e = d) Φ := by
  rw [bigSep_fiberwise Finset.univ dirOf, show (Finset.univ : Finset Ev).image dirOf = Finset.univ from by decide]
omit [FloatOps F] in
/-- A device's own room is what it hands its neighbours; -/
theorem room_out (c : Dev nD) : (bigSep Finset.univ fun e : Ev => dstAny (F := F) e c) = bigSep Finset.univ fun d : Fin 4 => barPay d (nbr d c) := by
  rw [by_dir]
  exact bigSep_congr fun d _ => by unfold barPay; rw [rbn_nbr]
omit [FloatOps F] in
/-- what its neighbours hand it, the room its copies need. -/
theorem room_back (c : Dev nD) : (bigSep Finset.univ fun d : Fin 4 => barPay (F := F) d c) = bigSep Finset.univ fun e : Ev => dstAny e (tgt e c) := by
  rw [by_dir]
  exact bigSep_congr fun d _ => bigSep_congr fun e he => by rw [← (Finset.mem_filter.mp he).2, rbn_dirOf]

theorem tri_barrier :
    Tri A B K c iprop(obX c 0 ∗ (bigSep Finset.univ fun d : Fin 4 => dutyTok ER (gc none (nbr d c)) 0 d) ∗ (bigSep Finset.univ fun e : Ev => dstAny e c)
        ∗ cred (tallyAt (gc none c) () 4) ∗ atPos ER (gc none c) 0 ∅ 0)
      (barrier (tab c)) (fun _ => iprop(owX c 0 ∗ atPos ER (gc none c) 1 ∅ 0 ∗ bigSep Finset.univ fun e : Ev => dstAny e (tgt e c))) := by
  rw [room_out, ← room_back, bigSep_fin4, bigSep_fin4]
  have h0 : Tri A B K c iprop(obX c 0 ∗ dutyTok ER (gc none (nbr 0 c)) 0 0 ∗ barPay 0 (nbr 0 c)) (semSignalWord (nbr 0 c) bsem 1#32) (fun _ => obX c 1) := tri_signal 0
  have h1 : Tri A B K c iprop(obX c 1 ∗ dutyTok ER (gc none (nbr 1 c)) 0 1 ∗ barPay 1 (nbr 1 c)) (semSignalWord (nbr 1 c) bsem 1#32) (fun _ => obX c 2) := tri_signal 1
  have h2 : Tri A B K c iprop(obX c 2 ∗ dutyTok ER (gc none (nbr 2 c)) 0 2 ∗ barPay 2 (nbr 2 c)) (semSignalWord (nbr 2 c) bsem 1#32) (fun _ => obX c 3) := tri_signal 2
  have h3 : Tri A B K c iprop(obX c 3 ∗ dutyTok ER (gc none (nbr 3 c)) 0 3 ∗ barPay 3 (nbr 3 c)) (semSignalWord (nbr 3 c) bsem 1#32) (fun _ => obX c 4) := tri_signal 3
  unfold barrier
  unfold Tri
  iintro ⟨#Hc, Ho, ⟨t0, t1, t2, t3⟩, ⟨p0, p1, p2, p3⟩, Hcr, Hat⟩
  iapply Tri.use A B K c h0 $$ [Ho t0 p0]
  · isplitr; · iexact Hc
    isplitl [Ho]; · iexact Ho
    isplitl [t0] <;> iassumption
  iintro %_ Ho
  iapply Tri.use A B K c h1 $$ [Ho t1 p1]
  · isplitr; · iexact Hc
    isplitl [Ho]; · iexact Ho
    isplitl [t1] <;> iassumption
  iintro %_ Ho
  iapply Tri.use A B K c h2 $$ [Ho t2 p2]
  · isplitr; · iexact Hc
    isplitl [Ho]; · iexact Ho
    isplitl [t2] <;> iassumption
  iintro %_ Ho
  iapply Tri.use A B K c h3 $$ [Ho t3 p3]
  · isplitr; · iexact Hc
    isplitl [Ho]; · iexact Ho
    isplitl [t3] <;> iassumption
  iintro %_ Ho
  iapply tri_barWait.elim
  isplitr; · iexact Hc
  isplitl [Ho]; · iexact Ho
  isplitl [Hcr] <;> iassumption

/-! ## From phase to phase -/

theorem rs_in (i : Fin 4) :
    iprop((bigSep Finset.univ fun s : Fin 7 => IssK (F := F) c (.rs i s)) ∗ (bigSep Finset.univ fun s : Fin 7 => RcvK c (.rs i s))
      ∗ (bigSep Finset.univ fun q : Fin 2 => Idle c (.ss i q) 0) ∗ bigSep Finset.univ fun q : Fin 2 => anyAt c (mems.sbS i q)) ⊢ RSL A B c i 0 0 0 := by
  unfold RSL
  dsimp only [SndS]
  rw [frm_zero, frm_zero, upt_zero, snd_at (DC.ss i) (fun _ => 0) _ 0 (fun _ => 0) (by decide)]
  iintro ⟨a, b, d, e⟩
  isplitl [a]; · iexact a
  isplitl [b]; · iexact b
  isplitr; · iempintro
  isplitl [d] <;> iassumption
theorem rs_out (i : Fin 4) :
    RSL A B c i 7 7 7 ⊢ iprop((bigSep Finset.univ fun s : Fin 7 => Arr A B c (.rs i s)) ∗ (bigSep Finset.univ fun q : Fin 2 => Idle c (.ss i q) (4 - q.val))
      ∗ bigSep Finset.univ fun q : Fin 2 => anyAt c (mems.sbS i q)) := by
  unfold RSL
  dsimp only [SndS]
  rw [upt_end, snd_at (DC.ss i) (fun _ => 0) _ 7 (fun q => 4 - q.val) (by decide)]
  iintro ⟨-, -, a, b, d⟩
  isplitl [a]; · iexact a
  isplitl [b] <;> iassumption
theorem z_in (j : Fin 2) :
    iprop((bigSep Finset.univ fun s : Fin 3 => IssK (F := F) c (.zr j s)) ∗ (bigSep Finset.univ fun s : Fin 3 => RcvK c (.zr j s))
      ∗ (bigSep Finset.univ fun q : Fin 2 => Idle c (.zs j q) 0) ∗ bigSep Finset.univ fun q : Fin 2 => anyAt c (mems.zbS j q)) ⊢ ZL A B c j 0 0 0 := by
  unfold ZL
  dsimp only [SndZ]
  rw [frm_zero, frm_zero, upt_zero, snd_at (DC.zs j) (fun _ => 0) _ 0 (fun _ => 0) (by decide)]
  iintro ⟨a, b, d, e⟩
  isplitl [a]; · iexact a
  isplitl [b]; · iexact b
  isplitr; · iempintro
  isplitl [d] <;> iassumption
theorem z_out (j : Fin 2) :
    ZL A B c j 3 3 3 ⊢ iprop((bigSep Finset.univ fun s : Fin 3 => Arr A B c (.zr j s)) ∗ (bigSep Finset.univ fun q : Fin 2 => Idle c (.zs j q) (2 - q.val))
      ∗ bigSep Finset.univ fun q : Fin 2 => anyAt c (mems.zbS j q)) := by
  unfold ZL
  dsimp only [SndZ]
  rw [upt_end, snd_at (DC.zs j) (fun _ => 0) _ 3 (fun q => 2 - q.val) (by decide)]
  iintro ⟨-, -, a, b, d⟩
  isplitl [a]; · iexact a
  isplitl [b] <;> iassumption

omit [FloatOps F] in
theorem emps : (bigSep Finset.univ fun _ : Fin 2 => (iprop(emp) : sProp 𝕄)) = iprop(emp) := by rw [bigSep_two]; exact BI.equiv_iff.mp BI.emp_sep

/-- A gather's line at its start and its end. -/
theorem Line.begin (L : Line A B c) (h : sProp 𝕄) (R : Fin 2 → ℕ) (hR : ∀ q, cnt q 0 + L.b q = R q) :
    iprop((bigSep Finset.univ fun s => IssK (F := F) c (L.ev s)) ∗ (bigSep Finset.univ fun s => RcvK c (L.ev s))
      ∗ (bigSep Finset.univ fun q : Fin 2 => Idle c (L.x q) (R q)) ∗ h) ⊢ L.at 0 0 0 h := by
  unfold Line.at
  rw [frm_zero, frm_zero, upt_zero, upt_zero, snd_at L.x L.b _ 0 R hR, emps]
  iintro ⟨a, b, d, e⟩
  isplitl [a]; · iexact a
  isplitl [b]; · iexact b
  isplitr; · iempintro
  isplitr; · iempintro
  isplitl [e]; · iexact e
  isplitl [d]; · iexact d
  iempintro
theorem Line.finish (L : Line A B c) (R : Fin 2 → ℕ) (hR : ∀ q, cnt q L.N + L.b q = R q) :
    L.at L.N L.N L.N (L.o L.N) ⊢ iprop((bigSep Finset.univ fun s => Got c (L.ev s)) ∗ (bigSep Finset.univ fun s : Fin (L.N + 1) => L.o s.val)
      ∗ bigSep Finset.univ fun q : Fin 2 => Idle c (L.x q) (R q)) := by
  unfold Line.at
  rw [upt_end, upt_end, snd_at L.x L.b _ L.N R hR, bigSep_last L.N L.o]
  iintro ⟨-, -, a, b, d, e, -⟩
  isplitl [a]; · iexact a
  isplitl [b d]
  · isplitl [d] <;> iassumption
  iexact e

theorem za_in (j : Fin 2) :
    iprop((bigSep Finset.univ fun s : Fin 3 => IssK (F := F) c (.za j s)) ∗ (bigSep Finset.univ fun s : Fin 3 => RcvK c (.za j s))
      ∗ (bigSep Finset.univ fun q : Fin 2 => Idle c (.zs j q) (2 - q.val)) ∗ oPts A B c (zaRow j 0 c) 24) ⊢ ZA A B c 0 j :=
  (zaL A B c j).begin _ (fun q => 2 - q.val) (by show ∀ q : Fin 2, cnt q 0 + (2 - q.val) = 2 - q.val; decide)
theorem za_out (j : Fin 2) :
    ZA A B c 3 j ⊢ iprop((bigSep Finset.univ fun s : Fin 3 => Got (F := F) c (.za j s)) ∗ (bigSep Finset.univ fun s : Fin 4 => oPts A B c (zaRow j s.val c) 24)
      ∗ bigSep Finset.univ fun q : Fin 2 => Idle c (.zs j q) (nr (.zs j q))) :=
  (zaL A B c j).finish (fun q => nr (.zs j q)) (by show ∀ q : Fin 2, cnt q 3 + (2 - q.val) = nr (.zs j q); revert j; decide)
theorem ag_in (i : Fin 4) :
    iprop((bigSep Finset.univ fun s : Fin 7 => IssK (F := F) c (.ag i s)) ∗ (bigSep Finset.univ fun s : Fin 7 => RcvK c (.ag i s))
      ∗ (bigSep Finset.univ fun q : Fin 2 => Idle c (.ss i q) (4 - q.val)) ∗ oPts A B c (agRow i 0 c) 48) ⊢ (agL A B c i).at 0 0 0 (hO A B c 0 i) :=
  (agL A B c i).begin _ (fun q => 4 - q.val) (by show ∀ q : Fin 2, cnt q 0 + (4 - q.val) = 4 - q.val; decide)
theorem ag_out (i : Fin 4) :
    (agL A B c i).at 7 7 7 (hO A B c 7 i) ⊢ iprop((bigSep Finset.univ fun s : Fin 7 => Got (F := F) c (.ag i s)) ∗ (bigSep Finset.univ fun s : Fin 8 => oPts A B c (agRow i s.val c) 48)
      ∗ bigSep Finset.univ fun q : Fin 2 => Idle c (.ss i q) (nr (.ss i q))) :=
  (agL A B c i).finish (fun q => nr (.ss i q)) (by show ∀ q : Fin 2, cnt q 7 + (4 - q.val) = nr (.ss i q); revert i; decide)

end Cert.KernelIdeal.Run

end
-- ==== Proof.Body.lean ====
/-
  The body's one triple: from what the launch gives a device to its result's buffer at the result
  and every semaphore back at zero.
-/
module

public import proofs.«01_k».proof.Proof.Whole

@[expose] public section

set_option maxRecDepth 65536

noncomputable section

namespace Cert.KernelIdeal.Run

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {A : Dev nD → Vec F S1536x768 .f32} {B : Dev nD → Vec F S768x1536 .f32} {K : Dev nD × Cell → ℕ} {c : Dev nD}

/-! ## Before the phases -/

/-- The result's buffer, whole. -/
def oWhole (c : Dev nD) : sProp 𝕄 := iprop(∃ f : Buf (Elt F) ((c : Thread nD τ).loc cc0_stg2_0), ((c : Thread nD τ).loc cc0_stg2_0) ↦{fullShare} f)

/-- The rings' and the columns' send buffers, and the rows the columns fill by themselves. -/
abbrev Sends (c : Dev nD) : sProp 𝕄 :=
  iprop((bigSep Finset.univ fun i => bigSep Finset.univ fun q => anyAt (F := F) c (mems.sbS i q)) ∗ bigSep Finset.univ fun j => bigSep Finset.univ fun q => anyAt c (mems.zbS j q))

omit [FloatOps F] in
/-- The buffers as the room for every copy. -/
theorem rooms (c : Dev nD) :
    iprop(Scratch (F := F) c ∗ oWhole c) ⊢ iprop(anyAt c mems.p ∗ Sends c ∗ (bigSep Finset.univ fun j : Fin 2 => oAny c (zaRow j 0 c) 24) ∗ bigSep Finset.univ fun e : Ev => dstAny e c) := by
  have hsb : (bigSep Finset.univ fun i => anyAt (F := F) c (mems.sb i)) ⊢ bigSep Finset.univ fun i => bigSep Finset.univ fun q => anyAt c (mems.sbS i q) := bigSep_mono fun i _ => sb_split c i
  have hrc : (bigSep Finset.univ fun i => anyAt (F := F) c (mems.rc i)) ⊢ bigSep Finset.univ fun i => bigSep Finset.univ fun s => dstAny (.rs i s) c := bigSep_mono fun i _ => rc_split c i
  have hzb : (bigSep Finset.univ fun j => anyAt (F := F) c (mems.zb j)) ⊢ bigSep Finset.univ fun j => bigSep Finset.univ fun q => anyAt c (mems.zbS j q) := bigSep_mono fun j _ => zb_split c j
  have hzr : (bigSep Finset.univ fun j => anyAt (F := F) c (mems.zr j)) ⊢ bigSep Finset.univ fun j => bigSep Finset.univ fun s => dstAny (.zr j s) c := bigSep_mono fun j _ => zr_split c j
  have hza : (bigSep Finset.univ fun j : Fin 2 => bigSep Finset.univ fun s : Fin 4 => oAny (F := F) c (zaRow j s.val c) 24)
      ⊢ iprop((bigSep Finset.univ fun j : Fin 2 => oAny c (zaRow j 0 c) 24) ∗ bigSep Finset.univ fun j : Fin 2 => bigSep Finset.univ fun s : Fin 3 => dstAny (.za j s) c) :=
    unpack2 fun j => Entails.of_eq (bigSep_first 3 fun s => oAny c (zaRow j s c) 24)
  rw [bigSep_ev]
  unfold Scratch oWhole
  iintro ⟨⟨Hp, Hsb, Hrc, Hzb, Hzr⟩, ⟨%f, Hout⟩⟩
  ihave H := (out_split c f) $$ Hout
  icases H with ⟨Hz, Hg⟩
  ihave H := hza $$ Hz
  icases H with ⟨Hz0, Hzs⟩
  isplitl [Hp]; · iexact Hp
  isplitl [Hsb Hzb]
  · isplitl [Hsb]
    · iapply hsb; iexact Hsb
    · iapply hzb; iexact Hzb
  isplitl [Hz0]; · iexact Hz0
  isplitl [Hrc Hzr]
  · isplitl [Hrc]
    · iapply hrc; iexact Hrc
    · iapply hzr; iexact Hzr
  isplitl [Hzs]; · iexact Hzs
  iexact Hg

/-- The send semaphores at their start. -/
theorem idles {n : ℕ} (x : Fin n → Fin 2 → DC) (c : Dev nD) :
    iprop(ctx A B K ∗ bigSep Finset.univ fun i => bigSep Finset.univ fun q => atPos ER (gc (some (x i q)) c) 0 ∅ 0)
      ⊢ (bigSep Finset.univ fun i => bigSep Finset.univ fun q => Idle c (x i q) 0 : sProp 𝕄) := by
  refine with_ctx fun i _ => with_ctx fun q _ => ?_
  unfold Idle
  iintro ⟨#Hc, H⟩
  isplitl [H]; · iexact H
  iapply (ctx_reached A B K c (some (x i q))); iexact Hc

/-- The rings' reduction. -/
theorem tri_rs {V : Vec F S1536x1536 .f32} :
    Tri A B K c iprop((aAt c (A c) ∗ bAt c (B c)) ∗ (owX c 0 ∗ pAt c (fun _ => False) V)
        ∗ (bigSep Finset.univ fun i : Fin 4 => bigSep Finset.univ fun s : Fin 7 => IssK c (.rs i s))
        ∗ (bigSep Finset.univ fun i : Fin 4 => bigSep Finset.univ fun s : Fin 7 => RcvK c (.rs i s))
        ∗ (bigSep Finset.univ fun i : Fin 4 => bigSep Finset.univ fun q : Fin 2 => Idle c (.ss i q) 0)
        ∗ bigSep Finset.univ fun i : Fin 4 => bigSep Finset.univ fun q : Fin 2 => anyAt c (mems.sbS i q))
      (rsPhase mems (tab c))
      (fun _ => iprop((aAt c (A c) ∗ bAt c (B c)) ∗ (owX c 28 ∗ pAt c (okOwn c) (pown A B c))
        ∗ (bigSep Finset.univ fun i : Fin 4 => bigSep Finset.univ fun s : Fin 7 => Arr A B c (.rs i s))
        ∗ (bigSep Finset.univ fun i : Fin 4 => bigSep Finset.univ fun q : Fin 2 => Idle c (.ss i q) (4 - q.val))
        ∗ bigSep Finset.univ fun i : Fin 4 => bigSep Finset.univ fun q : Fin 2 => anyAt c (mems.sbS i q))) := by
  have hin := (pack4 (F := F) (rs_in (A := A) (B := B) (c := c))).trans (Entails.of_eq (bigSep_fin4 fun i => RSL A B c i 0 0 0))
  have hout := (Entails.of_eq (bigSep_fin4 fun i => RSL A B c i 7 7 7).symm).trans (unpack3 (F := F) (rs_out (A := A) (B := B) (c := c)))
  refine (tri_rsPhase (V := V)).cons ?_ fun _ => ?_
  · iintro ⟨Hab, ⟨Ho, Hp⟩, Hl⟩
    isplitl [Hab]; · iexact Hab
    isplitl [Ho Hp]
    · isplitl [Ho] <;> iassumption
    iapply hin; iexact Hl
  · iintro ⟨Hab, Ho, Hp, Hl⟩
    isplitl [Hab]; · iexact Hab
    isplitl [Ho Hp]
    · isplitl [Ho] <;> iassumption
    iapply hout; iexact Hl

/-- The columns' reduction. -/
theorem tri_z :
    Tri A B K c iprop((owX c 28 ∗ pAt c (okOwn c) (pown A B c)) ∗ (bigSep Finset.univ fun j : Fin 2 => oAny c (zaRow j 0 c) 24)
        ∗ (bigSep Finset.univ fun j : Fin 2 => bigSep Finset.univ fun s : Fin 3 => IssK c (.zr j s))
        ∗ (bigSep Finset.univ fun j : Fin 2 => bigSep Finset.univ fun s : Fin 3 => RcvK c (.zr j s))
        ∗ (bigSep Finset.univ fun j : Fin 2 => bigSep Finset.univ fun q : Fin 2 => Idle c (.zs j q) 0)
        ∗ bigSep Finset.univ fun j : Fin 2 => bigSep Finset.univ fun q : Fin 2 => anyAt c (mems.zbS j q))
      (zPhase mems (tab c))
      (fun _ => iprop((owX c 34 ∗ pAt c (okOwn c) (pown A B c)) ∗ (bigSep Finset.univ fun j : Fin 2 => oPts A B c (zaRow j 0 c) 24)
        ∗ (bigSep Finset.univ fun j : Fin 2 => bigSep Finset.univ fun s : Fin 3 => Arr A B c (.zr j s))
        ∗ (bigSep Finset.univ fun j : Fin 2 => bigSep Finset.univ fun q : Fin 2 => Idle c (.zs j q) (2 - q.val))
        ∗ bigSep Finset.univ fun j : Fin 2 => bigSep Finset.univ fun q : Fin 2 => anyAt c (mems.zbS j q))) := by
  have hin := (pack4 (F := F) (z_in (A := A) (B := B) (c := c))).trans (Entails.of_eq (bigSep_two fun j => ZL A B c j 0 0 0))
  have hout := (Entails.of_eq (bigSep_two fun j => ZL A B c j 3 3 3).symm).trans (unpack3 (F := F) (z_out (A := A) (B := B) (c := c)))
  rw [bigSep_two fun j : Fin 2 => oAny c (zaRow j 0 c) 24, bigSep_two fun j : Fin 2 => oPts A B c (zaRow j 0 c) 24]
  refine tri_zPhase.cons ?_ fun _ => ?_
  · iintro ⟨⟨Ho, Hp⟩, Hr, Hl⟩
    isplitl [Ho Hp Hl]
    · isplitl [Hp]; · iexact Hp
      isplitl [Ho]; · iexact Ho
      iapply hin; iexact Hl
    iexact Hr
  · iintro ⟨⟨Hp, Ho, Hl⟩, Hr⟩
    isplitl [Ho Hp]
    · isplitl [Ho] <;> iassumption
    isplitl [Hr]; · iexact Hr
    iapply hout; iexact Hl

/-- The columns' gather. -/
theorem tri_za :
    Tri A B K c iprop(owX c 34
        ∗ (bigSep Finset.univ fun j : Fin 2 => bigSep Finset.univ fun s : Fin 3 => IssK c (.za j s))
        ∗ (bigSep Finset.univ fun j : Fin 2 => bigSep Finset.univ fun s : Fin 3 => RcvK c (.za j s))
        ∗ (bigSep Finset.univ fun j : Fin 2 => bigSep Finset.univ fun q : Fin 2 => Idle c (.zs j q) (2 - q.val))
        ∗ bigSep Finset.univ fun j : Fin 2 => oPts A B c (zaRow j 0 c) 24)
      (zaPhase mems (tab c))
      (fun _ => iprop(owX c 40
        ∗ (bigSep Finset.univ fun j : Fin 2 => bigSep Finset.univ fun s : Fin 3 => Got c (.za j s))
        ∗ (bigSep Finset.univ fun i : Fin 4 => oPts A B c (agRow i 0 c) 48)
        ∗ bigSep Finset.univ fun j : Fin 2 => bigSep Finset.univ fun q : Fin 2 => Idle c (.zs j q) (nr (.zs j q)))) := by
  have hin := (pack4 (F := F) (za_in (A := A) (B := B) (c := c))).trans (Entails.of_eq (bigSep_two fun j => ZA A B c 0 j))
  have hout := (Entails.of_eq (bigSep_two fun j => ZA A B c 3 j).symm).trans (unpack3 (F := F) (za_out (A := A) (B := B) (c := c)))
  rw [slv_fst] at hout
  exact tri_zaPhase.cons (sep_mono_right hin) fun _ => sep_mono_right hout

/-- The rings' gather. -/
theorem tri_ag :
    Tri A B K c iprop(owX c 40
        ∗ (bigSep Finset.univ fun i : Fin 4 => bigSep Finset.univ fun s : Fin 7 => IssK c (.ag i s))
        ∗ (bigSep Finset.univ fun i : Fin 4 => bigSep Finset.univ fun s : Fin 7 => RcvK c (.ag i s))
        ∗ (bigSep Finset.univ fun i : Fin 4 => bigSep Finset.univ fun q : Fin 2 => Idle c (.ss i q) (4 - q.val))
        ∗ bigSep Finset.univ fun i : Fin 4 => oPts A B c (agRow i 0 c) 48)
      (agPhase mems (tab c))
      (fun _ => iprop(owX c 68
        ∗ (bigSep Finset.univ fun i : Fin 4 => bigSep Finset.univ fun s : Fin 7 => Got c (.ag i s))
        ∗ (((c : Thread nD τ).loc cc0_stg2_0) ↦{fullShare} (oval A B : Buf (Elt F) ((c : Thread nD τ).loc cc0_stg2_0)))
        ∗ bigSep Finset.univ fun i : Fin 4 => bigSep Finset.univ fun q : Fin 2 => Idle c (.ss i q) (nr (.ss i q)))) := by
  have hin := (pack4 (F := F) (ag_in (A := A) (B := B) (c := c))).trans (Entails.of_eq (bigSep_fin4 fun i => (agL A B c i).at 0 0 0 (hO A B c 0 i)))
  have hout := (Entails.of_eq (bigSep_fin4 fun i => (agL A B c i).at 7 7 7 (hO A B c 7 i)).symm).trans (unpack3 (F := F) (ag_out (A := A) (B := B) (c := c)))
  rw [out_join] at hout
  exact tri_agPhase.cons (sep_mono_right hin) fun _ => sep_mono_right hout

/-! ## The whole body -/

def Start (A : Dev nD → Vec F S1536x768 .f32) (B : Dev nD → Vec F S768x1536 .f32) (c : Dev nD) : sProp 𝕄 :=
  iprop((aAt c (A c) ∗ bAt c (B c)) ∗ obX c 0 ∗ Keys c ∗ Creds c ∗ Scratch c ∗ oWhole c)
def Finish (A : Dev nD → Vec F S1536x768 .f32) (B : Dev nD → Vec F S768x1536 .f32) (c : Dev nD) : sProp 𝕄 :=
  iprop((aAt c (A c) ∗ bAt c (B c)) ∗ owX c 68 ∗ Ends c ∗ Scratch c
    ∗ (((c : Thread nD τ).loc cc0_stg2_0) ↦{fullShare} (oval A B : Buf (Elt F) ((c : Thread nD τ).loc cc0_stg2_0))))

/-- A landing buffer's slots once read. -/
theorem arr_out (e : Ev) (m : Memref sig .tc .vmem S48x1536 .f32) (h : rcvPay A B e c ⊢ anyAt c m) : Arr A B c e ⊢ iprop(Got c e ∗ anyAt (F := F) c m) := by
  unfold Arr; exact sep_mono_right h
theorem arr_out' (e : Ev) (m : Memref sig .tc .vmem S24x1536 .f32) (h : rcvPay A B e c ⊢ anyAt c m) : Arr A B c e ⊢ iprop(Got c e ∗ anyAt (F := F) c m) := by
  unfold Arr; exact sep_mono_right h
theorem arr_rs (c : Dev nD) : (bigSep Finset.univ fun i : Fin 4 => bigSep Finset.univ fun s : Fin 7 => Arr A B c (.rs i s))
    ⊢ iprop((bigSep Finset.univ fun i : Fin 4 => bigSep Finset.univ fun s : Fin 7 => Got (F := F) c (.rs i s)) ∗ bigSep Finset.univ fun i : Fin 4 => anyAt c (mems.rc i)) :=
  unpack2 fun i => (unpack2 fun s => arr_out (.rs i s) (mems.rcS i s) (owns_any _ _)).trans (sep_mono_right (rc_join c i))
theorem arr_zr (c : Dev nD) : (bigSep Finset.univ fun j : Fin 2 => bigSep Finset.univ fun s : Fin 3 => Arr A B c (.zr j s))
    ⊢ iprop((bigSep Finset.univ fun j : Fin 2 => bigSep Finset.univ fun s : Fin 3 => Got (F := F) c (.zr j s)) ∗ bigSep Finset.univ fun j : Fin 2 => anyAt c (mems.zr j)) :=
  unpack2 fun j => (unpack2 fun s => arr_out' (.zr j s) (mems.zrS j s) (owns_any _ _)).trans (sep_mono_right (zr_join c j))

theorem Idle.pos (c : Dev nD) (x : DC) (R : ℕ) : Idle (F := F) c x R ⊢ (atPos ER (gc (some x) c) R ∅ 0 : sProp 𝕄) := by
  unfold Idle
  iintro ⟨H, -⟩
  iexact H

/-- The cells' rounds are over once every event has arrived and every send semaphore is idle for good. -/
theorem ends (c : Dev nD) :
    iprop((bigSep Finset.univ fun i : Fin 4 => bigSep Finset.univ fun q : Fin 2 => Idle (F := F) c (.ss i q) (nr (.ss i q)))
      ∗ (bigSep Finset.univ fun j : Fin 2 => bigSep Finset.univ fun q : Fin 2 => Idle c (.zs j q) (nr (.zs j q))) ∗ bigSep Finset.univ fun e : Ev => Got c e)
    ⊢ bigSep Finset.univ fun x : DC => atPos ER (gc (some x) c) (nr x) ∅ 0 := by
  have h : ∀ (n : ℕ) (x : Fin n → Fin 2 → DC), (bigSep Finset.univ fun i => bigSep Finset.univ fun q => Idle (F := F) c (x i q) (nr (x i q)))
      ⊢ bigSep Finset.univ fun i => bigSep Finset.univ fun q => atPos ER (gc (some (x i q)) c) (nr (x i q)) ∅ 0 := fun n x =>
    bigSep_mono fun i _ => bigSep_mono fun q _ => Idle.pos c _ _
  rw [bigSep_dc]
  exact BI.sep_mono (h 4 fun i q => .ss i q) (sep_mono_left (h 2 fun j q => .zs j q))

theorem tri_body : Tri A B K c (Start A B c) (bodyOn mems (tab c)) (fun _ => Finish A B c) := by
  have hK : iprop((bigSep Finset.univ fun e : Ev => Tok (F := F) c e) ∗ bigSep Finset.univ fun e : Ev => dstAny e (tgt e c)) ⊢ bigSep Finset.univ fun e : Ev => IssK c e :=
    pack2 fun e => BI.Entails.refl _
  have hR : iprop((bigSep Finset.univ fun e : Ev => cred (tallyAt (rcell e c) () (amtE e))) ∗ bigSep Finset.univ fun e : Ev => atPos ER (gc (some (.rcv e)) c) 0 ∅ 0)
      ⊢ (bigSep Finset.univ fun e : Ev => RcvK (F := F) c e : sProp 𝕄) := pack2 fun e => BI.Entails.refl _
  have hsb : (bigSep Finset.univ fun i => bigSep Finset.univ fun q => anyAt (F := F) c (mems.sbS i q)) ⊢ bigSep Finset.univ fun i => anyAt c (mems.sb i) := bigSep_mono fun i _ => sb_join c i
  have hzb : (bigSep Finset.univ fun j => bigSep Finset.univ fun q => anyAt (F := F) c (mems.zbS j q)) ⊢ bigSep Finset.univ fun j => anyAt c (mems.zb j) := bigSep_mono fun j _ => zb_join c j
  have hp : anyAt (F := F) c mems.p ⊢ (iprop(∃ V, pAt c (fun _ => False) V) : sProp 𝕄) := by
    rw [any_whole c mems.p (View.set_whole _)]
    unfold pAt
    iintro ⟨%f, H⟩
    iexists (f : Vec F S1536x1536 .f32)
    iexists f
    isplitr; · ipureintro; exact fun _ h => h.elim
    iexact H
  have hp' : pAt c (okOwn c) (pown A B c) ⊢ (anyAt (F := F) c mems.p : sProp 𝕄) := by
    rw [any_whole c mems.p (View.set_whole _)]
    unfold pAt
    iintro ⟨%f, -, H⟩
    iexists f; iexact H
  unfold Start Keys Creds Tri bodyOn
  iintro ⟨#Hc, Hab, Ho, ⟨HatB, Hat, HtB, Htok⟩, ⟨HcB, Hcr⟩, Hs, Hout⟩
  ihave H := (rooms c) $$ [Hs Hout]
  · isplitl [Hs] <;> iassumption
  icases H with ⟨Hp, ⟨Hsb, Hzb⟩, Hz0, Hd⟩
  ihave H := hp $$ Hp
  icases H with ⟨%V, Hp⟩
  iapply Tri.use A B K c tri_barrier $$ [Ho HtB Hd HcB HatB]
  · isplitr; · iexact Hc
    isplitl [Ho]; · iexact Ho
    isplitl [HtB]; · iexact HtB
    isplitl [Hd]; · iexact Hd
    isplitl [HcB] <;> iassumption
  iintro %_ ⟨Ho, HatB, Hd⟩
  ihave Hk := hK $$ [Htok Hd]
  · isplitl [Htok] <;> iassumption
  ihave H := (Entails.of_eq (bigSep_dc fun x => atPos ER (gc (some x) c) 0 ∅ 0)) $$ Hat
  icases H with ⟨Has, Haz, Har⟩
  ihave Hr := hR $$ [Hcr Har]
  · isplitl [Hcr] <;> iassumption
  ihave His := (idles (A := A) (B := B) (K := K) (fun i q => DC.ss i q) c) $$ [Has]
  · isplitr; · iexact Hc
    iexact Has
  ihave Hiz := (idles (A := A) (B := B) (K := K) (fun i q => DC.zs i q) c) $$ [Haz]
  · isplitr; · iexact Hc
    iexact Haz
  ihave H := (Entails.of_eq (bigSep_ev fun e => IssK (F := F) c e)) $$ Hk
  icases H with ⟨⟨Hk1, Hk2⟩, Hk3, Hk4⟩
  ihave H := (Entails.of_eq (bigSep_ev fun e => RcvK (F := F) c e)) $$ Hr
  icases H with ⟨⟨Hr1, Hr2⟩, Hr3, Hr4⟩
  iapply Tri.use A B K c (tri_rs (V := V)) $$ [Hab Ho Hp Hk1 Hr1 His Hsb]
  · isplitr; · iexact Hc
    isplitl [Hab]; · iexact Hab
    isplitl [Ho Hp]
    · isplitl [Ho] <;> iassumption
    isplitl [Hk1]; · iexact Hk1
    isplitl [Hr1]; · iexact Hr1
    isplitl [His] <;> iassumption
  iintro %_ ⟨Hab, Hop, Hg1, His, Hsb⟩
  iapply Tri.use A B K c tri_z $$ [Hop Hz0 Hk2 Hr2 Hiz Hzb]
  · isplitr; · iexact Hc
    isplitl [Hop]; · iexact Hop
    isplitl [Hz0]; · iexact Hz0
    isplitl [Hk2]; · iexact Hk2
    isplitl [Hr2]; · iexact Hr2
    isplitl [Hiz] <;> iassumption
  iintro %_ ⟨⟨Ho, Hp⟩, Hz0, Hg2, Hiz, Hzb⟩
  iapply Tri.use A B K c tri_za $$ [Ho Hk3 Hr3 Hiz Hz0]
  · isplitr; · iexact Hc
    isplitl [Ho]; · iexact Ho
    isplitl [Hk3]; · iexact Hk3
    isplitl [Hr3]; · iexact Hr3
    isplitl [Hiz] <;> iassumption
  iintro %_ ⟨Ho, Hg3, Ha0, Hiz⟩
  iapply Tri.last A B K c tri_ag $$ [Ho Hk4 Hr4 His Ha0]
  · isplitr; · iexact Hc
    isplitl [Ho]; · iexact Ho
    isplitl [Hk4]; · iexact Hk4
    isplitl [Hr4]; · iexact Hr4
    isplitl [His] <;> iassumption
  iintro %_ ⟨Ho, Hg4, Hout, His⟩
  ihave H := (arr_rs c) $$ Hg1
  icases H with ⟨Hg1, Hrc⟩
  ihave H := (arr_zr c) $$ Hg2
  icases H with ⟨Hg2, Hzr⟩
  unfold Finish Ends Scratch
  isplitl [Hab]; · iexact Hab
  isplitl [Ho]; · iexact Ho
  isplitl [HatB His Hiz Hg1 Hg2 Hg3 Hg4]
  · isplitl [HatB]; · iexact HatB
    iapply (ends c)
    isplitl [His]; · iexact His
    isplitl [Hiz]; · iexact Hiz
    iapply (Entails.of_eq (bigSep_ev fun e => Got (F := F) c e).symm)
    isplitl [Hg1 Hg2]
    · isplitl [Hg1] <;> iassumption
    isplitl [Hg3] <;> iassumption
  isplitl [Hp Hsb Hrc Hzb Hzr]
  · isplitl [Hp]; · iapply hp'; iexact Hp
    isplitl [Hsb]; · iapply hsb; iexact Hsb
    isplitl [Hrc]; · iexact Hrc
    isplitl [Hzb]; · iapply hzb; iexact Hzb
    iexact Hzr
  iexact Hout

end Cert.KernelIdeal.Run

end
-- ==== Proof.Launch.lean ====
/-
  The launch: the memory the devices start from, the cells and tokens the launch deals them, the
  credit each starts with, and the run of the whole program.
-/
module

public import proofs.«01_k».proof.Proof.Body
public import Idealize.ShloMosaic.Lib.Pipeline.CollectiveSegs

@[expose] public section

set_option maxRecDepth 65536

noncomputable section

namespace Cert.KernelIdeal.Run

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

/-! ## The cells and their tokens -/

theorem gc_inj {x x' : Cell} {c c' : Dev nD} (h : gc x c = gc x' c') : x = x' ∧ c = c' :=
  ⟨csem_inj (congrArg Prod.snd h), congrArg (fun g : GSem nD τ sig => g.1.1) h⟩
theorem cell_inj : Function.Injective (fun ck : Dev nD × Cell => (gc ck.2 ck.1 : GSem nD τ sig)) := by
  rintro ⟨c, x⟩ ⟨c', x'⟩ h
  obtain ⟨rfl, rfl⟩ := gc_inj h
  rfl
def ringCells : Finset (GSem nD τ sig) := Finset.univ.map ⟨_, cell_inj⟩

/-- A device's own cells' duties: the barrier's four signals, each event's read of its source and its arrival. -/
abbrev Tk : Type := Fin 4 ⊕ (Ev ⊕ Ev)
def tokOf : Dev nD × Tk → GSem nD τ sig × ℕ × Fin 4
  | (c, .inl d) => (gc none c, 0, d)
  | (c, .inr (.inl e)) => (gc (some (sx e)) c, sr e, 0)
  | (c, .inr (.inr e)) => (rcell e c, 0, 0)
theorem sx_ne (e e' : Ev) : sx e ≠ .rcv e' := by cases e <;> exact fun h => by cases h
theorem tokOf_inj : Function.Injective tokOf := by
  rintro ⟨c, d | e | e⟩ ⟨c', d' | e' | e'⟩ h <;> obtain ⟨hx, hc⟩ := gc_inj (congrArg Prod.fst h) <;> subst hc
  · obtain rfl : d = d' := congrArg (fun x : GSem nD τ sig × ℕ × Fin 4 => x.2.2) h
    rfl
  · cases hx
  · cases hx
  · cases hx
  · have h1 : sx e = sx e' := Option.some.inj hx
    have h2 : sr e = sr e' := congrArg (fun x : GSem nD τ sig × ℕ × Fin 4 => x.2.1) h
    obtain rfl : e = e' := by rw [← sev_sx e, h1, h2, sev_sx]
    rfl
  · exact absurd (Option.some.inj hx) (sx_ne _ _)
  · cases hx
  · exact absurd (Option.some.inj hx).symm (sx_ne _ _)
  · cases hx; rfl
def ringToks : Finset (GSem nD τ sig × ℕ × Fin 4) := Finset.univ.map ⟨tokOf, tokOf_inj⟩

def u₀ : UU :=
  (initOf (Pipeline.cells cfgs cellOf_inj) (Pipeline.launchToks cfgs cellOf_inj), initOf ringCells ringToks)

/-- The tokens of a device's own cells; -/
def toks (c : Dev nD) : sProp 𝕄 :=
  iprop((bigSep Finset.univ fun d : Fin 4 => dutyTok ER (gc none c) 0 d)
    ∗ (bigSep Finset.univ fun e : Ev => dutyTok ER (gc (some (sx e)) c) (sr e) 0) ∗ bigSep Finset.univ fun e : Ev => dutyTok ER (rcell e c) 0 0)
/-- those of the duties it pays. -/
def payToks (c : Dev nD) : sProp 𝕄 :=
  iprop((bigSep Finset.univ fun d : Fin 4 => dutyTok ER (gc none (nbr d c)) 0 d) ∗ bigSep Finset.univ fun e : Ev => Tok (F := F) c e)

omit [FloatOps F] in
/-- What every device has of each kind, taken from the device a bijection names. -/
theorem around {I : Type} [Fintype I] [DecidableEq I] (σ : I → Dev nD ≃ Dev nD) (Φ : I → Dev nD → sProp 𝕄) :
    (bigSep Finset.univ fun c : Dev nD => bigSep Finset.univ fun i => Φ i c) = bigSep Finset.univ fun c : Dev nD => bigSep Finset.univ fun i => Φ i (σ i c) := by
  rw [← bigSep_univ_prod (fun ci : Dev nD × I => Φ ci.2 ci.1), ← bigSep_univ_prod (fun ci : Dev nD × I => Φ ci.2 (σ ci.2 ci.1))]
  exact bigSep_univ_equiv (⟨fun ci => (σ ci.2 ci.1, ci.2), fun ci => ((σ ci.2).symm ci.1, ci.2), fun ci => by simp, fun ci => by simp⟩ : Dev nD × I ≃ Dev nD × I) _

theorem toks_around : (bigSep Finset.univ fun c : Dev nD => (toks c : sProp 𝕄)) ⊢ bigSep Finset.univ fun c : Dev nD => payToks c := by
  unfold toks payToks Tok
  rw [bigSep_sep', bigSep_sep', bigSep_sep',
    around (fun d => ⟨nbr d, rbn d, fun c => rbn_nbr d c, fun c => nbr_rbn d c⟩) (fun d c => (dutyTok ER (gc none c) 0 d : sProp 𝕄)),
    around (fun e => ⟨tgt e, src e, fun c => src_tgt e c, fun c => tgt_src e c⟩) (fun e c => (dutyTok ER (rcell e c) 0 0 : sProp 𝕄)),
    bigSep_congr (s := Finset.univ) (fun (c : Dev nD) _ => bigSep_sep' Finset.univ (fun e : Ev => (dutyTok ER (rcell e (tgt e c)) 0 0 : sProp 𝕄)) (fun e => dutyTok ER (gc (some (sx e)) c) (sr e) 0)),
    bigSep_sep']
  iintro ⟨H1, H2, H3⟩
  isplitl [H1]; · iexact H1
  isplitl [H3] <;> iassumption

omit [FloatOps F] in
theorem bigSep_cell (Φ : Cell → sProp 𝕄) : bigSep Finset.univ Φ = iprop(Φ none ∗ bigSep Finset.univ fun x : DC => Φ (some x)) := by
  have h : (Finset.univ.erase none : Finset Cell) = Finset.univ.map Function.Embedding.some := by
    ext x; cases x <;> simp
  rw [bigSep_univ_at Φ none, h, bigSep_map]; rfl

/-! ## Dealing -/

section Deal
variable (A : Dev nD → Vec F S1536x768 .f32) (B : Dev nD → Vec F S768x1536 .f32)

/-- What the launch gives a device, -/
def G (c : Dev nD) : sProp 𝕄 :=
  iprop((bigSep Finset.univ fun x : Cell => roundState ER (Rd A B) (gc x c) 0)
    ∗ (bigSep Finset.univ fun x : Cell => iprop(atPos ER (gc x c) 0 ∅ 0 ∗ reached ER (gc x c) 0)) ∗ toks c)
/-- and what all devices together make of it. -/
def G' (c : Dev nD) : sProp 𝕄 :=
  iprop(∃ K : Dev nD × Cell → ℕ, ((bigSep Finset.univ fun ck : Dev nD × Cell => cellInv ER (Rd A B) (K ck) (gc ck.2 ck.1))
    ∗ bigSep Finset.univ fun ck : Dev nD × Cell => reached ER (gc ck.2 ck.1) 0) ∗ Keys c)

theorem fund_ring : BI.own (ER (initOf ringCells ringToks)) ⊢ (|==> bigSep Finset.univ (G A B) : sProp 𝕄) := by
  have hX (Φ : GSem nD τ sig → sProp 𝕄) : bigSep ringCells Φ = bigSep Finset.univ fun c : Dev nD => bigSep Finset.univ fun x : Cell => Φ (gc x c) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (Rd A B) ringCells ringToks) $$ HX with ⟨Hst, Hr, Hat, Htok⟩
  imodintro
  ihave Hst' := (Entails.of_eq (hX fun g => roundState ER (Rd A B) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) dsem c : sProp 𝕄)
    = bigSep Finset.univ fun x : DC => semVal (gc (some x) c) 0 := rfl
omit [FloatOps F] in
theorem unscopedSems0_eq (c : Dev nD) : (unscopedSems0 c : sProp 𝕄) = semVal (gc none c) 0 := by
  unfold unscopedSems0; rw [bigSep_eq_bigSepL_of_eq [SemLoc.reg bsem] (by decide +kernel) (by decide)]; rfl
theorem sems_eq (c : Dev nD) : iprop(unscopedSems0 c ∗ Pipeline.ownSems0 (Ix := Unit) (Name := ℕ) (U := UU) (Lvl := ℕ) (Val := Elt F) (τ := τ) dsem c) = (Zeros c : sProp 𝕄) := by
  rw [ownSems0_eq, unscopedSems0_eq]; rfl

theorem core_alloc (c : Dev nD) :
    iprop(Pipeline.ownSems0 (Ix := Unit) (Name := ℕ) (U := UU) (Lvl := ℕ) (Val := Elt F) (τ := τ) dsem c ∗ unscopedSems0 c ∗ G A B c)
      ⊢ |={Set.univ}=> iprop((bigSep Finset.univ fun x : Cell => iprop(∃ κ : ℕ, cellInv ER (Rd A B) κ (gc x c)))
          ∗ (bigSep Finset.univ fun x : Cell => iprop(atPos ER (gc x c) 0 ∅ 0 ∗ reached ER (gc x c) 0)) ∗ toks c) := by
  have hv : iprop(Pipeline.ownSems0 (Ix := Unit) (Name := ℕ) (U := UU) (Lvl := ℕ) (Val := Elt F) (τ := τ) dsem c ∗ unscopedSems0 c)
      ⊢ (bigSep Finset.univ fun x : Cell => semVal (gc x c) 0 : sProp 𝕄) := by
    rw [ownSems0_eq, unscopedSems0_eq, bigSep_cell]
    exact (sep_comm (PROP := sProp 𝕄)).1
  have hI : iprop((bigSep Finset.univ fun x : Cell => semVal (gc x c) 0) ∗ bigSep Finset.univ fun x : Cell => roundState ER (Rd A B) (gc x c) 0)
      ⊢ (|={Set.univ}=> bigSep Finset.univ fun x : Cell => iprop(∃ κ : ℕ, cellInv ER (Rd A B) κ (gc x c)) : sProp 𝕄) := by
    rw [← bigSep_sep']
    exact (bigSep_mono fun x _ => (Rounds.body_intro ER (Rd A B) (gc x c)).trans inv_alloc).trans (bigSep_fupd _ _)
  unfold G
  iintro ⟨Hos, Hus, Hst, Hat, Htok⟩
  ihave Hv := hv $$ [Hos Hus]
  · isplitl [Hos] <;> iassumption
  imod hI $$ [Hv Hst] with Hinv
  · isplitl [Hv] <;> iassumption
  imodintro
  isplitl [Hinv]; · iexact Hinv
  isplitl [Hat]; · iexact Hat
  iexact Htok

theorem keys_intro (c : Dev nD) : iprop((bigSep Finset.univ fun x : Cell => atPos ER (gc x c) 0 ∅ 0) ∗ payToks c) ⊢ (Keys c : sProp 𝕄) := by
  rw [bigSep_cell]
  unfold payToks Keys
  iintro ⟨⟨H1, H2⟩, H3, H4⟩
  isplitl [H1]; · iexact H1
  isplitl [H2]; · iexact H2
  isplitl [H3] <;> iassumption

theorem regroup :
    (bigSep Finset.univ fun c : Dev nD => iprop((bigSep Finset.univ fun x : Cell => iprop(∃ κ : ℕ, cellInv ER (Rd A B) κ (gc x c)))
          ∗ (bigSep Finset.univ fun x : Cell => iprop(atPos ER (gc x c) 0 ∅ 0 ∗ reached ER (gc x c) 0)) ∗ toks c) : sProp 𝕄)
      ⊢ bigSep Finset.univ (G' A B) := by
  rw [bigSep_sep', bigSep_sep', ← bigSep_univ_prod (fun ck : Dev nD × Cell => iprop(∃ κ : ℕ, cellInv ER (Rd A B) κ (gc ck.2 ck.1))),
    bigSep_congr (s := Finset.univ) (fun (c : Dev nD) _ => bigSep_sep' Finset.univ (fun x : Cell => (atPos ER (gc x c) 0 ∅ 0 : sProp 𝕄)) (fun x => reached ER (gc x c) 0)),
    bigSep_sep', ← bigSep_univ_prod (fun ck : Dev nD × Cell => (reached ER (gc ck.2 ck.1) 0 : sProp 𝕄))]
  have hk : ∀ (K : Dev nD × Cell → ℕ) (c : Dev nD), iprop(((bigSep Finset.univ fun ck : Dev nD × Cell => cellInv ER (Rd A B) (K ck) (gc ck.2 ck.1))
      ∗ bigSep Finset.univ fun ck : Dev nD × Cell => reached ER (gc ck.2 ck.1) 0) ∗ Keys c) ⊢ G' A B c := fun K c => by
    unfold G'
    iintro H
    iexists K
    iexact H
  have hm : iprop((bigSep Finset.univ fun c : Dev nD => bigSep Finset.univ fun x : Cell => atPos ER (gc x c) 0 ∅ 0) ∗ bigSep Finset.univ fun c : Dev nD => payToks c)
      ⊢ (bigSep Finset.univ fun c : Dev nD => Keys c : sProp 𝕄) :=
    (Entails.of_eq (bigSep_sep' Finset.univ _ _).symm).trans (bigSep_mono fun c _ => keys_intro c)
  iintro ⟨HI, ⟨Hat, #HR⟩, Htok⟩
  ihave HK := (BI.bigSep_exists_pi Finset.univ (fun (ck : Dev nD × Cell) (κ : ℕ) => (cellInv ER (Rd A B) κ (gc ck.2 ck.1) : sProp 𝕄))) $$ HI
  icases HK with ⟨%K, #HI⟩
  ihave Htk := (toks_around (F := F)) $$ Htok
  ihave Hkeys := hm $$ [Hat Htk]
  · isplitl [Hat] <;> iassumption
  iapply (with_ctx (P := iprop((bigSep Finset.univ fun ck : Dev nD × Cell => cellInv ER (Rd A B) (K ck) (gc ck.2 ck.1))
      ∗ bigSep Finset.univ fun ck : Dev nD × Cell => reached ER (gc ck.2 ck.1) 0)) fun c _ => hk K c)
  isplitr
  · isplitl; · iexact HI
    iexact HR
  iexact Hkeys

theorem glob : (bigSep Finset.univ fun c => iprop(Pipeline.ownSems0 (Ix := Unit) (Name := ℕ) (U := UU) (Lvl := ℕ) (Val := Elt F) (τ := τ) dsem c ∗ unscopedSems0 c ∗ G A B c) : sProp 𝕄)
    ⊢ |={Set.univ}=> bigSep Finset.univ (G' A B) :=
  ((bigSep_mono fun c _ => core_alloc A B c).trans (bigSep_fupd _ _)).trans (BI.fupd_mono (regroup A B))

end Deal

/-! ## The launch credit -/

theorem owed_bar (d c : Dev nD) : Ob d 0 (gc none c) () = ∑ k : Fin 4, if nbr k d = c then 1 else 0 := by
  have h0 : Ow d 0 (gc none c) () = 0 := by
    by_contra h
    obtain ⟨t, -, ht⟩ := Ow_pos (Nat.pos_of_ne_zero h)
    cases (gc_inj ht).1
  unfold Ob
  rw [Pi.add_apply, Finsupp.add_apply, h0, Nat.zero_add, Finset.filter_true_of_mem fun k _ => Nat.zero_le _, Finset.sum_apply, Finsupp.finset_sum_apply]
  refine Finset.sum_congr rfl fun k _ => ?_
  rw [tallyAt_apply]
  by_cases h : nbr k d = c
  · rw [if_pos h, h, if_pos ⟨rfl, rfl⟩]
  · rw [if_neg h, if_neg fun h' => h (gc_inj h'.1).2.symm]

theorem owed_rcv (e : Ev) (d c : Dev nD) : Ob d 0 (rcell e c) () = if d = src e c then amtE e else 0 := by
  have hb : (∑ k ∈ Finset.univ.filter (fun k : Fin 4 => 0 ≤ k.val), tallyAt (gc none (nbr k d)) () 1 : CellTallies nD τ sig Unit) (rcell e c) () = 0 := by
    rw [Finset.sum_apply, Finsupp.finset_sum_apply]
    refine Finset.sum_eq_zero fun k _ => ?_
    rw [tallyAt_apply, if_neg fun h => by cases (gc_inj h.1).1]
  unfold Ob
  rw [Pi.add_apply, Finsupp.add_apply, hb, Nat.add_zero]
  unfold Ow
  rw [Finset.sum_apply, Finsupp.finset_sum_apply]
  have ht : ∀ t ∈ Finset.Ico 0 68, owedE d t (rcell e c) () = if t = tm e then (if d = src e c then amtE e else 0) else 0 := by
    intro t ht
    unfold owedE
    rw [tallyAt_apply]
    by_cases h : evt t = e
    · have h1 : t = tm e := by rw [← h]; exact (tm_evt ⟨t, (Finset.mem_Ico.mp ht).2⟩).symm
      rw [if_pos h1, h]
      by_cases h2 : d = src e c
      · rw [if_pos h2, h2, tgt_src, if_pos ⟨rfl, rfl⟩]
      · rw [if_neg h2, if_neg fun h' => h2 (by rw [(gc_inj h'.1).2, src_tgt])]
    · rw [if_neg fun h' : t = tm e => h (by rw [h', evt_tm]), if_neg fun h' => h ?_]
      have h1 := Option.some.inj (gc_inj h'.1).1
      cases h1; rfl
  rw [Finset.sum_congr rfl ht, Finset.sum_ite_eq' (Finset.Ico 0 68) (tm e), if_pos (Finset.mem_Ico.mpr ⟨Nat.zero_le _, tm_lt e⟩)]

abbrev O₀ (c : Dev nD) : CellTallies nD τ sig Unit := Ob c 0

theorem launch_bar (c : Dev nD) :
    tallyOn (gc none c) (launchCredit (Pipeline.owing O₀) 0 (gc none c)) = (tallyAt (gc none c) () 4 : CellTallies nD τ sig Unit) := by
  unfold tallyAt; refine congrArg _ (Finsupp.ext fun u => ?_); cases u
  have h : ∀ k : Fin 4, (∑ d : Dev nD, if nbr k d = c then 1 else 0) = 1 := fun k => by
    rw [Finset.sum_congr rfl fun (d : Dev nD) _ => if_congr (show nbr k d = c ↔ d = rbn k c from ⟨fun h => by rw [← h, rbn_nbr], fun h => by rw [h, nbr_rbn]⟩) rfl rfl,
      Finset.sum_ite_eq' Finset.univ (rbn k c) fun _ => 1, if_pos (Finset.mem_univ _)]
  rw [Pipeline.launchCredit_owing, Finsupp.single_eq_same, Finset.sum_congr rfl fun d _ => owed_bar d c, Finset.sum_comm, Finset.sum_congr rfl fun k _ => h k]
  rfl

theorem launch_rcv (e : Ev) (c : Dev nD) :
    tallyOn (rcell e c) (launchCredit (Pipeline.owing O₀) 0 (rcell e c)) = (tallyAt (rcell e c) () (amtE e) : CellTallies nD τ sig Unit) := by
  unfold tallyAt; refine congrArg _ (Finsupp.ext fun u => ?_); cases u
  rw [Pipeline.launchCredit_owing, Finsupp.single_eq_same, Finset.sum_congr rfl fun d _ => owed_rcv e d c,
    Finset.sum_ite_eq' Finset.univ (src e c) fun _ => amtE e, if_pos (Finset.mem_univ _)]

theorem rcv_inj : Function.Injective (fun e : Ev => dsem (.rcv e)) := fun e e' h => by cases dsem_inj h; rfl

theorem creds (c : Dev nD) : (Pipeline.launchCred O₀ c : sProp 𝕄) ⊢ Creds c := by
  unfold Pipeline.launchCred Creds
  rw [bigSep_univ_at _ (SemLoc.reg bsem)]
  refine BI.sep_mono (Entails.of_eq (congrArg cred (launch_bar c))) ?_
  have hs : Finset.univ.map ⟨_, rcv_inj⟩ ⊆ (Finset.univ.erase (SemLoc.reg bsem) : Finset (SemLoc sig)) := fun q hq => by
    obtain ⟨e, -, rfl⟩ := Finset.mem_map.mp hq
    exact Finset.mem_erase.mpr ⟨dsem_ne _, Finset.mem_univ _⟩
  refine (bigSep_subset hs).trans ?_
  rw [bigSep_map]
  exact bigSep_mono fun e _ => Entails.of_eq (congrArg cred (launch_rcv e c))

/-! ## What waits on the staging cells -/

theorem Ob_pos {c : Dev nD} {g : GSem nD τ sig} {u : Unit} (h : 0 < Ob c 0 g u) : ∃ (x : Cell) (d : Dev nD), g = gc x d ∧ 0 < lvC x := by
  unfold Ob at h
  rw [Pi.add_apply, Finsupp.add_apply] at h
  rcases Nat.eq_zero_or_pos (Ow c 0 g u) with h0 | h0
  · rw [h0, Nat.zero_add, Finset.sum_apply, Finsupp.finset_sum_apply] at h
    obtain ⟨k, -, hp⟩ := Finset.exists_ne_zero_of_sum_ne_zero h.ne'
    rw [tallyAt_apply] at hp
    exact ⟨none, nbr k c, by by_contra hn; exact hp (if_neg fun h' => hn h'.1), Nat.one_pos⟩
  · obtain ⟨t, -, rfl⟩ := Ow_pos h0
    exact ⟨_, _, rfl, lvE_pos _⟩

theorem mayWait_stage (c : Dev nD) (q : SemLoc sig) (hq : ∀ x, csem x ≠ q) (O : CellTallies nD τ sig Unit) (hO : O = O₀ c ∨ O = 0) :
    (levAts L lv : sProp 𝕄) ⊢ MayWait (c : Thread nD τ) q () O := by
  have hd : dec q = none := by
    unfold dec; exact dif_neg fun ⟨x, hx⟩ => hq x hx
  rcases hO with rfl | rfl
  · refine MayOwe.of_cut (L := L) (lev := lv) 0 (fun p hp => by rw [Finset.mem_singleton.mp hp, L_tc]; exact Finset.mem_singleton_self _)
      (fun g u hg => by obtain ⟨x, d, rfl, -⟩ := Ob_pos hg; exact Finset.mem_singleton_self _)
      (fun p hp => by rw [Finset.mem_singleton.mp hp]; dsimp only [lv]; rw [hd])
      (fun g u hg => by obtain ⟨x, d, rfl, hx⟩ := Ob_pos hg; rw [lv_gc]; exact hx)
  · rw [MayWait_zero]; iintro -; iempintro

/-! ## The proof data -/

section Run
variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-- The parts of the two operands each device is given. -/
def opA (c : Dev nD) : Vec F S1536x768 .f32 := iblk m c 0 t0_0
def opB (c : Dev nD) : Vec F S768x1536 .f32 := iblk m c 1 t0_0

def start (c : Dev nD) : sProp 𝕄 := iprop((∃ K, ctx (opA m) (opB m) K) ∗ Keys c ∗ Creds c)
def Φ₀ (c : Dev nD) : sProp 𝕄 := iprop(start m c ∗ Scratch c)
def Φ₁ (c : Dev nD) : sProp 𝕄 := iprop(Zeros c ∗ Scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => opA m c
    | ⟨1, _⟩ => opB m c
    | ⟨2, _⟩ => oval (opA m) (opB m)
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre' (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt () t0_0.succ ∗ stg c cc0_stg0_0 (opA m c) ∗ stg c cc0_stg1_0 (opB m c) ∗ stg c cc0_stg2_0 (oval (opA m) (opB m)))

theorem sound_body (c : Dev nD) :
    bodyPre' m ρ c ⊢ wp frame (wpE (defs₀ (F := F)) 𝒱₀ (c : Thread nD τ) none) Set.univ (bodyAt0 t0_0) (fun _ => bodyPost m ρ c) := by
  have hA : ∀ d, (dats m ρ 0 c).before (0 : Fin 3) t0_0 d = opA m c := fun d => by
    unfold Dat.before; rw [if_pos (fetch0_0 t0_0)]; rfl
  have hB : ∀ d, (dats m ρ 0 c).before (1 : Fin 3) t0_0 d = opB m c := fun d => by
    unfold Dat.before; rw [if_pos (fetch0_1 t0_0)]; rfl
  rw [body_eq]
  rw [show (body mems : Pr F PUnit) = .op .deviceId fun d => bodyOn mems (printed d) from rfl, wp_deviceId, printed_eq]
  refine BIBase.Entails.trans ?_ (wp_fupd _ _ _ _ _)
  show bodyPre' m ρ c ⊢ wp frame (wpE (defs₀ (F := F)) 𝒱₀ (c : Thread nD τ) none) Set.univ (bodyOn mems (tab c)) (fun _ => iprop(|={Set.univ}=> bodyPost m ρ c))
  unfold bodyPre' Φ₀ start stg
  simp only [hA, hB]
  iintro ⟨⟨⟨⟨%K, #Hc⟩, Hk, Hcr⟩, Hs⟩, Ho, ⟨%d0, %f0, %e0, Ha⟩, ⟨%d1, %f1, %e1, Hb⟩, ⟨%d2, %f2, -, Hout⟩⟩
  unfold Dat.owesAt Pipeline.owesWithin
  icases Ho with ⟨%W, -, Ho⟩
  subst e0 e1
  iapply Tri.last (opA m) (opB m) K c tri_body $$ [Hk Hcr Hs Ho Ha Hb Hout]
  · isplitr; · iexact Hc
    unfold Start aAt bAt obX oWhole
    isplitl [Ha Hb]
    · isplitl [Ha]; · iexact Ha
      iexact Hb
    isplitl [Ho]; · iexists W; iexact Ho
    isplitl [Hk]; · iexact Hk
    isplitl [Hcr]; · iexact Hcr
    isplitl [Hs]; · iexact Hs
    iexists f2; iexact Hout
  unfold Finish aAt bAt owX
  iintro %_ ⟨⟨Ha, Hb⟩, ⟨%W', Ho⟩, He, Hs, Hout⟩
  imod (close_all (opA m) (opB m) K c) $$ [He] with Hz
  · isplitr; · iexact Hc
    iexact He
  imodintro
  unfold bodyPost Φ₁ Dat.owesAt Pipeline.owesWithin stg
  rw [show (dats m ρ 0 c).owed t0_0.succ = 0 from rfl, Ow_end]
  isplitl [Hz Hs]
  · isplitl [Hz] <;> iassumption
  isplitl [Ho]
  · iexists W'
    isplitr; · ipureintro; exact fun _ _ => Or.inl trivial
    iexact Ho
  isplitl [Ha]
  · iexists _; isplitr; · (ipureintro; rfl)
    iexact Ha
  isplitl [Hb]
  · iexists _; isplitr; · (ipureintro; rfl)
    iexact Hb
  iexists _; isplitr; · (ipureintro; rfl)
  iexact Hout

theorem body_obligation (c : Dev nD) : BodyObligation (dats (F := F) m ρ 0 c) (defs₀ (F := F)) 𝒱₀ () Set.univ := fun t => by
  rw [fin_N0 t]
  rw [bigSep_W, bigSep_W]
  simp only [owns_whole_eq]
  exact sound_body m ρ c

/-! ## The run -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (opA m) (opB m) c)
      ⊢ |={Set.univ}=> iprop(start m c ∗ emp) := by
  unfold start G' ctx
  iintro ⟨-, Hlev, Hcr, -, ⟨%K, ⟨HI, HR⟩, Hk⟩⟩
  ihave Hc := (creds (F := F) c) $$ Hcr
  imodintro
  isplitl
  · isplitl [HI HR Hlev]
    · iexists K
      isplitl [HI]; · iexact HI
      isplitl [HR] <;> iassumption
    isplitl [Hk] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scratch_eq c).1; iexact Hr

theorem phi1_exit (c : Dev nD) :
    (dats m ρ 0 c).Φ (Fin.last cfg0.N) ⊢ iprop(unscopedSems0 c ∗ Pipeline.ownSems0 dsem c ∗ Pipeline.scopedRest cfg0.spec c) := by
  rw [show (dats m ρ 0 c).Φ (Fin.last cfg0.N) = Φ₁ c from rfl]
  unfold Φ₁
  rw [← sems_eq]
  iintro ⟨⟨H1, H2⟩, Hs⟩
  isplitl [H1]; · iexact H1
  isplitl [H2]; · iexact H2
  iapply (scratch_eq c).2; iexact Hs

theorem waits (c : Dev nD) : (levAts L lv : sProp 𝕄) ⊢ Pipeline.cellsWaits cfgs (dats m ρ) () 0 c :=
  Pipeline.cellsWaits_intro cfgs (dats m ρ) () 0 c fun w s t =>
    mayWait_stage c _ (by revert w s; decide +kernel) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters every fair run of the program on all devices ends, with each
    device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (opA m) (opB m)) (G' := G' (opA m) (opB m)) (u₀ := u₀)
    (hu₀ := by
      unfold u₀
      iintro Hu
      ihave H := (ownU_pair _ _) $$ Hu
      icases H with ⟨HP, HX⟩
      imod (fund_ring (opA m) (opB m)) $$ HX with HG
      imodintro
      isplitl [HP] <;> iassumption)
    (hglob := glob (opA m) (opB m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays hold what they held. -/
theorem finalA_0 (c : Dev nD) : finalA m ρ c (0 : Fin 3) = m ((c : Thread nD τ).loc main_arg0) := (dats (F := F) m ρ 0 c).arrAt_in (0 : Fin 3) rfl _
theorem finalA_1 (c : Dev nD) : finalA m ρ c (1 : Fin 3) = m ((c : Thread nD τ).loc main_arg1) := (dats (F := F) m ρ 0 c).arrAt_in (1 : Fin 3) rfl _

end Run

end Cert.KernelIdeal.Run

end
-- ==== Proof.Frames.lean ====
/- The three frames: the run ends, every counter is zero again, and the two arguments hold what they held. -/
module

public import proofs.«01_k».proof.Defs
public import proofs.«01_k».proof.Proof.Gen.Kernel
public import proofs.«01_k».proof.Proof.Launch
public import proofs.«01_k».proof.Proof.Gen.ReferenceIdeal.Run
public import Idealize.ShloMosaic.Lib.Quiescent

@[expose] public section

set_option maxRecDepth 65536

noncomputable section

namespace Cert.Proof

open Idealize.ShloMosaic Idealize.ShloMosaic.TcCoe Idealize.SL.Sem

theorem frame_ideal : Cert.quiescent_KernelIdeal := fun m ρ _ =>
  (θ_run Cert.KernelIdeal.defs _ _).mono
    (fun _ h => ⟨fun c => ⟨(h.1 c 0).trans (Cert.KernelIdeal.Run.finalA_0 m ρ c),
      (h.1 c 1).trans (Cert.KernelIdeal.Run.finalA_1 m ρ c)⟩, h.2⟩)
    (Cert.KernelIdeal.Run.run_main m ρ)

/-- The run over bits, of the program that is also read over the extended reals. -/
theorem run_bits (m : (ℓ : Loc Cert.KernelIdeal.nD Cert.KernelIdeal.τ Cert.KernelIdeal.sig) → Buf (Elt Bits) ℓ)
    (ρ : Dev Cert.KernelIdeal.nD → PrngReg) :
    θ_run Cert.KernelIdeal.defs (onTc (τ := Cert.KernelIdeal.τ) (Cert.KernelIdeal.main (F := Bits))) ⟨m, fun _ => 0, ρ⟩
      (fun r => (∀ c : Dev Cert.KernelIdeal.nD,
          r.2.mem (c.tc.loc Cert.KernelIdeal.main_arg0) = m (c.tc.loc Cert.KernelIdeal.main_arg0)
            ∧ r.2.mem (c.tc.loc Cert.KernelIdeal.main_arg1) = m (c.tc.loc Cert.KernelIdeal.main_arg1))
        ∧ r.2.sem = fun _ => 0) :=
  (θ_run Cert.KernelIdeal.defs _ _).mono
    (fun _ h => ⟨fun c => ⟨(h.1 c 0).trans (Cert.KernelIdeal.Run.finalA_0 m ρ c),
      (h.1 c 1).trans (Cert.KernelIdeal.Run.finalA_1 m ρ c)⟩, h.2⟩)
    (Cert.KernelIdeal.Run.run_main (F := Bits) m ρ)

/-! ## The two programs have the same text -/

theorem defs₀_eq : Cert.KernelIdeal.defs₀ (F := Bits) = Cert.Kernel.defs₀ (F := Bits) := by
  refine congrArg Defs.onTc ?_
  funext l a
  match l, a with
  | 0, (_, _) => rfl
  | ⟨n + 1, h⟩, _ => exact absurd h (by omega)
theorem defs_eq : Cert.KernelIdeal.defs (F := Bits) = Cert.Kernel.defs (F := Bits) :=
  congrArg (Pipeline.defs (Cert.Kernel.pcfgs (F := Bits))) defs₀_eq

theorem frame_kernel : Cert.quiescent_Kernel := by
  intro m ρ _
  rw [← defs_eq]
  exact run_bits m ρ

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

end Cert.Proof

end
-- ==== Proof.Value.lean ====
/-
  The value, over the extended reals: the result array ends holding, at every index, the larger of
  zero and the sum over all devices of their products there.
-/
module

public import proofs.«01_k».proof.Proof.Launch
public import Idealize.ShloMosaic.Lib.Pipeline.Value
public import Idealize.ShloMosaic.Lib.MatmulPlain
public import Idealize.ShloMosaic.Lib.ValueIdx
public import Idealize.ShloMosaic.PureOps.Ideal.Laws

@[expose] public section

set_option maxRecDepth 65536

noncomputable section

namespace Cert.KernelIdeal.Run

open Idealize.ShloMosaic Idealize.ShloMosaic.TcCoe Idealize.ShloMosaic.ValueIdx
open Idealize.SL.Sem
open Cert.KernelIdeal Cert.KernelIdeal.Gen
open scoped BigOperators

/-! ## What the devices' arrays hold, for any floats -/

section Arrays

variable {F : FTy → Type} [FloatOps F]
variable (m : (ℓ : Loc nD τ sig) → Buf (Elt F) ℓ) (ρ : Dev nD → PrngReg)

theorem opA_eq (c : Dev nD) : opA m c = m ((c : Thread nD τ).loc main_arg0) := by
  have hz : (fun a => win0_0.index t0_0 a * main_arg0.ty.shape.size a) = fun _ => 0 := funext fun a => by fin_cases a <;> decide
  exact Memref.read_access_unit_zero (Elt F) main_arg0 hz (fun a => by rw [congrFun hz a]; simp) (m ((c : Thread nD τ).loc main_arg0))

theorem opB_eq (c : Dev nD) : opB m c = m ((c : Thread nD τ).loc main_arg1) := by
  have hz : (fun a => win0_1.index t0_0 a * main_arg1.ty.shape.size a) = fun _ => 0 := funext fun a => by fin_cases a <;> decide
  exact Memref.read_access_unit_zero (Elt F) main_arg1 hz (fun a => by rw [congrFun hz a]; simp) (m ((c : Thread nD τ).loc main_arg1))

theorem flushed_eq (c : Dev nD) (t : Fin cfg0.N) (_ : (cfg0.win 2).flush t = true) :
    (dats m ρ 0 c).flushed 2 t = ((cfg0.win 2).blk t).view.read (Elt F) (oval (opA m) (opB m)) := by
  obtain rfl : t = t0_0 := Fin.ext (Nat.lt_one_iff.mp (show t.val < 1 from t.isLt))
  have hz : (fun a => win0_2.index t0_0 a * main_v1.ty.shape.size a) = fun _ => 0 := funext fun a => by fin_cases a <;> decide
  show (cfg0.win 2).cut (grid0.coords t0_0) ((dats m ρ 0 c).after 2 t0_0) = _
  exact (Memref.read_access_unit_zero (Elt F) main_v1 hz (fun a => by rw [congrFun hz a]; simp) (oval (opA m) (opB m))).symm

theorem finalA_2 (c : Dev nD) : finalA m ρ c 2 = oval (opA m) (opB m) :=
  (dats m ρ 0 c).arrAt_eq_of_cover 2 (oval (opA m) (opB m)) (flushed_eq m ρ c) fun i =>
    ⟨t0_0, flush0_2 t0_0, by
      show i ∈ ((View.whole main_v1).slice (win0_2.rect t0_0)).set
      rw [View.set_slice_whole, Rect.mem_set_unit]
      intro a
      have h0 : (i 0 : Nat) < 1536 := (i 0).isLt
      have h1 : (i 1 : Nat) < 1536 := (i 1).isLt
      match a with
      | ⟨0, _⟩ => show win0_2.index t0_0 0 * win0_2.size 0 ≤ (i 0 : Nat) ∧ (i 0 : Nat) < win0_2.index t0_0 0 * win0_2.size 0 + win0_2.xsize (grid0.coords t0_0) 0
                  rw [show win0_2.index t0_0 0 * win0_2.size 0 = 0 from by decide +kernel, show win0_2.xsize (grid0.coords t0_0) 0 = 1536 from by decide +kernel]; omega
      | ⟨1, _⟩ => show win0_2.index t0_0 1 * win0_2.size 1 ≤ (i 1 : Nat) ∧ (i 1 : Nat) < win0_2.index t0_0 1 * win0_2.size 1 + win0_2.xsize (grid0.coords t0_0) 1
                  rw [show win0_2.index t0_0 1 * win0_2.size 1 = 0 from by decide +kernel, show win0_2.xsize (grid0.coords t0_0) 1 = 1536 from by decide +kernel]; omega⟩

end Arrays

/-! ## Devices and rows the sums run over -/

/-- Going back around its ring eight times a device meets its plane's eight devices, in some order. -/
theorem ring_all (i : Fin 4) (c : Dev nD) :
    (Multiset.range 8).map (fun k => (bwd i)^[k] c) = (Multiset.range 8).map (devAt (pl c)) := by
  revert i c; decide +kernel
/-- Going down its column four times it meets the four planes. -/
theorem col_all (j : Fin 2) (c : Dev nD) :
    (Multiset.range 4).map (fun k => pl ((dn j)^[k] c)) = Multiset.range 4 := by
  revert j c; decide +kernel
/-- Every device is at one place of one plane. -/
theorem dev_all : ((Finset.range 4 ×ˢ Finset.range 8).val.map fun p => devAt p.1 p.2) = (Finset.univ : Finset (Dev nD)).val := by
  decide +kernel

theorem rsRow_succ (i : Fin 4) (n : Fin 7) (c : Dev nD) : rsRow i n.val (bwd i c) = rsRow i (n.val + 1) c := by
  revert i n c; decide +kernel
theorem zsRow_succ (j : Fin 2) (n : Fin 3) (c : Dev nD) : zsRow j n.val (dn j c) = zsRow j (n.val + 1) c := by
  revert j n c; decide +kernel
theorem owner_row (h : Fin 2) (b : Fin 8) (t : Fin 4) :
    zsRow h 3 (ownerOf h.val b.val t.val) = 192 * b.val + 96 * h.val + 24 * t.val := by
  revert h b t; decide +kernel

variable (A : Dev nD → Vec Ideal S1536x768 .f32) (B : Dev nD → Vec Ideal S768x1536 .f32)

/-! ## The blocks of the product -/

/-- A device's product at an index. -/
def prodAt (c : Dev nD) (x : S1536x1536.Idx) : EReal := ∑ k : Fin 768, A c (ix2 (x 0) k) * B c (ix2 k (x 1))

theorem ldA_apply {n : ℕ} (a : ℕ) (h : a + n ≤ 1536) (f : Vec Ideal S1536x768 .f32) (r : Fin n) (k : Fin 768) :
    ldA (rowA a h) f (ix2 r k) = f (ix2 ⟨a + r.val, by omega⟩ k) := by
  unfold ldA; congr 1; funext b; apply Fin.ext
  match b with
  | ⟨0, _⟩ => show a + 1 * r.val = a + r.val; omega
  | ⟨1, _⟩ => show 0 + 1 * k.val = k.val; omega
theorem ldP_apply {n : ℕ} (a : ℕ) (h : a + n ≤ 1536) (f : Vec Ideal S1536x1536 .f32) (r : Fin n) (k : Fin 1536) :
    ldP (rowP a h) f (ix2 r k) = f (ix2 ⟨a + r.val, by omega⟩ k) := by
  unfold ldP; congr 1; funext b; apply Fin.ext
  match b with
  | ⟨0, _⟩ => show a + 1 * r.val = a + r.val; omega
  | ⟨1, _⟩ => show 0 + 1 * k.val = k.val; omega
theorem ldB_eq (f : Vec Ideal S768x1536 .f32) : ldB f = f := by
  funext x; unfold ldB; congr 1; funext b; apply Fin.ext
  match b with
  | ⟨0, _⟩ => show 0 + 1 * (x 0).val = (x 0).val; omega
  | ⟨1, _⟩ => show 0 + 1 * (x 1).val = (x 1).val; omega

theorem dot192 : dot_S192x768_S768x1536_S192x1536_1_0_0_1_n_n = DotDims.plain 192 768 1536 := rfl
theorem dot96 : dot_S96x768_S768x1536_S96x1536_1_0_0_1_n_n = DotDims.plain 96 768 1536 := rfl

/-- A product into the zero array, read at an index. -/
theorem mm_apply {M : ℕ} (l : FVec Ideal ⟨2, ![M, 768]⟩ .f32) (r : FVec Ideal ⟨2, ![768, 1536]⟩ .f32) (p : Fin M) (q : Fin 1536) :
    matmul (DotDims.plain M 768 1536) none l r (constant ⟨2, ![M, 1536]⟩ .f32 0x00000000#32) (ix2 p q)
      = ∑ k : Fin 768, l (ix2 p k) * r (ix2 k q) := by
  refine (Ideal.matmul_plain_apply none l r _ p q).trans ?_
  show Ideal.ofBits .f32 0x00000000#32 + _ = _
  rw [Ideal.ofBits_zero_f32, zero_add]

theorem blk0_apply (c : Dev nD) (r : Fin 192) (q : Fin 1536) :
    blk0 A B c (ix2 r q) = prodAt A B c (ix2 ⟨mmRow 0 0 c + r.val, by have := row0_le c; omega⟩ q) := by
  unfold blk0 k0_pay1
  rw [shapeCast_self, shapeCast_self, shapeCast_self, dot192, ldB_eq]
  refine (mm_apply _ _ r q).trans (Finset.sum_congr rfl fun k _ => ?_)
  rw [ldA_apply]
theorem blk_apply (h : Fin 2) (n : ℕ) (c : Dev nD) (r : Fin 96) (q : Fin 1536) :
    blk A B h n c (ix2 r q) = prodAt A B c (ix2 ⟨mmRow h n c + r.val, by have := mmRow_le h n c; omega⟩ q) := by
  unfold blk k0_pay6
  rw [shapeCast_self, shapeCast_self, shapeCast_self, dot96, ldB_eq]
  refine (mm_apply _ _ r q).trans (Finset.sum_congr rfl fun k _ => ?_)
  rw [ldA_apply]

/-- Every row of the product's array holds the device's product. -/
theorem pval_apply (c : Dev nD) (x : S1536x1536.Idx) : pval A B c x = prodAt A B c x := by
  have hx : (x 0).val < 1536 := (x 0).isLt
  have hp := pos_lt c
  unfold pval
  split
  · next h =>
    refine (blk0_apply A B c _ (x 1)).trans ?_
    congr 1
    rw [eq_ix2 x]; congr 1; apply Fin.ext
    show 192 * ((pos c + 8) % 8) + 96 * 0 + (x 0).val % 192 = (x 0).val
    unfold dist at h
    split at h <;> omega
  · next h =>
    refine (blk_apply A B _ _ c _ (x 1)).trans ?_
    congr 1
    rw [eq_ix2 x]; congr 1; apply Fin.ext
    show 192 * ((pos c + if (x 0).val % 192 / 96 < 1 then 8 - dist ((x 0).val % 192 / 96) ((x 0).val / 192) c else dist ((x 0).val % 192 / 96) ((x 0).val / 192) c) % 8)
      + 96 * ((x 0).val % 192 / 96) + (x 0).val % 96 = (x 0).val
    unfold dist
    split <;> omega

/-! ## The rings -/

theorem unb48_box48 (x : Vec Ideal S48x1536 .f32) : unb48 (box48 x) = x := shapeCast_shapeCast x _ _
theorem unb24_box24 (x : Vec Ideal S24x1536 .f32) : unb24 (box24 x) = x := shapeCast_shapeCast x _ _

theorem vs_zero (i : Fin 4) (c : Dev nD) : vs A B i 0 c = pv A B i 0 c := by
  show unb48 (box48 (pv A B i 0 c)) = _
  rw [unb48_box48]
theorem vs_succ (i : Fin 4) (n : ℕ) (c : Dev nD) :
    vs A B i (n + 1) c = addf (pv A B i (n + 1) c) (vs A B i n (bwd i c)) := by
  show unb48 (box48 (addf (pv A B i (n + 1) c) (unb48 (box48 (vs A B i n (bwd i c)))))) = _
  rw [unb48_box48, unb48_box48]
theorem rsT_eq (i : Fin 4) (c : Dev nD) : rsT A B i c = addf (pv A B i 7 c) (vs A B i 6 (bwd i c)) := by
  show shapeCast S48x1536 (addf (pv A B i 7 c) (unb48 (box48 (vs A B i 6 (bwd i c))))) _ = _
  rw [shapeCast_self, unb48_box48]

theorem pv_apply (i : Fin 4) (n : ℕ) (c : Dev nD) (r : Fin 48) (q : Fin 1536) :
    pv A B i n c (ix2 r q) = prodAt A B c (ix2 ⟨rsRow i n c + r.val, by have := rsRow_le i n c; omega⟩ q) := by
  unfold pv; rw [ldP_apply, pval_apply]

/-- The partial sum a device sends on at step `n`: the products, at the same rows, of the `n + 1` devices back along the ring. -/
theorem vs_apply (i : Fin 4) (r : Fin 48) (q : Fin 1536) (n : ℕ) (hn : n < 8) (c : Dev nD) :
    vs A B i n c (ix2 r q) = ∑ k ∈ Finset.range (n + 1),
      prodAt A B ((bwd i)^[k] c) (ix2 ⟨rsRow i n c + r.val, by have := rsRow_le i n c; omega⟩ q) := by
  induction n generalizing c with
  | zero => rw [vs_zero, pv_apply, Finset.sum_range_one (M := EReal)]; rfl
  | succ n ih =>
    rw [vs_succ, addf_apply, pv_apply, ih (by omega), Finset.sum_range_succ' (M := EReal) _ (n + 1)]
    refine (add_comm _ _).trans ?_
    congr 1
    refine Finset.sum_congr rfl fun k _ => ?_
    rw [Function.iterate_succ_apply]
    congr 2; apply Fin.ext
    show rsRow i n (bwd i c) + r.val = rsRow i (n + 1) c + r.val
    rw [← rsRow_succ i ⟨n, by omega⟩ c]

/-- The sum of a plane's products. -/
def planeAt (p : ℕ) (x : S1536x1536.Idx) : EReal := ∑ k ∈ Finset.range 8, prodAt A B (devAt p k) x

theorem ring_sum (i : Fin 4) (c : Dev nD) (f : Dev nD → EReal) :
    ∑ k ∈ Finset.range 8, f ((bwd i)^[k] c) = ∑ k ∈ Finset.range 8, f (devAt (pl c) k) := by
  have h := congrArg (fun s => (s.map f).sum) (ring_all i c)
  simp only [Multiset.map_map] at h
  exact h
theorem col_sum (j : Fin 2) (c : Dev nD) (f : ℕ → EReal) :
    ∑ k ∈ Finset.range 4, f (pl ((dn j)^[k] c)) = ∑ k ∈ Finset.range 4, f k := by
  have h := congrArg (fun s => (s.map f).sum) (col_all j c)
  simp only [Multiset.map_map] at h
  exact h
theorem dev_sum (f : Dev nD → EReal) : ∑ p ∈ Finset.range 4, ∑ k ∈ Finset.range 8, f (devAt p k) = ∑ d, f d := by
  rw [← Finset.sum_product' (Finset.range 4) (Finset.range 8) fun p k => f (devAt p k)]
  have h := congrArg (fun s => (s.map f).sum) dev_all
  simp only [Multiset.map_map] at h
  exact h

theorem rsT_apply (i : Fin 4) (c : Dev nD) (r : Fin 48) (q : Fin 1536) :
    rsT A B i c (ix2 r q) = planeAt A B (pl c) (ix2 ⟨rsRow i 7 c + r.val, by have := rsRow_le i 7 c; omega⟩ q) := by
  rw [rsT_eq, ← vs_succ, vs_apply A B i r q 7 (by omega) c]
  exact ring_sum i c fun d => prodAt A B d _

/-- On the rows a device keeps it holds its plane's sum. -/
theorem pown_apply (c : Dev nD) (x : S1536x1536.Idx)
    (hx : (x 0).val / 192 = (pos c + if (x 0).val % 192 / 96 < 1 then 1 else 7) % 8) :
    pown A B c x = planeAt A B (pl c) x := by
  unfold pown
  refine (rsT_apply A B _ c _ (x 1)).trans ?_
  congr 1
  rw [eq_ix2 x]; congr 1; apply Fin.ext
  have hb : (x 0).val < 1536 := (x 0).isLt
  have h2 : (2 * ((x 0).val % 192 / 96) + (x 0).val % 96 / 48) / 2 = (x 0).val % 192 / 96 := by omega
  show 192 * ((pos c + if (2 * ((x 0).val % 192 / 96) + (x 0).val % 96 / 48) / 2 < 1 then 8 - 7 else 7) % 8)
    + 96 * ((2 * ((x 0).val % 192 / 96) + (x 0).val % 96 / 48) / 2) + 48 * ((2 * ((x 0).val % 192 / 96) + (x 0).val % 96 / 48) % 2)
    + (x 0).val % 48 = (x 0).val
  rw [h2]
  by_cases h0 : (x 0).val % 192 / 96 < 1
  · rw [if_pos h0] at hx ⊢; omega
  · rw [if_neg h0] at hx ⊢; omega

/-! ## The columns -/

theorem zp_apply (j : Fin 2) (n : ℕ) (c : Dev nD) (r : Fin 24) (q : Fin 1536) :
    zp A B j n c (ix2 r q) = planeAt A B (pl c) (ix2 ⟨zsRow j n c + r.val, by have := zsRow_le j n c; omega⟩ q) := by
  unfold zp; rw [ldP_apply]
  refine pown_apply A B c _ ?_
  show (zsRow j n c + r.val) / 192 = (pos c + if (zsRow j n c + r.val) % 192 / 96 < 1 then 1 else 7) % 8
  have hz : zsRow j n c = 192 * ((pos c + if j.val < 1 then 8 - 7 else 7) % 8) + 96 * j.val + 24 * ((pl c + if j.val < 1 then 4 - n else n) % 4) := rfl
  rw [hz]
  have hr := r.isLt
  have hj := j.isLt
  have hl := Nat.mod_lt (pl c + if j.val < 1 then 4 - n else n) (show 0 < 4 by decide)
  generalize (pl c + if j.val < 1 then 4 - n else n) % 4 = t at hl ⊢
  have hp := Nat.mod_lt (pos c + if j.val < 1 then 8 - 7 else 7) (show 0 < 8 by decide)
  have hh : (192 * ((pos c + if j.val < 1 then 8 - 7 else 7) % 8) + 96 * j.val + 24 * t + r.val) % 192 / 96 = j.val := by omega
  rw [hh]
  show _ = (pos c + if j.val < 1 then 8 - 7 else 7) % 8
  omega

theorem zv_zero (j : Fin 2) (c : Dev nD) : zv A B j 0 c = zp A B j 0 c := by
  show unb24 (box24 (zp A B j 0 c)) = _
  rw [unb24_box24]
theorem zv_succ (j : Fin 2) (n : ℕ) (c : Dev nD) :
    zv A B j (n + 1) c = addf (zp A B j (n + 1) c) (zv A B j n (dn j c)) := by
  show unb24 (box24 (addf (zp A B j (n + 1) c) (unb24 (box24 (zv A B j n (dn j c)))))) = _
  rw [unb24_box24, unb24_box24]
theorem zF_eq (j : Fin 2) (c : Dev nD) : zF A B j c = maximumf (zv A B j 3 c) (broadcast S24x1536 (Scalar.ofBits .f32 0x00000000#32)) := by
  rw [zv_succ]
  show maximumf (addf (zp A B j 3 c) (unb24 (box24 (zv A B j 2 (dn j c))))) _ = _
  rw [unb24_box24]

theorem zv_apply (j : Fin 2) (r : Fin 24) (q : Fin 1536) (n : ℕ) (hn : n < 4) (c : Dev nD) :
    zv A B j n c (ix2 r q) = ∑ k ∈ Finset.range (n + 1),
      planeAt A B (pl ((dn j)^[k] c)) (ix2 ⟨zsRow j n c + r.val, by have := zsRow_le j n c; omega⟩ q) := by
  induction n generalizing c with
  | zero => rw [zv_zero, zp_apply, Finset.sum_range_one (M := EReal)]; rfl
  | succ n ih =>
    rw [zv_succ, addf_apply, zp_apply, ih (by omega), Finset.sum_range_succ' (M := EReal) _ (n + 1)]
    refine (add_comm _ _).trans ?_
    congr 1
    refine Finset.sum_congr rfl fun k _ => ?_
    rw [Function.iterate_succ_apply]
    congr 2; apply Fin.ext
    show zsRow j n (dn j c) + r.val = zsRow j (n + 1) c + r.val
    rw [← zsRow_succ j ⟨n, by omega⟩ c]

theorem zF_apply (j : Fin 2) (c : Dev nD) (r : Fin 24) (q : Fin 1536) :
    zF A B j c (ix2 r q) = max (∑ d, prodAt A B d (ix2 ⟨zsRow j 3 c + r.val, by have := zsRow_le j 3 c; omega⟩ q)) 0 := by
  rw [zF_eq, maximumf_apply, zv_apply A B j r q 3 (by omega) c]
  show max _ (Ideal.ofBits .f32 0x00000000#32) = _
  rw [Ideal.ofBits_zero_f32, col_sum j c fun p => planeAt A B p _]
  unfold planeAt
  rw [dev_sum fun d => prodAt A B d _]

/-- The result. -/
theorem oval_apply (x : S1536x1536.Idx) : oval A B x = max (∑ d, prodAt A B d x) 0 := by
  have hb : (x 0).val < 1536 := (x 0).isLt
  unfold oval
  refine (zF_apply A B _ _ _ (x 1)).trans ?_
  have e := owner_row ⟨(x 0).val % 192 / 96, by omega⟩ ⟨(x 0).val / 192, by omega⟩ ⟨(x 0).val % 96 / 24, by omega⟩
  have hx : (ix2 ⟨zsRow ⟨(x 0).val % 192 / 96, by omega⟩ 3 (ownerOf ((x 0).val % 192 / 96) ((x 0).val / 192) ((x 0).val % 96 / 24)) + (x 0).val % 24, by
      have := zsRow_le ⟨(x 0).val % 192 / 96, by omega⟩ 3 (ownerOf ((x 0).val % 192 / 96) ((x 0).val / 192) ((x 0).val % 96 / 24)); omega⟩ (x 1) : S1536x1536.Idx) = x := by
    refine Eq.trans ?_ (eq_ix2 x).symm
    congr 1; apply Fin.ext
    show _ + _ = (x 0).val
    rw [e]
    show 192 * ((x 0).val / 192) + 96 * ((x 0).val % 192 / 96) + 24 * ((x 0).val % 96 / 24) + (x 0).val % 24 = (x 0).val
    omega
  rw [hx]

end Cert.KernelIdeal.Run

end
-- ==== Proof.Algebra.lean ====
/-
  The value claim: the sum over the devices of their products is the product of the whole operands,
  so both programs leave the larger of zero and that product.
-/
module

public import proofs.«01_k».proof.Defs
public import proofs.«01_k».proof.Proof.Value
public import proofs.«01_k».proof.Proof.Gen.ReferenceIdeal.Run
public import Idealize.ShloMosaic.Lib.StackMember

@[expose] public section

set_option maxRecDepth 65536

noncomputable section

namespace Cert.Proof

open Idealize.ShloMosaic Idealize.ShloMosaic.TcCoe Idealize.ShloMosaic.ValueIdx Idealize.SL.Sem
open scoped BigOperators

/-- The contracted coordinate of the whole product: a device and its coordinate in that device's block. -/
def contrIdx : Fin 32 × Fin 768 ≃ Fin 24576 := finProdFinEquiv.trans (finCongr (by decide))

theorem contrIdx_val (d : Fin 32) (k : Fin 768) : (contrIdx (d, k)).val = d.val * 768 + k.val := by
  show k.val + 768 * d.val = _; omega

variable (a : FVec Ideal ⟨2, ![1536, 24576]⟩ .f32) (b : FVec Ideal ⟨2, ![24576, 1536]⟩ .f32)

theorem block_a (d : Fin 32) (i : Fin 1536) (k : Fin 768) :
    Layout.block ⟨2, ![1536, 768]⟩ ⟨2, ![1536, 24576]⟩ 1 32 d a (by decide) (ix2 i k) = a (ix2 i (contrIdx (d, k))) := by
  rw [Layout.block_apply]; congr 1; funext x; apply Fin.ext
  match x with
  | ⟨0, _⟩ => exact (Layout.idx_cols_val _ d (ix2 i k)).1
  | ⟨1, _⟩ => exact (Layout.idx_cols_val _ d (ix2 i k)).2.trans (contrIdx_val d k).symm
theorem block_b (d : Fin 32) (k : Fin 768) (j : Fin 1536) :
    Layout.block ⟨2, ![768, 1536]⟩ ⟨2, ![24576, 1536]⟩ 0 32 d b (by decide) (ix2 k j) = b (ix2 (contrIdx (d, k)) j) := by
  rw [Layout.block_apply]; congr 1; funext x; apply Fin.ext
  match x with
  | ⟨0, _⟩ => exact (Layout.idx_rows_val _ d (ix2 k j)).1.trans (contrIdx_val d k).symm
  | ⟨1, _⟩ => exact (Layout.idx_rows_val _ d (ix2 k j)).2

/-- Adding up the devices' products is contracting the whole. -/
theorem sum_blocks (i j : Fin 1536) :
    (∑ d : Fin 32, ∑ k : Fin 768, (a (ix2 i (contrIdx (d, k))) * b (ix2 (contrIdx (d, k)) j) : EReal))
      = ∑ c : Fin 24576, (a (ix2 i c) * b (ix2 c j) : EReal) :=
  (Fintype.sum_prod_type' fun d k => (a (ix2 i (contrIdx (d, k))) * b (ix2 (contrIdx (d, k)) j) : EReal)).symm.trans
    (Equiv.sum_comp contrIdx fun c => (a (ix2 i c) * b (ix2 c j) : EReal))

theorem dot_plain : Cert.ReferenceIdeal.dot_S1536x24576_S24576x1536_S1536x1536_1_0_0_1_n_n = DotDims.plain 1536 24576 1536 := rfl

/-- What the reference leaves. -/
abbrev refOut : FVec Ideal ⟨2, ![1536, 1536]⟩ .f32 :=
  maximumf (Host.dotGeneral Cert.ReferenceIdeal.dot_S1536x24576_S24576x1536_S1536x1536_1_0_0_1_n_n none a b)
    (broadcastInDim Cert.ReferenceIdeal.S1536x1536 ![] Cert.ReferenceIdeal.Facts₀.bcast_S_S1536x1536
      (constant Cert.ReferenceIdeal.S_ .f32 0x00000000#32))

theorem refOut_apply (i j : Fin 1536) : refOut a b (ix2 i j) = max (∑ c : Fin 24576, (a (ix2 i c) * b (ix2 c j) : EReal)) 0 := by
  show max (Host.dotGeneral (DotDims.plain 1536 24576 1536) none a b (ix2 i j)) (Ideal.ofBits .f32 0x00000000#32) = _
  rw [StackMember.dotGeneral_plain_apply, Ideal.ofBits_zero_f32]

theorem oval_eq (A : Dev Cert.KernelIdeal.nD → Vec Ideal Cert.KernelIdeal.S1536x768 .f32)
    (B : Dev Cert.KernelIdeal.nD → Vec Ideal Cert.KernelIdeal.S768x1536 .f32)
    (hA : ∀ c, A c = Layout.block ⟨2, ![1536, 768]⟩ ⟨2, ![1536, 24576]⟩ 1 32 c a (by decide))
    (hB : ∀ c, B c = Layout.block ⟨2, ![768, 1536]⟩ ⟨2, ![24576, 1536]⟩ 0 32 c b (by decide)) :
    Cert.KernelIdeal.Run.oval A B = refOut a b := by
  funext x
  rw [Cert.KernelIdeal.Run.oval_apply]
  obtain ⟨i, j, rfl⟩ : ∃ (i j : Fin 1536), x = ix2 i j := ⟨x 0, x 1, eq_ix2 x⟩
  refine Eq.trans ?_ (refOut_apply a b i j).symm
  rw [← sum_blocks]
  refine congrArg (max · (0 : EReal)) (Finset.sum_congr rfl fun d _ => Finset.sum_congr rfl fun k _ => ?_)
  rw [hA, hB]
  exact congrArg₂ (· * · : EReal → EReal → EReal) (block_a a d i k) (block_b b d k j)

theorem algebraic : Cert.algebraic_KernelIdeal_ReferenceIdeal := by
  intro m ρ m' ρ' _ hm
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨?_, (h.1 c 0).trans (Cert.KernelIdeal.Run.finalA_0 m ρ c),
      (h.1 c 1).trans (Cert.KernelIdeal.Run.finalA_1 m ρ c)⟩) (Cert.KernelIdeal.Run.run_main m ρ)
    refine (h.1 c 2).trans ((Cert.KernelIdeal.Run.finalA_2 m ρ c).trans (oval_eq _ _ _ _ (fun d => ?_) fun d => ?_))
    · exact (Cert.KernelIdeal.Run.opA_eq m d).trans (hm d).1
    · exact (Cert.KernelIdeal.Run.opB_eq m d).trans (hm d).2
  · exact (θ_run Cert.ReferenceIdeal.defs _ _).mono (fun r h => h 0) (Cert.ReferenceIdeal.Value.run m' ρ')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, algebraic⟩

end Cert.Proof

end
